-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "scale_log2_e" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v2_2)) (v2 : (c : Dev Cert.Kernel2Ideal.nD) → Buf (Elt Ideal) ((c.tc : Thread Cert.Kernel2Ideal.nD Cert.Kernel2Ideal.τ).loc Cert.Kernel2Ideal.main_v2_3)) (v3 : (c : Dev Cert.Kernel2Ideal.nD) → Buf (Elt Ideal) ((c.tc : Thread Cert.Kernel2Ideal.nD Cert.Kernel2Ideal.τ).loc Cert.Kernel2Ideal.main_v2_4)) (v4 : (c : Dev Cert.Kernel2Ideal.nD) → Buf (Elt Ideal) ((c.tc : Thread Cert.Kernel2Ideal.nD Cert.Kernel2Ideal.τ).loc Cert.Kernel2Ideal.main_v2_5)) (v5 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v2_2) = v1 c
          ∧ r.2.mem ((c.tc : Thread Cert.Kernel2Ideal.nD Cert.Kernel2Ideal.τ).loc Cert.Kernel2Ideal.main_v2_3) = v2 c
          ∧ r.2.mem ((c.tc : Thread Cert.Kernel2Ideal.nD Cert.Kernel2Ideal.τ).loc Cert.Kernel2Ideal.main_v2_4) = v3 c
          ∧ r.2.mem ((c.tc : Thread Cert.Kernel2Ideal.nD Cert.Kernel2Ideal.τ).loc Cert.Kernel2Ideal.main_v2_5) = v4 c
          ∧ r.2.mem ((c.tc : Thread Cert.Kernel2Ideal.nD Cert.Kernel2Ideal.τ).loc Cert.Kernel2Ideal.main_v3) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_v88) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_v90) = v4 c
          ∧ r.2.mem ((c.tc : Thread Cert.Reference2Ideal.nD Cert.Reference2Ideal.τ).loc Cert.Reference2Ideal.main_v91) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v6_2)) (v2 : (c : Dev Cert.Kernel3Ideal.nD) → Buf (Elt Ideal) ((c.tc : Thread Cert.Kernel3Ideal.nD Cert.Kernel3Ideal.τ).loc Cert.Kernel3Ideal.main_v7)) (v3 : (c : Dev Cert.Kernel3Ideal.nD) → Buf (Elt Ideal) ((c.tc : Thread Cert.Kernel3Ideal.nD Cert.Kernel3Ideal.τ).loc Cert.Kernel3Ideal.main_v9)) (v4 : (c : Dev Cert.Kernel3Ideal.nD) → Buf (Elt Ideal) ((c.tc : Thread Cert.Kernel3Ideal.nD Cert.Kernel3Ideal.τ).loc Cert.Kernel3Ideal.main_v8)) (v5 : (c : Dev Cert.Kernel3Ideal.nD) → Buf (Elt Ideal) ((c.tc : Thread Cert.Kernel3Ideal.nD Cert.Kernel3Ideal.τ).loc Cert.Kernel3Ideal.main_v10)) (v6 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v6_2) = v1 c
          ∧ r.2.mem ((c.tc : Thread Cert.Kernel3Ideal.nD Cert.Kernel3Ideal.τ).loc Cert.Kernel3Ideal.main_v7) = v2 c
          ∧ r.2.mem ((c.tc : Thread Cert.Kernel3Ideal.nD Cert.Kernel3Ideal.τ).loc Cert.Kernel3Ideal.main_v9) = v3 c
          ∧ r.2.mem ((c.tc : Thread Cert.Kernel3Ideal.nD Cert.Kernel3Ideal.τ).loc Cert.Kernel3Ideal.main_v8) = v4 c
          ∧ r.2.mem ((c.tc : Thread Cert.Kernel3Ideal.nD Cert.Kernel3Ideal.τ).loc Cert.Kernel3Ideal.main_v10) = v5 c
          ∧ r.2.mem ((c.tc : Thread Cert.Kernel3Ideal.nD Cert.Kernel3Ideal.τ).loc Cert.Kernel3Ideal.main_v5) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_v46) = v4 c
          ∧ r.2.mem ((c.tc : Thread Cert.Reference3Ideal.nD Cert.Reference3Ideal.τ).loc Cert.Reference3Ideal.main_v47) = v5 c
          ∧ r.2.mem ((c.tc : Thread Cert.Reference3Ideal.nD Cert.Reference3Ideal.τ).loc Cert.Reference3Ideal.main_v48) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v2)) (v3 : (c : Dev Cert.Kernel7Ideal.nD) → Buf (Elt Ideal) ((c.tc : Thread Cert.Kernel7Ideal.nD Cert.Kernel7Ideal.τ).loc Cert.Kernel7Ideal.main_v3)) (v4 : (c : Dev Cert.Kernel7Ideal.nD) → Buf (Elt Ideal) ((c.tc : Thread Cert.Kernel7Ideal.nD Cert.Kernel7Ideal.τ).loc Cert.Kernel7Ideal.main_v4)) (v5 : (c : Dev Cert.Kernel7Ideal.nD) → Buf (Elt Ideal) ((c.tc : Thread Cert.Kernel7Ideal.nD Cert.Kernel7Ideal.τ).loc Cert.Kernel7Ideal.main_v5)) (v6 : (c : Dev Cert.Kernel7Ideal.nD) → Buf (Elt Ideal) ((c.tc : Thread Cert.Kernel7Ideal.nD Cert.Kernel7Ideal.τ).loc Cert.Kernel7Ideal.main_v6)) (v7 : (c : Dev Cert.Kernel7Ideal.nD) → Buf (Elt Ideal) ((c.tc : Thread Cert.Kernel7Ideal.nD Cert.Kernel7Ideal.τ).loc Cert.Kernel7Ideal.main_v7)) (v8 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_v3) = v3 c
          ∧ r.2.mem ((c.tc : Thread Cert.Kernel7Ideal.nD Cert.Kernel7Ideal.τ).loc Cert.Kernel7Ideal.main_v4) = v4 c
          ∧ r.2.mem ((c.tc : Thread Cert.Kernel7Ideal.nD Cert.Kernel7Ideal.τ).loc Cert.Kernel7Ideal.main_v5) = v5 c
          ∧ r.2.mem ((c.tc : Thread Cert.Kernel7Ideal.nD Cert.Kernel7Ideal.τ).loc Cert.Kernel7Ideal.main_v6) = v6 c
          ∧ r.2.mem ((c.tc : Thread Cert.Kernel7Ideal.nD Cert.Kernel7Ideal.τ).loc Cert.Kernel7Ideal.main_v7) = v7 c
          ∧ r.2.mem ((c.tc : Thread Cert.Kernel7Ideal.nD Cert.Kernel7Ideal.τ).loc Cert.Kernel7Ideal.main_v8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v20) = v5 c
          ∧ r.2.mem ((c.tc : Thread Cert.Reference7Ideal.nD Cert.Reference7Ideal.τ).loc Cert.Reference7Ideal.main_v29) = v6 c
          ∧ r.2.mem ((c.tc : Thread Cert.Reference7Ideal.nD Cert.Reference7Ideal.τ).loc Cert.Reference7Ideal.main_v25) = v7 c
          ∧ r.2.mem ((c.tc : Thread Cert.Reference7Ideal.nD Cert.Reference7Ideal.τ).loc Cert.Reference7Ideal.main_v30) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  IdealRules.named_const.Statement Cert.Kernel14Ideal.κ "scale_log2_e_a" .f32 0x3DD53B95#32 (((Real.sqrt 192)⁻¹ * (Real.log 2)⁻¹ : ℝ) : EReal)
  ∧ IdealRules.named_const.Statement Cert.Kernel14Ideal.κ "scale_a" .f32 0x3D93CD3A#32 (((Real.sqrt 192)⁻¹ : ℝ) : EReal)
  ∧ IdealRules.named_const.Statement Cert.Kernel14Ideal.κ "log2_e" .f32 0x3FB8AA3B#32 (((Real.log 2)⁻¹ : ℝ) : EReal)

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v1_0)) (v2 : (c : Dev Cert.Kernel14Ideal.nD) → Buf (Elt Ideal) ((c.tc : Thread Cert.Kernel14Ideal.nD Cert.Kernel14Ideal.τ).loc Cert.Kernel14Ideal.main_v1_1)) (v3 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v1_0) = v1 c
          ∧ r.2.mem ((c.tc : Thread Cert.Kernel14Ideal.nD Cert.Kernel14Ideal.τ).loc Cert.Kernel14Ideal.main_v1_1) = v2 c
          ∧ r.2.mem ((c.tc : Thread Cert.Kernel14Ideal.nD Cert.Kernel14Ideal.τ).loc Cert.Kernel14Ideal.main_v1_2) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v78) = v0 c
          ∧ r.2.mem ((c.tc : Thread Cert.Reference14Ideal.nD Cert.Reference14Ideal.τ).loc Cert.Reference14Ideal.main_v79) = v1 c
          ∧ r.2.mem ((c.tc : Thread Cert.Reference14Ideal.nD Cert.Reference14Ideal.τ).loc Cert.Reference14Ideal.main_v80) = v2 c
          ∧ r.2.mem ((c.tc : Thread Cert.Reference14Ideal.nD Cert.Reference14Ideal.τ).loc Cert.Reference14Ideal.main_v81) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2048x1024 : Shape := ⟨2, ![2048, 1024]⟩
abbrev S2304x256 : Shape := ⟨2, ![2304, 256]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2304x256 : S_.BroadcastsInDim S2304x256 (![] : Fin 0 → Fin S2304x256.rank)

variable [Facts]

def fn {F : FTy → Type} [FloatOps F] (main_arg0 : FVec F S2048x1024 .bf16) (main_arg1 : FVec F S2304x256 .bf16) (main_arg2 : FVec F S2304x256 .bf16) (main_arg3 : FVec F S2048x1024 .bf16) : IVec S2048x1024 1 × IVec S2304x256 1 × IVec S2304x256 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2304x256 .f32 := (extf .f32 · bitsLt_bf16_f32) main_arg1
  let main_v5 : FVec F S2304x256 .f32 := Host.absf main_v4
  let main_cst_0 : FVec F S_ .f32 := constant S_ .f32 0x7F800000#32
  let main_v6 : FVec F S2304x256 .f32 := broadcastInDim S2304x256 ![] bcast_S_S2304x256 main_cst_0
  let main_v7 : IVec S2304x256 1 := cmpf .olt main_v5 main_v6
  let main_v8 : FVec F S2304x256 .f32 := (extf .f32 · bitsLt_bf16_f32) main_arg2
  let main_v9 : FVec F S2304x256 .f32 := Host.absf main_v8
  let main_cst_1 : FVec F S_ .f32 := constant S_ .f32 0x7F800000#32
  let main_v10 : FVec F S2304x256 .f32 := broadcastInDim S2304x256 ![] bcast_S_S2304x256 main_cst_1
  let main_v11 : IVec S2304x256 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Pre_finite14.lean ====
abbrev S2048x1536 : Shape := ⟨2, ![2048, 1536]⟩
abbrev S2304x2048 : Shape := ⟨2, ![2304, 2048]⟩
abbrev S2304x256 : Shape := ⟨2, ![2304, 256]⟩
abbrev S2048x1024 : Shape := ⟨2, ![2048, 1024]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  bcast_S_S2304x2048 : S_.BroadcastsInDim S2304x2048 (![] : Fin 0 → Fin S2304x2048.rank)
  bcast_S_S2304x256 : S_.BroadcastsInDim S2304x256 (![] : Fin 0 → Fin S2304x256.rank)
  bcast_S_S2048x1024 : S_.BroadcastsInDim S2048x1024 (![] : Fin 0 → Fin S2048x1024.rank)

variable [Facts]

def fn {F : FTy → Type} [FloatOps F] (main_arg0 : FVec F S2048x1536 .bf16) (main_arg1 : FVec F S2304x2048 .bf16) (main_arg2 : FVec F S2304x256 .bf16) (main_arg3 : FVec F S2048x1024 .bf16) : IVec S2048x1536 1 × IVec S2304x2048 1 × IVec S2304x256 1 × IVec S2048x1024 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S2304x2048 .f32 := (extf .f32 · bitsLt_bf16_f32) main_arg1
  let main_v5 : FVec F S2304x2048 .f32 := Host.absf main_v4
  let main_cst_0 : FVec F S_ .f32 := constant S_ .f32 0x7F800000#32
  let main_v6 : FVec F S2304x2048 .f32 := broadcastInDim S2304x2048 ![] bcast_S_S2304x2048 main_cst_0
  let main_v7 : IVec S2304x2048 1 := cmpf .olt main_v5 main_v6
  let main_v8 : FVec F S2304x256 .f32 := (extf .f32 · bitsLt_bf16_f32) main_arg2
  let main_v9 : FVec F S2304x256 .f32 := Host.absf main_v8
  let main_cst_1 : FVec F S_ .f32 := constant S_ .f32 0x7F800000#32
  let main_v10 : FVec F S2304x256 .f32 := broadcastInDim S2304x256 ![] bcast_S_S2304x256 main_cst_1
  let main_v11 : IVec S2304x256 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Pre_finite2.lean ====
abbrev S2048x2048 : Shape := ⟨2, ![2048, 2048]⟩
abbrev S11264x2048 : Shape := ⟨2, ![11264, 2048]⟩
abbrev S3x11264 : Shape := ⟨2, ![3, 11264]⟩
abbrev S1x11264 : Shape := ⟨2, ![1, 11264]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S11264x2048 : S_.BroadcastsInDim S11264x2048 (![] : Fin 0 → Fin S11264x2048.rank)
  bcast_S_S3x11264 : S_.BroadcastsInDim S3x11264 (![] : Fin 0 → Fin S3x11264.rank)
  bcast_S_S1x11264 : S_.BroadcastsInDim S1x11264 (![] : Fin 0 → Fin S1x11264.rank)
  bcast_S_S5632x2048 : S_.BroadcastsInDim S5632x2048 (![] : Fin 0 → Fin S5632x2048.rank)

variable [Facts]

def fn_part1 {F : FTy → Type} [FloatOps F] (main_v3 : IVec S2048x2048 1) (main_v7 : IVec S11264x2048 1) (main_v10 : IVec S3x11264 1) (main_v13 : IVec S1x11264 1) (main_v17 : IVec S5632x2048 1) (main_v18 : FVec F S2048x2048 .f32) : IVec S2048x2048 1 × IVec S11264x2048 1 × IVec S3x11264 1 × IVec S1x11264 1 × IVec S5632x2048 1 × IVec S2048x2048 1 :=
  let main_v19 : FVec F S2048x2048 .f32 := Host.absf main_v18
  let main_cst_4 : FVec F S_ .f32 := constant S_ .f32 0x7F800000#32
  let main_v20 : FVec F S2048x2048 .f32 := broadcastInDim S2048x2048 ![] bcast_S_S2048x2048 main_cst_4
  let main_v21 : IVec S2048x2048 1 := cmpf .olt main_v19 main_v20
  (main_v3, main_v7, main_v10, main_v13, main_v17, main_v21)

def fn {F : FTy → Type} [FloatOps F] (main_arg0 : FVec F S2048x2048 .bf16) (main_arg1 : FVec F S11264x2048 .bf16) (main_arg2 : FVec F S3x11264 .f32) (main_arg3 : FVec F S1x11264 .f32) (main_arg4 : FVec F S5632x2048 .bf16) (main_arg5 : FVec F S2048x2048 .bf16) : IVec S2048x2048 1 × IVec S11264x2048 1 × IVec S3x11264 1 × IVec S1x11264 1 × IVec S5632x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S11264x2048 .f32 := (extf .f32 · bitsLt_bf16_f32) main_arg1
  let main_v5 : FVec F S11264x2048 .f32 := Host.absf main_v4
  let main_cst_0 : FVec F S_ .f32 := constant S_ .f32 0x7F800000#32
  let main_v6 : FVec F S11264x2048 .f32 := broadcastInDim S11264x2048 ![] bcast_S_S11264x2048 main_cst_0
  let main_v7 : IVec S11264x2048 1 := cmpf .olt main_v5 main_v6
  let main_v8 : FVec F S3x11264 .f32 := Host.absf main_arg2
  let main_cst_1 : FVec F S_ .f32 := constant S_ .f32 0x7F800000#32
  let main_v9 : FVec F S3x11264 .f32 := broadcastInDim S3x11264 ![] bcast_S_S3x11264 main_cst_1
  let main_v10 : IVec S3x11264 1 := cmpf .olt main_v8 main_v9
  let main_v11 : FVec F S1x11264 .f32 := Host.absf main_arg3
  let main_cst_2 : FVec F S_ .f32 := constant S_ .f32 0x7F800000#32
  let main_v12 : FVec F S1x11264 .f32 := broadcastInDim S1x11264 ![] bcast_S_S1x11264 main_cst_2
  let main_v13 : IVec S1x11264 1 := cmpf .olt main_v11 main_v12
  let main_v14 : FVec F S5632x2048 .f32 := (extf .f32 · bitsLt_bf16_f32) main_arg4
  let main_v15 : FVec F S5632x2048 .f32 := Host.absf main_v14
  let main_cst_3 : FVec F S_ .f32 := constant S_ .f32 0x7F800000#32
  let main_v16 : FVec F S5632x2048 .f32 := broadcastInDim S5632x2048 ![] bcast_S_S5632x2048 main_cst_3
  let main_v17 : IVec S5632x2048 1 := cmpf .olt main_v15 main_v16
  let main_v18 : FVec F S2048x2048 .f32 := (extf .f32 · bitsLt_bf16_f32) main_arg5
  fn_part1 (F := F) main_v3 main_v7 main_v10 main_v13 main_v17 main_v18
-- ==== Kernel.lean ====
abbrev S2048x1024 : Shape := ⟨2, ![2048, 1024]⟩
abbrev S2304x256 : Shape := ⟨2, ![2304, 256]⟩
abbrev S8x2048x1 : Shape := ⟨3, ![8, 2048, 1]⟩
abbrev S2048x128 : Shape := ⟨2, ![2048, 128]⟩
abbrev S2304x128 : Shape := ⟨2, ![2304, 128]⟩
abbrev S1x2048x1 : Shape := ⟨3, ![1, 2048, 1]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩
abbrev S1x256x1 : Shape := ⟨3, ![1, 256, 1]⟩

abbrev nBuf : Space → Nat
  | .hbm => 9
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2304x256, .bf16⟩
  | .hbm, ⟨2, _⟩ => ⟨S2304x256, .bf16⟩
  | .hbm, ⟨3, _⟩ => ⟨S2048x1024, .bf16⟩
  | .hbm, ⟨4, _⟩ => ⟨S2048x1024, .bf16⟩
  | .hbm, ⟨5, _⟩ => ⟨S8x2048x1, .f32⟩
  | .hbm, ⟨6, _⟩ => ⟨S2048x1024, .f32⟩
  | .hbm, ⟨7, _⟩ => ⟨S2304x256, .f32⟩
  | .hbm, ⟨8, _⟩ => ⟨S2304x256, .f32⟩
  | .local _ .vmem, ⟨0, _⟩ => ⟨S2048x128, .bf16⟩
  | .local _ .vmem, ⟨1, _⟩ => ⟨S2048x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S2048x128, .bf16⟩
  | .local _ .vmem, ⟨11, _⟩ => ⟨S2048x128, .bf16⟩
  | .local _ .vmem, ⟨12, _⟩ => ⟨S2304x128, .bf16⟩
  | .local _ .vmem, ⟨13, _⟩ => ⟨S2304x128, .bf16⟩
  | .local _ .vmem, ⟨14, _⟩ => ⟨S2304x128, .bf16⟩
  | .local _ .vmem, ⟨15, _⟩ => ⟨S2304x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2048x1, .f32⟩
  | .local _ .vmem, ⟨21, _⟩ => ⟨S1x2048x1, .f32⟩
  | .local _ .vmem, ⟨22, _⟩ => ⟨S2048x128, .f32⟩
  | .local _ .vmem, ⟨23, _⟩ => ⟨S2048x128, .f32⟩
  | .local _ .vmem, ⟨24, _⟩ => ⟨S2304x128, .f32⟩
  | .local _ .vmem, ⟨25, _⟩ => ⟨S2304x128, .f32⟩
  | .local _ .vmem, ⟨26, _⟩ => ⟨S2304x128, .f32⟩
  | .local _ .vmem, ⟨27, _⟩ => ⟨S2304x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c1_i32_4 : BitVec 32 := 1#32
  let v11 : BitVec 32 := Scalar.divsi arg1 c1_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg1 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c1_i32_4 : BitVec 32 := 1#32
  let v11 : BitVec 32 := Scalar.divsi arg1 c1_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg1 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c1_i32_4 : BitVec 32 := 1#32
  let v11 : BitVec 32 := Scalar.divsi arg1 c1_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg1 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc1_transform_5 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, v28.toNat, c0_i32_11.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c1_i32_4 : BitVec 32 := 1#32
  let v11 : BitVec 32 := Scalar.divsi arg1 c1_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c1_i32_4 c0_i32_7
  let v18 : BitVec 32 := Scalar.extui v17
  let c0_i32_8 : BitVec 32 := 0#32
  let v19 : BitVec 1 := Scalar.cmpi .slt c1_i32_4 c0_i32_8
  let v20 : BitVec 32 := Scalar.extui v19
  let v21 : BitVec 32 := Scalar.subi v18 v20
  let v22 : BitVec 1 := Scalar.cmpi .ne v16 v21
  let v23 : BitVec 32 := Scalar.remsi arg1 c1_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![v9.toNat, v28.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2304x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2304x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2304x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2304x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "log2_e" => some (((Real.log 2)⁻¹ : ℝ) : EReal)
  | "scale" => some (((Real.sqrt 128)⁻¹ : ℝ) : EReal)
  | "scale_log2_e" => some (((Real.sqrt 128)⁻¹ * (Real.log 2)⁻¹ : ℝ) : EReal)
  | _ => none
-- ==== ReferenceIdeal.lean ====
abbrev S2048x1024 : Shape := ⟨2, ![2048, 1024]⟩
abbrev S2304x256 : Shape := ⟨2, ![2304, 256]⟩
abbrev S2048x2x4x128 : Shape := ⟨4, ![2048, 2, 4, 128]⟩
abbrev S2304x2x128 : Shape := ⟨3, ![2304, 2, 128]⟩
abbrev S2x2304x2048x4 : Shape := ⟨4, ![2, 2304, 2048, 4]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S2x128x2304 : Shape := ⟨3, ![2, 128, 2304]⟩
abbrev S2x2048x4x128 : Shape := ⟨4, ![2, 2048, 4, 128]⟩
abbrev S2x2304x128 : Shape := ⟨3, ![2, 2304, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2304x256, .bf16⟩
  | .hbm, ⟨2, _⟩ => ⟨S2304x256, .bf16⟩
  | .hbm, ⟨3, _⟩ => ⟨S2048x1024, .bf16⟩
  | .hbm, ⟨4, _⟩ => ⟨S2048x1024, .f32⟩
  | .hbm, ⟨5, _⟩ => ⟨S2304x256, .f32⟩
  | .hbm, ⟨6, _⟩ => ⟨S2304x256, .f32⟩
  | .hbm, ⟨7, _⟩ => ⟨S2048x1024, .f32⟩
  | .hbm, ⟨8, _⟩ => ⟨S2048x2x4x128, .f32⟩
  | .hbm, ⟨9, _⟩ => ⟨S2304x2x128, .f32⟩
  | .hbm, ⟨10, _⟩ => ⟨S2304x2x128, .f32⟩
  | .hbm, ⟨11, _⟩ => ⟨S2x2304x2048x4, .f32⟩
  | .hbm, ⟨12, _⟩ => ⟨S2x4x2048x2304, .f32⟩
  | .hbm, ⟨13, _⟩ => ⟨S_, .f32⟩
  | .hbm, ⟨14, _⟩ => ⟨S_, .f32⟩
  | .hbm, ⟨15, _⟩ => ⟨S2x4x2048x2304, .f32⟩
  | .hbm, ⟨16, _⟩ => ⟨S2x4x2048x2304, .f32⟩
  | .hbm, ⟨17, _⟩ => ⟨S_, .f32⟩
  | .hbm, ⟨18, _⟩ => ⟨S2x4x2048, .f32⟩
  | .hbm, ⟨19, _⟩ => ⟨S2x4x2048x1, .f32⟩
  | .hbm, ⟨20, _⟩ => ⟨S2x4x2048x2304, .f32⟩
  | .hbm, ⟨21, _⟩ => ⟨S2x4x2048x2304, .i1⟩
  | .hbm, ⟨22, _⟩ => ⟨S2x4x2048x2304, .f32⟩
  | .hbm, ⟨23, _⟩ => ⟨S_, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .f32⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S2x4x2048, .i1⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S_, .f32⟩
  | .hbm, ⟨39, _⟩ => ⟨S2x4x2048, .f32⟩
  | .hbm, ⟨40, _⟩ => ⟨S2x4x2048, .f32⟩
  | .hbm, ⟨41, _⟩ => ⟨S2x4x2048, .f32⟩
  | .hbm, ⟨42, _⟩ => ⟨S2x4x2048x1, .f32⟩
  | .hbm, ⟨43, _⟩ => ⟨S2x4x2048x2304, .f32⟩
  | .hbm, ⟨44, _⟩ => ⟨S2x4x2048x2304, .f32⟩
  | .hbm, ⟨45, _⟩ => ⟨S2x4x2048x2304, .f32⟩
  | .hbm, ⟨46, _⟩ => ⟨S_, .f32⟩
  | .hbm, ⟨47, _⟩ => ⟨S2x4x2048, .f32⟩
  | .hbm, ⟨48, _⟩ => ⟨S2x4x2048x1, .f32⟩
  | .hbm, ⟨49, _⟩ => ⟨S2x4x2048x2304, .f32⟩
  | .hbm, ⟨50, _⟩ => ⟨S2x4x2048x2304, .f32⟩
  | .hbm, ⟨51, _⟩ => ⟨S2x4x2048x1, .f32⟩
  | .hbm, ⟨52, _⟩ => ⟨S_, .f32⟩
  | .hbm, ⟨53, _⟩ => ⟨S2x4x2048x1, .f32⟩
  | .hbm, ⟨54, _⟩ => ⟨S2x4x2048x1, .f32⟩
  | .hbm, ⟨55, _⟩ => ⟨S2x128x4x2048, .f32⟩
  | .hbm, ⟨56, _⟩ => ⟨S2048x2x4x128, .f32⟩
  | .hbm, ⟨57, _⟩ => ⟨S2048x1024, .f32⟩
  | .hbm, ⟨58, _⟩ => ⟨S2048x1024, .bf16⟩
  | .hbm, ⟨59, _⟩ => ⟨S2048x2x4x128, .f32⟩
  | .hbm, ⟨60, _⟩ => ⟨S2x128x4x2048, .f32⟩
  | .hbm, ⟨61, _⟩ => ⟨S2x4x2048x2304, .f32⟩
  | .hbm, ⟨62, _⟩ => ⟨S2x128x2304, .f32⟩
  | .hbm, ⟨63, _⟩ => ⟨S2304x2x128, .f32⟩
  | .hbm, ⟨64, _⟩ => ⟨S2x4x2048x2304, .f32⟩
  | .hbm, ⟨65, _⟩ => ⟨S2x4x2048x2304, .f32⟩
  | .hbm, ⟨66, _⟩ => ⟨S2x4x2048x2304, .f32⟩
  | .hbm, ⟨67, _⟩ => ⟨S_, .f32⟩
  | .hbm, ⟨68, _⟩ => ⟨S2x4x2048, .f32⟩
  | .hbm, ⟨69, _⟩ => ⟨S2x4x2048x1, .f32⟩
  | .hbm, ⟨70, _⟩ => ⟨S2x4x2048x1, .f32⟩
  | .hbm, ⟨71, _⟩ => ⟨S2x4x2048x2304, .f32⟩
  | .hbm, ⟨72, _⟩ => ⟨S2x4x2048x2304, .f32⟩
  | .hbm, ⟨73, _⟩ => ⟨S_, .f32⟩
  | .hbm, ⟨74, _⟩ => ⟨S2x4x2048, .f32⟩
  | .hbm, ⟨75, _⟩ => ⟨S2x4x2048x2304, .f32⟩
  | .hbm, ⟨76, _⟩ => ⟨S2x4x2048x2304, .f32⟩
  | .hbm, ⟨77, _⟩ => ⟨S2x4x2048x2304, .f32⟩
  | .hbm, ⟨78, _⟩ => ⟨S2x4x2048x2304, .f32⟩
  | .hbm, ⟨79, _⟩ => ⟨S2x4x2048x2304, .f32⟩
  | .hbm, ⟨80, _⟩ => ⟨S2x2304x2048x4, .f32⟩
  | .hbm, ⟨81, _⟩ => ⟨S2x2048x4x128, .f32⟩
  | .hbm, ⟨82, _⟩ => ⟨S2048x2x4x128, .f32⟩
  | .hbm, ⟨83, _⟩ => ⟨S2x2304x128, .f32⟩
  | .hbm, ⟨84, _⟩ => ⟨S2304x2x128, .f32⟩
  | .hbm, ⟨85, _⟩ => ⟨S2304x256, .f32⟩
  | .hbm, ⟨86, _⟩ => ⟨S2304x256, .f32⟩
  | .hbm, ⟨87, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel2.lean ====
abbrev S2048x2048 : Shape := ⟨2, ![2048, 2048]⟩
abbrev S11264x2048 : Shape := ⟨2, ![11264, 2048]⟩
abbrev S3x11264 : Shape := ⟨2, ![3, 11264]⟩
abbrev S1x11264 : Shape := ⟨2, ![1, 11264]⟩
abbrev S5632x2048 : Shape := ⟨2, ![5632, 2048]⟩
abbrev S_ : Shape := ⟨0, ![]⟩
abbrev S1x1 : Shape := ⟨2, ![1, 1]⟩
abbrev S2048x5632 : Shape := ⟨2, ![2048, 5632]⟩
abbrev S128x2048 : Shape := ⟨2, ![128, 2048]⟩
abbrev S3x128 : Shape := ⟨2, ![3, 128]⟩
abbrev S1x128 : Shape := ⟨2, ![1, 128]⟩
abbrev S2048x128 : Shape := ⟨2, ![2048, 128]⟩
abbrev S256x2048 : Shape := ⟨2, ![256, 2048]⟩
abbrev S2048x256 : Shape := ⟨2, ![2048, 256]⟩
abbrev S3x5632 : Shape := ⟨2, ![3, 5632]⟩
abbrev S1x5632 : Shape := ⟨2, ![1, 5632]⟩
abbrev S3x256 : Shape := ⟨2, ![3, 256]⟩
abbrev S1x256 : Shape := ⟨2, ![1, 256]⟩
abbrev S256 : Shape := ⟨1, ![256]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 20
  | .vmem => 66
  | .smem => 0
  | _ => 0

abbrev bufTy : (tb : Table) → Fin (tcTables nBuf tb) → BufTy
  | .hbm, ⟨0, _⟩ => ⟨S2048x2048, .bf16⟩
  | .hbm, ⟨1, _⟩ => ⟨S11264x2048, .bf16⟩
  | .hbm, ⟨2, _⟩ => ⟨S3x11264, .f32⟩
  | .hbm, ⟨3, _⟩ => ⟨S1x11264, .f32⟩
  | .hbm, ⟨4, _⟩ => ⟨S5632x2048, .bf16⟩
  | .hbm, ⟨5, _⟩ => ⟨S2048x2048, .bf16⟩
  | .hbm, ⟨6, _⟩ => ⟨S_, .f32⟩
  | .hbm, ⟨7, _⟩ => ⟨S1x1, .f32⟩
  | .hbm, ⟨8, _⟩ => ⟨S2048x5632, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .hbm, ⟨12, _⟩ => ⟨S2048x5632, .bf16⟩
  | .hbm, ⟨13, _⟩ => ⟨S3x5632, .f32⟩
  | .hbm, ⟨14, _⟩ => ⟨S3x5632, .f32⟩
  | .hbm, ⟨15, _⟩ => ⟨S1x5632, .f32⟩
  | .hbm, ⟨16, _⟩ => ⟨S1x5632, .f32⟩
  | .hbm, ⟨17, _⟩ => ⟨S5632x2048, .bf16⟩
  | .hbm, ⟨18, _⟩ => ⟨S11264x2048, .bf16⟩
  | .hbm, ⟨19, _⟩ => ⟨S11264x2048, .bf16⟩
  | .local _ .vmem, ⟨0, _⟩ => ⟨S2048x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x2048, .bf16⟩
  | .local _ .vmem, ⟨21, _⟩ => ⟨S256x2048, .bf16⟩
  | .local _ .vmem, ⟨22, _⟩ => ⟨S256x2048, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S3x256, .f32⟩
  | .local _ .vmem, ⟨28, _⟩ => ⟨S3x256, .f32⟩
  | .local _ .vmem, ⟨29, _⟩ => ⟨S3x256, .f32⟩
  | .local _ .vmem, ⟨30, _⟩ => ⟨S3x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x1, .f32⟩
  | .local _ .vmem, ⟨36, _⟩ => ⟨S2048x256, .bf16⟩
  | .local _ .vmem, ⟨37, _⟩ => ⟨S2048x256, .bf16⟩
  | .local _ .vmem, ⟨38, _⟩ => ⟨S2048x256, .bf16⟩
  | .local _ .vmem, ⟨39, _⟩ => ⟨S2048x256, .bf16⟩
  | .local _ .vmem, ⟨40, _⟩ => ⟨S3x256, .f32⟩
  | .local _ .vmem, ⟨41, _⟩ => ⟨S3x256, .f32⟩
  | .local _ .vmem, ⟨42, _⟩ => ⟨S3x256, .f32⟩
  | .local _ .vmem, ⟨43, _⟩ => ⟨S3x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S2048x1408, .bf16⟩
  | .local _ .vmem, ⟨49, _⟩ => ⟨S2048x1408, .bf16⟩
  | .local _ .vmem, ⟨50, _⟩ => ⟨S2048x1024, .bf16⟩
  | .local _ .vmem, ⟨51, _⟩ => ⟨S2048x1024, .bf16⟩
  | .local _ .vmem, ⟨52, _⟩ => ⟨S1408x1024, .bf16⟩
  | .local _ .vmem, ⟨53, _⟩ => ⟨S1408x1024, .bf16⟩
  | .local _ .vmem, ⟨54, _⟩ => ⟨S2048x1408, .bf16⟩
  | .local _ .vmem, ⟨55, _⟩ => ⟨S2048x1408, .bf16⟩
  | .local _ .vmem, ⟨56, _⟩ => ⟨S2048x1024, .bf16⟩
  | .local _ .vmem, ⟨57, _⟩ => ⟨S2048x1024, .bf16⟩
  | .local _ .vmem, ⟨58, _⟩ => ⟨S1408x1024, .bf16⟩
  | .local _ .vmem, ⟨59, _⟩ => ⟨S1408x1024, .bf16⟩
  | .local _ .vmem, ⟨60, _⟩ => ⟨S2048x1408, .bf16⟩
  | .local _ .vmem, ⟨61, _⟩ => ⟨S2048x1408, .bf16⟩
  | .local _ .vmem, ⟨62, _⟩ => ⟨S2048x1024, .bf16⟩
  | .local _ .vmem, ⟨63, _⟩ => ⟨S2048x1024, .bf16⟩
  | .local _ .vmem, ⟨64, _⟩ => ⟨S1408x1024, .bf16⟩
  | .local _ .vmem, ⟨65, _⟩ => ⟨S1408x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_stg14_0 : Ref sig .tc := ⟨.vmem, 46, rfl⟩
abbrev cc1_stg14_1 : Ref sig .tc := ⟨.vmem, 47, rfl⟩
abbrev cc2_stg0_0 : Ref sig .tc := ⟨.vmem, 48, rfl⟩
abbrev cc2_stg0_1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg2_1 : Ref sig .tc := ⟨.vmem, 65, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc2_sem0_0 : DmaSem sig := 48
abbrev cc2_sem0_1 : DmaSem sig := 49
abbrev cc2_sem1_0 : DmaSem sig := 50
abbrev cc2_sem1_1 : DmaSem sig := 51
abbrev cc2_sem2_0 : DmaSem sig := 52
abbrev cc2_sem2_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc4_sem0_0 : DmaSem sig := 60
abbrev cc4_sem0_1 : DmaSem sig := 61
abbrev cc4_sem1_0 : DmaSem sig := 62
abbrev cc4_sem1_1 : DmaSem sig := 63
abbrev cc4_sem2_0 : DmaSem sig := 64
abbrev cc4_sem2_1 : DmaSem sig := 65

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c44_i32 : BitVec 32 := 44#32
  let v0 : BitVec 32 := Scalar.addi arg0 c44_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![22], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_10 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_11 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_12 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_13 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_14 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S3x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S3x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage2_0 : Fin 2 → Memref sig .tc .vmem S2048x1408 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1408x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1408x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![v0.toNat, arg1.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1408x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S2048x2048 : Shape := ⟨2, ![2048, 2048]⟩
abbrev S11264x2048 : Shape := ⟨2, ![11264, 2048]⟩
abbrev S3x11264 : Shape := ⟨2, ![3, 11264]⟩
abbrev S1x11264 : Shape := ⟨2, ![1, 11264]⟩
abbrev S5632x2048 : Shape := ⟨2, ![5632, 2048]⟩
abbrev S2048x11264 : Shape := ⟨2, ![2048, 11264]⟩
abbrev S_ : Shape := ⟨0, ![]⟩
abbrev S2050x11264 : Shape := ⟨2, ![2050, 11264]⟩
abbrev S11264 : Shape := ⟨1, ![11264]⟩
abbrev S2048x5632 : Shape := ⟨2, ![2048, 5632]⟩
abbrev S3x5632 : Shape := ⟨2, ![3, 5632]⟩
abbrev S1x5632 : Shape := ⟨2, ![1, 5632]⟩

abbrev nBuf : Space → Nat
  | .hbm => 130
  | .vmem => 0
  | .smem => 0
  | _ => 0

abbrev hbmTy0_0 (i : Nat) : BufTy := match i % 128 with
  | 0 => ⟨S2048x2048, .bf16⟩
  | 1 => ⟨S11264x2048, .bf16⟩
  | 2 => ⟨S3x11264, .f32⟩
  | 3 => ⟨S1x11264, .f32⟩
  | 4 => ⟨S5632x2048, .bf16⟩
  | 5 => ⟨S2048x2048, .bf16⟩
  | 6 => ⟨S2048x2048, .f32⟩
  | 7 => ⟨S11264x2048, .f32⟩
  | 8 => ⟨S5632x2048, .f32⟩
  | 9 => ⟨S2048x11264, .f32⟩
  | 10 => ⟨S2048x11264, .f32⟩
  | 11 => ⟨S_, .f32⟩
  | 12 => ⟨S1x11264, .f32⟩
  | 13 => ⟨S2050x11264, .f32⟩
  | 14 => ⟨S_, .f32⟩
  | 15 => ⟨S1x11264, .f32⟩
  | 16 => ⟨S_, .f32⟩
  | 17 => ⟨S1x11264, .f32⟩
  | 18 => ⟨S1x11264, .f32⟩
  | 19 => ⟨S11264, .f32⟩
  | 20 => ⟨S2048x11264, .f32⟩
  | 21 => ⟨S1x11264, .f32⟩
  | 22 => ⟨S2048x11264, .f32⟩
  | 23 => ⟨S2048x11264, .f32⟩
  | 24 => ⟨S_, .f32⟩
  | 25 => ⟨S2048x11264, .f32⟩
  | 26 => ⟨S2048x11264, .f32⟩
  | 27 => ⟨S1x11264, .f32⟩
  | 28 => ⟨S11264, .f32⟩
  | 29 => ⟨S2048x11264, .f32⟩
  | 30 => ⟨S1x11264, .f32⟩
  | 31 => ⟨S2048x11264, .f32⟩
  | 32 => ⟨S2048x11264, .f32⟩
  | 33 => ⟨S2048x11264, .f32⟩
  | 34 => ⟨S1x11264, .f32⟩
  | 35 => ⟨S11264, .f32⟩
  | 36 => ⟨S2048x11264, .f32⟩
  | 37 => ⟨S1x11264, .f32⟩
  | 38 => ⟨S2048x11264, .f32⟩
  | 39 => ⟨S2048x11264, .f32⟩
  | 40 => ⟨S2048x11264, .f32⟩
  | 41 => ⟨S2048x11264, .f32⟩
  | 42 => ⟨S2048x11264, .f32⟩
  | 43 => ⟨S2048x5632, .f32⟩
  | 44 => ⟨S2048x5632, .f32⟩
  | 45 => ⟨S2048x5632, .f32⟩
  | 46 => ⟨S2048x5632, .f32⟩
  | 47 => ⟨S_, .f32⟩
  | 48 => ⟨S2048x5632, .f32⟩
  | 49 => ⟨S2048x5632, .f32⟩
  | 50 => ⟨S_, .f32⟩
  | 51 => ⟨S2048x5632, .f32⟩
  | 52 => ⟨S2048x5632, .f32⟩
  | 53 => ⟨S_, .f32⟩
  | 54 => ⟨S2048x5632, .f32⟩
  | 55 => ⟨S2048x5632, .f32⟩
  | 56 => ⟨S2048x5632, .f32⟩
  | 57 => ⟨S2048x5632, .f32⟩
  | 58 => ⟨S2048x5632, .f32⟩
  | 59 => ⟨S2048x2048, .f32⟩
  | 60 => ⟨S2048x2048, .f32⟩
  | 61 => ⟨S2048x5632, .f32⟩
  | 62 => ⟨S5632x2048, .f32⟩
  | 63 => ⟨S2048x5632, .f32⟩
  | 64 => ⟨S2048x5632, .f32⟩
  | 65 => ⟨S2048x5632, .f32⟩
  | 66 => ⟨S2048x5632, .f32⟩
  | 67 => ⟨S2048x5632, .f32⟩
  | 68 => ⟨S2048x5632, .f32⟩
  | 69 => ⟨S2048x5632, .f32⟩
  | 70 => ⟨S2048x11264, .f32⟩
  | 71 => ⟨S_, .f32⟩
  | 72 => ⟨S11264, .f32⟩
  | 73 => ⟨S1x11264, .f32⟩
  | 74 => ⟨S2048x11264, .f32⟩
  | 75 => ⟨S2048x11264, .f32⟩
  | 76 => ⟨S2048x11264, .f32⟩
  | 77 => ⟨S_, .f32⟩
  | 78 => ⟨S11264, .f32⟩
  | 79 => ⟨S1x11264, .f32⟩
  | 80 => ⟨S_, .f32⟩
  | 81 => ⟨S11264, .f32⟩
  | 82 => ⟨S_, .f32⟩
  | 83 => ⟨S2050x11264, .f32⟩
  | 84 => ⟨S1x11264, .f32⟩
  | 85 => ⟨S_, .f32⟩
  | 86 => ⟨S3x11264, .f32⟩
  | 87 => ⟨S2048x11264, .f32⟩
  | 88 => ⟨S2048x11264, .f32⟩
  | 89 => ⟨S2048x11264, .f32⟩
  | 90 => ⟨S_, .f32⟩
  | 91 => ⟨S11264, .f32⟩
  | 92 => ⟨S1x11264, .f32⟩
  | 93 => ⟨S_, .f32⟩
  | 94 => ⟨S11264, .f32⟩
  | 95 => ⟨S_, .f32⟩
  | 96 => ⟨S2050x11264, .f32⟩
  | 97 => ⟨S2050x11264, .f32⟩
  | 98 => ⟨S1x11264, .f32⟩
  | 99 => ⟨S_, .f32⟩
  | 100 => ⟨S3x11264, .f32⟩
  | 101 => ⟨S3x11264, .f32⟩
  | 102 => ⟨S2048x11264, .f32⟩
  | 103 => ⟨S2048x11264, .f32⟩
  | 104 => ⟨S2048x11264, .f32⟩
  | 105 => ⟨S_, .f32⟩
  | 106 => ⟨S11264, .f32⟩
  | 107 => ⟨S1x11264, .f32⟩
  | 108 => ⟨S_, .f32⟩
  | 109 => ⟨S11264, .f32⟩
  | 110 => ⟨S_, .f32⟩
  | 111 => ⟨S2050x11264, .f32⟩
  | 112 => ⟨S2050x11264, .f32⟩
  | 113 => ⟨S1x11264, .f32⟩
  | 114 => ⟨S_, .f32⟩
  | 115 => ⟨S3x11264, .f32⟩
  | 116 => ⟨S3x11264, .f32⟩
  | 117 => ⟨S1x11264, .f32⟩
  | 118 => ⟨S2048x11264, .f32⟩
  | 119 => ⟨S1x11264, .f32⟩
  | 120 => ⟨S11264x2048, .f32⟩
  | 121 => ⟨S2048x11264, .f32⟩
  | 122 => ⟨S2048x2048, .f32⟩
  | 123 => ⟨S11264x2048, .f32⟩
  | 124 => ⟨S11264x2048, .bf16⟩
  | 125 => ⟨S3x5632, .f32⟩
  | 126 => ⟨S3x5632, .f32⟩
  | 127 => ⟨S1x5632, .f32⟩
  | _ => ⟨S2048x2048, .bf16⟩

abbrev hbmTy0_1 (i : Nat) : BufTy := match i % 128 with
  | 0 => ⟨S1x5632, .f32⟩
  | 1 => ⟨S5632x2048, .bf16⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v35_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v35_1 : Ref sig .tc := ⟨.hbm, 56, rfl⟩
abbrev main_v35_0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S2048x2048 : Shape := ⟨2, ![2048, 2048]⟩
abbrev S1024x1024 : Shape := ⟨2, ![1024, 1024]⟩
abbrev S256x4096 : Shape := ⟨2, ![256, 4096]⟩
abbrev S256x2048 : Shape := ⟨2, ![256, 2048]⟩
abbrev S1024x2048 : Shape := ⟨2, ![1024, 2048]⟩

abbrev nBuf : Space → Nat
  | .hbm => 20
  | .vmem => 72
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x4096, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x4096, .bf16⟩
  | .local _ .vmem, ⟨13, _⟩ => ⟨S256x4096, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1024x2048, .bf16⟩
  | .local _ .vmem, ⟨21, _⟩ => ⟨S1024x2048, .bf16⟩
  | .local _ .vmem, ⟨22, _⟩ => ⟨S2048x1024, .bf16⟩
  | .local _ .vmem, ⟨23, _⟩ => ⟨S2048x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x2048, .bf16⟩
  | .local _ .vmem, ⟨27, _⟩ => ⟨S1024x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x1024, .bf16⟩
  | .local _ .vmem, ⟨31, _⟩ => ⟨S1024x1024, .bf16⟩
  | .local _ .vmem, ⟨32, _⟩ => ⟨S2048x1024, .bf16⟩
  | .local _ .vmem, ⟨33, _⟩ => ⟨S2048x1024, .bf16⟩
  | .local _ .vmem, ⟨34, _⟩ => ⟨S2048x1024, .bf16⟩
  | .local _ .vmem, ⟨35, _⟩ => ⟨S2048x1024, .bf16⟩
  | .local _ .vmem, ⟨36, _⟩ => ⟨S1024x1024, .bf16⟩
  | .local _ .vmem, ⟨37, _⟩ => ⟨S1024x1024, .bf16⟩
  | .local _ .vmem, ⟨38, _⟩ => ⟨S256x2048, .bf16⟩
  | .local _ .vmem, ⟨39, _⟩ => ⟨S256x2048, .bf16⟩
  | .local _ .vmem, ⟨40, _⟩ => ⟨S256x4096, .bf16⟩
  | .local _ .vmem, ⟨41, _⟩ => ⟨S256x4096, .bf16⟩
  | .local _ .vmem, ⟨42, _⟩ => ⟨S256x2048, .bf16⟩
  | .local _ .vmem, ⟨43, _⟩ => ⟨S256x2048, .bf16⟩
  | .local _ .vmem, ⟨44, _⟩ => ⟨S256x2048, .bf16⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S256x2048, .bf16⟩
  | .local _ .vmem, ⟨50, _⟩ => ⟨S256x4096, .bf16⟩
  | .local _ .vmem, ⟨51, _⟩ => ⟨S256x4096, .bf16⟩
  | .local _ .vmem, ⟨52, _⟩ => ⟨S1024x2048, .bf16⟩
  | .local _ .vmem, ⟨53, _⟩ => ⟨S1024x2048, .bf16⟩
  | .local _ .vmem, ⟨54, _⟩ => ⟨S2048x1024, .bf16⟩
  | .local _ .vmem, ⟨55, _⟩ => ⟨S1024x1024, .bf16⟩
  | .local _ .vmem, ⟨56, _⟩ => ⟨S1024x1024, .bf16⟩
  | .local _ .vmem, ⟨57, _⟩ => ⟨S2048x1024, .bf16⟩
  | .local _ .vmem, ⟨58, _⟩ => ⟨S2048x1024, .bf16⟩
  | .local _ .vmem, ⟨59, _⟩ => ⟨S2048x1024, .bf16⟩
  | .local _ .vmem, ⟨60, _⟩ => ⟨S1024x1024, .bf16⟩
  | .local _ .vmem, ⟨61, _⟩ => ⟨S1024x1024, .bf16⟩
  | .local _ .vmem, ⟨62, _⟩ => ⟨S1024x2048, .bf16⟩
  | .local _ .vmem, ⟨63, _⟩ => ⟨S1024x2048, .bf16⟩
  | .local _ .vmem, ⟨64, _⟩ => ⟨S2048x1024, .bf16⟩
  | .local _ .vmem, ⟨65, _⟩ => ⟨S1024x1024, .bf16⟩
  | .local _ .vmem, ⟨66, _⟩ => ⟨S1024x1024, .bf16⟩
  | .local _ .vmem, ⟨67, _⟩ => ⟨S2048x1024, .bf16⟩
  | .local _ .vmem, ⟨68, _⟩ => ⟨S2048x1024, .bf16⟩
  | .local _ .vmem, ⟨69, _⟩ => ⟨S2048x1024, .bf16⟩
  | .local _ .vmem, ⟨70, _⟩ => ⟨S1024x1024, .bf16⟩
  | .local _ .vmem, ⟨71, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg6_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg2_0 : Ref sig .tc := ⟨.vmem, 60, rfl⟩
abbrev cc8_stg2_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg2_1 : Ref sig .tc := ⟨.vmem, 66, rfl⟩
abbrev cc10_stg0_0 : Ref sig .tc := ⟨.vmem, 67, rfl⟩
abbrev cc10_stg0_1 : Ref sig .tc := ⟨.vmem, 68, rfl⟩
abbrev cc10_stg1_0 : Ref sig .tc := ⟨.vmem, 69, rfl⟩
abbrev cc10_stg2_0 : Ref sig .tc := ⟨.vmem, 70, rfl⟩
abbrev cc10_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem5_1 : DmaSem sig := 49
abbrev cc6_sem6_0 : DmaSem sig := 50
abbrev cc6_sem6_1 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem2_1 : DmaSem sig := 56
abbrev cc8_sem0_0 : DmaSem sig := 57
abbrev cc8_sem0_1 : DmaSem sig := 58
abbrev cc8_sem1_0 : DmaSem sig := 59
abbrev cc8_sem2_0 : DmaSem sig := 60
abbrev cc8_sem2_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem2_1 : DmaSem sig := 66
abbrev cc10_sem0_0 : DmaSem sig := 67
abbrev cc10_sem0_1 : DmaSem sig := 68
abbrev cc10_sem1_0 : DmaSem sig := 69
abbrev cc10_sem2_0 : DmaSem sig := 70
abbrev cc10_sem2_1 : DmaSem sig := 71

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_2 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_1 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_2 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_3 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_4 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_5 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc6_transform_6 (i : grid6.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage6_0 : Fin 2 → Memref sig .tc .vmem S256x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x2048 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2048 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x2048 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S256x4096 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2048x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S2048x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage9_0 : Fin 2 → Memref sig .tc .vmem S1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S1024x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage10_0 : Fin 2 → Memref sig .tc .vmem S2048x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S2048x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]
-- ==== Reference3Ideal.lean ====
abbrev S2048x4096 : Shape := ⟨2, ![2048, 4096]⟩
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x2048, .bf16⟩
  | .hbm, ⟨6, _⟩ => ⟨S2048x2048, .bf16⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x2048, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x2048, .f32⟩
  | .hbm, ⟨26, _⟩ => ⟨S2048x2048, .f32⟩
  | .hbm, ⟨27, _⟩ => ⟨S1024x2048, .f32⟩
  | .hbm, ⟨28, _⟩ => ⟨S2048x2048, .f32⟩
  | .hbm, ⟨29, _⟩ => ⟨S2048x2048, .f32⟩
  | .hbm, ⟨30, _⟩ => ⟨S1024x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1024, .f32⟩
  | .hbm, ⟨42, _⟩ => ⟨S1024x2048, .f32⟩
  | .hbm, ⟨43, _⟩ => ⟨S2048x1024, .f32⟩
  | .hbm, ⟨44, _⟩ => ⟨S2048x1024, .f32⟩
  | .hbm, ⟨45, _⟩ => ⟨S2048x2048, .f32⟩
  | .hbm, ⟨46, _⟩ => ⟨S2048x2048, .f32⟩
  | .hbm, ⟨47, _⟩ => ⟨S2048x1024, .f32⟩
  | .hbm, ⟨48, _⟩ => ⟨S1024x2048, .f32⟩
  | .hbm, ⟨49, _⟩ => ⟨S2048x1024, .f32⟩
  | .hbm, ⟨50, _⟩ => ⟨S2048x1024, .f32⟩
  | .hbm, ⟨51, _⟩ => ⟨S2048x4096, .f32⟩
  | .hbm, ⟨52, _⟩ => ⟨S2048x4096, .f32⟩
  | .hbm, ⟨53, _⟩ => ⟨S2048x4096, .bf16⟩
  | .hbm, ⟨54, _⟩ => ⟨S2048x1024, .bf16⟩
  | .hbm, ⟨55, _⟩ => ⟨S2048x1024, .bf16⟩
  | .hbm, ⟨56, _⟩ => ⟨S2048x1024, .bf16⟩
  | .hbm, ⟨57, _⟩ => ⟨S2048x1024, .bf16⟩
  | .hbm, ⟨58, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Kernel4.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2048x5632 : Shape := ⟨2, ![2048, 5632]⟩
abbrev S11264x2048 : Shape := ⟨2, ![11264, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S11264x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5632 : Shape := ⟨2, ![2048, 5632]⟩
abbrev S11264x2048 : Shape := ⟨2, ![11264, 2048]⟩
abbrev S5632x2048 : Shape := ⟨2, ![5632, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S11264x2048, .bf16⟩
  | .hbm, ⟨2, _⟩ => ⟨S5632x2048, .bf16⟩
  | .hbm, ⟨3, _⟩ => ⟨S5632x2048, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2048x5632 : Shape := ⟨2, ![2048, 5632]⟩
abbrev S11264x2048 : Shape := ⟨2, ![11264, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S11264x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_mult1 (i : grid0.Coords) : BitVec 32 :=
  let c5632_i32 : BitVec 32 := 5632#32
  let arg2 : BitVec 32 := BitVec.ofNat 32 (i 2).val
  let c2816_i32 : BitVec 32 := 2816#32
  let v0 : BitVec 32 := Scalar.muli arg2 c2816_i32
  let v1 : BitVec 32 := Scalar.addi c5632_i32 v0
  v1
def k0_mult2 (i : grid0.Coords) : BitVec 32 :=
  let c0_i32 : BitVec 32 := 0#32
  let arg1 : BitVec 32 := BitVec.ofNat 32 (i 1).val
  let c1024_i32 : BitVec 32 := 1024#32
  let v3 : BitVec 32 := Scalar.muli arg1 c1024_i32
  let v4 : BitVec 32 := Scalar.addi c0_i32 v3
  v4
def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2816_i32 : BitVec 32 := 2816#32
  let v0 : BitVec 32 := Scalar.muli arg2 c2816_i32
  let c5632_i32 : BitVec 32 := 5632#32
  let v1 : BitVec 32 := Scalar.addi c5632_i32 v0
  let v2 : BitVec 32 := v1
  let c1024_i32 : BitVec 32 := 1024#32
  let v3 : BitVec 32 := Scalar.muli arg1 c1024_i32
  let c0_i32 : BitVec 32 := 0#32
  let v4 : BitVec 32 := Scalar.addi c0_i32 v3
  let v5 : BitVec 32 := v4
  let c0_i32_0 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x5632 : Shape := ⟨2, ![2048, 5632]⟩
abbrev S11264x2048 : Shape := ⟨2, ![11264, 2048]⟩
abbrev S2048x2048 : Shape := ⟨2, ![2048, 2048]⟩
abbrev S5632x2048 : Shape := ⟨2, ![5632, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S11264x2048, .bf16⟩
  | .hbm, ⟨2, _⟩ => ⟨S2048x2048, .f32⟩
  | .hbm, ⟨3, _⟩ => ⟨S5632x2048, .bf16⟩
  | .hbm, ⟨4, _⟩ => ⟨S5632x2048, .f32⟩
  | .hbm, ⟨5, _⟩ => ⟨S_, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel7.lean ====
abbrev S2304x2048 : Shape := ⟨2, ![2304, 2048]⟩
abbrev S1152x2048 : Shape := ⟨2, ![1152, 2048]⟩
abbrev S2304x1152 : Shape := ⟨2, ![2304, 1152]⟩
abbrev S2048x768 : Shape := ⟨2, ![2048, 768]⟩
abbrev S1536x768 : Shape := ⟨2, ![1536, 768]⟩
abbrev S2048x1536 : Shape := ⟨2, ![2048, 1536]⟩
abbrev S2304x512 : Shape := ⟨2, ![2304, 512]⟩
abbrev S2048x512 : Shape := ⟨2, ![2048, 512]⟩
abbrev S768x2048 : Shape := ⟨2, ![768, 2048]⟩
abbrev S768x1152 : Shape := ⟨2, ![768, 1152]⟩
abbrev S768x512 : Shape := ⟨2, ![768, 512]⟩
abbrev S1024x512 : Shape := ⟨2, ![1024, 512]⟩
abbrev S768x1024 : Shape := ⟨2, ![768, 1024]⟩
abbrev S1024x768 : Shape := ⟨2, ![1024, 768]⟩
abbrev S768x768 : Shape := ⟨2, ![768, 768]⟩
abbrev S1024x1536 : Shape := ⟨2, ![1024, 1536]⟩
abbrev S2304x1024 : Shape := ⟨2, ![2304, 1024]⟩
abbrev S1152x1024 : Shape := ⟨2, ![1152, 1024]⟩

abbrev nBuf : Space → Nat
  | .hbm => 18
  | .vmem => 48
  | .smem => 0
  | _ => 0

abbrev bufTy : (tb : Table) → Fin (tcTables nBuf tb) → BufTy
  | .hbm, ⟨0, _⟩ => ⟨S2304x2048, .bf16⟩
  | .hbm, ⟨1, _⟩ => ⟨S1152x2048, .bf16⟩
  | .hbm, ⟨2, _⟩ => ⟨S2304x1152, .bf16⟩
  | .hbm, ⟨3, _⟩ => ⟨S2048x768, .bf16⟩
  | .hbm, ⟨4, _⟩ => ⟨S1536x768, .bf16⟩
  | .hbm, ⟨5, _⟩ => ⟨S2048x1536, .bf16⟩
  | .hbm, ⟨6, _⟩ => ⟨S2304x512, .bf16⟩
  | .hbm, ⟨7, _⟩ => ⟨S2048x512, .bf16⟩
  | .hbm, ⟨8, _⟩ => ⟨S2304x2048, .bf16⟩
  | .hbm, ⟨9, _⟩ => ⟨S2304x1152, .f32⟩
  | .hbm, ⟨10, _⟩ => ⟨S2304x2048, .bf16⟩
  | .hbm, ⟨11, _⟩ => ⟨S2048x1536, .f32⟩
  | .hbm, ⟨12, _⟩ => ⟨S2048x768, .f32⟩
  | .hbm, ⟨13, _⟩ => ⟨S1536x768, .bf16⟩
  | .hbm, ⟨14, _⟩ => ⟨S2304x512, .f32⟩
  | .hbm, ⟨15, _⟩ => ⟨S2048x512, .bf16⟩
  | .hbm, ⟨16, _⟩ => ⟨S2304x2048, .f32⟩
  | .hbm, ⟨17, _⟩ => ⟨S1152x2048, .bf16⟩
  | .local _ .vmem, ⟨0, _⟩ => ⟨S768x2048, .bf16⟩
  | .local _ .vmem, ⟨1, _⟩ => ⟨S768x2048, .bf16⟩
  | .local _ .vmem, ⟨2, _⟩ => ⟨S1152x2048, .bf16⟩
  | .local _ .vmem, ⟨3, _⟩ => ⟨S768x1152, .f32⟩
  | .local _ .vmem, ⟨4, _⟩ => ⟨S768x1152, .f32⟩
  | .local _ .vmem, ⟨5, _⟩ => ⟨S768x512, .bf16⟩
  | .local _ .vmem, ⟨6, _⟩ => ⟨S768x512, .bf16⟩
  | .local _ .vmem, ⟨7, _⟩ => ⟨S1024x512, .bf16⟩
  | .local _ .vmem, ⟨8, _⟩ => ⟨S1024x512, .bf16⟩
  | .local _ .vmem, ⟨9, _⟩ => ⟨S768x1024, .bf16⟩
  | .local _ .vmem, ⟨10, _⟩ => ⟨S768x1024, .bf16⟩
  | .local _ .vmem, ⟨11, _⟩ => ⟨S1024x768, .bf16⟩
  | .local _ .vmem, ⟨12, _⟩ => ⟨S1024x768, .bf16⟩
  | .local _ .vmem, ⟨13, _⟩ => ⟨S768x768, .bf16⟩
  | .local _ .vmem, ⟨14, _⟩ => ⟨S768x768, .bf16⟩
  | .local _ .vmem, ⟨15, _⟩ => ⟨S1024x768, .f32⟩
  | .local _ .vmem, ⟨16, _⟩ => ⟨S1024x768, .f32⟩
  | .local _ .vmem, ⟨17, _⟩ => ⟨S1024x1536, .bf16⟩
  | .local _ .vmem, ⟨18, _⟩ => ⟨S1024x1536, .bf16⟩
  | .local _ .vmem, ⟨19, _⟩ => ⟨S1536x768, .bf16⟩
  | .local _ .vmem, ⟨20, _⟩ => ⟨S1024x768, .f32⟩
  | .local _ .vmem, ⟨21, _⟩ => ⟨S1024x768, .f32⟩
  | .local _ .vmem, ⟨22, _⟩ => ⟨S2048x768, .bf16⟩
  | .local _ .vmem, ⟨23, _⟩ => ⟨S2048x768, .bf16⟩
  | .local _ .vmem, ⟨24, _⟩ => ⟨S2048x768, .bf16⟩
  | .local _ .vmem, ⟨25, _⟩ => ⟨S768x768, .bf16⟩
  | .local _ .vmem, ⟨26, _⟩ => ⟨S768x768, .bf16⟩
  | .local _ .vmem, ⟨27, _⟩ => ⟨S768x2048, .bf16⟩
  | .local _ .vmem, ⟨28, _⟩ => ⟨S768x2048, .bf16⟩
  | .local _ .vmem, ⟨29, _⟩ => ⟨S2048x512, .bf16⟩
  | .local _ .vmem, ⟨30, _⟩ => ⟨S768x512, .f32⟩
  | .local _ .vmem, ⟨31, _⟩ => ⟨S768x512, .f32⟩
  | .local _ .vmem, ⟨32, _⟩ => ⟨S2304x1024, .bf16⟩
  | .local _ .vmem, ⟨33, _⟩ => ⟨S2304x1024, .bf16⟩
  | .local _ .vmem, ⟨34, _⟩ => ⟨S2304x512, .bf16⟩
  | .local _ .vmem, ⟨35, _⟩ => ⟨S1024x512, .bf16⟩
  | .local _ .vmem, ⟨36, _⟩ => ⟨S1024x512, .bf16⟩
  | .local _ .vmem, ⟨37, _⟩ => ⟨S768x1152, .bf16⟩
  | .local _ .vmem, ⟨38, _⟩ => ⟨S768x1152, .bf16⟩
  | .local _ .vmem, ⟨39, _⟩ => ⟨S1152x1024, .bf16⟩
  | .local _ .vmem, ⟨40, _⟩ => ⟨S1152x1024, .bf16⟩
  | .local _ .vmem, ⟨41, _⟩ => ⟨S768x1024, .f32⟩
  | .local _ .vmem, ⟨42, _⟩ => ⟨S768x1024, .f32⟩
  | .local _ .vmem, ⟨43, _⟩ => ⟨S2304x1152, .bf16⟩
  | .local _ .vmem, ⟨44, _⟩ => ⟨S2304x1024, .bf16⟩
  | .local _ .vmem, ⟨45, _⟩ => ⟨S2304x1024, .bf16⟩
  | .local _ .vmem, ⟨46, _⟩ => ⟨S1152x1024, .bf16⟩
  | .local _ .vmem, ⟨47, _⟩ => ⟨S1152x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg1_0 : Ref sig .tc := ⟨.vmem, 44, rfl⟩
abbrev cc8_stg1_1 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem1_0 : DmaSem sig := 44
abbrev cc8_sem1_1 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1152x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![3, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage1_0 : Fin 2 → Memref sig .tc .vmem S768x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S768x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S768x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage3_0 : Fin 2 → Memref sig .tc .vmem S1024x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1536x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage4_0 : Fin 2 → Memref sig .tc .vmem S2048x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S768x768 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![3, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage5_0 : Fin 2 → Memref sig .tc .vmem S768x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S768x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage6_0 : Fin 2 → Memref sig .tc .vmem S2304x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S2304x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![3, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage7_0 : Fin 2 → Memref sig .tc .vmem S768x1152 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1152x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S768x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage8_0 : Fin 1 → Memref sig .tc .vmem S2304x1152 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 2 → Memref sig .tc .vmem S2304x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1152x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference7Ideal.lean ====
abbrev S2304x2048 : Shape := ⟨2, ![2304, 2048]⟩
abbrev S1152x2048 : Shape := ⟨2, ![1152, 2048]⟩
abbrev S2304x1152 : Shape := ⟨2, ![2304, 1152]⟩
abbrev S2048x768 : Shape := ⟨2, ![2048, 768]⟩
abbrev S1536x768 : Shape := ⟨2, ![1536, 768]⟩
abbrev S2048x1536 : Shape := ⟨2, ![2048, 1536]⟩
abbrev S2304x512 : Shape := ⟨2, ![2304, 512]⟩
abbrev S2048x512 : Shape := ⟨2, ![2048, 512]⟩
abbrev S2048x1152 : Shape := ⟨2, ![2048, 1152]⟩
abbrev S512x2048 : Shape := ⟨2, ![512, 2048]⟩
abbrev S768x1536 : Shape := ⟨2, ![768, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S1152x2048, .bf16⟩
  | .hbm, ⟨2, _⟩ => ⟨S2304x1152, .bf16⟩
  | .hbm, ⟨3, _⟩ => ⟨S2048x768, .bf16⟩
  | .hbm, ⟨4, _⟩ => ⟨S1536x768, .bf16⟩
  | .hbm, ⟨5, _⟩ => ⟨S2048x1536, .bf16⟩
  | .hbm, ⟨6, _⟩ => ⟨S2304x512, .bf16⟩
  | .hbm, ⟨7, _⟩ => ⟨S2048x512, .bf16⟩
  | .hbm, ⟨8, _⟩ => ⟨S2304x2048, .bf16⟩
  | .hbm, ⟨9, _⟩ => ⟨S2304x2048, .f32⟩
  | .hbm, ⟨10, _⟩ => ⟨S1152x2048, .f32⟩
  | .hbm, ⟨11, _⟩ => ⟨S2048x1152, .f32⟩
  | .hbm, ⟨12, _⟩ => ⟨S2304x1152, .f32⟩
  | .hbm, ⟨13, _⟩ => ⟨S2304x512, .f32⟩
  | .hbm, ⟨14, _⟩ => ⟨S2048x512, .f32⟩
  | .hbm, ⟨15, _⟩ => ⟨S512x2048, .f32⟩
  | .hbm, ⟨16, _⟩ => ⟨S2304x2048, .f32⟩
  | .hbm, ⟨17, _⟩ => ⟨S2048x768, .f32⟩
  | .hbm, ⟨18, _⟩ => ⟨S1536x768, .f32⟩
  | .hbm, ⟨19, _⟩ => ⟨S768x1536, .f32⟩
  | .hbm, ⟨20, _⟩ => ⟨S2048x1536, .f32⟩
  | .hbm, ⟨21, _⟩ => ⟨S2048x1536, .f32⟩
  | .hbm, ⟨22, _⟩ => ⟨S1536x768, .f32⟩
  | .hbm, ⟨23, _⟩ => ⟨S768x1536, .f32⟩
  | .hbm, ⟨24, _⟩ => ⟨S2048x768, .f32⟩
  | .hbm, ⟨25, _⟩ => ⟨S1536x768, .f32⟩
  | .hbm, ⟨26, _⟩ => ⟨S2304x2048, .f32⟩
  | .hbm, ⟨27, _⟩ => ⟨S2048x512, .f32⟩
  | .hbm, ⟨28, _⟩ => ⟨S512x2048, .f32⟩
  | .hbm, ⟨29, _⟩ => ⟨S2304x512, .f32⟩
  | .hbm, ⟨30, _⟩ => ⟨S2048x512, .f32⟩
  | .hbm, ⟨31, _⟩ => ⟨S2304x1152, .f32⟩
  | .hbm, ⟨32, _⟩ => ⟨S1152x2048, .f32⟩
  | .hbm, ⟨33, _⟩ => ⟨S2048x1152, .f32⟩
  | .hbm, ⟨34, _⟩ => ⟨S2304x2048, .f32⟩
  | .hbm, ⟨35, _⟩ => ⟨S1152x2048, .f32⟩
  | .hbm, ⟨36, _⟩ => ⟨S2304x2048, .bf16⟩
  | .hbm, ⟨37, _⟩ => ⟨S1536x768, .bf16⟩
  | .hbm, ⟨38, _⟩ => ⟨S2048x512, .bf16⟩
  | .hbm, ⟨39, _⟩ => ⟨S1152x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel8.lean ====
abbrev S2304x2048 : Shape := ⟨2, ![2304, 2048]⟩
abbrev S6976x2048 : Shape := ⟨2, ![6976, 2048]⟩
abbrev S2048x1792 : Shape := ⟨2, ![2048, 1792]⟩
abbrev S1024x2048 : Shape := ⟨2, ![1024, 2048]⟩
abbrev S896x2048 : Shape := ⟨2, ![896, 2048]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S6976x2048, .bf16⟩
  | .hbm, ⟨2, _⟩ => ⟨S2048x1792, .f32⟩
  | .local _ .vmem, ⟨0, _⟩ => ⟨S1024x2048, .bf16⟩
  | .local _ .vmem, ⟨1, _⟩ => ⟨S1024x2048, .bf16⟩
  | .local _ .vmem, ⟨2, _⟩ => ⟨S896x2048, .bf16⟩
  | .local _ .vmem, ⟨3, _⟩ => ⟨S896x2048, .bf16⟩
  | .local _ .vmem, ⟨4, _⟩ => ⟨S1024x896, .f32⟩
  | .local _ .vmem, ⟨5, _⟩ => ⟨S1024x896, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_mult1 (i : grid0.Coords) : BitVec 32 :=
  let c1088_i32 : BitVec 32 := 1088#32
  let arg1 : BitVec 32 := BitVec.ofNat 32 (i 1).val
  let c896_i32 : BitVec 32 := 896#32
  let v0 : BitVec 32 := Scalar.muli arg1 c896_i32
  let v1 : BitVec 32 := Scalar.addi c1088_i32 v0
  v1
def k0_mult2 (i : grid0.Coords) : BitVec 32 :=
  let c0_i32 : BitVec 32 := 0#32
  let arg2 : BitVec 32 := BitVec.ofNat 32 (i 2).val
  let c2048_i32 : BitVec 32 := 2048#32
  let v3 : BitVec 32 := Scalar.muli arg2 c2048_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c896_i32 : BitVec 32 := 896#32
  let v0 : BitVec 32 := Scalar.muli arg1 c896_i32
  let c1088_i32 : BitVec 32 := 1088#32
  let v1 : BitVec 32 := Scalar.addi c1088_i32 v0
  let v2 : BitVec 32 := v1
  let c2048_i32 : BitVec 32 := 2048#32
  let v3 : BitVec 32 := Scalar.muli arg2 c2048_i32
  let c0_i32 : BitVec 32 := 0#32
  let v4 : BitVec 32 := Scalar.addi c0_i32 v3
  let v5 : BitVec 32 := v4
  let c0_i32_0 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x2048 : Shape := ⟨2, ![2304, 2048]⟩
abbrev S6976x2048 : Shape := ⟨2, ![6976, 2048]⟩
abbrev S2048x2048 : Shape := ⟨2, ![2048, 2048]⟩
abbrev S1792x2048 : Shape := ⟨2, ![1792, 2048]⟩
abbrev S2048x1792 : Shape := ⟨2, ![2048, 1792]⟩

abbrev nBuf : Space → Nat
  | .hbm => 8
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S6976x2048, .bf16⟩
  | .hbm, ⟨2, _⟩ => ⟨S2048x2048, .bf16⟩
  | .hbm, ⟨3, _⟩ => ⟨S2048x2048, .f32⟩
  | .hbm, ⟨4, _⟩ => ⟨S1792x2048, .bf16⟩
  | .hbm, ⟨5, _⟩ => ⟨S1792x2048, .f32⟩
  | .hbm, ⟨6, _⟩ => ⟨S2048x1792, .f32⟩
  | .hbm, ⟨7, _⟩ => ⟨S2048x1792, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S2048x1792 : Shape := ⟨2, ![2048, 1792]⟩
abbrev S6976x2048 : Shape := ⟨2, ![6976, 2048]⟩
abbrev S2304x2048 : Shape := ⟨2, ![2304, 2048]⟩
abbrev S2048x2048 : Shape := ⟨2, ![2048, 2048]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1792, .bf16⟩
  | .hbm, ⟨1, _⟩ => ⟨S6976x2048, .bf16⟩
  | .hbm, ⟨2, _⟩ => ⟨S2304x2048, .f32⟩
  | .hbm, ⟨3, _⟩ => ⟨S2048x2048, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_mult1 (i : grid0.Coords) : BitVec 32 :=
  let c1088_i32 : BitVec 32 := 1088#32
  let arg2 : BitVec 32 := BitVec.ofNat 32 (i 2).val
  let c1792_i32 : BitVec 32 := 1792#32
  let v0 : BitVec 32 := Scalar.muli arg2 c1792_i32
  let v1 : BitVec 32 := Scalar.addi c1088_i32 v0
  v1
def k0_mult2 (i : grid0.Coords) : BitVec 32 :=
  let c0_i32 : BitVec 32 := 0#32
  let arg1 : BitVec 32 := BitVec.ofNat 32 (i 1).val
  let c1024_i32 : BitVec 32 := 1024#32
  let v3 : BitVec 32 := Scalar.muli arg1 c1024_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1792_i32 : BitVec 32 := 1792#32
  let v0 : BitVec 32 := Scalar.muli arg2 c1792_i32
  let c1088_i32 : BitVec 32 := 1088#32
  let v1 : BitVec 32 := Scalar.addi c1088_i32 v0
  let v2 : BitVec 32 := v1
  let c1024_i32 : BitVec 32 := 1024#32
  let v3 : BitVec 32 := Scalar.muli arg1 c1024_i32
  let c0_i32 : BitVec 32 := 0#32
  let v4 : BitVec 32 := Scalar.addi c0_i32 v3
  let v5 : BitVec 32 := v4
  let c0_i32_0 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1792 : Shape := ⟨2, ![2048, 1792]⟩
abbrev S6976x2048 : Shape := ⟨2, ![6976, 2048]⟩
abbrev S2304x2048 : Shape := ⟨2, ![2304, 2048]⟩
abbrev S1792x2048 : Shape := ⟨2, ![1792, 2048]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S6976x2048, .bf16⟩
  | .hbm, ⟨2, _⟩ => ⟨S2304x2048, .f32⟩
  | .hbm, ⟨3, _⟩ => ⟨S1792x2048, .bf16⟩
  | .hbm, ⟨4, _⟩ => ⟨S1792x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S2048x2048, .f32⟩
  | .hbm, ⟨12, _⟩ => ⟨S2048x2048, .f32⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S2304x2048 : Shape := ⟨2, ![2304, 2048]⟩
abbrev S6976x2048 : Shape := ⟨2, ![6976, 2048]⟩
abbrev S2048x4096 : Shape := ⟨2, ![2048, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S6976x2048, .bf16⟩
  | .hbm, ⟨2, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_mult1 (i : grid0.Coords) : BitVec 32 :=
  let c2880_i32 : BitVec 32 := 2880#32
  let arg1 : BitVec 32 := BitVec.ofNat 32 (i 1).val
  let c1024_i32 : BitVec 32 := 1024#32
  let v0 : BitVec 32 := Scalar.muli arg1 c1024_i32
  let v1 : BitVec 32 := Scalar.addi c2880_i32 v0
  v1
def k0_mult2 (i : grid0.Coords) : BitVec 32 :=
  let c0_i32 : BitVec 32 := 0#32
  let arg2 : BitVec 32 := BitVec.ofNat 32 (i 2).val
  let c2048_i32 : BitVec 32 := 2048#32
  let v3 : BitVec 32 := Scalar.muli arg2 c2048_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c2880_i32 : BitVec 32 := 2880#32
  let v1 : BitVec 32 := Scalar.addi c2880_i32 v0
  let v2 : BitVec 32 := v1
  let c2048_i32 : BitVec 32 := 2048#32
  let v3 : BitVec 32 := Scalar.muli arg2 c2048_i32
  let c0_i32 : BitVec 32 := 0#32
  let v4 : BitVec 32 := Scalar.addi c0_i32 v3
  let v5 : BitVec 32 := v4
  let c0_i32_0 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2304x2048 : Shape := ⟨2, ![2304, 2048]⟩
abbrev S6976x2048 : Shape := ⟨2, ![6976, 2048]⟩
abbrev S2048x2048 : Shape := ⟨2, ![2048, 2048]⟩
abbrev S4096x2048 : Shape := ⟨2, ![4096, 2048]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S6976x2048, .bf16⟩
  | .hbm, ⟨2, _⟩ => ⟨S2048x2048, .bf16⟩
  | .hbm, ⟨3, _⟩ => ⟨S2048x2048, .f32⟩
  | .hbm, ⟨4, _⟩ => ⟨S4096x2048, .bf16⟩
  | .hbm, ⟨5, _⟩ => ⟨S4096x2048, .f32⟩
  | .hbm, ⟨6, _⟩ => ⟨S2048x4096, .f32⟩
  | .hbm, ⟨7, _⟩ => ⟨S2048x4096, .f32⟩
  | .hbm, ⟨8, _⟩ => ⟨S2048x4096, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel11.lean ====
abbrev S2048x4096 : Shape := ⟨2, ![2048, 4096]⟩
abbrev S6976x2048 : Shape := ⟨2, ![6976, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S6976x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_mult1 (i : grid0.Coords) : BitVec 32 :=
  let c2880_i32 : BitVec 32 := 2880#32
  let arg2 : BitVec 32 := BitVec.ofNat 32 (i 2).val
  let c2048_i32 : BitVec 32 := 2048#32
  let v0 : BitVec 32 := Scalar.muli arg2 c2048_i32
  let v1 : BitVec 32 := Scalar.addi c2880_i32 v0
  v1
def k0_mult2 (i : grid0.Coords) : BitVec 32 :=
  let c0_i32 : BitVec 32 := 0#32
  let arg1 : BitVec 32 := BitVec.ofNat 32 (i 1).val
  let c1024_i32 : BitVec 32 := 1024#32
  let v3 : BitVec 32 := Scalar.muli arg1 c1024_i32
  let v4 : BitVec 32 := Scalar.addi c0_i32 v3
  v4
def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2048_i32 : BitVec 32 := 2048#32
  let v0 : BitVec 32 := Scalar.muli arg2 c2048_i32
  let c2880_i32 : BitVec 32 := 2880#32
  let v1 : BitVec 32 := Scalar.addi c2880_i32 v0
  let v2 : BitVec 32 := v1
  let c1024_i32 : BitVec 32 := 1024#32
  let v3 : BitVec 32 := Scalar.muli arg1 c1024_i32
  let c0_i32 : BitVec 32 := 0#32
  let v4 : BitVec 32 := Scalar.addi c0_i32 v3
  let v5 : BitVec 32 := v4
  let c0_i32_0 : BitVec 32 := 0#32
  ![v2.toNat, v5.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x4096 : Shape := ⟨2, ![2048, 4096]⟩
abbrev S6976x2048 : Shape := ⟨2, ![6976, 2048]⟩
abbrev S2048x2048 : Shape := ⟨2, ![2048, 2048]⟩
abbrev S4096x2048 : Shape := ⟨2, ![4096, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S6976x2048, .bf16⟩
  | .hbm, ⟨2, _⟩ => ⟨S2048x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S2048x2048, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x2048, .f32⟩
  | .hbm, ⟨11, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S2048x1792 : Shape := ⟨2, ![2048, 1792]⟩
abbrev S2304x2048 : Shape := ⟨2, ![2304, 2048]⟩
abbrev S1792x2048 : Shape := ⟨2, ![1792, 2048]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1792, .bf16⟩
  | .hbm, ⟨1, _⟩ => ⟨S2304x2048, .bf16⟩
  | .hbm, ⟨2, _⟩ => ⟨S1792x2048, .bf16⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .bf16⟩
  | .local _ .vmem, ⟨5, _⟩ => ⟨S896x1024, .bf16⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1792 : Shape := ⟨2, ![2048, 1792]⟩
abbrev S2304x2048 : Shape := ⟨2, ![2304, 2048]⟩
abbrev S_ : Shape := ⟨0, ![]⟩
abbrev S1792x2048 : Shape := ⟨2, ![1792, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S2304x2048, .bf16⟩
  | .hbm, ⟨2, _⟩ => ⟨S_, .f32⟩
  | .hbm, ⟨3, _⟩ => ⟨S1792x2048, .f32⟩
  | .hbm, ⟨4, _⟩ => ⟨S2048x2048, .bf16⟩
  | .hbm, ⟨5, _⟩ => ⟨S2048x2048, .f32⟩
  | .hbm, ⟨6, _⟩ => ⟨S2048x1792, .f32⟩
  | .hbm, ⟨7, _⟩ => ⟨S2048x1792, .f32⟩
  | .hbm, ⟨8, _⟩ => ⟨S2048x1792, .f32⟩
  | .hbm, ⟨9, _⟩ => ⟨S1792x2048, .f32⟩
  | .hbm, ⟨10, _⟩ => ⟨S2048x1792, .f32⟩
  | .hbm, ⟨11, _⟩ => ⟨S1792x2048, .f32⟩
  | .hbm, ⟨12, _⟩ => ⟨S1792x2048, .bf16⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S2048x4096 : Shape := ⟨2, ![2048, 4096]⟩
abbrev S2304x2048 : Shape := ⟨2, ![2304, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2304x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x4096 : Shape := ⟨2, ![2048, 4096]⟩
abbrev S2304x2048 : Shape := ⟨2, ![2304, 2048]⟩
abbrev S_ : Shape := ⟨0, ![]⟩
abbrev S4096x2048 : Shape := ⟨2, ![4096, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2304x2048, .bf16⟩
  | .hbm, ⟨2, _⟩ => ⟨S_, .f32⟩
  | .hbm, ⟨3, _⟩ => ⟨S4096x2048, .f32⟩
  | .hbm, ⟨4, _⟩ => ⟨S2048x2048, .bf16⟩
  | .hbm, ⟨5, _⟩ => ⟨S2048x2048, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S4096x2048, .f32⟩
  | .hbm, ⟨10, _⟩ => ⟨S2048x4096, .f32⟩
  | .hbm, ⟨11, _⟩ => ⟨S4096x2048, .f32⟩
  | .hbm, ⟨12, _⟩ => ⟨S4096x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S2048x1536 : Shape := ⟨2, ![2048, 1536]⟩
abbrev S2304x2048 : Shape := ⟨2, ![2304, 2048]⟩
abbrev S2304x256 : Shape := ⟨2, ![2304, 256]⟩
abbrev S2048x1024 : Shape := ⟨2, ![2048, 1024]⟩
abbrev S8x2048x1 : Shape := ⟨3, ![8, 2048, 1]⟩
abbrev S2048x128 : Shape := ⟨2, ![2048, 128]⟩
abbrev S2304x128 : Shape := ⟨2, ![2304, 128]⟩
abbrev S1x2048x1 : Shape := ⟨3, ![1, 2048, 1]⟩
abbrev S256x128 : Shape := ⟨2, ![256, 128]⟩
abbrev S256x256 : Shape := ⟨2, ![256, 256]⟩
abbrev S256x2304 : Shape := ⟨2, ![256, 2304]⟩
abbrev S256 : Shape := ⟨1, ![256]⟩
abbrev S256x1 : Shape := ⟨2, ![256, 1]⟩
abbrev S1x256x1 : Shape := ⟨3, ![1, 256, 1]⟩
abbrev S2048x2048 : Shape := ⟨2, ![2048, 2048]⟩
abbrev S2304x1024 : Shape := ⟨2, ![2304, 1024]⟩
abbrev S2048x256 : Shape := ⟨2, ![2048, 256]⟩

abbrev nBuf : Space → Nat
  | .hbm => 9
  | .vmem => 36
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x256, .bf16⟩
  | .hbm, ⟨3, _⟩ => ⟨S2048x1024, .bf16⟩
  | .hbm, ⟨4, _⟩ => ⟨S2048x1024, .bf16⟩
  | .hbm, ⟨5, _⟩ => ⟨S8x2048x1, .f32⟩
  | .hbm, ⟨6, _⟩ => ⟨S2048x2048, .f32⟩
  | .hbm, ⟨7, _⟩ => ⟨S2304x2048, .f32⟩
  | .hbm, ⟨8, _⟩ => ⟨S2304x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2304x128, .bf16⟩
  | .local _ .vmem, ⟨5, _⟩ => ⟨S2304x128, .bf16⟩
  | .local _ .vmem, ⟨6, _⟩ => ⟨S2304x128, .bf16⟩
  | .local _ .vmem, ⟨7, _⟩ => ⟨S2304x128, .bf16⟩
  | .local _ .vmem, ⟨8, _⟩ => ⟨S2304x128, .bf16⟩
  | .local _ .vmem, ⟨9, _⟩ => ⟨S2304x128, .bf16⟩
  | .local _ .vmem, ⟨10, _⟩ => ⟨S2048x128, .bf16⟩
  | .local _ .vmem, ⟨11, _⟩ => ⟨S2048x128, .bf16⟩
  | .local _ .vmem, ⟨12, _⟩ => ⟨S1x2048x1, .f32⟩
  | .local _ .vmem, ⟨13, _⟩ => ⟨S1x2048x1, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2304x128, .bf16⟩
  | .local _ .vmem, ⟨19, _⟩ => ⟨S2304x128, .bf16⟩
  | .local _ .vmem, ⟨20, _⟩ => ⟨S2304x128, .bf16⟩
  | .local _ .vmem, ⟨21, _⟩ => ⟨S2304x128, .bf16⟩
  | .local _ .vmem, ⟨22, _⟩ => ⟨S2304x128, .bf16⟩
  | .local _ .vmem, ⟨23, _⟩ => ⟨S2304x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S1x2048x1, .f32⟩
  | .local _ .vmem, ⟨29, _⟩ => ⟨S1x2048x1, .f32⟩
  | .local _ .vmem, ⟨30, _⟩ => ⟨S2048x256, .f32⟩
  | .local _ .vmem, ⟨31, _⟩ => ⟨S2048x256, .f32⟩
  | .local _ .vmem, ⟨32, _⟩ => ⟨S2304x256, .f32⟩
  | .local _ .vmem, ⟨33, _⟩ => ⟨S2304x256, .f32⟩
  | .local _ .vmem, ⟨34, _⟩ => ⟨S2304x128, .f32⟩
  | .local _ .vmem, ⟨35, _⟩ => ⟨S2304x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  ![arg1.toNat, v28.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let v18 : BitVec 32 := Scalar.addi v17 c2_i32_4
  let c0_i32_5 : BitVec 32 := 0#32
  ![arg1.toNat, v18.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c0_i32_5 : BitVec 32 := 0#32
  let c0_i32_6 : BitVec 32 := 0#32
  ![c0_i32_5.toNat, v17.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli c2_i32 v16
  let c1_i32_5 : BitVec 32 := 1#32
  let v18 : BitVec 32 := Scalar.addi v17 c1_i32_5
  let c0_i32_6 : BitVec 32 := 0#32
  let c0_i32_7 : BitVec 32 := 0#32
  ![c0_i32_6.toNat, v18.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.muli arg0 c1_i32_4
  let c1_i32_5 : BitVec 32 := 1#32
  let v11 : BitVec 32 := Scalar.divsi arg1 c1_i32_5
  let c0_i32_6 : BitVec 32 := 0#32
  let v12 : BitVec 1 := Scalar.cmpi .sgt arg1 c0_i32_6
  let v13 : BitVec 32 := Scalar.extui v12
  let c0_i32_7 : BitVec 32 := 0#32
  let v14 : BitVec 1 := Scalar.cmpi .slt arg1 c0_i32_7
  let v15 : BitVec 32 := Scalar.extui v14
  let v16 : BitVec 32 := Scalar.subi v13 v15
  let c0_i32_8 : BitVec 32 := 0#32
  let v17 : BitVec 1 := Scalar.cmpi .sgt c1_i32_5 c0_i32_8
  let v18 : BitVec 32 := Scalar.extui v17
  let c0_i32_9 : BitVec 32 := 0#32
  let v19 : BitVec 1 := Scalar.cmpi .slt c1_i32_5 c0_i32_9
  let v20 : BitVec 32 := Scalar.extui v19
  let v21 : BitVec 32 := Scalar.subi v18 v20
  let v22 : BitVec 1 := Scalar.cmpi .ne v16 v21
  let v23 : BitVec 32 := Scalar.remsi arg1 c1_i32_5
  let c0_i32_10 : BitVec 32 := 0#32
  let v24 : BitVec 1 := Scalar.cmpi .ne v23 c0_i32_10
  let v25 : BitVec 1 := Scalar.andi v22 v24
  let c1_i32_11 : BitVec 32 := 1#32
  let v26 : BitVec 32 := Scalar.subi v11 c1_i32_11
  let v27 : BitVec 32 := Scalar.select v25 v26 v11
  let v28 : BitVec 32 := Scalar.addi v10 v27
  let c2_i32 : BitVec 32 := 2#32
  let v29 : BitVec 32 := Scalar.divsi v28 c2_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v28 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c3_i32 : BitVec 32 := 3#32
  let v46 : BitVec 32 := Scalar.muli c3_i32 v45
  let c2_i32_18 : BitVec 32 := 2#32
  let c0_i32_19 : BitVec 32 := 0#32
  let v47 : BitVec 1 := Scalar.cmpi .eq c2_i32_18 c0_i32_19
  let c1_i32_20 : BitVec 32 := 1#32
  let v48 : BitVec 32 := Scalar.select v47 c1_i32_20 c2_i32_18
  let v49 : BitVec 32 := Scalar.remsi v28 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_24 : BitVec 32 := 0#32
  ![v9.toNat, v57.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.muli arg0 c1_i32_4
  let c1_i32_5 : BitVec 32 := 1#32
  let v11 : BitVec 32 := Scalar.divsi arg1 c1_i32_5
  let c0_i32_6 : BitVec 32 := 0#32
  let v12 : BitVec 1 := Scalar.cmpi .sgt arg1 c0_i32_6
  let v13 : BitVec 32 := Scalar.extui v12
  let c0_i32_7 : BitVec 32 := 0#32
  let v14 : BitVec 1 := Scalar.cmpi .slt arg1 c0_i32_7
  let v15 : BitVec 32 := Scalar.extui v14
  let v16 : BitVec 32 := Scalar.subi v13 v15
  let c0_i32_8 : BitVec 32 := 0#32
  let v17 : BitVec 1 := Scalar.cmpi .sgt c1_i32_5 c0_i32_8
  let v18 : BitVec 32 := Scalar.extui v17
  let c0_i32_9 : BitVec 32 := 0#32
  let v19 : BitVec 1 := Scalar.cmpi .slt c1_i32_5 c0_i32_9
  let v20 : BitVec 32 := Scalar.extui v19
  let v21 : BitVec 32 := Scalar.subi v18 v20
  let v22 : BitVec 1 := Scalar.cmpi .ne v16 v21
  let v23 : BitVec 32 := Scalar.remsi arg1 c1_i32_5
  let c0_i32_10 : BitVec 32 := 0#32
  let v24 : BitVec 1 := Scalar.cmpi .ne v23 c0_i32_10
  let v25 : BitVec 1 := Scalar.andi v22 v24
  let c1_i32_11 : BitVec 32 := 1#32
  let v26 : BitVec 32 := Scalar.subi v11 c1_i32_11
  let v27 : BitVec 32 := Scalar.select v25 v26 v11
  let v28 : BitVec 32 := Scalar.addi v10 v27
  let c2_i32 : BitVec 32 := 2#32
  let v29 : BitVec 32 := Scalar.divsi v28 c2_i32
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32 c0_i32_14
  let v36 : BitVec 32 := Scalar.extui v35
  let c0_i32_15 : BitVec 32 := 0#32
  let v37 : BitVec 1 := Scalar.cmpi .slt c2_i32 c0_i32_15
  let v38 : BitVec 32 := Scalar.extui v37
  let v39 : BitVec 32 := Scalar.subi v36 v38
  let v40 : BitVec 1 := Scalar.cmpi .ne v34 v39
  let v41 : BitVec 32 := Scalar.remsi v28 c2_i32
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c3_i32 : BitVec 32 := 3#32
  let v46 : BitVec 32 := Scalar.muli c3_i32 v45
  let c2_i32_18 : BitVec 32 := 2#32
  let v47 : BitVec 32 := Scalar.addi v46 c2_i32_18
  let c0_i32_19 : BitVec 32 := 0#32
  ![v9.toNat, v47.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.muli arg0 c1_i32_4
  let c1_i32_5 : BitVec 32 := 1#32
  let v11 : BitVec 32 := Scalar.divsi arg1 c1_i32_5
  let c0_i32_6 : BitVec 32 := 0#32
  let v12 : BitVec 1 := Scalar.cmpi .sgt arg1 c0_i32_6
  let v13 : BitVec 32 := Scalar.extui v12
  let c0_i32_7 : BitVec 32 := 0#32
  let v14 : BitVec 1 := Scalar.cmpi .slt arg1 c0_i32_7
  let v15 : BitVec 32 := Scalar.extui v14
  let v16 : BitVec 32 := Scalar.subi v13 v15
  let c0_i32_8 : BitVec 32 := 0#32
  let v17 : BitVec 1 := Scalar.cmpi .sgt c1_i32_5 c0_i32_8
  let v18 : BitVec 32 := Scalar.extui v17
  let c0_i32_9 : BitVec 32 := 0#32
  let v19 : BitVec 1 := Scalar.cmpi .slt c1_i32_5 c0_i32_9
  let v20 : BitVec 32 := Scalar.extui v19
  let v21 : BitVec 32 := Scalar.subi v18 v20
  let v22 : BitVec 1 := Scalar.cmpi .ne v16 v21
  let v23 : BitVec 32 := Scalar.remsi arg1 c1_i32_5
  let c0_i32_10 : BitVec 32 := 0#32
  let v24 : BitVec 1 := Scalar.cmpi .ne v23 c0_i32_10
  let v25 : BitVec 1 := Scalar.andi v22 v24
  let c1_i32_11 : BitVec 32 := 1#32
  let v26 : BitVec 32 := Scalar.subi v11 c1_i32_11
  let v27 : BitVec 32 := Scalar.select v25 v26 v11
  let v28 : BitVec 32 := Scalar.addi v10 v27
  let c0_i32_12 : BitVec 32 := 0#32
  ![v9.toNat, v28.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.muli arg0 c1_i32_4
  let c1_i32_5 : BitVec 32 := 1#32
  let v11 : BitVec 32 := Scalar.divsi arg1 c1_i32_5
  let c0_i32_6 : BitVec 32 := 0#32
  let v12 : BitVec 1 := Scalar.cmpi .sgt arg1 c0_i32_6
  let v13 : BitVec 32 := Scalar.extui v12
  let c0_i32_7 : BitVec 32 := 0#32
  let v14 : BitVec 1 := Scalar.cmpi .slt arg1 c0_i32_7
  let v15 : BitVec 32 := Scalar.extui v14
  let v16 : BitVec 32 := Scalar.subi v13 v15
  let c0_i32_8 : BitVec 32 := 0#32
  let v17 : BitVec 1 := Scalar.cmpi .sgt c1_i32_5 c0_i32_8
  let v18 : BitVec 32 := Scalar.extui v17
  let c0_i32_9 : BitVec 32 := 0#32
  let v19 : BitVec 1 := Scalar.cmpi .slt c1_i32_5 c0_i32_9
  let v20 : BitVec 32 := Scalar.extui v19
  let v21 : BitVec 32 := Scalar.subi v18 v20
  let v22 : BitVec 1 := Scalar.cmpi .ne v16 v21
  let v23 : BitVec 32 := Scalar.remsi arg1 c1_i32_5
  let c0_i32_10 : BitVec 32 := 0#32
  let v24 : BitVec 1 := Scalar.cmpi .ne v23 c0_i32_10
  let v25 : BitVec 1 := Scalar.andi v22 v24
  let c1_i32_11 : BitVec 32 := 1#32
  let v26 : BitVec 32 := Scalar.subi v11 c1_i32_11
  let v27 : BitVec 32 := Scalar.select v25 v26 v11
  let v28 : BitVec 32 := Scalar.addi v10 v27
  let c0_i32_12 : BitVec 32 := 0#32
  ![v9.toNat, v28.toNat]

def cc1_transform_7 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.divsi arg1 c1_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32_0 c0_i32_2
  let v8 : BitVec 32 := Scalar.extui v7
  let c0_i32_3 : BitVec 32 := 0#32
  let v9 : BitVec 1 := Scalar.cmpi .slt c1_i32_0 c0_i32_3
  let v10 : BitVec 32 := Scalar.extui v9
  let v11 : BitVec 32 := Scalar.subi v8 v10
  let v12 : BitVec 1 := Scalar.cmpi .ne v6 v11
  let v13 : BitVec 32 := Scalar.remsi arg1 c1_i32_0
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let v18 : BitVec 32 := Scalar.addi v0 v17
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg1 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.muli arg0 c1_i32_4
  let c1_i32_5 : BitVec 32 := 1#32
  let v11 : BitVec 32 := Scalar.divsi arg1 c1_i32_5
  let c0_i32_6 : BitVec 32 := 0#32
  let v12 : BitVec 1 := Scalar.cmpi .sgt arg1 c0_i32_6
  let v13 : BitVec 32 := Scalar.extui v12
  let c0_i32_7 : BitVec 32 := 0#32
  let v14 : BitVec 1 := Scalar.cmpi .slt arg1 c0_i32_7
  let v15 : BitVec 32 := Scalar.extui v14
  let v16 : BitVec 32 := Scalar.subi v13 v15
  let c0_i32_8 : BitVec 32 := 0#32
  let v17 : BitVec 1 := Scalar.cmpi .sgt c1_i32_5 c0_i32_8
  let v18 : BitVec 32 := Scalar.extui v17
  let c0_i32_9 : BitVec 32 := 0#32
  let v19 : BitVec 1 := Scalar.cmpi .slt c1_i32_5 c0_i32_9
  let v20 : BitVec 32 := Scalar.extui v19
  let v21 : BitVec 32 := Scalar.subi v18 v20
  let v22 : BitVec 1 := Scalar.cmpi .ne v16 v21
  let v23 : BitVec 32 := Scalar.remsi arg1 c1_i32_5
  let c0_i32_10 : BitVec 32 := 0#32
  let v24 : BitVec 1 := Scalar.cmpi .ne v23 c0_i32_10
  let v25 : BitVec 1 := Scalar.andi v22 v24
  let c1_i32_11 : BitVec 32 := 1#32
  let v26 : BitVec 32 := Scalar.subi v11 c1_i32_11
  let v27 : BitVec 32 := Scalar.select v25 v26 v11
  let v28 : BitVec 32 := Scalar.addi v10 v27
  let c0_i32_12 : BitVec 32 := 0#32
  ![v9.toNat, v28.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2304x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2304x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2304x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2304x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S2304x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== Kernel14Ideal.lean ====
variable {F : FTy → Type} [FloatOps F] [Named F]
def κ : String → Option EReal := fun
  | "log2_e" => some (((Real.log 2)⁻¹ : ℝ) : EReal)
  | "scale_a" => some (((Real.sqrt 192)⁻¹ : ℝ) : EReal)
  | "scale_log2_e_a" => some (((Real.sqrt 192)⁻¹ * (Real.log 2)⁻¹ : ℝ) : EReal)
  | _ => none
-- ==== Reference14Ideal.lean ====
abbrev S2048x1536 : Shape := ⟨2, ![2048, 1536]⟩
abbrev S2304x2048 : Shape := ⟨2, ![2304, 2048]⟩
abbrev S2304x256 : Shape := ⟨2, ![2304, 256]⟩
abbrev S2048x1024 : Shape := ⟨2, ![2048, 1024]⟩
abbrev S2048x4x3x128 : Shape := ⟨4, ![2048, 4, 3, 128]⟩
abbrev S2304x4x2x2x128 : Shape := ⟨5, ![2304, 4, 2, 2, 128]⟩
abbrev S2304x1x2x128 : Shape := ⟨4, ![2304, 1, 2, 128]⟩
abbrev S2048x4x1x128 : Shape := ⟨4, ![2048, 4, 1, 128]⟩
abbrev S2048x4x2x128 : Shape := ⟨4, ![2048, 4, 2, 128]⟩
abbrev S2304x4x2x128 : Shape := ⟨4, ![2304, 4, 2, 128]⟩
abbrev S2048x4x2x256 : Shape := ⟨4, ![2048, 4, 2, 256]⟩
abbrev S2048x8x256 : Shape := ⟨3, ![2048, 8, 256]⟩
abbrev S2304x4x2x1x128 : Shape := ⟨5, ![2304, 4, 2, 1, 128]⟩
abbrev S2304x4x2x256 : Shape := ⟨4, ![2304, 4, 2, 256]⟩
abbrev S2304x8x256 : Shape := ⟨3, ![2304, 8, 256]⟩
abbrev S2304x8x128 : Shape := ⟨3, ![2304, 8, 128]⟩
abbrev S8x2048x2304 : Shape := ⟨3, ![8, 2048, 2304]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩
abbrev S2048x8x128 : Shape := ⟨3, ![2048, 8, 128]⟩
abbrev S8x128x2304 : Shape := ⟨3, ![8, 128, 2304]⟩
abbrev S8x2304x256 : Shape := ⟨3, ![8, 2304, 256]⟩
abbrev S8x2048x256 : Shape := ⟨3, ![8, 2048, 256]⟩
abbrev S2048x2048 : Shape := ⟨2, ![2048, 2048]⟩
abbrev S2304x1024 : Shape := ⟨2, ![2304, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2304x2048, .bf16⟩
  | .hbm, ⟨2, _⟩ => ⟨S2304x256, .bf16⟩
  | .hbm, ⟨3, _⟩ => ⟨S2048x1024, .bf16⟩
  | .hbm, ⟨4, _⟩ => ⟨S2048x1536, .f32⟩
  | .hbm, ⟨5, _⟩ => ⟨S2048x4x3x128, .f32⟩
  | .hbm, ⟨6, _⟩ => ⟨S2304x2048, .f32⟩
  | .hbm, ⟨7, _⟩ => ⟨S2304x4x2x2x128, .f32⟩
  | .hbm, ⟨8, _⟩ => ⟨S2304x256, .f32⟩
  | .hbm, ⟨9, _⟩ => ⟨S2304x1x2x128, .f32⟩
  | .hbm, ⟨10, _⟩ => ⟨S2048x4x1x128, .f32⟩
  | .hbm, ⟨11, _⟩ => ⟨S2048x4x2x128, .f32⟩
  | .hbm, ⟨12, _⟩ => ⟨S2304x4x2x128, .f32⟩
  | .hbm, ⟨13, _⟩ => ⟨S2048x4x2x128, .f32⟩
  | .hbm, ⟨14, _⟩ => ⟨S2048x4x2x256, .f32⟩
  | .hbm, ⟨15, _⟩ => ⟨S2048x8x256, .f32⟩
  | .hbm, ⟨16, _⟩ => ⟨S2304x4x2x1x128, .f32⟩
  | .hbm, ⟨17, _⟩ => ⟨S2304x4x2x128, .f32⟩
  | .hbm, ⟨18, _⟩ => ⟨S2304x4x2x256, .f32⟩
  | .hbm, ⟨19, _⟩ => ⟨S2304x8x256, .f32⟩
  | .hbm, ⟨20, _⟩ => ⟨S2304x4x2x1x128, .f32⟩
  | .hbm, ⟨21, _⟩ => ⟨S2304x4x2x128, .f32⟩
  | .hbm, ⟨22, _⟩ => ⟨S2304x8x128, .f32⟩
  | .hbm, ⟨23, _⟩ => ⟨S8x2048x2304, .f32⟩
  | .hbm, ⟨24, _⟩ => ⟨S_, .f32⟩
  | .hbm, ⟨25, _⟩ => ⟨S_, .f32⟩
  | .hbm, ⟨26, _⟩ => ⟨S8x2048x2304, .f32⟩
  | .hbm, ⟨27, _⟩ => ⟨S8x2048x2304, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2304, .f32⟩
  | .hbm, ⟨32, _⟩ => ⟨S8x2048x2304, .i1⟩
  | .hbm, ⟨33, _⟩ => ⟨S8x2048x2304, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .i1⟩
  | .hbm, ⟨42, _⟩ => ⟨S_, .f32⟩
  | .hbm, ⟨43, _⟩ => ⟨S8x2048, .f32⟩
  | .hbm, ⟨44, _⟩ => ⟨S8x2048, .i1⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048x2304, .f32⟩
  | .hbm, ⟨55, _⟩ => ⟨S8x2048x2304, .f32⟩
  | .hbm, ⟨56, _⟩ => ⟨S8x2048x2304, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S8x2048x2304, .f32⟩
  | .hbm, ⟨61, _⟩ => ⟨S8x2048x2304, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x128x2048, .f32⟩
  | .hbm, ⟨67, _⟩ => ⟨S2048x8x128, .f32⟩
  | .hbm, ⟨68, _⟩ => ⟨S2048x1024, .f32⟩
  | .hbm, ⟨69, _⟩ => ⟨S2048x8x128, .f32⟩
  | .hbm, ⟨70, _⟩ => ⟨S8x128x2048, .f32⟩
  | .hbm, ⟨71, _⟩ => ⟨S8x2048x2304, .f32⟩
  | .hbm, ⟨72, _⟩ => ⟨S8x128x2304, .f32⟩
  | .hbm, ⟨73, _⟩ => ⟨S2304x8x128, .f32⟩
  | .hbm, ⟨74, _⟩ => ⟨S8x2048x2304, .f32⟩
  | .hbm, ⟨75, _⟩ => ⟨S8x2048x2304, .f32⟩
  | .hbm, ⟨76, _⟩ => ⟨S8x2048x2304, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S8x2048x1, .f32⟩
  | .hbm, ⟨81, _⟩ => ⟨S8x2048x2304, .f32⟩
  | .hbm, ⟨82, _⟩ => ⟨S8x2048x2304, .f32⟩
  | .hbm, ⟨83, _⟩ => ⟨S_, .f32⟩
  | .hbm, ⟨84, _⟩ => ⟨S8x2048, .f32⟩
  | .hbm, ⟨85, _⟩ => ⟨S8x2048x2304, .f32⟩
  | .hbm, ⟨86, _⟩ => ⟨S8x2048x2304, .f32⟩
  | .hbm, ⟨87, _⟩ => ⟨S8x2048x2304, .f32⟩
  | .hbm, ⟨88, _⟩ => ⟨S8x2048x2304, .f32⟩
  | .hbm, ⟨89, _⟩ => ⟨S8x2048x2304, .f32⟩
  | .hbm, ⟨90, _⟩ => ⟨S8x2304x256, .f32⟩
  | .hbm, ⟨91, _⟩ => ⟨S2304x8x256, .f32⟩
  | .hbm, ⟨92, _⟩ => ⟨S8x2048x256, .f32⟩
  | .hbm, ⟨93, _⟩ => ⟨S2048x8x256, .f32⟩
  | .hbm, ⟨94, _⟩ => ⟨S2048x8x128, .bf16⟩
  | .hbm, ⟨95, _⟩ => ⟨S2048x1024, .bf16⟩
  | .hbm, ⟨96, _⟩ => ⟨S2048x2048, .f32⟩
  | .hbm, ⟨97, _⟩ => ⟨S2304x2048, .f32⟩
  | .hbm, ⟨98, _⟩ => ⟨S2304x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_11 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== Kernel15.lean ====
abbrev S2048x3072 : Shape := ⟨2, ![2048, 3072]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S768x384 : Shape := ⟨2, ![768, 384]⟩

abbrev nBuf : Space → Nat
  | .hbm => 7
  | .vmem => 7
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S768x384, .f32⟩
  | .hbm, ⟨5, _⟩ => ⟨S768x384, .f32⟩
  | .hbm, ⟨6, _⟩ => ⟨S768x384, .f32⟩
  | .local _ .vmem, ⟨0, _⟩ => ⟨S768x384, .f32⟩
  | .local _ .vmem, ⟨1, _⟩ => ⟨S768x384, .f32⟩
  | .local _ .vmem, ⟨2, _⟩ => ⟨S768x384, .f32⟩
  | .local _ .vmem, ⟨3, _⟩ => ⟨S768x384, .f32⟩
  | .local _ .vmem, ⟨4, _⟩ => ⟨S768x384, .f32⟩
  | .local _ .vmem, ⟨5, _⟩ => ⟨S768x384, .f32⟩
  | .local _ .vmem, ⟨6, _⟩ => ⟨S768x384, .f32⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S768x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S768x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S768x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S768x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S768x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference16Ideal.lean ====
abbrev S768x384 : Shape := ⟨2, ![768, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x384, .f32⟩
  | .hbm, ⟨1, _⟩ => ⟨S768x384, .f32⟩
  | .hbm, ⟨2, _⟩ => ⟨S768x384, .f32⟩
  | .hbm, ⟨3, _⟩ => ⟨S768x384, .f32⟩
  | .hbm, ⟨4, _⟩ => ⟨S_, .f32⟩
  | .hbm, ⟨5, _⟩ => ⟨S768x384, .f32⟩
  | .hbm, ⟨6, _⟩ => ⟨S768x384, .f32⟩
  | .hbm, ⟨7, _⟩ => ⟨S_, .f32⟩
  | .hbm, ⟨8, _⟩ => ⟨S768x384, .f32⟩
  | .hbm, ⟨9, _⟩ => ⟨S768x384, .f32⟩
  | .hbm, ⟨10, _⟩ => ⟨S768x384, .f32⟩
  | .hbm, ⟨11, _⟩ => ⟨S_, .f32⟩
  | .hbm, ⟨12, _⟩ => ⟨S768x384, .f32⟩
  | .hbm, ⟨13, _⟩ => ⟨S768x384, .f32⟩
  | .hbm, ⟨14, _⟩ => ⟨S768x384, .f32⟩
  | .hbm, ⟨15, _⟩ => ⟨S_, .f32⟩
  | .hbm, ⟨16, _⟩ => ⟨S768x384, .f32⟩
  | .hbm, ⟨17, _⟩ => ⟨S768x384, .f32⟩
  | .hbm, ⟨18, _⟩ => ⟨S768x384, .f32⟩
  | .hbm, ⟨19, _⟩ => ⟨S_, .f32⟩
  | .hbm, ⟨20, _⟩ => ⟨S768x384, .f32⟩
  | .hbm, ⟨21, _⟩ => ⟨S768x384, .f32⟩
  | .hbm, ⟨22, _⟩ => ⟨S_, .f32⟩
  | .hbm, ⟨23, _⟩ => ⟨S768x384, .f32⟩
  | .hbm, ⟨24, _⟩ => ⟨S768x384, .f32⟩
  | .hbm, ⟨25, _⟩ => ⟨S768x384, .f32⟩
  | .hbm, ⟨26, _⟩ => ⟨S_, .f32⟩
  | .hbm, ⟨27, _⟩ => ⟨S768x384, .f32⟩
  | .hbm, ⟨28, _⟩ => ⟨S768x384, .f32⟩
  | .hbm, ⟨29, _⟩ => ⟨S768x384, .f32⟩
  | .hbm, ⟨30, _⟩ => ⟨S_, .f32⟩
  | .hbm, ⟨31, _⟩ => ⟨S768x384, .f32⟩
  | .hbm, ⟨32, _⟩ => ⟨S768x384, .f32⟩
  | .hbm, ⟨33, _⟩ => ⟨S768x384, .f32⟩
  | .hbm, ⟨34, _⟩ => ⟨S_, .f32⟩
  | .hbm, ⟨35, _⟩ => ⟨S768x384, .f32⟩
  | .hbm, ⟨36, _⟩ => ⟨S768x384, .f32⟩
  | _, _ => ⟨S768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Block.lean ====
/- Matrices and rows of matrices at real entries, and a band of rows of a block. -/
module

public import Idealize.ShloMosaic.Lib.Pointwise
public import Idealize.ShloMosaic.Lib.Pipeline.Value

@[expose] public section

noncomputable section

namespace Cert.Block

open Idealize.ShloMosaic Idealize.SL.Sem

/-- A matrix of extended reals that holds the real matrix `x`. -/
def Holds {m n : ℕ} (X : (⟨2, ![m, n]⟩ : Shape).Idx → EReal) (x : Fin m → Fin n → ℝ) : Prop :=
  ∀ a b, X (ix2 a b) = ((x a b : ℝ) : EReal)

/-- Where an entry of a rectangle of a matrix sits in the matrix. -/
theorem emb2 {M N m n : ℕ} (o p : ℕ) (h : ∀ a, (![o, p] : Fin 2 → ℕ) a + (![m, n] : Fin 2 → ℕ) a ≤ (![M, N] : Fin 2 → ℕ) a)
    (a : Fin m) (b : Fin n) (ha : o + a.val < M) (hb : p + b.val < N) :
    (Rect.unit (s := ⟨2, ![M, N]⟩) ![o, p] ![m, n] h).emb (ix2 a b) = ix2 ⟨o + a.val, ha⟩ ⟨p + b.val, hb⟩ := by
  rw [eq_ix2 ((Rect.unit (s := ⟨2, ![M, N]⟩) ![o, p] ![m, n] h).emb (ix2 a b))]
  refine (ix2_inj _ _ _ _).mpr ⟨Fin.ext ?_, Fin.ext ?_⟩
  · rw [Rect.emb_apply]; show o + 1 * a.val = o + a.val; omega
  · rw [Rect.emb_apply]; show p + 1 * b.val = p + b.val; omega

/-- Where an entry of a rectangle of a stack of matrices sits in the stack. -/
theorem emb3 {L M N l m n : ℕ} (w o p : ℕ)
    (h : ∀ a, (![w, o, p] : Fin 3 → ℕ) a + (![l, m, n] : Fin 3 → ℕ) a ≤ (![L, M, N] : Fin 3 → ℕ) a)
    (z : Fin l) (a : Fin m) (b : Fin n) (hz : w + z.val < L) (ha : o + a.val < M) (hb : p + b.val < N) :
    (Rect.unit (s := ⟨3, ![L, M, N]⟩) ![w, o, p] ![l, m, n] h).emb (ix3 z a b)
      = ix3 ⟨w + z.val, hz⟩ ⟨o + a.val, ha⟩ ⟨p + b.val, hb⟩ := by
  rw [eq_ix3 ((Rect.unit (s := ⟨3, ![L, M, N]⟩) ![w, o, p] ![l, m, n] h).emb (ix3 z a b))]
  refine (ix3_inj _ _ _ _ _ _).mpr ⟨Fin.ext ?_, Fin.ext ?_, Fin.ext ?_⟩
  · rw [Rect.emb_apply]; show w + 1 * z.val = w + z.val; omega
  · rw [Rect.emb_apply]; show o + 1 * a.val = o + a.val; omega
  · rw [Rect.emb_apply]; show p + 1 * b.val = p + b.val; omega

/-- A band of rows of a matrix. -/
def band {M n : ℕ} (x : Fin M → Fin n → ℝ) (o m : ℕ) (h : o + m ≤ M) (a : Fin m) : Fin n → ℝ :=
  x ⟨o + a.val, lt_of_lt_of_le (Nat.add_lt_add_left a.isLt o) h⟩

/-- A load of a band of rows holds the band. -/
theorem holds_band {M m n : ℕ} {X : (⟨2, ![M, n]⟩ : Shape).Idx → EReal} {x : Fin M → Fin n → ℝ} (hX : Holds X x) (o : ℕ)
    (h : ∀ a, (![o, 0] : Fin 2 → ℕ) a + (![m, n] : Fin 2 → ℕ) a ≤ (![M, n] : Fin 2 → ℕ) a) (ho : o + m ≤ M) :
    Holds (fun z => X ((Rect.unit (s := ⟨2, ![M, n]⟩) ![o, 0] ![m, n] h).emb z)) (band x o m ho) := fun a b => by
  show X ((Rect.unit (s := ⟨2, ![M, n]⟩) ![o, 0] ![m, n] h).emb (ix2 a b)) = _
  rw [emb2 o 0 h a b (lt_of_lt_of_le (Nat.add_lt_add_left a.isLt o) ho) (by omega), hX]
  congr 2
  exact Fin.ext (Nat.zero_add b.val)

end Cert.Block

end
-- ==== Proof.Real.lean ====
/- Arguments whose absolute values are all below infinity hold real numbers. -/
module

public import proofs.«01_k».proof.Pre_finite
public import proofs.«01_k».proof.Proof.Block

@[expose] public section

noncomputable section

namespace Cert.Real

open Idealize.ShloMosaic Cert.Pre_finite Cert.Block

theorem facts : Cert.Pre_finite.Facts where
  bitsLt_bf16_f32 := by decide
  bcast_S_S2048x1024 := by decide
  bcast_S_S2304x256 := by decide

/-- An extended real whose absolute value is below the f32 infinity is a real. -/
theorem real_of_lt (x : EReal) (h : Ideal.cmp .olt (max x (-x)) (Ideal.ofBits .f32 0x7F800000#32) = 1#1) : ∃ y : ℝ, x = ((y : ℝ) : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe y => exact ⟨y, rfl⟩

/-- A matrix that passes the test holds real numbers. -/
theorem holds_of_test {m n : ℕ} (X : (⟨2, ![m, n]⟩ : Shape).Idx → EReal)
    (h : ∀ i, Ideal.cmp .olt (max (X i) (-(X i))) (Ideal.ofBits .f32 0x7F800000#32) = 1#1) : ∃ x : Fin m → Fin n → ℝ, Holds X x := by
  choose f hf using fun i => real_of_lt (X i) (h i)
  exact ⟨fun a b => f (ix2 a b), fun a b => hf _⟩

section

attribute [local instance] facts

variable (A D : FVec Ideal S2048x1024 .bf16) (B C : FVec Ideal S2304x256 .bf16)

theorem first (h : (fn (F := Ideal) A B C D).1 = fun _ => 1#1) : ∃ x : Fin 2048 → Fin 1024 → ℝ, Holds (m := 2048) (n := 1024) A x :=
  holds_of_test (m := 2048) (n := 1024) A fun i => congrFun h i

theorem second (h : (fn (F := Ideal) A B C D).2.1 = fun _ => 1#1) : ∃ x : Fin 2304 → Fin 256 → ℝ, Holds (m := 2304) (n := 256) B x :=
  holds_of_test (m := 2304) (n := 256) B fun i => congrFun h i

theorem third (h : (fn (F := Ideal) A B C D).2.2.1 = fun _ => 1#1) : ∃ x : Fin 2304 → Fin 256 → ℝ, Holds (m := 2304) (n := 256) C x :=
  holds_of_test (m := 2304) (n := 256) C fun i => congrFun h i

theorem fourth (h : (fn (F := Ideal) A B C D).2.2.2 = fun _ => 1#1) : ∃ x : Fin 2048 → Fin 1024 → ℝ, Holds (m := 2048) (n := 1024) D x :=
  holds_of_test (m := 2048) (n := 1024) D fun i => congrFun h i

end

end Cert.Real

end
-- ==== Proof.Lift.lean ====
/- Sums, maxima and exponentials of extended reals that are real numbers. -/
module

public import Idealize.ShloMosaic.Lib.Pointwise
public import Idealize.ShloMosaic.Lib.IdealHost

@[expose] public section

noncomputable section

namespace Cert.Lift

open Idealize.ShloMosaic

/-- A finite sum of reals, taken among the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over a whole index type, for a summand known to be real at every index. -/
theorem sum_eq {ι : Type} [Fintype ι] (F : ι → EReal) (f : ι → ℝ) (h : ∀ i, F i = ((f i : ℝ) : EReal)) :
    ∑ i, F i = ((∑ i, f i : ℝ) : EReal) := by
  rw [Finset.sum_congr rfl fun i _ => h i, sum_coe]

/-- A sum of products of reals is the real sum of products. -/
theorem dot_eq {ι : Type} [Fintype ι] (F G : ι → EReal) (f g : ι → ℝ) (hf : ∀ i, F i = ((f i : ℝ) : EReal))
    (hg : ∀ i, G i = ((g i : ℝ) : EReal)) : ∑ i, F i * G i = ((∑ i, f i * g i : ℝ) : EReal) :=
  sum_eq _ _ fun i => by rw [hf, hg, EReal.coe_mul]

/-- The f32 pattern of minus infinity. -/
theorem ofBits_neg_inf : Ideal.ofBits .f32 0xFF800000#32 = ⊥ := by simp [Ideal.ofBits, Ideal.ieee]

/-- The maximum of finitely many reals, started from minus infinity, is a real number. -/
theorem max_real {ι : Type} (s : Finset ι) (hs : s.Nonempty) (f : ι → ℝ) :
    ∃ m : ℝ, s.fold max (⊥ : EReal) (fun i => ((f i : ℝ) : EReal)) = ((m : ℝ) : EReal) := by
  classical
  induction hs using Finset.Nonempty.cons_induction with
  | singleton a => exact ⟨f a, by simp⟩
  | cons a s ha _ ih =>
    obtain ⟨m, hm⟩ := ih
    exact ⟨max (f a) m, by rw [Finset.fold_cons, hm]; norm_cast⟩

/-- The same over a whole nonempty index type, for entries known to be real. -/
theorem max_eq {ι : Type} [Fintype ι] [Nonempty ι] (F : ι → EReal) (f : ι → ℝ) (h : ∀ i, F i = ((f i : ℝ) : EReal)) :
    ∃ m : ℝ, Finset.univ.fold max (Ideal.ofBits .f32 0xFF800000#32) F = ((m : ℝ) : EReal) := by
  obtain ⟨m, hm⟩ := max_real (Finset.univ : Finset ι) Finset.univ_nonempty f
  exact ⟨m, by rw [ofBits_neg_inf, ← hm]; exact congrArg (fun G => Finset.univ.fold max ⊥ G) (funext h)⟩

/-- A power of two at `x / log 2` is the exponential of `x`. -/
theorem exp2_div_log (x : ℝ) : Ideal.exp2 (((x * (Real.log 2)⁻¹ : ℝ)) : EReal) = ((Real.exp x : ℝ) : EReal) := by
  have h2 : Real.log 2 ≠ 0 := (Real.log_pos (by norm_num)).ne'
  rw [Ideal.exp2_coe]
  show ((((2 : ℝ) ^ (x * (Real.log 2)⁻¹) : ℝ)) : EReal) = _
  rw [Real.rpow_def_of_pos (by norm_num : (0 : ℝ) < 2), mul_comm x, ← mul_assoc, mul_inv_cancel₀ h2, one_mul]

/-- Division by a real that is not zero. -/
theorem div_real (x y : ℝ) (hy : y ≠ 0) : Ideal.div (x : EReal) (y : EReal) = ((x / y : ℝ) : EReal) := by
  have : (y : EReal) ≠ 0 := by exact_mod_cast hy
  simp only [Ideal.div, if_neg this, div_eq_mul_inv, EReal.coe_mul, EReal.coe_inv]

/-- The logarithm of a positive real. -/
theorem log_real (x : ℝ) (hx : 0 < x) : Ideal.log (x : EReal) = ((Real.log x : ℝ) : EReal) := by
  rw [Ideal.log_coe, if_neg (not_le.mpr hx)]

end Cert.Lift

end
-- ==== Proof.Softmax.lean ====
/- One row of attention over the reals: the softmax weights, the row of the output, the gradient of the scores, and
   the two spellings of each that a kernel and a plain reference use, read among the extended reals. -/
module

public import proofs.«01_k».proof.Proof.Lift

@[expose] public section

noncomputable section

namespace Cert.Softmax

open Idealize.ShloMosaic Cert.Lift

variable {ι κ : Type} [Fintype ι] [Fintype κ]

/-- The score of a query row against a key row. -/
def score (q k : κ → ℝ) : ℝ := ∑ x, q x * k x

/-- The sum of the exponentials of a row of scores, scaled by `c`. -/
def den (c : ℝ) (s : ι → ℝ) : ℝ := ∑ j, Real.exp (c * s j)

/-- The softmax weight of entry `j`. -/
def wt (c : ℝ) (s : ι → ℝ) (j : ι) : ℝ := Real.exp (c * s j) / den c s

/-- The weighted sum of a column of values. -/
def mix (c : ℝ) (s v : ι → ℝ) : ℝ := ∑ j, wt c s j * v j

/-- The gradient of the scaled score `j`, from the gradient `dp` of the weights. -/
def dscore (c : ℝ) (s dp : ι → ℝ) (j : ι) : ℝ := wt c s j * (dp j - ∑ i, wt c s i * dp i)

theorem den_pos [Nonempty ι] (c : ℝ) (s : ι → ℝ) : 0 < den c s :=
  Finset.sum_pos (fun _ _ => Real.exp_pos _) Finset.univ_nonempty

/-- Shifting every exponent by one real scales the sum. -/
theorem den_shift (c : ℝ) (s : ι → ℝ) (m : ℝ) : ∑ j, Real.exp (c * s j - m) = den c s * Real.exp (-m) := by
  rw [den, Finset.sum_mul]
  exact Finset.sum_congr rfl fun j _ => by rw [sub_eq_add_neg, Real.exp_add]

/-- … and leaves the weights alone. -/
theorem wt_shift [Nonempty ι] (c : ℝ) (s : ι → ℝ) (m : ℝ) (j : ι) :
    Real.exp (c * s j - m) / (den c s * Real.exp (-m)) = wt c s j := by
  rw [sub_eq_add_neg, Real.exp_add, wt, mul_div_mul_right _ _ (Real.exp_pos _).ne']

section Row

variable [Nonempty ι] (c : ℝ) (s : ι → ℝ) (S : ι → EReal) (hS : ∀ j, S j = ((s j : ℝ) : EReal))

include hS

/-- An exponential whose base-two exponent is the score less a real, scaled. -/
theorem exp2_shift (m : ℝ) (j : ι) :
    Ideal.exp2 ((S j - ((m : ℝ) : EReal)) * (((c * (Real.log 2)⁻¹ : ℝ)) : EReal)) = ((Real.exp (c * s j - c * m) : ℝ) : EReal) := by
  rw [hS, ← EReal.coe_sub, ← EReal.coe_mul, ← exp2_div_log]
  congr 2; ring

/-- The forward kernel's row of the output: exponentials of the scores less their maximum, summed against the
    values, times the reciprocal of their sum. -/
theorem fwd_row (v : ι → ℝ) (V : ι → EReal) (hV : ∀ j, V j = ((v j : ℝ) : EReal)) (m : ℝ) (E : ι → EReal)
    (hE : ∀ j, E j = ((Real.exp (c * s j - c * m) : ℝ) : EReal)) :
    (∑ j, E j * V j) * Ideal.div 1 (∑ j, E j) = ((mix c s v : ℝ) : EReal) := by
  have hp : 0 < den c s * Real.exp (-(c * m)) := mul_pos (den_pos c s) (Real.exp_pos _)
  rw [dot_eq E V _ v hE hV, sum_eq E _ hE, den_shift, show (1 : EReal) = ((1 : ℝ) : EReal) from rfl, div_real _ _ hp.ne',
    ← EReal.coe_mul, Finset.sum_mul, mix]
  congr 1
  refine Finset.sum_congr rfl fun j _ => ?_
  rw [← wt_shift c s (c * m) j]; ring

/-- The forward kernel's row statistic: the maximum scaled, plus the logarithm of the sum, is the logarithm of the
    sum of the unshifted exponentials. -/
theorem lse_row (m : ℝ) (E : ι → EReal) (hE : ∀ j, E j = ((Real.exp (c * s j - c * m) : ℝ) : EReal)) :
    ((m : ℝ) : EReal) * ((c : ℝ) : EReal) + Ideal.log (∑ j, E j) = ((Real.log (den c s) : ℝ) : EReal) := by
  have hp : 0 < den c s * Real.exp (-(c * m)) := mul_pos (den_pos c s) (Real.exp_pos _)
  rw [sum_eq E _ hE, den_shift, log_real _ hp, ← EReal.coe_mul, ← EReal.coe_add, Real.log_mul (den_pos c s).ne' (Real.exp_pos _).ne', Real.log_exp]
  congr 1; ring

/-- The gradient kernel's weight, recomputed from the row statistic. -/
theorem bwd_wt (j : ι) :
    Ideal.exp2 (S j * (((c * (Real.log 2)⁻¹ : ℝ)) : EReal) - ((Real.log (den c s) : ℝ) : EReal) * ((((Real.log 2)⁻¹ : ℝ)) : EReal))
      = ((wt c s j : ℝ) : EReal) := by
  rw [hS, ← EReal.coe_mul, ← EReal.coe_mul, ← EReal.coe_sub,
    show s j * (c * (Real.log 2)⁻¹) - Real.log (den c s) * (Real.log 2)⁻¹ = (c * s j - Real.log (den c s)) * (Real.log 2)⁻¹ by ring,
    exp2_div_log, Real.exp_sub, Real.exp_log (den_pos c s), wt]

end Row

/-- The row of the output against its gradient is the weighted sum of the weights' gradient. -/
theorem delta_eq (c : ℝ) (s : ι → ℝ) (v : ι → κ → ℝ) (g : κ → ℝ) :
    ∑ d, g d * mix c s (fun j => v j d) = ∑ j, wt c s j * ∑ d, g d * v j d := by
  simp only [mix, Finset.mul_sum]
  rw [Finset.sum_comm]
  exact Finset.sum_congr rfl fun j _ => Finset.sum_congr rfl fun d _ => by ring

/-- The gradient kernel's gradient of the scores, from the saved output row `o`. -/
theorem bwd_dscore (c : ℝ) (s : ι → ℝ) (v : ι → κ → ℝ) (g : κ → ℝ) (P : ι → EReal)
    (hP : ∀ j, P j = ((wt c s j : ℝ) : EReal)) (G O : κ → EReal) (V : ι → κ → EReal)
    (hG : ∀ d, G d = ((g d : ℝ) : EReal)) (hV : ∀ j d, V j d = ((v j d : ℝ) : EReal))
    (hO : ∀ d, O d = ((mix c s (fun j => v j d) : ℝ) : EReal)) (j : ι) :
    P j * ((∑ d, G d * V j d) - ∑ d, G d * O d) = ((dscore c s (fun i => ∑ d, g d * v i d) j : ℝ) : EReal) := by
  rw [dot_eq G (V j) g (v j) hG (hV j), dot_eq G O g _ hG hO, delta_eq, hP, ← EReal.coe_sub, ← EReal.coe_mul, dscore]

section Reference

variable [Nonempty ι] (c : ℝ) (s : ι → ℝ) (m : ℝ) (E : ι → EReal)
  (hE : ∀ j, E j = ((Real.exp (c * s j - m) : ℝ) : EReal))

include hE

/-- The reference's weight: an exponential of the shifted score over the sum of all of them. -/
theorem ref_wt (j : ι) : Ideal.div (E j) (∑ i, E i) = ((wt c s j : ℝ) : EReal) := by
  have hp : 0 < den c s * Real.exp (-m) := mul_pos (den_pos c s) (Real.exp_pos _)
  rw [sum_eq E _ hE, den_shift, hE, div_real _ _ hp.ne', wt_shift]

/-- The reference's gradient of the scaled scores, as automatic differentiation of the quotient spells it. -/
theorem ref_dscore (dp : ι → ℝ) (D : ι → EReal) (hD : ∀ j, D j = ((dp j : ℝ) : EReal)) (j : ι) :
    (Ideal.div (D j) (∑ i, E i) + -(∑ i, D i * Ideal.div 1 ((∑ i, E i) * (∑ i, E i)) * E i)) * E j
      = ((dscore c s dp j : ℝ) : EReal) := by
  have hp : 0 < den c s * Real.exp (-m) := mul_pos (den_pos c s) (Real.exp_pos _)
  set l := den c s * Real.exp (-m) with hl
  have hs : ∑ i, E i = ((l : ℝ) : EReal) := by rw [sum_eq E _ hE, den_shift]
  have hw : ∀ i, Real.exp (c * s i - m) = wt c s i * l := fun i => by
    rw [← wt_shift c s m i, ← hl]; field_simp
  rw [hs, ← EReal.coe_mul, show (1 : EReal) = ((1 : ℝ) : EReal) from rfl, div_real _ _ (mul_pos hp hp).ne', hD, div_real _ _ hp.ne',
    sum_eq (fun i => D i * (((1 / (l * l) : ℝ)) : EReal) * E i) (fun i => dp i * (1 / (l * l)) * Real.exp (c * s i - m))
      (fun i => by rw [hD, hE, ← EReal.coe_mul, ← EReal.coe_mul]), hE, ← EReal.coe_neg, ← EReal.coe_add, ← EReal.coe_mul, dscore, hw]
  congr 1
  have : ∑ i, dp i * (1 / (l * l)) * Real.exp (c * s i - m) = (∑ i, wt c s i * dp i) / l := by
    rw [Finset.sum_div]
    exact Finset.sum_congr rfl fun i _ => by rw [hw]; field_simp
  rw [this]; field_simp; ring

end Reference

end Cert.Softmax

end
-- ==== Proof.FwdPay.lean ====
/- The forward call's arithmetic on 256 query rows and one key/value head: the output rows and the row statistics, at
   real entries. -/
module

public import proofs.«01_k».proof.Proof.Gen.KernelIdeal.Skeleton
public import proofs.«01_k».proof.Proof.Softmax
public import proofs.«01_k».proof.Proof.Block

@[expose] public section

set_option maxRecDepth 16384

noncomputable section

namespace Cert.Fwd

open Idealize.ShloMosaic Idealize.SL.Sem Cert.KernelIdeal Cert.KernelIdeal.Gen Cert.Lift Cert.Softmax Cert.Block

/-- The scale of the scores. -/
abbrev c : ℝ := (Real.sqrt 128)⁻¹

/-- The scores of a query row against the keys. -/
abbrev sc (q : Fin 128 → ℝ) (k : Fin 2304 → Fin 128 → ℝ) (j : Fin 2304) : ℝ := score q (k j)

/-- One entry of the output. -/
def outp (q : Fin 128 → ℝ) (k v : Fin 2304 → Fin 128 → ℝ) (d : Fin 128) : ℝ := mix c (sc q k) fun j => v j d

/-- The row statistic. -/
def lse (q : Fin 128 → ℝ) (k : Fin 2304 → Fin 128 → ℝ) : ℝ := Real.log (den c (sc q k))

variable {K V : Vec Ideal S2304x128 .bf16} {k v : Fin 2304 → Fin 128 → ℝ}

section Payloads

variable {Q : Vec Ideal S256x128 .bf16} {q : Fin 256 → Fin 128 → ℝ}

theorem pay8_real (hK : Holds K k) (hQ : Holds Q q) (r : Fin 256) (j : Fin 2304) :
    k0_pay8 K Q (ix2 r j) = ((sc (q r) k j : ℝ) : EReal) := by
  pointwise [k0_pay8]
  exact dot_eq _ _ _ _ (hQ r) (hK j)

theorem pay9_real (hK : Holds K k) (hQ : Holds Q q) (r : Fin 256) :
    ∃ m : ℝ, k0_pay9 K Q (ix2 r 0) = ((m : ℝ) : EReal) := by
  pointwise [k0_pay9]
  exact max_eq _ _ (pay8_real hK hQ r)

theorem pay10_real (hK : Holds K k) (hQ : Holds Q q) (r : Fin 256) {m : ℝ} (hm : k0_pay9 K Q (ix2 r 0) = ((m : ℝ) : EReal))
    (j : Fin 2304) : k0_pay10 K Q (ix2 r j) = ((Real.exp (c * sc (q r) k j - c * m) : ℝ) : EReal) := by
  pointwise [k0_pay10]
  rw [hm]
  exact exp2_shift c (sc (q r) k) _ (pay8_real hK hQ r) m j

theorem pay12_real (hK : Holds K k) (hV : Holds V v) (hQ : Holds Q q) (r : Fin 256) (d : Fin 128) :
    k0_pay12 K V Q (ix2 r d) = ((outp (q r) k v d : ℝ) : EReal) := by
  obtain ⟨m, hm⟩ := pay9_real hK hQ r
  pointwise [k0_pay12, k0_pay11]
  exact fwd_row c (sc (q r) k) _ (pay8_real hK hQ r) (fun j => v j d) _ (fun j => hV j d) m _ (pay10_real hK hQ r hm)

theorem pay13_real (hK : Holds K k) (hQ : Holds Q q) (a : Fin 1) (r : Fin 256) (b : Fin 1) :
    k0_pay13 K Q (ix3 a r b) = ((lse (q r) k : ℝ) : EReal) := by
  obtain ⟨m, hm⟩ := pay9_real hK hQ r
  pointwise [k0_pay13, k0_pay11]
  rw [hm]
  exact lse_row c (sc (q r) k) _ (pay8_real hK hQ r) m _ (pay10_real hK hQ r hm)

end Payloads

end Cert.Fwd

end
-- ==== Proof.FwdBlock.lean ====
/- What one grid point of the forward call leaves: the block of outputs and the block of row statistics, as
   functions of a block of queries and one key/value head, at real entries. The eight bands of 256 rows are the one
   arithmetic of `FwdPay` at eight offsets. -/
module

public import proofs.«01_k».proof.Proof.Gen.KernelIdeal.Frame
public import proofs.«01_k».proof.Proof.FwdPay

@[expose] public section

set_option maxRecDepth 16384

noncomputable section

namespace Cert.Fwd

open Idealize.ShloMosaic Idealize.SL.Sem Cert.KernelIdeal Cert.KernelIdeal.Gen Cert.Lift Cert.Softmax Cert.Block

variable {K V : Vec Ideal S2304x128 .bf16} {k v : Fin 2304 → Fin 128 → ℝ}
variable {X : Vec Ideal S2048x128 .bf16} {x : Fin 2048 → Fin 128 → ℝ}

/-- The whole key or value block, loaded. -/
theorem ld_kv (A : Vec Ideal S2304x128 .bf16) : View.ld A r0_0 = A := View.ld_unit_zero (by decide) _ _

/-- The output block as eight bands of one arithmetic. -/
theorem out0_3_bands (X : Vec Ideal S2048x128 .bf16) (K V : Vec Ideal S2304x128 .bf16) :
    out0_3 X K V = View.canon [⟨r0_15, k0_pay12 K V (View.ld X r0_15)⟩, ⟨r0_13, k0_pay12 K V (View.ld X r0_13)⟩,
      ⟨r0_11, k0_pay12 K V (View.ld X r0_11)⟩, ⟨r0_9, k0_pay12 K V (View.ld X r0_9)⟩, ⟨r0_7, k0_pay12 K V (View.ld X r0_7)⟩,
      ⟨r0_5, k0_pay12 K V (View.ld X r0_5)⟩, ⟨r0_3, k0_pay12 K V (View.ld X r0_3)⟩, ⟨r0_1, k0_pay12 K V (View.ld X r0_1)⟩] := by
  unfold out0_3 k0_pay53 k0_pay54 k0_pay55
  simp only [ld_kv]
  rfl

/-- The block of row statistics as eight bands of one arithmetic. -/
theorem out0_4_bands (X : Vec Ideal S2048x128 .bf16) (K V : Vec Ideal S2304x128 .bf16) :
    out0_4 X K V = View.canon [⟨r0_16, k0_pay13 K (View.ld X r0_15)⟩, ⟨r0_14, k0_pay13 K (View.ld X r0_13)⟩,
      ⟨r0_12, k0_pay13 K (View.ld X r0_11)⟩, ⟨r0_10, k0_pay13 K (View.ld X r0_9)⟩, ⟨r0_8, k0_pay13 K (View.ld X r0_7)⟩,
      ⟨r0_6, k0_pay13 K (View.ld X r0_5)⟩, ⟨r0_4, k0_pay13 K (View.ld X r0_3)⟩, ⟨r0_2, k0_pay13 K (View.ld X r0_1)⟩] := by
  unfold out0_4 k0_pay53 k0_pay54 k0_pay55
  simp only [ld_kv]
  rfl

/-- One band of the output block. -/
theorem out_band (hX : Holds X x) (hK : Holds K k) (hV : Holds V v) (o : ℕ)
    (h : ∀ a, (![o, 0] : Fin 2 → ℕ) a + S256x128.size a ≤ S2048x128.size a) (z : S256x128.Idx) :
    k0_pay12 K V (View.ld X (Rect.unit (s := S2048x128) ![o, 0] S256x128.size h)) z
      = (fun y : S2048x128.Idx => ((outp (x (y 0)) k v (y 1) : ℝ) : EReal)) ((Rect.unit (s := S2048x128) ![o, 0] S256x128.size h).emb z) := by
  have ho : o + 256 ≤ 2048 := h 0
  obtain ⟨a, b, rfl⟩ : ∃ a b, z = ix2 (n0 := 256) (n1 := 128) a b := ⟨z 0, z 1, eq_ix2 z⟩
  refine (pay12_real hK hV (holds_band hX o h ho) a b).trans ?_
  rw [emb2 o 0 h a b (by omega) (by omega)]
  simp only [ix2_0, ix2_1]
  congr 2
  exact Fin.ext (Nat.zero_add b.val).symm

/-- One band of the block of row statistics. -/
theorem lse_band (hX : Holds X x) (hK : Holds K k) (o : ℕ)
    (h : ∀ a, (![o, 0] : Fin 2 → ℕ) a + S256x128.size a ≤ S2048x128.size a)
    (h' : ∀ a, (![0, o, 0] : Fin 3 → ℕ) a + S1x256x1.size a ≤ S1x2048x1.size a) (z : S1x256x1.Idx) :
    k0_pay13 K (View.ld X (Rect.unit (s := S2048x128) ![o, 0] S256x128.size h)) z
      = (fun y : S1x2048x1.Idx => ((lse (x (y 1)) k : ℝ) : EReal)) ((Rect.unit (s := S1x2048x1) ![0, o, 0] S1x256x1.size h').emb z) := by
  have ho : o + 256 ≤ 2048 := h 0
  obtain ⟨w, a, b, rfl⟩ : ∃ w a b, z = ix3 (n0 := 1) (n1 := 256) (n2 := 1) w a b := ⟨z 0, z 1, z 2, eq_ix3 z⟩
  refine (pay13_real hK (holds_band hX o h ho) w a b).trans ?_
  rw [emb3 0 o 0 h' w a b (by omega) (by omega) (by omega)]
  rfl

/-- The output block, entry by entry. -/
theorem out0_3_real (hX : Holds X x) (hK : Holds K k) (hV : Holds V v) (r : Fin 2048) (d : Fin 128) :
    out0_3 X K V (ix2 r d) = ((outp (x r) k v d : ℝ) : EReal) := by
  rw [out0_3_bands]
  refine View.canon_apply_of_pieces (Val := Elt Ideal) (fun y : S2048x128.Idx => ((outp (x (y 0)) k v (y 1) : ℝ) : EReal)) _ ?_ (ix2 r d) (cover0_3 _ _ _ _ _ _ _ _ _)
  simp only [List.forall_mem_cons, List.not_mem_nil, IsEmpty.forall_iff, implies_true, and_true]
  exact ⟨out_band hX hK hV _ _, out_band hX hK hV _ _, out_band hX hK hV _ _, out_band hX hK hV _ _,
    out_band hX hK hV _ _, out_band hX hK hV _ _, out_band hX hK hV _ _, out_band hX hK hV _ _⟩

/-- The block of row statistics, entry by entry. -/
theorem out0_4_real (V : Vec Ideal S2304x128 .bf16) (hX : Holds X x) (hK : Holds K k) (w : Fin 1) (r : Fin 2048) (u : Fin 1) :
    out0_4 X K V (ix3 w r u) = ((lse (x r) k : ℝ) : EReal) := by
  rw [out0_4_bands]
  refine View.canon_apply_of_pieces (Val := Elt Ideal) (fun y : S1x2048x1.Idx => ((lse (x (y 1)) k : ℝ) : EReal)) _ ?_ (ix3 w r u) (cover0_4 _ _ _ _ _ _ _ _ _)
  simp only [List.forall_mem_cons, List.not_mem_nil, IsEmpty.forall_iff, implies_true, and_true]
  exact ⟨lse_band hX hK _ _ _, lse_band hX hK _ _ _, lse_band hX hK _ _ _, lse_band hX hK _ _ _,
    lse_band hX hK _ _ _, lse_band hX hK _ _ _, lse_band hX hK _ _ _, lse_band hX hK _ _ _⟩

end Cert.Fwd

end
-- ==== Proof.FwdArr.lean ====
/- The forward call's arrays. Its grid point `t` takes head `t` of the queries and key/value head `t / 4`, and writes
   head `t` of the outputs and of the row statistics; together the points write both arrays whole. -/
module

public import proofs.«01_k».proof.Proof.FwdBlock

@[expose] public section

set_option maxRecDepth 16384

noncomputable section

namespace Cert.Fwd

open Idealize.ShloMosaic Idealize.ShloMosaic.TcCoe Idealize.SL.Sem Cert.KernelIdeal Cert.KernelIdeal.Gen Cert.Block

/-- Head `h` of the queries. -/
def qh (x : Fin 2048 → Fin 1024 → ℝ) (h : Fin 8) (r : Fin 2048) (d : Fin 128) : ℝ := x r ⟨128 * h.val + d.val, by omega⟩

/-- Key/value head `g`. -/
def kh (x : Fin 2304 → Fin 256 → ℝ) (g : Fin 2) (j : Fin 2304) (d : Fin 128) : ℝ := x j ⟨128 * g.val + d.val, by omega⟩

/-- The key/value head of query head `h`. -/
def grp (h : Fin 8) : Fin 2 := ⟨h.val / 4, by omega⟩

/-- The head a column of the queries belongs to. -/
def hd (c : Fin 1024) : Fin 8 := ⟨c.val / 128, by omega⟩

/-- A column's place in its head. -/
def col (c : Fin 1024) : Fin 128 := ⟨c.val % 128, by omega⟩

theorem hd_mk (h : Fin 8) (d : Fin 128) (p : 128 * h.val + d.val < 1024) : hd ⟨128 * h.val + d.val, p⟩ = h :=
  Fin.ext (by show (128 * h.val + d.val) / 128 = h.val; omega)

theorem col_mk (h : Fin 8) (d : Fin 128) (p : 128 * h.val + d.val < 1024) : col ⟨128 * h.val + d.val, p⟩ = d :=
  Fin.ext (by show (128 * h.val + d.val) % 128 = d.val; omega)

/-- A rectangle's entries lie in it. -/
theorem emb_mem {s : Shape} (r : Rect s) (y : r.shape.Idx) : r.emb y ∈ r.set := by
  rw [← Rect.map_emb_univ]; exact Finset.mem_map_of_mem _ (Finset.mem_univ _)

/-- The head a point works on. -/
def pt (t : Fin cfg0.N) : Fin 8 := ⟨t.val, lt_of_lt_of_eq t.isLt N_0⟩

theorem idx0_0 : ∀ t : Fin cfg0.N, win0_0.index t 0 = 0 ∧ win0_0.index t 1 = t.val := by decide +kernel
theorem idx0_1 : ∀ t : Fin cfg0.N, win0_1.index t 0 = 0 ∧ win0_1.index t 1 = t.val / 4 := by decide +kernel
theorem idx0_2 : ∀ t : Fin cfg0.N, win0_2.index t 0 = 0 ∧ win0_2.index t 1 = t.val / 4 := by decide +kernel
theorem idx0_3 : ∀ t : Fin cfg0.N, win0_3.index t 0 = 0 ∧ win0_3.index t 1 = t.val := by decide +kernel
theorem idx0_4 : ∀ t : Fin cfg0.N, win0_4.index t 0 = t.val ∧ win0_4.index t 1 = 0 ∧ win0_4.index t 2 = 0 := by decide +kernel

/-- Where a query block's entry sits among the queries. -/
theorem emb0_0 (t : Fin cfg0.N) (r : Fin 2048) (d : Fin 128) :
    (win0_0.rect t).emb (ix2 r d) = ix2 (n0 := 2048) (n1 := 1024) r ⟨128 * (pt t).val + d.val, by omega⟩ := by
  refine (eq_ix2 (n0 := 2048) (n1 := 1024) _).trans ((ix2_inj _ _ _ _).mpr ⟨Fin.ext ?_, Fin.ext ?_⟩)
  · refine (Pipeline.Window.rect_emb_val win0_0 t (ix2 r d) 0 rfl).trans ?_; rw [(idx0_0 t).1]; exact (congrArg (· + r.val) (Nat.zero_mul _)).trans (Nat.zero_add _)
  · refine (Pipeline.Window.rect_emb_val win0_0 t (ix2 r d) 1 rfl).trans ?_; rw [(idx0_0 t).2]; show t.val * 128 + d.val = 128 * t.val + d.val; omega

theorem emb0_1 (t : Fin cfg0.N) (r : Fin 2304) (d : Fin 128) :
    (win0_1.rect t).emb (ix2 r d) = ix2 (n0 := 2304) (n1 := 256) r ⟨128 * (grp (pt t)).val + d.val, by omega⟩ := by
  refine (eq_ix2 (n0 := 2304) (n1 := 256) _).trans ((ix2_inj _ _ _ _).mpr ⟨Fin.ext ?_, Fin.ext ?_⟩)
  · refine (Pipeline.Window.rect_emb_val win0_1 t (ix2 r d) 0 rfl).trans ?_; rw [(idx0_1 t).1]; exact (congrArg (· + r.val) (Nat.zero_mul _)).trans (Nat.zero_add _)
  · refine (Pipeline.Window.rect_emb_val win0_1 t (ix2 r d) 1 rfl).trans ?_; rw [(idx0_1 t).2]; show t.val / 4 * 128 + d.val = 128 * (t.val / 4) + d.val; omega

theorem emb0_2 (t : Fin cfg0.N) (r : Fin 2304) (d : Fin 128) :
    (win0_2.rect t).emb (ix2 r d) = ix2 (n0 := 2304) (n1 := 256) r ⟨128 * (grp (pt t)).val + d.val, by omega⟩ := by
  refine (eq_ix2 (n0 := 2304) (n1 := 256) _).trans ((ix2_inj _ _ _ _).mpr ⟨Fin.ext ?_, Fin.ext ?_⟩)
  · refine (Pipeline.Window.rect_emb_val win0_2 t (ix2 r d) 0 rfl).trans ?_; rw [(idx0_2 t).1]; exact (congrArg (· + r.val) (Nat.zero_mul _)).trans (Nat.zero_add _)
  · refine (Pipeline.Window.rect_emb_val win0_2 t (ix2 r d) 1 rfl).trans ?_; rw [(idx0_2 t).2]; show t.val / 4 * 128 + d.val = 128 * (t.val / 4) + d.val; omega

theorem emb0_3 (t : Fin cfg0.N) (r : Fin 2048) (d : Fin 128) :
    (win0_3.rect t).emb (ix2 r d) = ix2 (n0 := 2048) (n1 := 1024) r ⟨128 * (pt t).val + d.val, by omega⟩ := by
  refine (eq_ix2 (n0 := 2048) (n1 := 1024) _).trans ((ix2_inj _ _ _ _).mpr ⟨Fin.ext ?_, Fin.ext ?_⟩)
  · refine (Pipeline.Window.rect_emb_val win0_3 t (ix2 r d) 0 rfl).trans ?_; rw [(idx0_3 t).1]; exact (congrArg (· + r.val) (Nat.zero_mul _)).trans (Nat.zero_add _)
  · refine (Pipeline.Window.rect_emb_val win0_3 t (ix2 r d) 1 rfl).trans ?_; rw [(idx0_3 t).2]; show t.val * 128 + d.val = 128 * t.val + d.val; omega

theorem emb0_4 (t : Fin cfg0.N) (w : Fin 1) (r : Fin 2048) (u : Fin 1) :
    (win0_4.rect t).emb (ix3 w r u) = ix3 (n0 := 8) (n1 := 2048) (n2 := 1) (pt t) r 0 := by
  refine (eq_ix3 (n0 := 8) (n1 := 2048) (n2 := 1) _).trans ((ix3_inj _ _ _ _ _ _).mpr ⟨Fin.ext ?_, Fin.ext ?_, Fin.ext ?_⟩)
  · refine (Pipeline.Window.rect_emb_val win0_4 t (ix3 w r u) 0 rfl).trans ?_; rw [(idx0_4 t).1]; show t.val * 1 + w.val = t.val; omega
  · refine (Pipeline.Window.rect_emb_val win0_4 t (ix3 w r u) 1 rfl).trans ?_; rw [(idx0_4 t).2.1]; exact (congrArg (· + r.val) (Nat.zero_mul _)).trans (Nat.zero_add _)
  · refine (Pipeline.Window.rect_emb_val win0_4 t (ix3 w r u) 2 rfl).trans ?_; rw [(idx0_4 t).2.2]; show 0 * 1 + u.val = 0; omega

section

variable (V : (c : Dev nD) → (b : Ref sig .tc) → Buf (Elt Ideal) ((c : Thread nD τ).loc b)) (c : Dev nD)
variable {xq : Fin 2048 → Fin 1024 → ℝ} {xk xv : Fin 2304 → Fin 256 → ℝ}

theorem blk0_0 (hq : Holds (m := 2048) (n := 1024) (V c main_arg0) xq) (t : Fin cfg0.N) : Holds (m := 2048) (n := 128) (iblk0 V c 0 t) (qh xq (pt t)) := fun r d => by
  show V c main_arg0 ((win0_0.rect t).emb (ix2 r d)) = _
  rw [emb0_0]; exact hq _ _

theorem blk0_1 (hk : Holds (m := 2304) (n := 256) (V c main_arg1) xk) (t : Fin cfg0.N) : Holds (m := 2304) (n := 128) (iblk0 V c 1 t) (kh xk (grp (pt t))) := fun r d => by
  show V c main_arg1 ((win0_1.rect t).emb (ix2 r d)) = _
  rw [emb0_1]; exact hk _ _

theorem blk0_2 (hv : Holds (m := 2304) (n := 256) (V c main_arg2) xv) (t : Fin cfg0.N) : Holds (m := 2304) (n := 128) (iblk0 V c 2 t) (kh xv (grp (pt t))) := fun r d => by
  show V c main_arg2 ((win0_2.rect t).emb (ix2 r d)) = _
  rw [emb0_2]; exact hv _ _

/-- The output array. -/
def oArr (xq : Fin 2048 → Fin 1024 → ℝ) (xk xv : Fin 2304 → Fin 256 → ℝ) (r : Fin 2048) (e : Fin 1024) : ℝ :=
  outp (qh xq (hd e) r) (kh xk (grp (hd e))) (kh xv (grp (hd e))) (col e)

/-- The row statistics. -/
def lArr (xq : Fin 2048 → Fin 1024 → ℝ) (xk : Fin 2304 → Fin 256 → ℝ) (h : Fin 8) (r : Fin 2048) : ℝ :=
  lse (qh xq h r) (kh xk (grp h))

theorem cover3 (i : S2048x1024.Idx) : ∃ t : Fin cfg0.N, (cfg0.win 3).flush t = true ∧ i ∈ ((cfg0.win 3).blk t).view.set := by
  obtain ⟨r, e, rfl⟩ : ∃ r e, i = ix2 (n0 := 2048) (n1 := 1024) r e := ⟨i 0, i 1, eq_ix2 i⟩
  have hl : e.val / 128 < cfg0.N := lt_of_lt_of_eq (by omega) N_0.symm
  refine ⟨⟨e.val / 128, hl⟩, flush0_3 _, ?_⟩
  show ix2 r e ∈ ((View.whole main_v0_0).slice (win0_3.rect ⟨e.val / 128, hl⟩)).set
  rw [View.set_slice_whole, show ix2 r e = (win0_3.rect ⟨e.val / 128, hl⟩).emb (ix2 r (col e)) from ?_]
  · exact emb_mem _ _
  · rw [emb0_3]
    exact (ix2_inj _ _ _ _).mpr ⟨rfl, Fin.ext (by show e.val = 128 * (e.val / 128) + e.val % 128; omega)⟩

theorem cover4 (i : S8x2048x1.Idx) : ∃ t : Fin cfg0.N, (cfg0.win 4).flush t = true ∧ i ∈ ((cfg0.win 4).blk t).view.set := by
  obtain ⟨h, r, u, rfl⟩ : ∃ h r u, i = ix3 (n0 := 8) (n1 := 2048) (n2 := 1) h r u := ⟨i 0, i 1, i 2, eq_ix3 i⟩
  have hl : h.val < cfg0.N := lt_of_lt_of_eq h.isLt N_0.symm
  refine ⟨⟨h.val, hl⟩, flush0_4 _, ?_⟩
  show ix3 h r u ∈ ((View.whole main_v0_1).slice (win0_4.rect ⟨h.val, hl⟩)).set
  rw [View.set_slice_whole, show ix3 h r u = (win0_4.rect ⟨h.val, hl⟩).emb (ix3 0 r 0) from ?_]
  · exact emb_mem _ _
  · rw [emb0_4]
    exact (ix3_inj _ _ _ _ _ _).mpr ⟨rfl, rfl, Fin.ext (by omega)⟩

variable (hq : Holds (m := 2048) (n := 1024) (V c main_arg0) xq) (hk : Holds (m := 2304) (n := 256) (V c main_arg1) xk)
include hq hk

/-- The output array after the call. -/
theorem arr3 (hv : Holds (m := 2304) (n := 256) (V c main_arg2) xv) : Holds (m := 2048) (n := 1024) ((dat0 V c).arrAt 3 cfg0.N) (oArr xq xk xv) := by
  have e := (dat0 V c).arrAt_eq_of_cover 3 (fun y : S2048x1024.Idx => ((oArr xq xk xv (y 0) (y 1) : ℝ) : EReal)) (fun t _ => ?_) cover3
  · rw [e]; exact fun _ _ => rfl
  show (cfg0.win 3).cut (grid0.coords t) ((dat0 V c).after 3 t) = _
  rw [after0_3]
  funext y
  obtain ⟨r, d, rfl⟩ : ∃ r d, y = ix2 (n0 := 2048) (n1 := 128) r d := ⟨y 0, y 1, eq_ix2 (n0 := 2048) (n1 := 128) y⟩
  refine (out0_3_real (blk0_0 V c hq t) (blk0_1 V c hk t) (blk0_2 V c hv t) r d).trans ?_
  show _ = (fun y : S2048x1024.Idx => ((oArr xq xk xv (y 0) (y 1) : ℝ) : EReal)) ((win0_3.rect t).emb (ix2 r d))
  rw [emb0_3]
  show _ = ((oArr xq xk xv r ⟨128 * (pt t).val + d.val, _⟩ : ℝ) : EReal)
  rw [oArr, hd_mk, col_mk]

/-- The row statistics after the call. -/
theorem arr4 (h : Fin 8) (r : Fin 2048) (u : Fin 1) : (dat0 V c).arrAt 4 cfg0.N (ix3 (n0 := 8) (n1 := 2048) (n2 := 1) h r u) = ((lArr xq xk h r : ℝ) : EReal) := by
  have e := (dat0 V c).arrAt_eq_of_cover 4 (fun y : S8x2048x1.Idx => ((lArr xq xk (y 0) (y 1) : ℝ) : EReal)) (fun t _ => ?_) cover4
  · rw [e]; rfl
  show (cfg0.win 4).cut (grid0.coords t) ((dat0 V c).after 4 t) = _
  rw [after0_4]
  funext y
  obtain ⟨w, r, u, rfl⟩ : ∃ w r u, y = ix3 (n0 := 1) (n1 := 2048) (n2 := 1) w r u := ⟨y 0, y 1, y 2, eq_ix3 (n0 := 1) (n1 := 2048) (n2 := 1) y⟩
  refine (out0_4_real (iblk0 V c 2 t) (blk0_0 V c hq t) (blk0_1 V c hk t) w r u).trans ?_
  show _ = (fun y : S8x2048x1.Idx => ((lArr xq xk (y 0) (y 1) : ℝ) : EReal)) ((win0_4.rect t).emb (ix3 w r u))
  rw [emb0_4]
  rfl

end

end Cert.Fwd

end
-- ==== Proof.BwdPay.lean ====
/- The gradient call's arithmetic on 256 query rows and one key/value head, at real entries: the weights recomputed
   from the row statistic, the gradient of the scores, and the rows' parts of the three gradients. -/
module

public import proofs.«01_k».proof.Proof.FwdPay

@[expose] public section

set_option maxRecDepth 16384

noncomputable section

namespace Cert.Bwd

open Idealize.ShloMosaic Idealize.SL.Sem Cert.KernelIdeal Cert.KernelIdeal.Gen Cert.Lift Cert.Softmax Cert.Block Cert.Fwd

/-- The gradient of the scores of one query row, from the row of the output's gradient. -/
def ds (q : Fin 128 → ℝ) (k v : Fin 2304 → Fin 128 → ℝ) (g : Fin 128 → ℝ) (j : Fin 2304) : ℝ :=
  dscore c (sc q k) (fun i => ∑ d, g d * v i d) j

/-- The weight of key `j` for one query row. -/
def pw (q : Fin 128 → ℝ) (k : Fin 2304 → Fin 128 → ℝ) (j : Fin 2304) : ℝ := wt c (sc q k) j

/-- One entry of the queries' gradient. -/
def dqEnt (q : Fin 128 → ℝ) (k v : Fin 2304 → Fin 128 → ℝ) (g : Fin 128 → ℝ) (x : Fin 128) : ℝ :=
  (∑ j, ds q k v g j * k j x) * c

/-- The product of a block over rows with another, contracting the rows. -/
def tn (a : FVec Ideal S256x2304 .bf16) (b : Vec Ideal S256x128 .bf16) : FVec Ideal S2304x128 .f32 :=
  matmul (φ₁ := .bf16) (φ₂ := .bf16) dot_S256x2304_S256x128_S2304x128_0_0_1_1_n_n none a b (constant S2304x128 .f32 0x00000000#32)

theorem tn_apply (a : FVec Ideal S256x2304 .bf16) (b : Vec Ideal S256x128 .bf16) (j : Fin 2304) (x : Fin 128) :
    tn a b (ix2 j x) = ∑ r : Fin 256, a (ix2 r j) * b (ix2 r x) := by
  pointwise [tn]

variable {K V : Vec Ideal S2304x128 .bf16} {k v : Fin 2304 → Fin 128 → ℝ}
variable {Q G O : Vec Ideal S256x128 .bf16} {L : Vec Ideal S1x256x1 .f32} {q g : Fin 256 → Fin 128 → ℝ}

theorem pay8_real (hK : Holds K k) (hQ : Holds Q q) (hL : ∀ r, L (ix3 0 r 0) = ((lse (q r) k : ℝ) : EReal)) (r : Fin 256)
    (j : Fin 2304) : k1_pay8 K Q L (ix2 r j) = ((pw (q r) k j : ℝ) : EReal) := by
  pointwise [k1_pay8]
  rw [hL]
  exact bwd_wt c (sc (q r) k) (fun j => ∑ x, Q (ix2 r x) * K (ix2 j x)) (fun j => dot_eq _ _ _ _ (hQ r) (hK j)) j

theorem pay9_real (hK : Holds K k) (hV : Holds V v) (hQ : Holds Q q) (hL : ∀ r, L (ix3 0 r 0) = ((lse (q r) k : ℝ) : EReal))
    (hG : Holds G g) (hO : ∀ r d, O (ix2 r d) = ((outp (q r) k v d : ℝ) : EReal)) (r : Fin 256)
    (j : Fin 2304) : k1_pay9 K V Q L G O (ix2 r j) = ((ds (q r) k v (g r) j : ℝ) : EReal) := by
  pointwise [k1_pay9]
  exact bwd_dscore c (sc (q r) k) v (g r) _ (pay8_real hK hQ hL r) (fun d => G (ix2 r d)) (fun d => O (ix2 r d))
    (fun j d => V (ix2 j d)) (hG r) hV (hO r) j

theorem pay10_real (hK : Holds K k) (hV : Holds V v) (hQ : Holds Q q) (hL : ∀ r, L (ix3 0 r 0) = ((lse (q r) k : ℝ) : EReal))
    (hG : Holds G g) (hO : ∀ r d, O (ix2 r d) = ((outp (q r) k v d : ℝ) : EReal)) (r : Fin 256)
    (x : Fin 128) : k1_pay10 K V Q L G O (ix2 r x) = ((dqEnt (q r) k v (g r) x : ℝ) : EReal) := by
  pointwise [k1_pay10]
  rw [dot_eq (fun j => k1_pay9 K V Q L G O (ix2 r j)) (fun j => K (ix2 j x)) _ _ (pay9_real hK hV hQ hL hG hO r) (fun j => hK j x), dqEnt, EReal.coe_mul]
  rfl

/-- The rows' part of the keys' gradient, before its scale. -/
theorem dk_part (hK : Holds K k) (hV : Holds V v) (hQ : Holds Q q) (hL : ∀ r, L (ix3 0 r 0) = ((lse (q r) k : ℝ) : EReal))
    (hG : Holds G g) (hO : ∀ r d, O (ix2 r d) = ((outp (q r) k v d : ℝ) : EReal)) (j : Fin 2304) (x : Fin 128) :
    tn (k1_pay9 K V Q L G O) Q (ix2 j x) = ((∑ r, ds (q r) k v (g r) j * q r x : ℝ) : EReal) := by
  rw [tn_apply]
  exact dot_eq _ _ _ _ (fun r => pay9_real hK hV hQ hL hG hO r j) (fun r => hQ r x)

/-- The rows' part of the values' gradient. -/
theorem dv_part (hK : Holds K k) (hQ : Holds Q q) (hL : ∀ r, L (ix3 0 r 0) = ((lse (q r) k : ℝ) : EReal))
    (hG : Holds G g) (j : Fin 2304) (x : Fin 128) :
    tn (truncf .bf16 (k1_pay8 K Q L) bitsLt_bf16_f32) G (ix2 j x) = ((∑ r, pw (q r) k j * g r x : ℝ) : EReal) := by
  rw [tn_apply]
  exact dot_eq _ _ _ _ (fun r => pay8_real hK hQ hL r j) (fun r => hG r x)

end Cert.Bwd

end
-- ==== Proof.BwdPieces.lean ====
/- What one grid point of the gradient call stores, case by case: the bands of the queries' gradient, and the keys'
   and values' gradients reset, added into, and (at a head's last point) scaled. Every band is one arithmetic at its own
   offset. -/
module

public import proofs.«01_k».proof.Proof.Gen.KernelIdeal.Frame
public import proofs.«01_k».proof.Proof.BwdPay
public import Idealize.ShloMosaic.Lib.WholeRead

@[expose] public section

set_option maxRecDepth 16384

noncomputable section

namespace Cert.Bwd

open Idealize.ShloMosaic Idealize.SL.Sem Cert.KernelIdeal Cert.KernelIdeal.Gen Cert.Block

theorem bnd_inb (i : Fin 8) : ∀ a, (![256 * i.val, 0] : Fin 2 → ℕ) a + S256x128.size a ≤ S2048x128.size a
  | 0 => (by have := i.isLt; show 256 * i.val + 256 ≤ 2048; omega)
  | 1 => (by show 0 + 128 ≤ 128; omega)

theorem bnd3_inb (i : Fin 8) : ∀ a, (![0, 256 * i.val, 0] : Fin 3 → ℕ) a + S1x256x1.size a ≤ S1x2048x1.size a
  | 0 => (by show 0 + 1 ≤ 1; omega)
  | 1 => (by have := i.isLt; show 256 * i.val + 256 ≤ 2048; omega)
  | 2 => (by show 0 + 1 ≤ 1; omega)

/-- Band `i` of 256 rows of a block of 2048. -/
def bnd (i : Fin 8) : Rect S2048x128 := Rect.unit (s := S2048x128) ![256 * i.val, 0] S256x128.size (bnd_inb i)

/-- Band `i` of a block of row statistics. -/
def bnd3 (i : Fin 8) : Rect S1x2048x1 := Rect.unit (s := S1x2048x1) ![0, 256 * i.val, 0] S1x256x1.size (bnd3_inb i)

/-- A whole block of keys' or values' rows. -/
abbrev whole : Rect S2304x128 := Rect.unit (s := S2304x128) ![0, 0] S2304x128.size inb_S2304x128_S2304x128_0_0

/-- Eight bands' parts, added in order. -/
def sum8 (f : Fin 8 → FVec Ideal S2304x128 .f32) : FVec Ideal S2304x128 .f32 :=
  addf (addf (addf (addf (addf (addf (addf (f 0) (f 1)) (f 2)) (f 3)) (f 4)) (f 5)) (f 6)) (f 7)

section Steps

variable (K V : Vec Ideal S2304x128 .bf16) (Q G O : Fin 8 → Vec Ideal S256x128 .bf16) (L : Fin 8 → Vec Ideal S1x256x1 .f32)

/-- The keys' gradient after a point, from what the point before left. -/
def dkStep (X : Vec Ideal S2304x128 .f32) : FVec Ideal S2304x128 .f32 :=
  addf (shapeCast S2304x128 X shapeCasts_S2304x128_S2304x128) (sum8 fun i => tn (k1_pay9 K V (Q i) (L i) (G i) (O i)) (Q i))

/-- The values' gradient after a point. -/
def dvStep (X : Vec Ideal S2304x128 .f32) : FVec Ideal S2304x128 .f32 :=
  addf (shapeCast S2304x128 X shapeCasts_S2304x128_S2304x128)
    (sum8 fun i => tn (truncf .bf16 (k1_pay8 K (Q i) (L i)) bitsLt_bf16_f32) (G i))

/-- Band `i` of the queries' gradient, as a store. -/
def dqPiece (i : Fin 8) : View.Piece (Elt Ideal) S2048x128 .f32 := ⟨bnd i, k1_pay10 K V (Q i) (L i) (G i) (O i)⟩

/-- The stores of the queries' gradient. -/
def dqPieces : List (View.Piece (Elt Ideal) S2048x128 .f32) :=
  [dqPiece K V Q G O L 7, dqPiece K V Q G O L 6, dqPiece K V Q G O L 5, dqPiece K V Q G O L 4,
   dqPiece K V Q G O L 3, dqPiece K V Q G O L 2, dqPiece K V Q G O L 1, dqPiece K V Q G O L 0]

end Steps

variable (c : Dev nD) (i : grid1.Coords) (arg2 : Memref sig .tc .vmem S2048x128 .bf16) (harg2 : arg2.IsWhole)
  (arg3 : Memref sig .tc .vmem S2304x128 .bf16) (harg3 : arg3.IsWhole) (arg4 : Memref sig .tc .vmem S2304x128 .bf16) (harg4 : arg4.IsWhole)
  (arg5 : Memref sig .tc .vmem S2048x128 .bf16) (harg5 : arg5.IsWhole) (arg6 : Memref sig .tc .vmem S2048x128 .bf16) (harg6 : arg6.IsWhole)
  (arg7 : Memref sig .tc .vmem S1x2048x1 .f32) (harg7 : arg7.IsWhole) (arg8 : Memref sig .tc .vmem S2048x128 .f32) (harg8 : arg8.IsWhole)
  (arg9 : Memref sig .tc .vmem S2304x128 .f32) (harg9 : arg9.IsWhole) (arg10 : Memref sig .tc .vmem S2304x128 .f32) (harg10 : arg10.IsWhole)
  (x0 : Vec Ideal S2048x128 .bf16) (x1 x2 : Vec Ideal S2304x128 .bf16) (x3 x4 : Vec Ideal S2048x128 .bf16)
  (x5 : Vec Ideal S1x2048x1 .f32) (xo7 xo8 : Vec Ideal S2304x128 .f32)

/-- The bands of an input block as the body loads them. -/
abbrev rd {S : Shape} {e : EltTy} {arg : Memref sig .tc .vmem S e} (h : arg.IsWhole) (x : Vec Ideal S e) (r : Rect S) :
    r.shape.Idx → Elt Ideal e := View.readAt (Elt Ideal) arg.view r.toLoadRect (h.unread x)

/-- The stores of the queries' gradient at a head's first point. -/
theorem pieces_A_6 (hc0 : cond1_0 i) (hc1 : ¬cond1_1 i) :
    (kernelRun1_A (F := Ideal) c i arg2 harg2 arg3 harg3 arg4 harg4 arg5 harg5 arg6 harg6 arg7 harg7 arg8 harg8 arg9 harg9 arg10 harg10 hc0 hc1 x0 x1 x2 x3 x4 x5).1
      = dqPieces (rd harg3 x1 whole) (rd harg4 x2 whole) (fun i => rd harg2 x0 (bnd i)) (fun i => rd harg6 x4 (bnd i)) (fun i => rd harg5 x3 (bnd i)) (fun i => rd harg7 x5 (bnd3 i)) := by
  unfold kernelRun1_A
  rfl

/-- The stores of the keys' gradient at a head's first point. -/
theorem pieces_A_7 (hc0 : cond1_0 i) (hc1 : ¬cond1_1 i) :
    (kernelRun1_A (F := Ideal) c i arg2 harg2 arg3 harg3 arg4 harg4 arg5 harg5 arg6 harg6 arg7 harg7 arg8 harg8 arg9 harg9 arg10 harg10 hc0 hc1 x0 x1 x2 x3 x4 x5).2.1
      = [⟨whole, dkStep (rd harg3 x1 whole) (rd harg4 x2 whole) (fun i => rd harg2 x0 (bnd i)) (fun i => rd harg6 x4 (bnd i)) (fun i => rd harg5 x3 (bnd i)) (fun i => rd harg7 x5 (bnd3 i)) (arg9.view.readCov [⟨whole, k1_pay6 (F := Ideal)⟩] whole.toLoadRect)⟩, ⟨whole, k1_pay6 (F := Ideal)⟩] := by
  unfold kernelRun1_A
  rfl

/-- The stores of the values' gradient at a head's first point. -/
theorem pieces_A_8 (hc0 : cond1_0 i) (hc1 : ¬cond1_1 i) :
    (kernelRun1_A (F := Ideal) c i arg2 harg2 arg3 harg3 arg4 harg4 arg5 harg5 arg6 harg6 arg7 harg7 arg8 harg8 arg9 harg9 arg10 harg10 hc0 hc1 x0 x1 x2 x3 x4 x5).2.2.1
      = [⟨whole, dvStep (rd harg3 x1 whole) (fun i => rd harg2 x0 (bnd i)) (fun i => rd harg6 x4 (bnd i)) (fun i => rd harg7 x5 (bnd3 i)) (arg10.view.readCov [⟨whole, k1_pay7 (F := Ideal)⟩] whole.toLoadRect)⟩, ⟨whole, k1_pay7 (F := Ideal)⟩] := by
  unfold kernelRun1_A
  rfl

/-- The stores of the queries' gradient at a middle point. -/
theorem pieces_B_6 (hc0 : ¬cond1_0 i) (hc1 : ¬cond1_1 i) :
    (kernelRun1_B (F := Ideal) c i arg2 harg2 arg3 harg3 arg4 harg4 arg5 harg5 arg6 harg6 arg7 harg7 arg8 harg8 arg9 harg9 arg10 harg10 hc0 hc1 x0 x1 x2 x3 x4 x5 xo7 xo8).1
      = dqPieces (rd harg3 x1 whole) (rd harg4 x2 whole) (fun i => rd harg2 x0 (bnd i)) (fun i => rd harg6 x4 (bnd i)) (fun i => rd harg5 x3 (bnd i)) (fun i => rd harg7 x5 (bnd3 i)) := by
  unfold kernelRun1_B
  rfl

/-- The stores of the keys' gradient at a middle point. -/
theorem pieces_B_7 (hc0 : ¬cond1_0 i) (hc1 : ¬cond1_1 i) :
    (kernelRun1_B (F := Ideal) c i arg2 harg2 arg3 harg3 arg4 harg4 arg5 harg5 arg6 harg6 arg7 harg7 arg8 harg8 arg9 harg9 arg10 harg10 hc0 hc1 x0 x1 x2 x3 x4 x5 xo7 xo8).2.1
      = [⟨whole, dkStep (rd harg3 x1 whole) (rd harg4 x2 whole) (fun i => rd harg2 x0 (bnd i)) (fun i => rd harg6 x4 (bnd i)) (fun i => rd harg5 x3 (bnd i)) (fun i => rd harg7 x5 (bnd3 i)) (rd harg9 xo7 whole)⟩] := by
  unfold kernelRun1_B
  rfl

/-- The stores of the values' gradient at a middle point. -/
theorem pieces_B_8 (hc0 : ¬cond1_0 i) (hc1 : ¬cond1_1 i) :
    (kernelRun1_B (F := Ideal) c i arg2 harg2 arg3 harg3 arg4 harg4 arg5 harg5 arg6 harg6 arg7 harg7 arg8 harg8 arg9 harg9 arg10 harg10 hc0 hc1 x0 x1 x2 x3 x4 x5 xo7 xo8).2.2.1
      = [⟨whole, dvStep (rd harg3 x1 whole) (fun i => rd harg2 x0 (bnd i)) (fun i => rd harg6 x4 (bnd i)) (fun i => rd harg7 x5 (bnd3 i)) (rd harg10 xo8 whole)⟩] := by
  unfold kernelRun1_B
  rfl

/-- The stores of the queries' gradient at a head's last point. -/
theorem pieces_C_6 (hc0 : ¬cond1_0 i) (hc1 : cond1_1 i) :
    (kernelRun1_C (F := Ideal) c i arg2 harg2 arg3 harg3 arg4 harg4 arg5 harg5 arg6 harg6 arg7 harg7 arg8 harg8 arg9 harg9 arg10 harg10 hc0 hc1 x0 x1 x2 x3 x4 x5 xo7 xo8).1
      = dqPieces (rd harg3 x1 whole) (rd harg4 x2 whole) (fun i => rd harg2 x0 (bnd i)) (fun i => rd harg6 x4 (bnd i)) (fun i => rd harg5 x3 (bnd i)) (fun i => rd harg7 x5 (bnd3 i)) := by
  unfold kernelRun1_C
  rfl

/-- The stores of the keys' gradient at a head's last point. -/
theorem pieces_C_7 (hc0 : ¬cond1_0 i) (hc1 : cond1_1 i) :
    (kernelRun1_C (F := Ideal) c i arg2 harg2 arg3 harg3 arg4 harg4 arg5 harg5 arg6 harg6 arg7 harg7 arg8 harg8 arg9 harg9 arg10 harg10 hc0 hc1 x0 x1 x2 x3 x4 x5 xo7 xo8).2.1
      = [⟨whole, k1_pay5 (F := Ideal) (arg9.view.readCov [⟨whole, dkStep (rd harg3 x1 whole) (rd harg4 x2 whole) (fun i => rd harg2 x0 (bnd i)) (fun i => rd harg6 x4 (bnd i)) (fun i => rd harg5 x3 (bnd i)) (fun i => rd harg7 x5 (bnd3 i)) (rd harg9 xo7 whole)⟩] whole.toLoadRect)⟩, ⟨whole, dkStep (rd harg3 x1 whole) (rd harg4 x2 whole) (fun i => rd harg2 x0 (bnd i)) (fun i => rd harg6 x4 (bnd i)) (fun i => rd harg5 x3 (bnd i)) (fun i => rd harg7 x5 (bnd3 i)) (rd harg9 xo7 whole)⟩] := by
  unfold kernelRun1_C
  rfl

/-- The stores of the values' gradient at a head's last point. -/
theorem pieces_C_8 (hc0 : ¬cond1_0 i) (hc1 : cond1_1 i) :
    (kernelRun1_C (F := Ideal) c i arg2 harg2 arg3 harg3 arg4 harg4 arg5 harg5 arg6 harg6 arg7 harg7 arg8 harg8 arg9 harg9 arg10 harg10 hc0 hc1 x0 x1 x2 x3 x4 x5 xo7 xo8).2.2.1
      = [⟨whole, dvStep (rd harg3 x1 whole) (fun i => rd harg2 x0 (bnd i)) (fun i => rd harg6 x4 (bnd i)) (fun i => rd harg7 x5 (bnd3 i)) (rd harg10 xo8 whole)⟩] := by
  unfold kernelRun1_C
  rfl

end Cert.Bwd

end
-- ==== Proof.BwdBlock.lean ====
/- What one grid point of the gradient call leaves in its three result blocks, entry by entry, at real inputs. -/
module

public import proofs.«01_k».proof.Proof.BwdPieces

@[expose] public section

set_option maxRecDepth 16384

noncomputable section

namespace Cert.Bwd

open Idealize.ShloMosaic Idealize.SL.Sem Cert.KernelIdeal Cert.KernelIdeal.Gen Cert.Block Cert.Fwd Cert.Lift

section Loads

/-- The keys' gradient after a point, as a function of the input blocks. -/
def dkBlk (x0 : Vec Ideal S2048x128 .bf16) (x1 x2 : Vec Ideal S2304x128 .bf16) (x3 x4 : Vec Ideal S2048x128 .bf16)
    (x5 : Vec Ideal S1x2048x1 .f32) (X : Vec Ideal S2304x128 .f32) : Vec Ideal S2304x128 .f32 :=
  dkStep x1 x2 (fun i => View.ld x0 (bnd i)) (fun i => View.ld x4 (bnd i)) (fun i => View.ld x3 (bnd i)) (fun i => View.ld x5 (bnd3 i)) X

/-- The values' gradient after a point, as a function of the input blocks. -/
def dvBlk (x0 : Vec Ideal S2048x128 .bf16) (x1 : Vec Ideal S2304x128 .bf16) (x4 : Vec Ideal S2048x128 .bf16)
    (x5 : Vec Ideal S1x2048x1 .f32) (X : Vec Ideal S2304x128 .f32) : Vec Ideal S2304x128 .f32 :=
  dvStep x1 (fun i => View.ld x0 (bnd i)) (fun i => View.ld x4 (bnd i)) (fun i => View.ld x5 (bnd3 i)) X

/-- The queries' gradient block, as a function of the input blocks. -/
def dqBlk (x0 : Vec Ideal S2048x128 .bf16) (x1 x2 : Vec Ideal S2304x128 .bf16) (x3 x4 : Vec Ideal S2048x128 .bf16)
    (x5 : Vec Ideal S1x2048x1 .f32) : Vec Ideal S2048x128 .f32 :=
  View.canon (dqPieces x1 x2 (fun i => View.ld x0 (bnd i)) (fun i => View.ld x4 (bnd i)) (fun i => View.ld x3 (bnd i)) (fun i => View.ld x5 (bnd3 i)))

variable (c : Dev nD) (i : grid1.Coords) (arg2 : Memref sig .tc .vmem S2048x128 .bf16) (harg2 : arg2.IsWhole)
  (arg3 : Memref sig .tc .vmem S2304x128 .bf16) (harg3 : arg3.IsWhole) (arg4 : Memref sig .tc .vmem S2304x128 .bf16) (harg4 : arg4.IsWhole)
  (arg5 : Memref sig .tc .vmem S2048x128 .bf16) (harg5 : arg5.IsWhole) (arg6 : Memref sig .tc .vmem S2048x128 .bf16) (harg6 : arg6.IsWhole)
  (arg7 : Memref sig .tc .vmem S1x2048x1 .f32) (harg7 : arg7.IsWhole) (arg8 : Memref sig .tc .vmem S2048x128 .f32) (harg8 : arg8.IsWhole)
  (arg9 : Memref sig .tc .vmem S2304x128 .f32) (harg9 : arg9.IsWhole) (arg10 : Memref sig .tc .vmem S2304x128 .f32) (harg10 : arg10.IsWhole)
  (x0 : Vec Ideal S2048x128 .bf16) (x1 x2 : Vec Ideal S2304x128 .bf16) (x3 x4 : Vec Ideal S2048x128 .bf16)
  (x5 : Vec Ideal S1x2048x1 .f32) (xo7 xo8 : Vec Ideal S2304x128 .f32)

/-- A load of an input block reads the block. -/
theorem rd_ld {S : Shape} {e : EltTy} {arg : Memref sig .tc .vmem S e} (h : arg.IsWhole) (x : Vec Ideal S e) (r : Rect S) :
    rd h x r = View.ld x r := funext fun z => h.readAt_unread x r.toLoadRect z

/-- A load of a whole block of rows reads all of it. -/
theorem ld_whole {e : EltTy} (x : Vec Ideal S2304x128 e) : View.ld x whole = x := View.ld_unit_zero (by decide) _ _

/-- A load of a whole block after one store to it reads what was stored. -/
theorem readCov_whole (v : View sig .tc .vmem S2304x128 .f32) (w : Vec Ideal S2304x128 .f32) :
    v.readCov [(⟨whole, w⟩ : View.Piece (Elt Ideal) S2304x128 .f32)] whole.toLoadRect = w :=
  View.readCov_unit_zero v (by decide) _ w

/-- The last store to a whole block is what it holds. -/
theorem canon_whole (w : Vec Ideal S2304x128 .f32) (T : List (View.Piece (Elt Ideal) S2304x128 .f32)) :
    View.canon ((⟨whole, w⟩ : View.Piece (Elt Ideal) S2304x128 .f32) :: T) = w :=
  View.canon_cons_unit_zero (by decide) _ w T

theorem out_A_6 (hc0 : cond1_0 i) (hc1 : ¬cond1_1 i) :
    out1_A_6 (F := Ideal) c i arg2 harg2 arg3 harg3 arg4 harg4 arg5 harg5 arg6 harg6 arg7 harg7 arg8 harg8 arg9 harg9 arg10 harg10 hc0 hc1 x0 x1 x2 x3 x4 x5 = dqBlk x0 x1 x2 x3 x4 x5 := by
  unfold out1_A_6
  rw [View.read_writes_eq_canon _ _ _ (cover1_A_6 c i arg2 harg2 arg3 harg3 arg4 harg4 arg5 harg5 arg6 harg6 arg7 harg7 arg8 harg8 arg9 harg9 arg10 harg10 hc0 hc1 x0 x1 x2 x3 x4 x5), pieces_A_6]
  unfold dqBlk; simp only [rd_ld, ld_whole]

theorem out_A_7 (hc0 : cond1_0 i) (hc1 : ¬cond1_1 i) :
    out1_A_7 (F := Ideal) c i arg2 harg2 arg3 harg3 arg4 harg4 arg5 harg5 arg6 harg6 arg7 harg7 arg8 harg8 arg9 harg9 arg10 harg10 hc0 hc1 x0 x1 x2 x3 x4 x5 = dkBlk x0 x1 x2 x3 x4 x5 (k1_pay6 (F := Ideal)) := by
  unfold out1_A_7
  rw [View.read_writes_eq_canon _ _ _ (cover1_A_7 c i arg2 harg2 arg3 harg3 arg4 harg4 arg5 harg5 arg6 harg6 arg7 harg7 arg8 harg8 arg9 harg9 arg10 harg10 hc0 hc1 x0 x1 x2 x3 x4 x5), pieces_A_7]
  unfold dkBlk; simp only [canon_whole, readCov_whole, rd_ld, ld_whole]

theorem out_A_8 (hc0 : cond1_0 i) (hc1 : ¬cond1_1 i) :
    out1_A_8 (F := Ideal) c i arg2 harg2 arg3 harg3 arg4 harg4 arg5 harg5 arg6 harg6 arg7 harg7 arg8 harg8 arg9 harg9 arg10 harg10 hc0 hc1 x0 x1 x2 x3 x4 x5 = dvBlk x0 x1 x4 x5 (k1_pay7 (F := Ideal)) := by
  unfold out1_A_8
  rw [View.read_writes_eq_canon _ _ _ (cover1_A_8 c i arg2 harg2 arg3 harg3 arg4 harg4 arg5 harg5 arg6 harg6 arg7 harg7 arg8 harg8 arg9 harg9 arg10 harg10 hc0 hc1 x0 x1 x2 x3 x4 x5), pieces_A_8]
  unfold dvBlk; simp only [canon_whole, readCov_whole, rd_ld, ld_whole]

theorem out_B_6 (hc0 : ¬cond1_0 i) (hc1 : ¬cond1_1 i) :
    out1_B_6 (F := Ideal) c i arg2 harg2 arg3 harg3 arg4 harg4 arg5 harg5 arg6 harg6 arg7 harg7 arg8 harg8 arg9 harg9 arg10 harg10 hc0 hc1 x0 x1 x2 x3 x4 x5 xo7 xo8 = dqBlk x0 x1 x2 x3 x4 x5 := by
  unfold out1_B_6
  rw [View.read_writes_eq_canon _ _ _ (cover1_B_6 c i arg2 harg2 arg3 harg3 arg4 harg4 arg5 harg5 arg6 harg6 arg7 harg7 arg8 harg8 arg9 harg9 arg10 harg10 hc0 hc1 x0 x1 x2 x3 x4 x5 xo7 xo8), pieces_B_6]
  unfold dqBlk; simp only [rd_ld, ld_whole]

theorem out_B_7 (hc0 : ¬cond1_0 i) (hc1 : ¬cond1_1 i) :
    out1_B_7 (F := Ideal) c i arg2 harg2 arg3 harg3 arg4 harg4 arg5 harg5 arg6 harg6 arg7 harg7 arg8 harg8 arg9 harg9 arg10 harg10 hc0 hc1 x0 x1 x2 x3 x4 x5 xo7 xo8 = dkBlk x0 x1 x2 x3 x4 x5 xo7 := by
  unfold out1_B_7
  rw [View.read_writes_eq_canon _ _ _ (cover1_B_7 c i arg2 harg2 arg3 harg3 arg4 harg4 arg5 harg5 arg6 harg6 arg7 harg7 arg8 harg8 arg9 harg9 arg10 harg10 hc0 hc1 x0 x1 x2 x3 x4 x5 xo7 xo8), pieces_B_7]
  unfold dkBlk; simp only [canon_whole, readCov_whole, rd_ld, ld_whole]

theorem out_B_8 (hc0 : ¬cond1_0 i) (hc1 : ¬cond1_1 i) :
    out1_B_8 (F := Ideal) c i arg2 harg2 arg3 harg3 arg4 harg4 arg5 harg5 arg6 harg6 arg7 harg7 arg8 harg8 arg9 harg9 arg10 harg10 hc0 hc1 x0 x1 x2 x3 x4 x5 xo7 xo8 = dvBlk x0 x1 x4 x5 xo8 := by
  unfold out1_B_8
  rw [View.read_writes_eq_canon _ _ _ (cover1_B_8 c i arg2 harg2 arg3 harg3 arg4 harg4 arg5 harg5 arg6 harg6 arg7 harg7 arg8 harg8 arg9 harg9 arg10 harg10 hc0 hc1 x0 x1 x2 x3 x4 x5 xo7 xo8), pieces_B_8]
  unfold dvBlk; simp only [canon_whole, readCov_whole, rd_ld, ld_whole]

theorem out_C_6 (hc0 : ¬cond1_0 i) (hc1 : cond1_1 i) :
    out1_C_6 (F := Ideal) c i arg2 harg2 arg3 harg3 arg4 harg4 arg5 harg5 arg6 harg6 arg7 harg7 arg8 harg8 arg9 harg9 arg10 harg10 hc0 hc1 x0 x1 x2 x3 x4 x5 xo7 xo8 = dqBlk x0 x1 x2 x3 x4 x5 := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 x5 xo7 xo8), pieces_C_6]
  unfold dqBlk; simp only [rd_ld, ld_whole]

theorem out_C_7 (hc0 : ¬cond1_0 i) (hc1 : cond1_1 i) :
    out1_C_7 (F := Ideal) c i arg2 harg2 arg3 harg3 arg4 harg4 arg5 harg5 arg6 harg6 arg7 harg7 arg8 harg8 arg9 harg9 arg10 harg10 hc0 hc1 x0 x1 x2 x3 x4 x5 xo7 xo8 = k1_pay5 (F := Ideal) (dkBlk x0 x1 x2 x3 x4 x5 xo7) := by
  unfold out1_C_7
  rw [View.read_writes_eq_canon _ _ _ (cover1_C_7 c i arg2 harg2 arg3 harg3 arg4 harg4 arg5 harg5 arg6 harg6 arg7 harg7 arg8 harg8 arg9 harg9 arg10 harg10 hc0 hc1 x0 x1 x2 x3 x4 x5 xo7 xo8), pieces_C_7]
  unfold dkBlk; simp only [canon_whole, readCov_whole, rd_ld, ld_whole]

theorem out_C_8 (hc0 : ¬cond1_0 i) (hc1 : cond1_1 i) :
    out1_C_8 (F := Ideal) c i arg2 harg2 arg3 harg3 arg4 harg4 arg5 harg5 arg6 harg6 arg7 harg7 arg8 harg8 arg9 harg9 arg10 harg10 hc0 hc1 x0 x1 x2 x3 x4 x5 xo7 xo8 = dvBlk x0 x1 x4 x5 xo8 := by
  unfold out1_C_8
  rw [View.read_writes_eq_canon _ _ _ (cover1_C_8 c i arg2 harg2 arg3 harg3 arg4 harg4 arg5 harg5 arg6 harg6 arg7 harg7 arg8 harg8 arg9 harg9 arg10 harg10 hc0 hc1 x0 x1 x2 x3 x4 x5 xo7 xo8), pieces_C_8]
  unfold dvBlk; simp only [canon_whole, readCov_whole, rd_ld, ld_whole]

end Loads

end Cert.Bwd

end
-- ==== Proof.BwdValue.lean ====
/- The gradient call's result blocks at one grid point, entry by entry over the reals. -/
module

public import proofs.«01_k».proof.Proof.BwdBlock

@[expose] public section

set_option maxRecDepth 16384

noncomputable section

namespace Cert.Bwd

open Idealize.ShloMosaic Idealize.SL.Sem Cert.KernelIdeal Cert.KernelIdeal.Gen Cert.Block Cert.Fwd Cert.Lift

/-- The rows' sum of the keys' gradient before its scale: entry `x` of key `j`. -/
def dkSum (q g : Fin 2048 → Fin 128 → ℝ) (k v : Fin 2304 → Fin 128 → ℝ) (j : Fin 2304) (x : Fin 128) : ℝ :=
  ∑ r, ds (q r) k v (g r) j * q r x

/-- The rows' sum of the values' gradient: entry `x` of value `j`. -/
def dvSum (q g : Fin 2048 → Fin 128 → ℝ) (k : Fin 2304 → Fin 128 → ℝ) (j : Fin 2304) (x : Fin 128) : ℝ :=
  ∑ r, pw (q r) k j * g r x

/-- A sum over 2048 rows, band by band. -/
theorem sum_bands (f : Fin 2048 → ℝ) :
    ∑ r, f r = ∑ i : Fin 8, ∑ a : Fin 256, f ⟨256 * i.val + a.val, by omega⟩ := by
  rw [← Equiv.sum_comp (finProdFinEquiv (m := 8) (n := 256)) f, Fintype.sum_prod_type]
  refine Finset.sum_congr rfl fun i _ => Finset.sum_congr rfl fun a _ => congrArg f (Fin.ext ?_)
  show a.val + 256 * i.val = 256 * i.val + a.val
  omega

/-- Eight reals added in order are their sum. -/
theorem sum8_real (f : Fin 8 → FVec Ideal S2304x128 .f32) (y : S2304x128.Idx) (s : Fin 8 → ℝ) (h : ∀ i, f i y = ((s i : ℝ) : EReal)) :
    sum8 f y = ((∑ i, s i : ℝ) : EReal) := by
  show ((((((f 0 y + f 1 y) + f 2 y) + f 3 y) + f 4 y) + f 5 y) + f 6 y) + f 7 y = _
  rw [h, h, h, h, h, h, h, h, Fin.sum_univ_eight]
  simp only [EReal.coe_add]

variable {X0 : Vec Ideal S2048x128 .bf16} {X1 X2 : Vec Ideal S2304x128 .bf16} {X3 X4 : Vec Ideal S2048x128 .bf16}
  {X5 : Vec Ideal S1x2048x1 .f32} {X7 X8 : Vec Ideal S2304x128 .f32}
  {q g : Fin 2048 → Fin 128 → ℝ} {k v : Fin 2304 → Fin 128 → ℝ} {a7 a8 : Fin 2304 → Fin 128 → ℝ}

/-- Row `a` of band `i`. -/
def row (i : Fin 8) (a : Fin 256) : Fin 2048 := ⟨256 * i.val + a.val, by omega⟩

theorem bnd_emb (i : Fin 8) (a : Fin 256) (b : Fin 128) : (bnd i).emb (ix2 a b) = ix2 (row i a) b := by
  refine (emb2 (256 * i.val) 0 (bnd_inb i) a b (by have := i.isLt; omega) (by omega)).trans ?_
  exact (ix2_inj _ _ _ _).mpr ⟨rfl, Fin.ext (Nat.zero_add b.val)⟩

theorem bnd3_emb (i : Fin 8) (a : Fin 256) : (bnd3 i).emb (ix3 (n0 := 1) (n2 := 1) 0 a 0) = ix3 0 (row i a) 0 := by
  refine (emb3 0 (256 * i.val) 0 (bnd3_inb i) 0 a 0 (by omega) (by have := i.isLt; omega) (by omega)).trans ?_
  exact (ix3_inj _ _ _ _ _ _).mpr ⟨rfl, rfl, rfl⟩

section

theorem dkStep_apply (K V : Vec Ideal S2304x128 .bf16) (Q G O : Fin 8 → Vec Ideal S256x128 .bf16) (L : Fin 8 → Vec Ideal S1x256x1 .f32)
    (X : Vec Ideal S2304x128 .f32) (y : S2304x128.Idx) :
    dkStep K V Q G O L X y = X y + sum8 (fun i => tn (k1_pay9 K V (Q i) (L i) (G i) (O i)) (Q i)) y := by
  show shapeCast S2304x128 X shapeCasts_S2304x128_S2304x128 y + _ = _
  rw [shapeCast_self]

theorem dvStep_apply (K : Vec Ideal S2304x128 .bf16) (Q G : Fin 8 → Vec Ideal S256x128 .bf16) (L : Fin 8 → Vec Ideal S1x256x1 .f32)
    (X : Vec Ideal S2304x128 .f32) (y : S2304x128.Idx) :
    dvStep K Q G L X y = X y + sum8 (fun i => tn (truncf .bf16 (k1_pay8 K (Q i) (L i)) bitsLt_bf16_f32) (G i)) y := by
  show shapeCast S2304x128 X shapeCasts_S2304x128_S2304x128 y + _ = _
  rw [shapeCast_self]

/-- The eight bands cover the queries' gradient block. -/
theorem dq_cover (K V : Vec Ideal S2304x128 .bf16) (Q G O : Fin 8 → Vec Ideal S256x128 .bf16) (L : Fin 8 → Vec Ideal S1x256x1 .f32)
    (y : S2048x128.Idx) : ∃ pc ∈ dqPieces K V Q G O L, y ∈ pc.1.set :=
  View.cover_of_tiled (dqPieces K V Q G O L) S256x128.size (by rfl) y

variable (h0 : Holds X0 q)

include h0 in
theorem ld_rows (i : Fin 8) : Holds (View.ld X0 (bnd i)) (fun a => q (row i a)) := fun a b => by
  show X0 ((bnd i).emb (ix2 a b)) = _
  rw [bnd_emb, h0]

theorem ld_out (h3 : ∀ r d, X3 (ix2 r d) = ((outp (q r) k v d : ℝ) : EReal)) (i : Fin 8) (a : Fin 256) (d : Fin 128) :
    View.ld X3 (bnd i) (ix2 a d) = ((outp (q (row i a)) k v d : ℝ) : EReal) := by
  show X3 ((bnd i).emb (ix2 a d)) = _
  rw [bnd_emb, h3]

theorem ld_lse (h5 : ∀ r, X5 (ix3 0 r 0) = ((lse (q r) k : ℝ) : EReal)) (i : Fin 8) (a : Fin 256) :
    View.ld X5 (bnd3 i) (ix3 (n0 := 1) (n2 := 1) 0 a 0) = ((lse (q (row i a)) k : ℝ) : EReal) := by
  show X5 ((bnd3 i).emb (ix3 (n0 := 1) (n2 := 1) 0 a 0)) = _
  rw [bnd3_emb, h5]

variable (h1 : Holds X1 k) (h4 : Holds X4 g) (h5 : ∀ r, X5 (ix3 0 r 0) = ((lse (q r) k : ℝ) : EReal))

include h0 h1 h4 h5

/-- The values' gradient after a point: what was there, plus the point's rows. -/
theorem dvBlk_real (h8 : Holds X8 a8) (j : Fin 2304) (x : Fin 128) :
    dvBlk X0 X1 X4 X5 X8 (ix2 j x) = ((a8 j x + dvSum q g k j x : ℝ) : EReal) := by
  refine (dvStep_apply X1 (fun i => View.ld X0 (bnd i)) (fun i => View.ld X4 (bnd i)) (fun i => View.ld X5 (bnd3 i)) X8 (ix2 j x)).trans ?_
  rw [EReal.coe_add, dvSum, sum_bands, ← h8 j x]
  exact congrArg (X8 (ix2 j x) + ·) (sum8_real _ (ix2 j x) (fun i => ∑ a, pw (q (row i a)) k j * g (row i a) x) fun i => dv_part h1 (ld_rows h0 i) (ld_lse h5 i) (ld_rows h4 i) j x)

variable (h2 : Holds X2 v) (h3 : ∀ r d, X3 (ix2 r d) = ((outp (q r) k v d : ℝ) : EReal))

include h2 h3

/-- The keys' gradient after a point, before its scale. -/
theorem dkBlk_real (h7 : Holds X7 a7) (j : Fin 2304) (x : Fin 128) :
    dkBlk X0 X1 X2 X3 X4 X5 X7 (ix2 j x) = ((a7 j x + dkSum q g k v j x : ℝ) : EReal) := by
  refine (dkStep_apply X1 X2 (fun i => View.ld X0 (bnd i)) (fun i => View.ld X4 (bnd i)) (fun i => View.ld X3 (bnd i)) (fun i => View.ld X5 (bnd3 i)) X7 (ix2 j x)).trans ?_
  rw [EReal.coe_add, dkSum, sum_bands, ← h7 j x]
  exact congrArg (X7 (ix2 j x) + ·) (sum8_real _ (ix2 j x) (fun i => ∑ a, ds (q (row i a)) k v (g (row i a)) j * q (row i a) x) fun i => dk_part h1 h2 (ld_rows h0 i) (ld_lse h5 i) (ld_rows h4 i) (ld_out h3 i) j x)

/-- One band of the queries' gradient. -/
theorem dq_band (i : Fin 8) (z : (bnd i).shape.Idx) :
    k1_pay10 X1 X2 (View.ld X0 (bnd i)) (View.ld X5 (bnd3 i)) (View.ld X4 (bnd i)) (View.ld X3 (bnd i)) z
      = (fun y : S2048x128.Idx => ((dqEnt (q (y 0)) k v (g (y 0)) (y 1) : ℝ) : EReal)) ((bnd i).emb z) := by
  obtain ⟨a, b, rfl⟩ : ∃ a b, z = ix2 (n0 := 256) (n1 := 128) a b := ⟨z 0, z 1, eq_ix2 (n0 := 256) (n1 := 128) z⟩
  refine (pay10_real h1 h2 (ld_rows h0 i) (ld_lse h5 i) (ld_rows h4 i) (ld_out h3 i) a b).trans ?_
  rw [bnd_emb]
  rfl

/-- The queries' gradient block. -/
theorem dqBlk_real (r : Fin 2048) (x : Fin 128) :
    dqBlk X0 X1 X2 X3 X4 X5 (ix2 r x) = ((dqEnt (q r) k v (g r) x : ℝ) : EReal) := by
  rw [dqBlk]
  refine View.canon_apply_of_pieces (Val := Elt Ideal) (fun y : S2048x128.Idx => ((dqEnt (q (y 0)) k v (g (y 0)) (y 1) : ℝ) : EReal)) _ ?_
    (ix2 r x) (dq_cover _ _ _ _ _ _ _)
  simp only [dqPieces, dqPiece, List.forall_mem_cons, List.not_mem_nil, IsEmpty.forall_iff, implies_true, and_true]
  have B := dq_band h0 h1 h4 h5 h2 h3
  exact ⟨B 7, B 6, B 5, B 4, B 3, B 2, B 1, B 0⟩

end

/-- The reset keys' and values' gradients hold zero. -/
theorem zero_real : Holds (k1_pay6 (F := Ideal)) (fun (_ : Fin 2304) (_ : Fin 128) => 0) := fun a b => by
  pointwise [k1_pay6]
  exact EReal.coe_zero.symm

theorem zero_real' : Holds (k1_pay7 (F := Ideal)) (fun (_ : Fin 2304) (_ : Fin 128) => 0) := fun a b => by
  pointwise [k1_pay7]
  exact EReal.coe_zero.symm

/-- The keys' gradient scaled, at a head's last point. -/
theorem scale_real {X : Vec Ideal S2304x128 .f32} {a : Fin 2304 → Fin 128 → ℝ} (h : Holds X a) :
    Holds (k1_pay5 (F := Ideal) X) (fun j x => a j x * c) := fun j x => by
  pointwise [k1_pay5]
  rw [h, EReal.coe_mul]
  rfl

end Cert.Bwd

end
-- ==== Proof.BwdBlk.lean ====
/- The gradient call's input blocks and where its blocks lie. Grid point `t` takes head `t` of the queries, of the
   outputs, of their gradient and of the row statistics, and key/value head `t / 4`. -/
module

public import proofs.«01_k».proof.Proof.FwdArr
public import proofs.«01_k».proof.Proof.BwdValue

@[expose] public section

set_option maxRecDepth 16384

noncomputable section

namespace Cert.Bwd

open Idealize.ShloMosaic Idealize.ShloMosaic.TcCoe Idealize.SL.Sem Cert.KernelIdeal Cert.KernelIdeal.Gen Cert.Block Cert.Fwd

/-- The head a point works on. -/
def pt1 (t : Fin cfg1.N) : Fin 8 := ⟨t.val, lt_of_lt_of_eq t.isLt N_1⟩

theorem idx1_0 : ∀ t : Fin cfg1.N, win1_0.index t 0 = 0 ∧ win1_0.index t 1 = t.val := by decide +kernel
theorem idx1_3 : ∀ t : Fin cfg1.N, win1_3.index t 0 = 0 ∧ win1_3.index t 1 = t.val := by decide +kernel
theorem idx1_4 : ∀ t : Fin cfg1.N, win1_4.index t 0 = 0 ∧ win1_4.index t 1 = t.val := by decide +kernel
theorem idx1_6 : ∀ t : Fin cfg1.N, win1_6.index t 0 = 0 ∧ win1_6.index t 1 = t.val := by decide +kernel
theorem idx1_1 : ∀ t : Fin cfg1.N, win1_1.index t 0 = 0 ∧ win1_1.index t 1 = t.val / 4 := by decide +kernel
theorem idx1_2 : ∀ t : Fin cfg1.N, win1_2.index t 0 = 0 ∧ win1_2.index t 1 = t.val / 4 := by decide +kernel
theorem idx1_7 : ∀ t : Fin cfg1.N, win1_7.index t 0 = 0 ∧ win1_7.index t 1 = t.val / 4 := by decide +kernel
theorem idx1_8 : ∀ t : Fin cfg1.N, win1_8.index t 0 = 0 ∧ win1_8.index t 1 = t.val / 4 := by decide +kernel
theorem idx1_5 : ∀ t : Fin cfg1.N, win1_5.index t 0 = t.val ∧ win1_5.index t 1 = 0 ∧ win1_5.index t 2 = 0 := by decide +kernel

theorem emb1_0 (t : Fin cfg1.N) (r : Fin 2048) (d : Fin 128) :
    (win1_0.rect t).emb (ix2 r d) = ix2 (n0 := 2048) (n1 := 1024) r ⟨128 * (pt1 t).val + d.val, by omega⟩ := by
  refine (eq_ix2 (n0 := 2048) (n1 := 1024) _).trans ((ix2_inj _ _ _ _).mpr ⟨Fin.ext ?_, Fin.ext ?_⟩)
  · refine (Pipeline.Window.rect_emb_val win1_0 t (ix2 r d) 0 rfl).trans ?_; rw [(idx1_0 t).1]; exact (congrArg (· + r.val) (Nat.zero_mul _)).trans (Nat.zero_add _)
  · refine (Pipeline.Window.rect_emb_val win1_0 t (ix2 r d) 1 rfl).trans ?_; rw [(idx1_0 t).2]; show t.val * 128 + d.val = 128 * t.val + d.val; omega

theorem emb1_3 (t : Fin cfg1.N) (r : Fin 2048) (d : Fin 128) :
    (win1_3.rect t).emb (ix2 r d) = ix2 (n0 := 2048) (n1 := 1024) r ⟨128 * (pt1 t).val + d.val, by omega⟩ := by
  refine (eq_ix2 (n0 := 2048) (n1 := 1024) _).trans ((ix2_inj _ _ _ _).mpr ⟨Fin.ext ?_, Fin.ext ?_⟩)
  · refine (Pipeline.Window.rect_emb_val win1_3 t (ix2 r d) 0 rfl).trans ?_; rw [(idx1_3 t).1]; exact (congrArg (· + r.val) (Nat.zero_mul _)).trans (Nat.zero_add _)
  · refine (Pipeline.Window.rect_emb_val win1_3 t (ix2 r d) 1 rfl).trans ?_; rw [(idx1_3 t).2]; show t.val * 128 + d.val = 128 * t.val + d.val; omega

theorem emb1_4 (t : Fin cfg1.N) (r : Fin 2048) (d : Fin 128) :
    (win1_4.rect t).emb (ix2 r d) = ix2 (n0 := 2048) (n1 := 1024) r ⟨128 * (pt1 t).val + d.val, by omega⟩ := by
  refine (eq_ix2 (n0 := 2048) (n1 := 1024) _).trans ((ix2_inj _ _ _ _).mpr ⟨Fin.ext ?_, Fin.ext ?_⟩)
  · refine (Pipeline.Window.rect_emb_val win1_4 t (ix2 r d) 0 rfl).trans ?_; rw [(idx1_4 t).1]; exact (congrArg (· + r.val) (Nat.zero_mul _)).trans (Nat.zero_add _)
  · refine (Pipeline.Window.rect_emb_val win1_4 t (ix2 r d) 1 rfl).trans ?_; rw [(idx1_4 t).2]; show t.val * 128 + d.val = 128 * t.val + d.val; omega

theorem emb1_6 (t : Fin cfg1.N) (r : Fin 2048) (d : Fin 128) :
    (win1_6.rect t).emb (ix2 r d) = ix2 (n0 := 2048) (n1 := 1024) r ⟨128 * (pt1 t).val + d.val, by omega⟩ := by
  refine (eq_ix2 (n0 := 2048) (n1 := 1024) _).trans ((ix2_inj _ _ _ _).mpr ⟨Fin.ext ?_, Fin.ext ?_⟩)
  · refine (Pipeline.Window.rect_emb_val win1_6 t (ix2 r d) 0 rfl).trans ?_; rw [(idx1_6 t).1]; exact (congrArg (· + r.val) (Nat.zero_mul _)).trans (Nat.zero_add _)
  · refine (Pipeline.Window.rect_emb_val win1_6 t (ix2 r d) 1 rfl).trans ?_; rw [(idx1_6 t).2]; show t.val * 128 + d.val = 128 * t.val + d.val; omega

theorem emb1_1 (t : Fin cfg1.N) (r : Fin 2304) (d : Fin 128) :
    (win1_1.rect t).emb (ix2 r d) = ix2 (n0 := 2304) (n1 := 256) r ⟨128 * (grp (pt1 t)).val + d.val, by omega⟩ := by
  refine (eq_ix2 (n0 := 2304) (n1 := 256) _).trans ((ix2_inj _ _ _ _).mpr ⟨Fin.ext ?_, Fin.ext ?_⟩)
  · refine (Pipeline.Window.rect_emb_val win1_1 t (ix2 r d) 0 rfl).trans ?_; rw [(idx1_1 t).1]; exact (congrArg (· + r.val) (Nat.zero_mul _)).trans (Nat.zero_add _)
  · refine (Pipeline.Window.rect_emb_val win1_1 t (ix2 r d) 1 rfl).trans ?_; rw [(idx1_1 t).2]; show t.val / 4 * 128 + d.val = 128 * (t.val / 4) + d.val; omega

theorem emb1_2 (t : Fin cfg1.N) (r : Fin 2304) (d : Fin 128) :
    (win1_2.rect t).emb (ix2 r d) = ix2 (n0 := 2304) (n1 := 256) r ⟨128 * (grp (pt1 t)).val + d.val, by omega⟩ := by
  refine (eq_ix2 (n0 := 2304) (n1 := 256) _).trans ((ix2_inj _ _ _ _).mpr ⟨Fin.ext ?_, Fin.ext ?_⟩)
  · refine (Pipeline.Window.rect_emb_val win1_2 t (ix2 r d) 0 rfl).trans ?_; rw [(idx1_2 t).1]; exact (congrArg (· + r.val) (Nat.zero_mul _)).trans (Nat.zero_add _)
  · refine (Pipeline.Window.rect_emb_val win1_2 t (ix2 r d) 1 rfl).trans ?_; rw [(idx1_2 t).2]; show t.val / 4 * 128 + d.val = 128 * (t.val / 4) + d.val; omega

theorem emb1_7 (t : Fin cfg1.N) (r : Fin 2304) (d : Fin 128) :
    (win1_7.rect t).emb (ix2 r d) = ix2 (n0 := 2304) (n1 := 256) r ⟨128 * (grp (pt1 t)).val + d.val, by omega⟩ := by
  refine (eq_ix2 (n0 := 2304) (n1 := 256) _).trans ((ix2_inj _ _ _ _).mpr ⟨Fin.ext ?_, Fin.ext ?_⟩)
  · refine (Pipeline.Window.rect_emb_val win1_7 t (ix2 r d) 0 rfl).trans ?_; rw [(idx1_7 t).1]; exact (congrArg (· + r.val) (Nat.zero_mul _)).trans (Nat.zero_add _)
  · refine (Pipeline.Window.rect_emb_val win1_7 t (ix2 r d) 1 rfl).trans ?_; rw [(idx1_7 t).2]; show t.val / 4 * 128 + d.val = 128 * (t.val / 4) + d.val; omega

theorem emb1_8 (t : Fin cfg1.N) (r : Fin 2304) (d : Fin 128) :
    (win1_8.rect t).emb (ix2 r d) = ix2 (n0 := 2304) (n1 := 256) r ⟨128 * (grp (pt1 t)).val + d.val, by omega⟩ := by
  refine (eq_ix2 (n0 := 2304) (n1 := 256) _).trans ((ix2_inj _ _ _ _).mpr ⟨Fin.ext ?_, Fin.ext ?_⟩)
  · refine (Pipeline.Window.rect_emb_val win1_8 t (ix2 r d) 0 rfl).trans ?_; rw [(idx1_8 t).1]; exact (congrArg (· + r.val) (Nat.zero_mul _)).trans (Nat.zero_add _)
  · refine (Pipeline.Window.rect_emb_val win1_8 t (ix2 r d) 1 rfl).trans ?_; rw [(idx1_8 t).2]; show t.val / 4 * 128 + d.val = 128 * (t.val / 4) + d.val; omega

theorem emb1_5 (t : Fin cfg1.N) (w : Fin 1) (r : Fin 2048) (u : Fin 1) :
    (win1_5.rect t).emb (ix3 w r u) = ix3 (n0 := 8) (n1 := 2048) (n2 := 1) (pt1 t) r 0 := by
  refine (eq_ix3 (n0 := 8) (n1 := 2048) (n2 := 1) _).trans ((ix3_inj _ _ _ _ _ _).mpr ⟨Fin.ext ?_, Fin.ext ?_, Fin.ext ?_⟩)
  · refine (Pipeline.Window.rect_emb_val win1_5 t (ix3 w r u) 0 rfl).trans ?_; rw [(idx1_5 t).1]; show t.val * 1 + w.val = t.val; omega
  · refine (Pipeline.Window.rect_emb_val win1_5 t (ix3 w r u) 1 rfl).trans ?_; rw [(idx1_5 t).2.1]; exact (congrArg (· + r.val) (Nat.zero_mul _)).trans (Nat.zero_add _)
  · refine (Pipeline.Window.rect_emb_val win1_5 t (ix3 w r u) 2 rfl).trans ?_; rw [(idx1_5 t).2.2]; show 0 * 1 + u.val = 0; omega

section

variable (V : (c : Dev nD) → (b : Ref sig .tc) → Buf (Elt Ideal) ((c : Thread nD τ).loc b)) (c : Dev nD)
variable {xq xg : Fin 2048 → Fin 1024 → ℝ} {xk xv : Fin 2304 → Fin 256 → ℝ}

/-- What the gradient call's arrays hold when it starts: the four arguments, and the forward call's two results. -/
structure Entry (V : (c : Dev nD) → (b : Ref sig .tc) → Buf (Elt Ideal) ((c : Thread nD τ).loc b)) (c : Dev nD)
    (xq xg : Fin 2048 → Fin 1024 → ℝ) (xk xv : Fin 2304 → Fin 256 → ℝ) : Prop where
  q : Holds (m := 2048) (n := 1024) (V c main_arg0) xq
  k : Holds (m := 2304) (n := 256) (V c main_arg1) xk
  v : Holds (m := 2304) (n := 256) (V c main_arg2) xv
  g : Holds (m := 2048) (n := 1024) (V c main_arg3) xg
  o : Holds (m := 2048) (n := 1024) (V c main_v0_0) (oArr xq xk xv)
  l : ∀ (h : Fin 8) (r : Fin 2048) (u : Fin 1), V c main_v0_1 (ix3 (n0 := 8) (n1 := 2048) (n2 := 1) h r u) = ((lArr xq xk h r : ℝ) : EReal)

variable {V c} (H : Entry V c xq xg xk xv) (t : Fin cfg1.N)
include H

theorem blk1_0 : Holds (m := 2048) (n := 128) (iblk1 V c 0 t) (qh xq (pt1 t)) := fun r d => by
  show V c main_arg0 ((win1_0.rect t).emb (ix2 r d)) = _
  rw [emb1_0]; exact H.q _ _

theorem blk1_1 : Holds (m := 2304) (n := 128) (iblk1 V c 1 t) (kh xk (grp (pt1 t))) := fun r d => by
  show V c main_arg1 ((win1_1.rect t).emb (ix2 r d)) = _
  rw [emb1_1]; exact H.k _ _

theorem blk1_2 : Holds (m := 2304) (n := 128) (iblk1 V c 2 t) (kh xv (grp (pt1 t))) := fun r d => by
  show V c main_arg2 ((win1_2.rect t).emb (ix2 r d)) = _
  rw [emb1_2]; exact H.v _ _

theorem blk1_4 : Holds (m := 2048) (n := 128) (iblk1 V c 4 t) (qh xg (pt1 t)) := fun r d => by
  show V c main_arg3 ((win1_4.rect t).emb (ix2 r d)) = _
  rw [emb1_4]; exact H.g _ _

theorem blk1_3 (r : Fin 2048) (d : Fin 128) :
    iblk1 V c 3 t (ix2 r d) = ((outp (qh xq (pt1 t) r) (kh xk (grp (pt1 t))) (kh xv (grp (pt1 t))) d : ℝ) : EReal) := by
  show V c main_v0_0 ((win1_3.rect t).emb (ix2 r d)) = _
  rw [emb1_3]
  refine (H.o _ _).trans ?_
  rw [oArr, hd_mk, col_mk]

theorem blk1_5 (r : Fin 2048) : iblk1 V c 5 t (ix3 0 r 0) = ((lse (qh xq (pt1 t) r) (kh xk (grp (pt1 t))) : ℝ) : EReal) := by
  show V c main_v0_1 ((win1_5.rect t).emb (ix3 0 r 0)) = _
  rw [emb1_5]
  exact H.l _ _ _

end

end Cert.Bwd

end
-- ==== Proof.BwdOuts.lean ====
/- What the gradient call's result blocks hold after each grid point, in terms of the point's input blocks and of what
   the point before left. -/
module

public import proofs.«01_k».proof.Proof.BwdBlk

@[expose] public section

set_option maxRecDepth 16384

noncomputable section

namespace Cert.Bwd

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

theorem left_A_6 (t : Fin cfg1.N) (h0 : t.val % 4 = 0) (h1 : ¬t.val % 4 = 3) :
    (outsAt1 V c t.val t.isLt).1 = dqBlk (iblk1 V c 0 t) (iblk1 V c 1 t) (iblk1 V c 2 t) (iblk1 V c 3 t) (iblk1 V c 4 t) (iblk1 V c 5 t) := by
  have e := congrArg (fun z => z.1) (outsAt1_A V c t h0 h1)
  dsimp only at e
  rw [e]
  exact out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0) (fun h => h1 ((hcond1_1 t).mp h))

theorem left_A_7 (t : Fin cfg1.N) (h0 : t.val % 4 = 0) (h1 : ¬t.val % 4 = 3) :
    (outsAt1 V c t.val t.isLt).2.1 = dkBlk (iblk1 V c 0 t) (iblk1 V c 1 t) (iblk1 V c 2 t) (iblk1 V c 3 t) (iblk1 V c 4 t) (iblk1 V c 5 t) (k1_pay6 (F := Ideal)) := by
  have e := congrArg (fun z => z.2.1) (outsAt1_A V c t h0 h1)
  dsimp only at e
  rw [e]
  exact out_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0) (fun h => h1 ((hcond1_1 t).mp h))

theorem left_A_8 (t : Fin cfg1.N) (h0 : t.val % 4 = 0) (h1 : ¬t.val % 4 = 3) :
    (outsAt1 V c t.val t.isLt).2.2 = dvBlk (iblk1 V c 0 t) (iblk1 V c 1 t) (iblk1 V c 4 t) (iblk1 V c 5 t) (k1_pay7 (F := Ideal)) := by
  have e := congrArg (fun z => z.2.2) (outsAt1_A V c t h0 h1)
  dsimp only at e
  rw [e]
  exact out_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0) (fun h => h1 ((hcond1_1 t).mp h))

theorem left_B_6 (t : Fin cfg1.N) (h0 : ¬t.val % 4 = 0) (h1 : ¬t.val % 4 = 3) :
    (outsAt1 V c t.val t.isLt).1 = dqBlk (iblk1 V c 0 t) (iblk1 V c 1 t) (iblk1 V c 2 t) (iblk1 V c 3 t) (iblk1 V c 4 t) (iblk1 V c 5 t) := by
  have e := congrArg (fun z => z.1) (outsAt1_B V c t h0 h1)
  dsimp only at e
  rw [e]
  exact out_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) (fun h => h1 ((hcond1_1 t).mp h))

theorem left_B_7 (t : Fin cfg1.N) (h0 : ¬t.val % 4 = 0) (h1 : ¬t.val % 4 = 3) :
    (outsAt1 V c t.val t.isLt).2.1 = dkBlk (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 := by
  have e := congrArg (fun z => z.2.1) (outsAt1_B V c t h0 h1)
  dsimp only at e
  rw [e]
  exact out_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) (fun h => h1 ((hcond1_1 t).mp h))

theorem left_B_8 (t : Fin cfg1.N) (h0 : ¬t.val % 4 = 0) (h1 : ¬t.val % 4 = 3) :
    (outsAt1 V c t.val t.isLt).2.2 = dvBlk (iblk1 V c 0 t) (iblk1 V c 1 t) (iblk1 V c 4 t) (iblk1 V c 5 t) (outsAt1 V c (t.val - 1) (Nat.lt_of_le_of_lt (Nat.sub_le _ _) t.isLt)).2.2 := by
  have e := congrArg (fun z => z.2.2) (outsAt1_B V c t h0 h1)
  dsimp only at e
  rw [e]
  exact out_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) (fun h => h1 ((hcond1_1 t).mp h))

theorem left_C_6 (t : Fin cfg1.N) (h0 : ¬t.val % 4 = 0) (h1 : t.val % 4 = 3) :
    (outsAt1 V c t.val t.isLt).1 = dqBlk (iblk1 V c 0 t) (iblk1 V c 1 t) (iblk1 V c 2 t) (iblk1 V c 3 t) (iblk1 V c 4 t) (iblk1 V c 5 t) := by
  have e := congrArg (fun z => z.1) (outsAt1_C V c t h0 h1)
  dsimp only at e
  rw [e]
  exact out_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) ((hcond1_1 t).mpr h1)

theorem left_C_7 (t : Fin cfg1.N) (h0 : ¬t.val % 4 = 0) (h1 : t.val % 4 = 3) :
    (outsAt1 V c t.val t.isLt).2.1 = k1_pay5 (F := Ideal) (dkBlk (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1) := by
  have e := congrArg (fun z => z.2.1) (outsAt1_C V c t h0 h1)
  dsimp only at e
  rw [e]
  exact out_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) ((hcond1_1 t).mpr h1)

theorem left_C_8 (t : Fin cfg1.N) (h0 : ¬t.val % 4 = 0) (h1 : t.val % 4 = 3) :
    (outsAt1 V c t.val t.isLt).2.2 = dvBlk (iblk1 V c 0 t) (iblk1 V c 1 t) (iblk1 V c 4 t) (iblk1 V c 5 t) (outsAt1 V c (t.val - 1) (Nat.lt_of_le_of_lt (Nat.sub_le _ _) t.isLt)).2.2 := by
  have e := congrArg (fun z => z.2.2) (outsAt1_C V c t h0 h1)
  dsimp only at e
  rw [e]
  exact out_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => h0 ((hcond1_0 t).mp h)) ((hcond1_1 t).mpr h1)

end Cert.Bwd

end
-- ==== Proof.BwdArr.lean ====
/- The gradient call's arrays: the queries' gradient head by head, and the keys' and values' gradients, each added up
   over the four heads of its group in the order the grid visits them. -/
module

public import proofs.«01_k».proof.Proof.BwdOuts

@[expose] public section

set_option maxRecDepth 16384

noncomputable section

namespace Cert.Bwd

open Idealize.ShloMosaic Idealize.ShloMosaic.TcCoe Idealize.SL.Sem Cert.KernelIdeal Cert.KernelIdeal.Gen Cert.Block Cert.Fwd

/-- A sum that starts again at every fourth point. -/
def acc (f : ℕ → ℝ) : ℕ → ℝ
  | 0 => 0 + f 0
  | n + 1 => (if (n + 1) % 4 = 0 then 0 else acc f n) + f (n + 1)

theorem acc_reset (f : ℕ → ℝ) (n : ℕ) (h : n % 4 = 0) : acc f n = 0 + f n := by
  cases n with
  | zero => rfl
  | succ n => rw [acc, if_pos h]

theorem acc_step (f : ℕ → ℝ) (n : ℕ) (h : ¬n % 4 = 0) : acc f n = acc f (n - 1) + f n := by
  cases n with
  | zero => exact absurd rfl h
  | succ n => rw [acc, if_neg h]; rfl

/-- At a group's last head the sum is the group's. -/
theorem acc_group (f : ℕ → ℝ) (g : Fin 2) : acc f (4 * g.val + 3) = ∑ i : Fin 4, f (4 * g.val + i.val) := by
  rw [Fin.sum_univ_four, acc_step f _ (by omega), show 4 * g.val + 3 - 1 = 4 * g.val + 2 from rfl, acc_step f _ (by omega),
    show 4 * g.val + 2 - 1 = 4 * g.val + 1 from rfl, acc_step f _ (by omega), show 4 * g.val + 1 - 1 = 4 * g.val from rfl,
    acc_reset f _ (by omega), zero_add]
  rfl

/-- A point's head. -/
def hOf (n : ℕ) : Fin 8 := ⟨n % 8, by omega⟩

theorem hOf_pt (t : Fin cfg1.N) : hOf t.val = pt1 t := Fin.ext (Nat.mod_eq_of_lt (pt1 t).isLt)

section

variable (xq xg : Fin 2048 → Fin 1024 → ℝ) (xk xv : Fin 2304 → Fin 256 → ℝ)

/-- Head `h`'s part of the keys' gradient, before its scale. -/
def kPart (j : Fin 2304) (x : Fin 128) (h : Fin 8) : ℝ := dkSum (qh xq h) (qh xg h) (kh xk (grp h)) (kh xv (grp h)) j x

/-- Head `h`'s part of the values' gradient. -/
def vPart (j : Fin 2304) (x : Fin 128) (h : Fin 8) : ℝ := dvSum (qh xq h) (qh xg h) (kh xk (grp h)) j x

/-- Head `4 * g + i`: the `i`-th head of group `g`. -/
def hg (g : Fin 2) (i : Fin 4) : Fin 8 := ⟨4 * g.val + i.val, by omega⟩

/-- The key/value head a column belongs to. -/
def kd (e : Fin 256) : Fin 2 := ⟨e.val / 128, by omega⟩

/-- A column's place in its key/value head. -/
def kcol (e : Fin 256) : Fin 128 := ⟨e.val % 128, by omega⟩

/-- The queries' gradient. -/
def dqArr (r : Fin 2048) (e : Fin 1024) : ℝ :=
  dqEnt (qh xq (hd e) r) (kh xk (grp (hd e))) (kh xv (grp (hd e))) (qh xg (hd e) r) (col e)

/-- The keys' gradient. -/
def dkArr (j : Fin 2304) (e : Fin 256) : ℝ := (∑ i : Fin 4, kPart xq xg xk xv j (kcol e) (hg (kd e) i)) * c

/-- The values' gradient. -/
def dvArr (j : Fin 2304) (e : Fin 256) : ℝ := ∑ i : Fin 4, vPart xq xg xk j (kcol e) (hg (kd e) i)

end

section

variable {V : (c : Dev nD) → (b : Ref sig .tc) → Buf (Elt Ideal) ((c : Thread nD τ).loc b)} {c : Dev nD}
variable {xq xg : Fin 2048 → Fin 1024 → ℝ} {xk xv : Fin 2304 → Fin 256 → ℝ}
variable (H : Entry V c xq xg xk xv)
include H

/-- The queries' gradient block a point leaves. -/
theorem outs_q (t : Fin cfg1.N) (r : Fin 2048) (x : Fin 128) : (outsAt1 V c t.val t.isLt).1 (ix2 r x)
    = ((dqEnt (qh xq (pt1 t) r) (kh xk (grp (pt1 t))) (kh xv (grp (pt1 t))) (qh xg (pt1 t) r) x : ℝ) : EReal) := by
  have e : (outsAt1 V c t.val t.isLt).1 = dqBlk (iblk1 V c 0 t) (iblk1 V c 1 t) (iblk1 V c 2 t) (iblk1 V c 3 t) (iblk1 V c 4 t) (iblk1 V c 5 t) := by
    by_cases h0 : t.val % 4 = 0
    · have h1 : ¬t.val % 4 = 3 := by omega
      exact left_A_6 V c t h0 h1
    · by_cases h1 : t.val % 4 = 3
      · exact left_C_6 V c t h0 h1
      · exact left_B_6 V c t h0 h1
  rw [e]
  exact dqBlk_real (blk1_0 H t) (blk1_1 H t) (blk1_4 H t) (blk1_5 H t) (blk1_2 H t) (blk1_3 H t) r x

/-- What one more head adds to the keys' gradient block. -/
theorem step_k (t : Fin cfg1.N) {X : Vec Ideal S2304x128 .f32} {a : Fin 2304 → Fin 128 → ℝ} (h : Holds X a) :
    Holds (dkBlk (iblk1 V c 0 t) (iblk1 V c 1 t) (iblk1 V c 2 t) (iblk1 V c 3 t) (iblk1 V c 4 t) (iblk1 V c 5 t) X)
      (fun j x => a j x + kPart xq xg xk xv j x (hOf t.val)) := by
  rw [hOf_pt]
  exact fun j x => dkBlk_real (blk1_0 H t) (blk1_1 H t) (blk1_4 H t) (blk1_5 H t) (blk1_2 H t) (blk1_3 H t) h j x

/-- What one more head adds to the values' gradient block. -/
theorem step_v (t : Fin cfg1.N) {X : Vec Ideal S2304x128 .f32} {a : Fin 2304 → Fin 128 → ℝ} (h : Holds X a) :
    Holds (dvBlk (iblk1 V c 0 t) (iblk1 V c 1 t) (iblk1 V c 4 t) (iblk1 V c 5 t) X)
      (fun j x => a j x + vPart xq xg xk j x (hOf t.val)) := by
  rw [hOf_pt]
  exact fun j x => dvBlk_real (blk1_0 H t) (blk1_1 H t) (blk1_4 H t) (blk1_5 H t) h j x

/-- The keys' and values' gradient blocks a point leaves. -/
theorem outs_kv : ∀ (n : ℕ) (hn : n < cfg1.N),
    Holds (outsAt1 V c n hn).2.1 (fun j x => if n % 4 = 3 then acc (fun m => kPart xq xg xk xv j x (hOf m)) n * Fwd.c
        else acc (fun m => kPart xq xg xk xv j x (hOf m)) n)
      ∧ Holds (outsAt1 V c n hn).2.2 (fun j x => acc (fun m => vPart xq xg xk j x (hOf m)) n) := by
  intro n
  induction n with
  | zero =>
    intro hn
    have h1 : ¬0 % 4 = 3 := by simp
    have K := step_k H ⟨0, hn⟩ zero_real
    have W := step_v H ⟨0, hn⟩ zero_real'
    refine ⟨fun j x => ?_, fun j x => ?_⟩
    · refine (congrFun (left_A_7 V c ⟨0, hn⟩ rfl h1) (ix2 j x)).trans ?_
      exact K j x
    · refine (congrFun (left_A_8 V c ⟨0, hn⟩ rfl h1) (ix2 j x)).trans ?_
      exact W j x
  | succ n ih =>
    intro hn
    obtain ⟨ihk, ihv⟩ := ih (Nat.lt_of_succ_lt hn)
    by_cases h0 : (n + 1) % 4 = 0
    · have h1 : ¬(n + 1) % 4 = 3 := by omega
      have K := step_k H ⟨n + 1, hn⟩ zero_real
      have W := step_v H ⟨n + 1, hn⟩ zero_real'
      refine ⟨fun j x => ?_, fun j x => ?_⟩
      · refine (congrFun (left_A_7 V c ⟨n + 1, hn⟩ h0 h1) (ix2 j x)).trans ?_
        dsimp only; rw [if_neg h1, acc_reset _ _ h0]
        exact K j x
      · refine (congrFun (left_A_8 V c ⟨n + 1, hn⟩ h0 h1) (ix2 j x)).trans ?_
        dsimp only; rw [acc_reset _ _ h0]
        exact W j x
    · have hn3 : ¬n % 4 = 3 := by omega
      simp only [if_neg hn3] at ihk
      have K := step_k H ⟨n + 1, hn⟩ ihk
      have W := step_v H ⟨n + 1, hn⟩ ihv
      by_cases h1 : (n + 1) % 4 = 3
      · refine ⟨fun j x => ?_, fun j x => ?_⟩
        · refine (congrFun (left_C_7 V c ⟨n + 1, hn⟩ h0 h1) (ix2 j x)).trans ?_
          dsimp only; rw [if_pos h1, acc_step _ _ h0]
          exact scale_real K j x
        · refine (congrFun (left_C_8 V c ⟨n + 1, hn⟩ h0 h1) (ix2 j x)).trans ?_
          dsimp only; rw [acc_step _ _ h0]
          exact W j x
      · refine ⟨fun j x => ?_, fun j x => ?_⟩
        · refine (congrFun (left_B_7 V c ⟨n + 1, hn⟩ h0 h1) (ix2 j x)).trans ?_
          dsimp only; rw [if_neg h1, acc_step _ _ h0]
          exact K j x
        · refine (congrFun (left_B_8 V c ⟨n + 1, hn⟩ h0 h1) (ix2 j x)).trans ?_
          dsimp only; rw [acc_step _ _ h0]
          exact W j x

omit H in
theorem cover6 (i : S2048x1024.Idx) : ∃ t : Fin cfg1.N, (cfg1.win 6).flush t = true ∧ i ∈ ((cfg1.win 6).blk t).view.set := by
  obtain ⟨r, e, rfl⟩ : ∃ r e, i = ix2 (n0 := 2048) (n1 := 1024) r e := ⟨i 0, i 1, eq_ix2 i⟩
  have hl : e.val / 128 < cfg1.N := lt_of_lt_of_eq (by omega) N_1.symm
  refine ⟨⟨e.val / 128, hl⟩, flush1_6 _, ?_⟩
  show ix2 r e ∈ ((View.whole main_v1_0).slice (win1_6.rect ⟨e.val / 128, hl⟩)).set
  rw [View.set_slice_whole, show ix2 r e = (win1_6.rect ⟨e.val / 128, hl⟩).emb (ix2 r (col e)) from ?_]
  · exact emb_mem _ _
  · rw [emb1_6]
    exact (ix2_inj _ _ _ _).mpr ⟨rfl, Fin.ext (by show e.val = 128 * (e.val / 128) + e.val % 128; omega)⟩

omit H in
theorem cover7 (i : S2304x256.Idx) : ∃ t : Fin cfg1.N, (cfg1.win 7).flush t = true ∧ i ∈ ((cfg1.win 7).blk t).view.set := by
  obtain ⟨r, e, rfl⟩ : ∃ r e, i = ix2 (n0 := 2304) (n1 := 256) r e := ⟨i 0, i 1, eq_ix2 i⟩
  have hl : 4 * (e.val / 128) + 3 < cfg1.N := lt_of_lt_of_eq (by omega) N_1.symm
  refine ⟨⟨4 * (e.val / 128) + 3, hl⟩, (flush1_7 _).mpr (by show (4 * (e.val / 128) + 3) % 4 = 3; omega), ?_⟩
  show ix2 r e ∈ ((View.whole main_v1_1).slice (win1_7.rect ⟨4 * (e.val / 128) + 3, hl⟩)).set
  rw [View.set_slice_whole, show ix2 r e = (win1_7.rect ⟨4 * (e.val / 128) + 3, hl⟩).emb (ix2 r (kcol e)) from ?_]
  · exact emb_mem _ _
  · rw [emb1_7]
    exact (ix2_inj _ _ _ _).mpr ⟨rfl, Fin.ext (by show e.val = 128 * ((4 * (e.val / 128) + 3) / 4) + e.val % 128; omega)⟩

omit H in
theorem cover8 (i : S2304x256.Idx) : ∃ t : Fin cfg1.N, (cfg1.win 8).flush t = true ∧ i ∈ ((cfg1.win 8).blk t).view.set := by
  obtain ⟨r, e, rfl⟩ : ∃ r e, i = ix2 (n0 := 2304) (n1 := 256) r e := ⟨i 0, i 1, eq_ix2 i⟩
  have hl : 4 * (e.val / 128) + 3 < cfg1.N := lt_of_lt_of_eq (by omega) N_1.symm
  refine ⟨⟨4 * (e.val / 128) + 3, hl⟩, (flush1_8 _).mpr (by show (4 * (e.val / 128) + 3) % 4 = 3; omega), ?_⟩
  show ix2 r e ∈ ((View.whole main_v1_2).slice (win1_8.rect ⟨4 * (e.val / 128) + 3, hl⟩)).set
  rw [View.set_slice_whole, show ix2 r e = (win1_8.rect ⟨4 * (e.val / 128) + 3, hl⟩).emb (ix2 r (kcol e)) from ?_]
  · exact emb_mem _ _
  · rw [emb1_8]
    exact (ix2_inj _ _ _ _).mpr ⟨rfl, Fin.ext (by show e.val = 128 * ((4 * (e.val / 128) + 3) / 4) + e.val % 128; omega)⟩

/-- The queries' gradient array after the call. -/
theorem arr6 : Holds (m := 2048) (n := 1024) ((dat1 V c).arrAt 6 cfg1.N) (dqArr xq xg xk xv) := by
  have e := (dat1 V c).arrAt_eq_of_cover 6 (fun y : S2048x1024.Idx => ((dqArr xq xg xk xv (y 0) (y 1) : ℝ) : EReal)) (fun t _ => ?_) cover6
  · rw [e]; exact fun _ _ => rfl
  show (cfg1.win 6).cut (grid1.coords t) ((dat1 V c).after 6 t) = _
  rw [after1_6]
  funext y
  obtain ⟨r, d, rfl⟩ : ∃ r d, y = ix2 (n0 := 2048) (n1 := 128) r d := ⟨y 0, y 1, eq_ix2 (n0 := 2048) (n1 := 128) y⟩
  refine (outs_q H t r d).trans ?_
  show _ = (fun y : S2048x1024.Idx => ((dqArr xq xg xk xv (y 0) (y 1) : ℝ) : EReal)) ((win1_6.rect t).emb (ix2 r d))
  rw [emb1_6]
  show _ = ((dqArr xq xg xk xv r ⟨128 * (pt1 t).val + d.val, _⟩ : ℝ) : EReal)
  rw [dqArr, hd_mk, col_mk]

omit H in
theorem kd_mk (g : Fin 2) (d : Fin 128) (p : 128 * g.val + d.val < 256) : kd ⟨128 * g.val + d.val, p⟩ = g :=
  Fin.ext (by show (128 * g.val + d.val) / 128 = g.val; omega)

omit H in
theorem kcol_mk (g : Fin 2) (d : Fin 128) (p : 128 * g.val + d.val < 256) : kcol ⟨128 * g.val + d.val, p⟩ = d :=
  Fin.ext (by show (128 * g.val + d.val) % 128 = d.val; omega)

omit H in
/-- The group's sum at a group's last point. -/
theorem acc_pt (f : Fin 8 → ℝ) (t : Fin cfg1.N) (h : t.val % 4 = 3) :
    acc (fun m => f (hOf m)) t.val = ∑ i : Fin 4, f (hg (grp (pt1 t)) i) := by
  have e : t.val = 4 * (grp (pt1 t)).val + 3 := by show t.val = 4 * (t.val / 4) + 3; omega
  refine (congrArg _ e).trans ((acc_group _ _).trans (Finset.sum_congr rfl fun i _ => congrArg f (Fin.ext (Nat.mod_eq_of_lt ?_))))
  exact (hg (grp (pt1 t)) i).isLt

/-- The keys' gradient array after the call. -/
theorem arr7 : Holds (m := 2304) (n := 256) ((dat1 V c).arrAt 7 cfg1.N) (dkArr xq xg xk xv) := by
  have e := (dat1 V c).arrAt_eq_of_cover 7 (fun y : S2304x256.Idx => ((dkArr xq xg xk xv (y 0) (y 1) : ℝ) : EReal)) (fun t ht => ?_) cover7
  · rw [e]; exact fun _ _ => rfl
  have h3 : t.val % 4 = 3 := (flush1_7 t).mp ht
  show (cfg1.win 7).cut (grid1.coords t) ((dat1 V c).after 7 t) = _
  rw [after1_7]
  funext y
  obtain ⟨r, d, rfl⟩ : ∃ r d, y = ix2 (n0 := 2304) (n1 := 128) r d := ⟨y 0, y 1, eq_ix2 (n0 := 2304) (n1 := 128) y⟩
  refine ((outs_kv H t.val t.isLt).1 r d).trans ?_
  show _ = (fun y : S2304x256.Idx => ((dkArr xq xg xk xv (y 0) (y 1) : ℝ) : EReal)) ((win1_7.rect t).emb (ix2 r d))
  rw [emb1_7]
  show _ = ((dkArr xq xg xk xv r ⟨128 * (grp (pt1 t)).val + d.val, _⟩ : ℝ) : EReal)
  dsimp only
  rw [if_pos h3, acc_pt (fun h => kPart xq xg xk xv r d h) t h3, dkArr, kd_mk, kcol_mk]

/-- The values' gradient array after the call. -/
theorem arr8 : Holds (m := 2304) (n := 256) ((dat1 V c).arrAt 8 cfg1.N) (dvArr xq xg xk) := by
  have e := (dat1 V c).arrAt_eq_of_cover 8 (fun y : S2304x256.Idx => ((dvArr xq xg xk (y 0) (y 1) : ℝ) : EReal)) (fun t ht => ?_) cover8
  · rw [e]; exact fun _ _ => rfl
  have h3 : t.val % 4 = 3 := (flush1_8 t).mp ht
  show (cfg1.win 8).cut (grid1.coords t) ((dat1 V c).after 8 t) = _
  rw [after1_8]
  funext y
  obtain ⟨r, d, rfl⟩ : ∃ r d, y = ix2 (n0 := 2304) (n1 := 128) r d := ⟨y 0, y 1, eq_ix2 (n0 := 2304) (n1 := 128) y⟩
  refine ((outs_kv H t.val t.isLt).2 r d).trans ?_
  show _ = (fun y : S2304x256.Idx => ((dvArr xq xg xk (y 0) (y 1) : ℝ) : EReal)) ((win1_8.rect t).emb (ix2 r d))
  rw [emb1_8]
  show _ = ((dvArr xq xg xk r ⟨128 * (grp (pt1 t)).val + d.val, _⟩ : ℝ) : EReal)
  dsimp only
  rw [acc_pt (fun h => vPart xq xg xk r d h) t h3, dvArr, kd_mk, kcol_mk]

end

end Cert.Bwd

end
-- ==== Proof.Run.lean ====
/- The two calls run one after the other: what the four results hold at the end, at real arguments. -/
module

public import proofs.«01_k».proof.Proof.BwdArr
public import proofs.«01_k».proof.Proof.FwdArr

@[expose] public section

set_option maxRecDepth 16384

noncomputable section

namespace Cert.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Block Cert.Fwd Cert.Bwd

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends, and each buffer that outlives the calls then holds what the last call leaves. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W2 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

variable (xq xg : Dev nD → Fin 2048 → Fin 1024 → ℝ) (xk xv : Dev nD → Fin 2304 → Fin 256 → ℝ)

/-- The arguments hold real numbers. -/
structure Args : Prop where
  q : ∀ c : Dev nD, Holds (m := 2048) (n := 1024) (m ((c : Thread nD τ).loc main_arg0)) (xq c)
  k : ∀ c : Dev nD, Holds (m := 2304) (n := 256) (m ((c : Thread nD τ).loc main_arg1)) (xk c)
  v : ∀ c : Dev nD, Holds (m := 2304) (n := 256) (m ((c : Thread nD τ).loc main_arg2)) (xv c)
  g : ∀ c : Dev nD, Holds (m := 2048) (n := 1024) (m ((c : Thread nD τ).loc main_arg3)) (xg c)

variable {m xq xg xk xv} (H : Args m xq xg xk xv)

include H

theorem fwd_o (c : Dev nD) : Holds (m := 2048) (n := 1024) (V1 m ρ c main_v0_0) (oArr (xq c) (xk c) (xv c)) := by
  have e : V1 m ρ c main_v0_0 = (dat0 (V0 m ρ) c).arrAt 3 cfg0.N := W1_arr m ρ c 3
  rw [e]
  exact arr3 (V0 m ρ) c (H.q c) (H.k c) (H.v c)

theorem fwd_l (c : Dev nD) (h : Fin 8) (r : Fin 2048) (u : Fin 1) :
    V1 m ρ c main_v0_1 (ix3 (n0 := 8) (n1 := 2048) (n2 := 1) h r u) = ((lArr (xq c) (xk c) h r : ℝ) : EReal) := by
  have e : V1 m ρ c main_v0_1 = (dat0 (V0 m ρ) c).arrAt 4 cfg0.N := W1_arr m ρ c 4
  rw [e]
  exact arr4 (V0 m ρ) c (H.q c) (H.k c) h r u

/-- What the gradient call is entered with. -/
theorem entry (c : Dev nD) : Entry (V1 m ρ) c (xq c) (xg c) (xk c) (xv c) where
  q := by rw [show V1 m ρ c main_arg0 = m ((c : Thread nD τ).loc main_arg0) from W1_args m ρ c main_arg0 (by decide)]; exact H.q c
  k := by rw [show V1 m ρ c main_arg1 = m ((c : Thread nD τ).loc main_arg1) from W1_args m ρ c main_arg1 (by decide)]; exact H.k c
  v := by rw [show V1 m ρ c main_arg2 = m ((c : Thread nD τ).loc main_arg2) from W1_args m ρ c main_arg2 (by decide)]; exact H.v c
  g := by rw [show V1 m ρ c main_arg3 = m ((c : Thread nD τ).loc main_arg3) from W1_args m ρ c main_arg3 (by decide)]; exact H.g c
  o := fwd_o ρ H c
  l := fwd_l ρ H c

/-- The results at the end of a run: the output and the three gradients; the arguments are unchanged. -/
theorem values : θ_run defs (onTc (τ := τ) (main (F := Ideal))) ⟨m, fun _ => 0, ρ⟩ (fun r => ∀ c : Dev nD,
      Holds (m := 2048) (n := 1024) (r.2.mem ((c : Thread nD τ).loc main_v0_0)) (oArr (xq c) (xk c) (xv c))
      ∧ Holds (m := 2048) (n := 1024) (r.2.mem ((c : Thread nD τ).loc main_v1_0)) (dqArr (xq c) (xg c) (xk c) (xv c))
      ∧ Holds (m := 2304) (n := 256) (r.2.mem ((c : Thread nD τ).loc main_v1_1)) (dkArr (xq c) (xg c) (xk c) (xv c))
      ∧ Holds (m := 2304) (n := 256) (r.2.mem ((c : Thread nD τ).loc main_v1_2)) (dvArr (xq c) (xg c) (xk c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    have eo : r.2.mem ((c : Thread nD τ).loc main_v0_0) = V1 m ρ c main_v0_0 :=
      (h c _ (mem_uc main_v0_0 (by decide))).trans (W2_of m ρ c main_v0_0 (by decide))
    have eq : r.2.mem ((c : Thread nD τ).loc main_v1_0) = (dat1 (V1 m ρ) c).arrAt 6 cfg1.N :=
      (h c _ (mem_uc main_v1_0 (by decide))).trans (W2_arr m ρ c 6)
    have ek : r.2.mem ((c : Thread nD τ).loc main_v1_1) = (dat1 (V1 m ρ) c).arrAt 7 cfg1.N :=
      (h c _ (mem_uc main_v1_1 (by decide))).trans (W2_arr m ρ c 7)
    have ev : r.2.mem ((c : Thread nD τ).loc main_v1_2) = (dat1 (V1 m ρ) c).arrAt 8 cfg1.N :=
      (h c _ (mem_uc main_v1_2 (by decide))).trans (W2_arr m ρ c 8)
    rw [eo, eq, ek, ev]
    exact ⟨fwd_o ρ H c, arr6 (entry ρ H c), arr7 (entry ρ H c), arr8 (entry ρ H c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c)⟩) (run m ρ)

end Cert.Run

end
-- ==== Proof.Ref.lean ====
/- The reference's forward part at real entries: the scores, their exponentials, the weights and the output, indexed by
   key/value head `g`, query head `i` of its group, query row `r`, key `j` and place `d` in a head. -/
module

public import proofs.«01_k».proof.Proof.Gen.ReferenceIdeal.Read
public import proofs.«01_k».proof.Proof.BwdArr

@[expose] public section

set_option maxRecDepth 16384

noncomputable section

namespace Cert.Ref

open Idealize.ShloMosaic Idealize.SL.Sem Cert.ReferenceIdeal Cert.ReferenceIdeal.Read Cert.Lift Cert.Softmax Cert.Block Cert.Bwd
open Cert.Fwd (c sc outp qh kh grp hd col oArr)

variable {x0 x3 : FVec Ideal S2048x1024 .bf16} {x1 x2 : FVec Ideal S2304x256 .bf16}
variable {xq xg : Fin 2048 → Fin 1024 → ℝ} {xk xv : Fin 2304 → Fin 256 → ℝ}

/-- The column of place `d` in query head `4 * g + i`. -/
theorem split_q (r : Fin 2048) (g : Fin 2) (i : Fin 4) (d : Fin 128) :
    idx_main_v4 (ix4 (n0 := 2048) (n1 := 2) (n2 := 4) (n3 := 128) r g i d) = ix2 (n0 := 2048) (n1 := 1024) r ⟨128 * (hg g i).val + d.val, by have := (hg g i).isLt; omega⟩ := by
  refine (eq_ix2 (n0 := 2048) (n1 := 1024) _).trans ((ix2_inj _ _ _ _).mpr ⟨Fin.ext ?_, Fin.ext ?_⟩)
  · show (((r.val * 2 + g.val) * 4 + i.val) * 128 + d.val) / 1024 = r.val; omega
  · show (((r.val * 2 + g.val) * 4 + i.val) * 128 + d.val) % 1024 = 128 * (4 * g.val + i.val) + d.val; omega

/-- The column of place `d` in key/value head `g`. -/
theorem split_k (j : Fin 2304) (g : Fin 2) (d : Fin 128) :
    idx_main_v5 (ix3 (n0 := 2304) (n1 := 2) (n2 := 128) j g d) = ix2 (n0 := 2304) (n1 := 256) j ⟨128 * g.val + d.val, by omega⟩ := by
  refine (eq_ix2 (n0 := 2304) (n1 := 256) _).trans ((ix2_inj _ _ _ _).mpr ⟨Fin.ext ?_, Fin.ext ?_⟩)
  · show ((j.val * 2 + g.val) * 128 + d.val) / 256 = j.val; omega
  · show ((j.val * 2 + g.val) * 128 + d.val) % 256 = 128 * g.val + d.val; omega

theorem grp_hg (g : Fin 2) (i : Fin 4) : grp (hg g i) = g := Fin.ext (by show (4 * g.val + i.val) / 4 = g.val; omega)

section Read

variable (hq : Holds (m := 2048) (n := 1024) x0 xq) (hk : Holds (m := 2304) (n := 256) x1 xk)
  (hv : Holds (m := 2304) (n := 256) x2 xv) (hw : Holds (m := 2048) (n := 1024) x3 xg)

include hq in
theorem v4_real (r : Fin 2048) (g : Fin 2) (i : Fin 4) (d : Fin 128) :
    val_main_v4 (F := Ideal) x0 (ix4 (n0 := 2048) (n1 := 2) (n2 := 4) (n3 := 128) r g i d) = ((qh xq (hg g i) r d : ℝ) : EReal) := by
  rw [val_main_v4_apply, split_q]
  exact hq _ _

include hw in
theorem v44_real (r : Fin 2048) (g : Fin 2) (i : Fin 4) (d : Fin 128) :
    val_main_v44 (F := Ideal) x3 (ix4 (n0 := 2048) (n1 := 2) (n2 := 4) (n3 := 128) r g i d) = ((qh xg (hg g i) r d : ℝ) : EReal) := by
  rw [val_main_v44_apply, show idx_main_v44 (ix4 (n0 := 2048) (n1 := 2) (n2 := 4) (n3 := 128) r g i d) = _ from split_q r g i d]
  exact hw _ _

include hk in
theorem v5_real (j : Fin 2304) (g : Fin 2) (d : Fin 128) :
    val_main_v5 (F := Ideal) x1 (ix3 (n0 := 2304) (n1 := 2) (n2 := 128) j g d) = ((kh xk g j d : ℝ) : EReal) := by
  rw [val_main_v5_apply, split_k]
  exact hk _ _

include hv in
theorem v6_real (j : Fin 2304) (g : Fin 2) (d : Fin 128) :
    val_main_v6 (F := Ideal) x2 (ix3 (n0 := 2304) (n1 := 2) (n2 := 128) j g d) = ((kh xv g j d : ℝ) : EReal) := by
  rw [val_main_v6_apply, show idx_main_v6 (ix3 (n0 := 2304) (n1 := 2) (n2 := 128) j g d) = _ from split_k j g d]
  exact hv _ _

include hq hk in
/-- A score. -/
theorem v8_real (g : Fin 2) (i : Fin 4) (r : Fin 2048) (j : Fin 2304) :
    val_main_v8 (F := Ideal) x0 x1 (ix4 (n0 := 2) (n1 := 4) (n2 := 2048) (n3 := 2304) g i r j)
      = ((sc (qh xq (hg g i) r) (kh xk g) j : ℝ) : EReal) := by
  rw [val_main_v8_apply, val_main_v7_apply]
  have e := dot_eq (fun d : Fin 128 => val_main_v5 (F := Ideal) x1 (ix3 (n0 := 2304) (n1 := 2) (n2 := 128) j g d))
    (fun d => val_main_v4 (F := Ideal) x0 (ix4 (n0 := 2048) (n1 := 2) (n2 := 4) (n3 := 128) r g i d)) _ _ (v5_real hk j g) (v4_real hq r g i)
  refine Eq.trans (Finset.sum_congr rfl fun d _ => ?_) (e.trans (congrArg _ (Finset.sum_congr rfl fun d _ => mul_comm _ _)))
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl | ⟨3, _⟩ => rfl

/-- The square root the scores are divided by. -/
theorem v9_real (i : S_.Idx) : val_main_v9 (F := Ideal) i = ((Real.sqrt 128 : ℝ) : EReal) := by
  rw [val_main_v9_apply, val_main_cst_apply]
  show Ideal.sqrt (Ideal.ofBits .f32 0x43000000#32) = _
  have e : Ideal.ofBits .f32 0x43000000#32 = ((128 : ℝ) : EReal) := by
    simp [Ideal.ofBits, Ideal.ieee]
    rw [← EReal.coe_mul]
    norm_num
  rw [e, Ideal.sqrt_coe, if_neg (by norm_num)]

theorem sqrt_ne : Real.sqrt 128 ≠ 0 := (Real.sqrt_pos.mpr (by norm_num)).ne'

include hq hk in
/-- A scaled score. -/
theorem v11_real (g : Fin 2) (i : Fin 4) (r : Fin 2048) (j : Fin 2304) :
    val_main_v11 (F := Ideal) x0 x1 (ix4 (n0 := 2) (n1 := 4) (n2 := 2048) (n3 := 2304) g i r j)
      = ((c * sc (qh xq (hg g i) r) (kh xk g) j : ℝ) : EReal) := by
  rw [val_main_v11_apply, v8_real hq hk, val_main_v10_apply, v9_real]
  refine (div_real _ _ sqrt_ne).trans (congrArg _ ?_)
  rw [div_eq_mul_inv, mul_comm]

include hq hk in
/-- The row maximum is some real. -/
theorem v12_real (g : Fin 2) (i : Fin 4) (r : Fin 2048) :
    ∃ m : ℝ, val_main_v12 (F := Ideal) x0 x1 (ix3 (n0 := 2) (n1 := 4) (n2 := 2048) g i r) = ((m : ℝ) : EReal) := by
  have e := v11_real hq hk g i r
  revert e
  unfold val_main_v12
  generalize val_main_v11 (F := Ideal) x0 x1 = y
  intro e
  pointwise [val_main_cst_0]
  exact max_eq _ _ e

include hq hk in
/-- The exponentials of a row, shifted by one real. -/
theorem v32_real (g : Fin 2) (i : Fin 4) (r : Fin 2048) :
    ∃ m : ℝ, ∀ j : Fin 2304, val_main_v32 (F := Ideal) x0 x1 (ix4 (n0 := 2) (n1 := 4) (n2 := 2048) (n3 := 2304) g i r j)
      = ((Real.exp (c * sc (qh xq (hg g i) r) (kh xk g) j - m) : ℝ) : EReal) := by
  obtain ⟨m, hm⟩ := v12_real hq hk g i r
  refine ⟨m, fun j => ?_⟩
  have e : val_main_v30 (F := Ideal) x0 x1 (ix4 (n0 := 2) (n1 := 4) (n2 := 2048) (n3 := 2304) g i r j) = ((m : ℝ) : EReal) := by
    rw [val_main_v30_apply, val_main_v29_apply, val_main_v19_apply, val_main_v18_apply, val_main_cst_2_apply,
      show idx_main_v29 (idx_main_v30 (ix4 (n0 := 2) (n1 := 4) (n2 := 2048) (n3 := 2304) g i r j)) = ix3 (n0 := 2) (n1 := 4) (n2 := 2048) g i r from
        funext fun a => by match a with | ⟨0, _⟩ => rfl | ⟨1, _⟩ => rfl | ⟨2, _⟩ => rfl, hm]
    show max (Ideal.ofBits .f32 0xFF800000#32) _ = _
    rw [ofBits_neg_inf]; exact max_bot_left _
  rw [val_main_v32_apply, val_main_v31_apply, v11_real hq hk, e]
  show Ideal.exp (((c * sc (qh xq (hg g i) r) (kh xk g) j : ℝ) : EReal) - ((m : ℝ) : EReal)) = _
  rw [← EReal.coe_sub, Ideal.exp_coe]

/-- The sum of a row's exponentials. -/
theorem v33_sum (g : Fin 2) (i : Fin 4) (r : Fin 2048) :
    val_main_v33 (F := Ideal) x0 x1 (ix3 (n0 := 2) (n1 := 4) (n2 := 2048) g i r)
      = ∑ j : Fin 2304, val_main_v32 (F := Ideal) x0 x1 (ix4 (n0 := 2) (n1 := 4) (n2 := 2048) (n3 := 2304) g i r j) := by
  rw [val_main_v33_apply, val_main_cst_8_apply]
  refine (congrArg (· + _) (Ideal.ofBits_zero .f32)).trans ((zero_add _).trans (Finset.sum_congr rfl fun j _ => congrArg _ ?_))
  funext a; match a with | ⟨0, _⟩ => rfl | ⟨1, _⟩ => rfl | ⟨2, _⟩ => rfl | ⟨3, _⟩ => rfl

theorem v34_sum (g : Fin 2) (i : Fin 4) (r : Fin 2048) (u : Fin 1) :
    val_main_v34 (F := Ideal) x0 x1 (ix4 (n0 := 2) (n1 := 4) (n2 := 2048) (n3 := 1) g i r u)
      = ∑ j : Fin 2304, val_main_v32 (F := Ideal) x0 x1 (ix4 (n0 := 2) (n1 := 4) (n2 := 2048) (n3 := 2304) g i r j) := by
  rw [val_main_v34_apply, ← v33_sum]
  exact congrArg _ (funext fun a => by match a with | ⟨0, _⟩ => rfl | ⟨1, _⟩ => rfl | ⟨2, _⟩ => rfl)

include hq hk in
/-- A weight. -/
theorem v36_real (g : Fin 2) (i : Fin 4) (r : Fin 2048) (j : Fin 2304) :
    val_main_v36 (F := Ideal) x0 x1 (ix4 (n0 := 2) (n1 := 4) (n2 := 2048) (n3 := 2304) g i r j)
      = ((pw (qh xq (hg g i) r) (kh xk g) j : ℝ) : EReal) := by
  obtain ⟨m, hm⟩ := v32_real hq hk g i r
  rw [val_main_v36_apply, val_main_v35_apply,
    show idx_main_v35 (ix4 (n0 := 2) (n1 := 4) (n2 := 2048) (n3 := 2304) g i r j) = ix4 (n0 := 2) (n1 := 4) (n2 := 2048) (n3 := 1) g i r 0 from
      funext fun a => by match a with | ⟨0, _⟩ => rfl | ⟨1, _⟩ => rfl | ⟨2, _⟩ => rfl | ⟨3, _⟩ => rfl, v34_sum]
  exact ref_wt c (sc (qh xq (hg g i) r) (kh xk g)) m _ hm j

include hq hk hv in
/-- An entry of the output. -/
theorem v41_real (r : Fin 2048) (g : Fin 2) (i : Fin 4) (d : Fin 128) :
    val_main_v41 (F := Ideal) x0 x1 x2 (ix4 (n0 := 2048) (n1 := 2) (n2 := 4) (n3 := 128) r g i d)
      = ((outp (qh xq (hg g i) r) (kh xk g) (kh xv g) d : ℝ) : EReal) := by
  rw [val_main_v41_apply, val_main_v40_apply]
  have e := dot_eq (fun j : Fin 2304 => val_main_v6 (F := Ideal) x2 (ix3 (n0 := 2304) (n1 := 2) (n2 := 128) j g d))
    (fun j => val_main_v36 (F := Ideal) x0 x1 (ix4 (n0 := 2) (n1 := 4) (n2 := 2048) (n3 := 2304) g i r j)) _ _ (fun j => v6_real hv j g d) (v36_real hq hk g i r)
  refine Eq.trans (Finset.sum_congr rfl fun j _ => ?_) (e.trans (congrArg _ (Finset.sum_congr rfl fun j _ => mul_comm _ _)))
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl | ⟨3, _⟩ => rfl

theorem hg_hd (e : Fin 1024) (p : e.val / 512 < 2) (q : e.val / 128 % 4 < 4) : hg ⟨e.val / 512, p⟩ ⟨e.val / 128 % 4, q⟩ = hd e :=
  Fin.ext (by show 4 * (e.val / 512) + e.val / 128 % 4 = e.val / 128; omega)

/-- Where a column of the queries' shape sits among the heads. -/
theorem join_q (r : Fin 2048) (e : Fin 1024) :
    idx_main_v42 (ix2 (n0 := 2048) (n1 := 1024) r e)
      = ix4 (n0 := 2048) (n1 := 2) (n2 := 4) (n3 := 128) r ⟨e.val / 512, by omega⟩ ⟨e.val / 128 % 4, by omega⟩ (col e) := by
  funext a
  match a with
  | ⟨0, _⟩ => exact Fin.ext (by show (r.val * 1024 + e.val) / 1024 = r.val; omega)
  | ⟨1, _⟩ => exact Fin.ext (by show (r.val * 1024 + e.val) / 512 % 2 = e.val / 512; omega)
  | ⟨2, _⟩ => exact Fin.ext (by show (r.val * 1024 + e.val) / 128 % 4 = e.val / 128 % 4; omega)
  | ⟨3, _⟩ => exact Fin.ext (by show (r.val * 1024 + e.val) % 128 = e.val % 128; omega)

theorem grp_hd (e : Fin 1024) (p : e.val / 512 < 2) : (⟨e.val / 512, p⟩ : Fin 2) = grp (hd e) :=
  Fin.ext (by show e.val / 512 = e.val / 128 / 4; omega)

include hq hk hv in
/-- The reference's output. -/
theorem out_holds : Holds (m := 2048) (n := 1024) (val_main_v43 (F := Ideal) x0 x1 x2) (oArr xq xk xv) := fun r e => by
  rw [val_main_v43_apply, val_main_v42_apply, join_q]
  refine (v41_real hq hk hv _ _ _ _).trans ?_
  rw [oArr, hg_hd, grp_hd]

end Read

end Cert.Ref

end
-- ==== Proof.RefGrad.lean ====
/- The reference's gradients at real entries: of the scores, and from them of the queries, the keys and the values. -/
module

public import proofs.«01_k».proof.Proof.Ref

@[expose] public section

set_option maxRecDepth 16384

noncomputable section

namespace Cert.Ref

open Idealize.ShloMosaic Idealize.SL.Sem Cert.ReferenceIdeal Cert.ReferenceIdeal.Read Cert.Lift Cert.Softmax Cert.Block Cert.Bwd
open Cert.Fwd (c sc outp qh kh grp hd col oArr)

variable {x0 x3 : FVec Ideal S2048x1024 .bf16} {x1 x2 : FVec Ideal S2304x256 .bf16}
variable {xq xg : Fin 2048 → Fin 1024 → ℝ} {xk xv : Fin 2304 → Fin 256 → ℝ}
variable (hq : Holds (m := 2048) (n := 1024) x0 xq) (hk : Holds (m := 2304) (n := 256) x1 xk)
  (hv : Holds (m := 2304) (n := 256) x2 xv) (hw : Holds (m := 2048) (n := 1024) x3 xg)

include hw in
theorem v45_real (g : Fin 2) (d : Fin 128) (i : Fin 4) (r : Fin 2048) :
    val_main_v45 (F := Ideal) x3 (ix4 (n0 := 2) (n1 := 128) (n2 := 4) (n3 := 2048) g d i r) = ((qh xg (hg g i) r d : ℝ) : EReal) := by
  rw [val_main_v45_apply, ← v44_real hw r g i d]
  exact congrArg _ (funext fun a => by match a with | ⟨0, _⟩ => rfl | ⟨1, _⟩ => rfl | ⟨2, _⟩ => rfl | ⟨3, _⟩ => rfl)

/-- The gradient of a weight. -/
def dp (q : Fin 128 → ℝ) (v : Fin 2304 → Fin 128 → ℝ) (j : Fin 2304) : ℝ := ∑ d, q d * v j d

include hv hw in
theorem v46_real (g : Fin 2) (i : Fin 4) (r : Fin 2048) (j : Fin 2304) :
    val_main_v46 (F := Ideal) x2 x3 (ix4 (n0 := 2) (n1 := 4) (n2 := 2048) (n3 := 2304) g i r j)
      = ((dp (qh xg (hg g i) r) (kh xv g) j : ℝ) : EReal) := by
  rw [val_main_v46_apply]
  have e := dot_eq (fun d : Fin 128 => val_main_v45 (F := Ideal) x3 (ix4 (n0 := 2) (n1 := 128) (n2 := 4) (n3 := 2048) g d i r))
    (fun d => val_main_v6 (F := Ideal) x2 (ix3 (n0 := 2304) (n1 := 2) (n2 := 128) j g d)) _ _ (fun d => v45_real hw g d i r) (v6_real hv j g)
  refine Eq.trans (Finset.sum_congr rfl fun d _ => ?_) e
  refine congrArg₂ (· * ·) (congrArg _ ?_) (congrArg _ ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl

/-- The reciprocal of a row's squared sum. -/
theorem v49_sum (g : Fin 2) (i : Fin 4) (r : Fin 2048) (j : Fin 2304) :
    val_main_v49 (F := Ideal) x0 x1 (ix4 (n0 := 2) (n1 := 4) (n2 := 2048) (n3 := 2304) g i r j)
      = Ideal.div 1 ((∑ j : Fin 2304, val_main_v32 (F := Ideal) x0 x1 (ix4 (n0 := 2) (n1 := 4) (n2 := 2048) (n3 := 2304) g i r j))
        * (∑ j : Fin 2304, val_main_v32 (F := Ideal) x0 x1 (ix4 (n0 := 2) (n1 := 4) (n2 := 2048) (n3 := 2304) g i r j))) := by
  rw [val_main_v49_apply,
    show idx_main_v49 (ix4 (n0 := 2) (n1 := 4) (n2 := 2048) (n3 := 2304) g i r j) = ix4 (n0 := 2) (n1 := 4) (n2 := 2048) (n3 := 1) g i r 0 from
      funext fun a => by match a with | ⟨0, _⟩ => rfl | ⟨1, _⟩ => rfl | ⟨2, _⟩ => rfl | ⟨3, _⟩ => rfl,
    val_main_v39_apply, val_main_v38_apply, val_main_cst_9_apply, val_main_v37_apply, v34_sum]
  show Ideal.div (Ideal.ofBits .f32 0x3F800000#32) _ = _
  have e : Ideal.ofBits .f32 0x3F800000#32 = 1 := by
    simp [Ideal.ofBits, Ideal.ieee]
    rw [← EReal.coe_mul]
    norm_num
  rw [e]
  rfl

/-- One summand of the quotient's derivative. -/
theorem v51_eq (g : Fin 2) (i : Fin 4) (r : Fin 2048) (l : Fin 2304) :
    val_main_v51 (F := Ideal) x0 x1 x2 x3 (ix4 (n0 := 2) (n1 := 4) (n2 := 2048) (n3 := 2304) g i r l)
      = val_main_v46 (F := Ideal) x2 x3 (ix4 (n0 := 2) (n1 := 4) (n2 := 2048) (n3 := 2304) g i r l)
        * Ideal.div 1 ((∑ j : Fin 2304, val_main_v32 (F := Ideal) x0 x1 (ix4 (n0 := 2) (n1 := 4) (n2 := 2048) (n3 := 2304) g i r j))
          * (∑ j : Fin 2304, val_main_v32 (F := Ideal) x0 x1 (ix4 (n0 := 2) (n1 := 4) (n2 := 2048) (n3 := 2304) g i r j)))
        * val_main_v32 (F := Ideal) x0 x1 (ix4 (n0 := 2) (n1 := 4) (n2 := 2048) (n3 := 2304) g i r l) := by
  rw [val_main_v51_apply, val_main_v50_apply, v49_sum]
  rfl

/-- The weights' gradients summed over a row, as the quotient's derivative needs them. -/
theorem v58_sum (g : Fin 2) (i : Fin 4) (r : Fin 2048) (j : Fin 2304) :
    val_main_v58 (F := Ideal) x0 x1 x2 x3 (ix4 (n0 := 2) (n1 := 4) (n2 := 2048) (n3 := 2304) g i r j)
      = -∑ j : Fin 2304, val_main_v51 (F := Ideal) x0 x1 x2 x3 (ix4 (n0 := 2) (n1 := 4) (n2 := 2048) (n3 := 2304) g i r j) := by
  rw [val_main_v58_apply, val_main_v57_apply, val_main_cst_11_apply]
  refine (congrArg (· + _) (Ideal.ofBits_zero .f32)).trans ((zero_add _).trans ((Fin.sum_univ_one _).trans ?_))
  rw [val_main_v54_apply, val_main_v53_apply, val_main_v52_apply, val_main_cst_10_apply]
  refine congrArg (fun z : EReal => -z) ?_
  refine (congrArg (· + _) (Ideal.ofBits_zero .f32)).trans ((zero_add _).trans (Finset.sum_congr rfl fun j _ => congrArg _ ?_))
  funext a
  match a with
  | ⟨0, _⟩ => exact Fin.ext (by show (((g.val * 4 + i.val) * 2048 + r.val) * 1 + 0) / 8192 = g.val; omega)
  | ⟨1, _⟩ => exact Fin.ext (by show (((g.val * 4 + i.val) * 2048 + r.val) * 1 + 0) / 2048 % 4 = i.val; omega)
  | ⟨2, _⟩ => exact Fin.ext (by show (((g.val * 4 + i.val) * 2048 + r.val) * 1 + 0) % 2048 = r.val; omega)
  | ⟨3, _⟩ => rfl

include hq hk hv hw in
/-- The gradient of a scaled score. -/
theorem v60_real (g : Fin 2) (i : Fin 4) (r : Fin 2048) (j : Fin 2304) :
    val_main_v60 (F := Ideal) x0 x1 x2 x3 (ix4 (n0 := 2) (n1 := 4) (n2 := 2048) (n3 := 2304) g i r j)
      = ((ds (qh xq (hg g i) r) (kh xk g) (kh xv g) (qh xg (hg g i) r) j : ℝ) : EReal) := by
  obtain ⟨m, hm⟩ := v32_real hq hk g i r
  rw [val_main_v60_apply, val_main_v59_apply, v58_sum, val_main_v56_apply, val_main_v55_apply,
    show idx_main_v55 (ix4 (n0 := 2) (n1 := 4) (n2 := 2048) (n3 := 2304) g i r j) = ix4 (n0 := 2) (n1 := 4) (n2 := 2048) (n3 := 1) g i r 0 from
      funext fun a => by match a with | ⟨0, _⟩ => rfl | ⟨1, _⟩ => rfl | ⟨2, _⟩ => rfl | ⟨3, _⟩ => rfl, v34_sum]
  rw [Finset.sum_congr rfl fun l _ => v51_eq g i r l]
  exact ref_dscore c (sc (qh xq (hg g i) r) (kh xk g)) m _ hm (dp (qh xg (hg g i) r) (kh xv g)) _ (v46_real hv hw g i r) j

include hq hk hv hw in
/-- The gradient of a score. -/
theorem v62_real (g : Fin 2) (i : Fin 4) (r : Fin 2048) (j : Fin 2304) :
    val_main_v62 (F := Ideal) x0 x1 x2 x3 (ix4 (n0 := 2) (n1 := 4) (n2 := 2048) (n3 := 2304) g i r j)
      = ((ds (qh xq (hg g i) r) (kh xk g) (kh xv g) (qh xg (hg g i) r) j * c : ℝ) : EReal) := by
  rw [val_main_v62_apply, v60_real hq hk hv hw, val_main_v61_apply, v9_real]
  exact (div_real _ _ sqrt_ne).trans (congrArg _ (div_eq_mul_inv _ _))

include hq hk hv hw in
theorem v63_real (g : Fin 2) (j : Fin 2304) (r : Fin 2048) (i : Fin 4) :
    val_main_v63 (F := Ideal) x0 x1 x2 x3 (ix4 (n0 := 2) (n1 := 2304) (n2 := 2048) (n3 := 4) g j r i)
      = ((ds (qh xq (hg g i) r) (kh xk g) (kh xv g) (qh xg (hg g i) r) j * c : ℝ) : EReal) := by
  rw [val_main_v63_apply, ← v62_real hq hk hv hw]
  exact congrArg _ (funext fun a => by match a with | ⟨0, _⟩ => rfl | ⟨1, _⟩ => rfl | ⟨2, _⟩ => rfl | ⟨3, _⟩ => rfl)

include hq hk hv hw in
/-- An entry of the queries' gradient. -/
theorem v65_real (r : Fin 2048) (g : Fin 2) (i : Fin 4) (d : Fin 128) :
    val_main_v65 (F := Ideal) x0 x1 x2 x3 (ix4 (n0 := 2048) (n1 := 2) (n2 := 4) (n3 := 128) r g i d)
      = ((dqEnt (qh xq (hg g i) r) (kh xk g) (kh xv g) (qh xg (hg g i) r) d : ℝ) : EReal) := by
  rw [val_main_v65_apply, val_main_v64_apply]
  have e := dot_eq (fun j : Fin 2304 => val_main_v63 (F := Ideal) x0 x1 x2 x3 (ix4 (n0 := 2) (n1 := 2304) (n2 := 2048) (n3 := 4) g j r i))
    (fun j => val_main_v5 (F := Ideal) x1 (ix3 (n0 := 2304) (n1 := 2) (n2 := 128) j g d)) _ _ (fun j => v63_real hq hk hv hw g j r i) (fun j => v5_real hk j g d)
  refine Eq.trans (Finset.sum_congr rfl fun j _ => ?_) (e.trans (congrArg _ ?_))
  · refine congrArg₂ (· * ·) (congrArg _ ?_) (congrArg _ ?_)
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl
  · rw [dqEnt, Finset.sum_mul]
    exact Finset.sum_congr rfl fun j _ => by ring

include hq hk hv hw in
/-- The reference's gradient of the queries. -/
theorem dq_holds : Holds (m := 2048) (n := 1024) (val_main_v70 (F := Ideal) x0 x1 x2 x3) (dqArr xq xg xk xv) := fun r e => by
  rw [val_main_v70_apply, show idx_main_v70 (ix2 (n0 := 2048) (n1 := 1024) r e) = _ from join_q r e]
  refine (v65_real hq hk hv hw _ _ _ _).trans ?_
  rw [dqArr, hg_hd, grp_hd]

include hq hk hv hw in
/-- An entry of the keys' gradient: a sum over the rows and over the heads of the group. -/
theorem v66_real (g : Fin 2) (j : Fin 2304) (d : Fin 128) :
    val_main_v66 (F := Ideal) x0 x1 x2 x3 (ix3 (n0 := 2) (n1 := 2304) (n2 := 128) g j d)
      = (((∑ i : Fin 4, kPart xq xg xk xv j d (hg g i)) * c : ℝ) : EReal) := by
  have e1 := v63_real hq hk hv hw g j
  have e2 := fun r i => v4_real hq r g i d
  revert e1 e2
  unfold val_main_v66
  generalize val_main_v63 (F := Ideal) x0 x1 x2 x3 = y
  generalize val_main_v4 (F := Ideal) x0 = z
  intro e1 e2
  pointwise
  refine (sum_eq _ _ fun r => dot_eq _ _ _ _ (e1 r) (e2 r)).trans (congrArg _ ?_)
  rw [Finset.sum_comm, Finset.sum_mul]
  refine Finset.sum_congr rfl fun i _ => ?_
  rw [kPart, dkSum, grp_hg, Finset.sum_mul]
  exact Finset.sum_congr rfl fun r _ => by ring

include hq hk hw in
/-- An entry of the values' gradient: a sum over the rows and over the heads of the group. -/
theorem v47_real (g : Fin 2) (d : Fin 128) (j : Fin 2304) :
    val_main_v47 (F := Ideal) x0 x1 x3 (ix3 (n0 := 2) (n1 := 128) (n2 := 2304) g d j)
      = ((∑ i : Fin 4, vPart xq xg xk j d (hg g i) : ℝ) : EReal) := by
  have e1 := v45_real hw g d
  have e2 := fun i r => v36_real hq hk g i r j
  revert e1 e2
  unfold val_main_v47
  generalize val_main_v45 (F := Ideal) x3 = y
  generalize val_main_v36 (F := Ideal) x0 x1 = z
  intro e1 e2
  pointwise
  refine (sum_eq _ _ fun i => dot_eq _ _ _ _ (e1 i) (e2 i)).trans (congrArg _ (Finset.sum_congr rfl fun i _ => ?_))
  rw [vPart, dvSum, grp_hg]
  exact Finset.sum_congr rfl fun r _ => mul_comm _ _

/-- Where a column of the keys' shape sits among the heads. -/
theorem join_k (j : Fin 2304) (e : Fin 256) :
    idx_main_v68 (ix2 (n0 := 2304) (n1 := 256) j e) = ix3 (n0 := 2304) (n1 := 2) (n2 := 128) j (kd e) (kcol e) := by
  funext a
  match a with
  | ⟨0, _⟩ => exact Fin.ext (by show (j.val * 256 + e.val) / 256 = j.val; omega)
  | ⟨1, _⟩ => exact Fin.ext (by show (j.val * 256 + e.val) / 128 % 2 = e.val / 128; omega)
  | ⟨2, _⟩ => exact Fin.ext (by show (j.val * 256 + e.val) % 128 = e.val % 128; omega)

include hq hk hv hw in
/-- The reference's gradient of the keys. -/
theorem dk_holds : Holds (m := 2304) (n := 256) (val_main_v69 (F := Ideal) x0 x1 x2 x3) (dkArr xq xg xk xv) := fun j e => by
  rw [val_main_v69_apply, show idx_main_v69 (ix2 (n0 := 2304) (n1 := 256) j e) = _ from join_k j e, val_main_v67_apply, dkArr, ← v66_real hq hk hv hw]
  exact congrArg _ (funext fun a => by match a with | ⟨0, _⟩ => rfl | ⟨1, _⟩ => rfl | ⟨2, _⟩ => rfl)

include hq hk hw in
/-- The reference's gradient of the values. -/
theorem dv_holds : Holds (m := 2304) (n := 256) (val_main_v68 (F := Ideal) x0 x1 x3) (dvArr xq xg xk) := fun j e => by
  rw [val_main_v68_apply, join_k, val_main_v48_apply, dvArr, ← v47_real hq hk hw]
  exact congrArg _ (funext fun a => by match a with | ⟨0, _⟩ => rfl | ⟨1, _⟩ => rfl | ⟨2, _⟩ => rfl)

end Cert.Ref

end
-- ==== Proof.Real2.lean ====
/- The feed-forward block's arguments, when their absolute values are all below infinity, hold real numbers. -/
module

public import proofs.«01_k».proof.Pre_finite2
public import proofs.«01_k».proof.Proof.Real

@[expose] public section

noncomputable section

namespace Cert.Real2

open Idealize.ShloMosaic Cert.Pre_finite2 Cert.Block Cert.Real

theorem facts : Cert.Pre_finite2.Facts where
  bitsLt_bf16_f32 := by decide
  bcast_S_S2048x2048 := by decide
  bcast_S_S11264x2048 := by decide
  bcast_S_S3x11264 := by decide
  bcast_S_S1x11264 := by decide
  bcast_S_S5632x2048 := by decide

attribute [local instance] facts

variable (Z : FVec Ideal S2048x2048 .bf16) (W : FVec Ideal S11264x2048 .bf16) (K : FVec Ideal S3x11264 .f32) (B : FVec Ideal S1x11264 .f32)
  (D : FVec Ideal S5632x2048 .bf16) (G : FVec Ideal S2048x2048 .bf16)

theorem first (h : (fn (F := Ideal) Z W K B D G).1 = fun _ => 1#1) : ∃ x : Fin 2048 → Fin 2048 → ℝ, Holds (m := 2048) (n := 2048) Z x :=
  holds_of_test (m := 2048) (n := 2048) Z fun i => congrFun h i

theorem second (h : (fn (F := Ideal) Z W K B D G).2.1 = fun _ => 1#1) : ∃ x : Fin 11264 → Fin 2048 → ℝ, Holds (m := 11264) (n := 2048) W x :=
  holds_of_test (m := 11264) (n := 2048) W fun i => congrFun h i

theorem third (h : (fn (F := Ideal) Z W K B D G).2.2.1 = fun _ => 1#1) : ∃ x : Fin 3 → Fin 11264 → ℝ, Holds (m := 3) (n := 11264) K x :=
  holds_of_test (m := 3) (n := 11264) K fun i => congrFun h i

theorem fourth (h : (fn (F := Ideal) Z W K B D G).2.2.2.1 = fun _ => 1#1) : ∃ x : Fin 1 → Fin 11264 → ℝ, Holds (m := 1) (n := 11264) B x :=
  holds_of_test (m := 1) (n := 11264) B fun i => congrFun h i

theorem fifth (h : (fn (F := Ideal) Z W K B D G).2.2.2.2.1 = fun _ => 1#1) : ∃ x : Fin 5632 → Fin 2048 → ℝ, Holds (m := 5632) (n := 2048) D x :=
  holds_of_test (m := 5632) (n := 2048) D fun i => congrFun h i

theorem sixth (h : (fn (F := Ideal) Z W K B D G).2.2.2.2.2 = fun _ => 1#1) : ∃ x : Fin 2048 → Fin 2048 → ℝ, Holds (m := 2048) (n := 2048) G x :=
  holds_of_test (m := 2048) (n := 2048) G fun i => congrFun h i

end Cert.Real2

end
-- ==== Proof.Conv.lean ====
/- The gated feed-forward layer with a three-tap convolution along the rows, one column at a time, on real numbers: the
   layer, and its derivative against a given derivative of its result. A column is a function of the row. -/
module

public import proofs.«01_k».proof.Proof.Lift
public import proofs.«01_k».proof.Proof.Block

@[expose] public section

set_option maxRecDepth 16384

noncomputable section

namespace Cert.Conv

open Idealize.ShloMosaic Cert.Lift Cert.Block

/-- The row before, zero before the first. -/
def prv (u : Fin 2048 → ℝ) (r : Fin 2048) : ℝ := if r.val = 0 then 0 else u ⟨r.val - 1, by omega⟩

/-- The row after, zero after the last. -/
def nxt (u : Fin 2048 → ℝ) (r : Fin 2048) : ℝ := if h : r.val + 1 < 2048 then u ⟨r.val + 1, h⟩ else 0

/-- What the convolution's tap `j` reads. -/
def tap (j : Fin 3) (u : Fin 2048 → ℝ) : Fin 2048 → ℝ :=
  match j with
  | 0 => prv u
  | 1 => u
  | 2 => nxt u

/-- The convolution of a column. -/
def conv (w : Fin 3 → ℝ) (b : ℝ) (u : Fin 2048 → ℝ) (r : Fin 2048) : ℝ := b + w 0 * prv u r + w 1 * u r + w 2 * nxt u r

/-- The derivative with respect to the convolution's argument, from the derivative with respect to its result. -/
def back (w : Fin 3 → ℝ) (d : Fin 2048 → ℝ) (r : Fin 2048) : ℝ := w 0 * nxt d r + w 1 * d r + w 2 * prv d r

/-- The logistic function. -/
def sg (x : ℝ) : ℝ := (1 + Real.exp (-x))⁻¹

/-- The gate: the first half through `x · sg x`, times the second half. -/
def gate (a b : ℝ) : ℝ := a * sg a * b

/-- The gate's derivative in its first argument, times `d`. -/
def gateA (a b d : ℝ) : ℝ := d * b * (sg a * (1 + a * (1 - sg a)))

/-- The gate's derivative in its second argument, times `d`. -/
def gateB (a d : ℝ) : ℝ := d * (a * sg a)

/-- One entry of the product of `x` with the transpose of `y`. -/
def mulT {m n k : ℕ} (x : Fin m → Fin k → ℝ) (y : Fin n → Fin k → ℝ) (r : Fin m) (c : Fin n) : ℝ := ∑ i, x r i * y c i

/-- One entry of the product of the transpose of `x` with `y`. -/
def tMul {m n k : ℕ} (x : Fin k → Fin m → ℝ) (y : Fin k → Fin n → ℝ) (r : Fin m) (c : Fin n) : ℝ := ∑ i, x i r * y i c

/-- The row mask's bit for row `k`. -/
theorem mask_eq (r k : ℕ) (hr : r < 2048) (hk : k < 2048) :
    IntOp.cmpi .eq (BitVec.ofNat 32 r) (BitVec.ofNat 32 k) = if r = k then 1#1 else 0#1 := by
  by_cases h : r = k
  · subst h; simp [IntOp.cmpi]
  · have : ¬BitVec.ofNat 32 r = BitVec.ofNat 32 k := fun e => h (by
      have := congrArg BitVec.toNat e
      simp only [BitVec.toNat_ofNat] at this
      omega)
    rw [if_neg h]
    show BitVec.ofBool (BitVec.ofNat 32 r == BitVec.ofNat 32 k) = 0#1
    rw [beq_eq_false_iff_ne.mpr this]; rfl

/-- Rotating a column down by one row and clearing the first row gives the row before. -/
theorem prv_eq (F : Fin 2048 → EReal) (u : Fin 2048 → ℝ) (h : ∀ r, F r = ((u r : ℝ) : EReal)) (r : Fin 2048)
    (p : (r.val + 2048 - 1) % 2048 < 2048) :
    Scalar.select (IntOp.cmpi .eq (BitVec.ofNat 32 r.val) 0#32) 0 (F ⟨(r.val + 2048 - 1) % 2048, p⟩) = ((prv u r : ℝ) : EReal) := by
  rw [show (0#32 : BitVec 32) = BitVec.ofNat 32 0 from rfl, mask_eq _ _ r.isLt (by omega), h, prv]
  by_cases e : r.val = 0
  · simp [e, Scalar.select]
  · rw [if_neg e, if_neg e]
    simp only [Scalar.select]
    have hx : (⟨(r.val + 2048 - 1) % 2048, p⟩ : Fin 2048) = ⟨r.val - 1, by omega⟩ := Fin.ext (by show (r.val + 2048 - 1) % 2048 = r.val - 1; omega)
    rw [hx]; simp

/-- Rotating a column up by one row and clearing the last row gives the row after. -/
theorem nxt_eq (F : Fin 2048 → EReal) (u : Fin 2048 → ℝ) (h : ∀ r, F r = ((u r : ℝ) : EReal)) (r : Fin 2048)
    (p : (r.val + 2048 - 2047) % 2048 < 2048) :
    Scalar.select (IntOp.cmpi .eq (BitVec.ofNat 32 r.val) 2047#32) 0 (F ⟨(r.val + 2048 - 2047) % 2048, p⟩) = ((nxt u r : ℝ) : EReal) := by
  rw [mask_eq _ _ r.isLt (by omega), h, nxt]
  by_cases e : r.val = 2047
  · simp [e, Scalar.select]
  · have e' : r.val + 1 < 2048 := by omega
    rw [if_neg e, dif_pos e']
    have hx : (⟨(r.val + 2048 - 2047) % 2048, p⟩ : Fin 2048) = ⟨r.val + 1, e'⟩ := Fin.ext (by show (r.val + 2048 - 2047) % 2048 = r.val + 1; omega)
    rw [hx]; simp [Scalar.select]

/-- The row before, times a number. -/
theorem prv_mul_eq (F : Fin 2048 → EReal) (u : Fin 2048 → ℝ) (h : ∀ r, F r = ((u r : ℝ) : EReal)) (r : Fin 2048)
    (p : (r.val + 2048 - 1) % 2048 < 2048) (g : EReal) (k : ℝ) (hg : g = ((k : ℝ) : EReal)) :
    Scalar.select (IntOp.cmpi .eq (BitVec.ofNat 32 r.val) 0#32) 0 (g * F ⟨(r.val + 2048 - 1) % 2048, p⟩) = ((k * prv u r : ℝ) : EReal) := by
  refine (prv_eq (fun r => g * F r) (fun r => k * u r) (fun r => by rw [hg, h, EReal.coe_mul]) r p).trans ?_
  unfold prv; congr 1; split <;> simp

/-- The row after, times a number. -/
theorem nxt_mul_eq (F : Fin 2048 → EReal) (u : Fin 2048 → ℝ) (h : ∀ r, F r = ((u r : ℝ) : EReal)) (r : Fin 2048)
    (p : (r.val + 2048 - 2047) % 2048 < 2048) (g : EReal) (k : ℝ) (hg : g = ((k : ℝ) : EReal)) :
    Scalar.select (IntOp.cmpi .eq (BitVec.ofNat 32 r.val) 2047#32) 0 (g * F ⟨(r.val + 2048 - 2047) % 2048, p⟩) = ((k * nxt u r : ℝ) : EReal) := by
  refine (nxt_eq (fun r => g * F r) (fun r => k * u r) (fun r => by rw [hg, h, EReal.coe_mul]) r p).trans ?_
  unfold nxt; congr 1; split <;> simp

/-- The gate's derivative in its first argument, in the other arrangement: as the sum of the factor's and of the
    logistic function's. -/
theorem gateA_eq (a b d : ℝ) : gateA a b d = d * b * sg a + a * (d * b) * (sg a * (1 - sg a)) := by
  unfold gateA; ring

end Cert.Conv

end
-- ==== Proof.UpPay.lean ====
/- The first call's arithmetic on one block of 128 columns of each half: the two products with the argument, and the gate
   of the two convolved columns, at real entries. -/
module

public import proofs.«01_k».proof.Proof.Gen.Kernel2Ideal.Skeleton
public import proofs.«01_k».proof.Proof.Conv

@[expose] public section

set_option maxRecDepth 16384

noncomputable section

namespace Cert.Up

open Idealize.ShloMosaic Idealize.SL.Sem Cert.Kernel2Ideal Cert.Kernel2Ideal.Gen Cert.Lift Cert.Block Cert.Conv

variable {Z : Vec Ideal S2048x2048 .bf16} {z : Fin 2048 → Fin 2048 → ℝ}
variable {Wa Wb : Vec Ideal S128x2048 .bf16} {wa wb : Fin 128 → Fin 2048 → ℝ}

theorem pay3_real (hZ : Holds Z z) (ha : Holds Wa wa) (r : Fin 2048) (c : Fin 128) :
    k0_pay3 Wa Wb Z (ix2 r c) = ((mulT z wa r c : ℝ) : EReal) := by
  pointwise [k0_pay3, k0_pay2]
  exact dot_eq _ _ _ _ (hZ r) (ha c)

theorem pay4_real (hZ : Holds Z z) (hb : Holds Wb wb) (r : Fin 2048) (c : Fin 128) :
    k0_pay4 Wa Wb Z (ix2 r c) = ((mulT z wb r c : ℝ) : EReal) := by
  pointwise [k0_pay4, k0_pay2]
  exact dot_eq _ _ _ _ (hZ r) (hb c)

theorem pay7_real (hZ : Holds Z z) (ha : Holds Wa wa) (c : Fin 128) (r : Fin 2048) :
    k0_pay7 Wa Wb Z (ix2 r c) = ((mulT z wa r c : ℝ) : EReal) := by
  pointwise [k0_pay7, k0_pay2]
  exact dot_eq _ _ _ _ (hZ r) (ha c)

theorem pay8_real (hZ : Holds Z z) (hb : Holds Wb wb) (c : Fin 128) (r : Fin 2048) :
    k0_pay8 Wa Wb Z (ix2 r c) = ((mulT z wb r c : ℝ) : EReal) := by
  pointwise [k0_pay8, k0_pay2]
  exact dot_eq _ _ _ _ (hZ r) (hb c)

/-- A row of the taps' weights or of the biases, at real entries. -/
abbrev Row (X : Vec Ideal S1x128 .f32) (x : Fin 128 → ℝ) : Prop := ∀ c, X (ix2 0 c) = ((x c : ℝ) : EReal)

variable {A0 A1 A2 Ab B0 B1 B2 Bb : Vec Ideal S1x128 .f32} {a b : Fin 3 → Fin 128 → ℝ} {ab bb : Fin 128 → ℝ}

theorem pay1_real (hZ : Holds Z z) (ha : Holds Wa wa) (hb : Holds Wb wb) (hA0 : Row A0 (a 0)) (hA1 : Row A1 (a 1))
    (hA2 : Row A2 (a 2)) (hAb : Row Ab ab) (hB0 : Row B0 (b 0)) (hB1 : Row B1 (b 1)) (hB2 : Row B2 (b 2)) (hBb : Row Bb bb)
    (r : Fin 2048) (c : Fin 128) :
    k0_pay1 k0_pay5 k0_pay6 (k0_pay8 Wa Wb Z) (k0_pay9 Wa Wb Z) (k0_pay10 Wa Wb Z Ab A0) (k0_pay11 Wa Wb Z A1) A2 Bb B0 B1 B2 (ix2 r c)
      = ((gate (conv (fun j => a j c) (ab c) (fun r => mulT z wa r c) r) (conv (fun j => b j c) (bb c) (fun r => mulT z wb r c) r) : ℝ) : EReal) := by
  have pa := prv_mul_eq (fun r => k0_pay7 Wa Wb Z (ix2 r c)) _ (pay7_real hZ ha c) r (Nat.mod_lt _ (by omega)) _ _ (hA0 c)
  have na := nxt_mul_eq (fun r => k0_pay7 Wa Wb Z (ix2 r c)) _ (pay7_real hZ ha c) r (Nat.mod_lt _ (by omega)) _ _ (hA2 c)
  have pb := prv_mul_eq (fun r => k0_pay8 Wa Wb Z (ix2 r c)) _ (pay8_real hZ hb c) r (Nat.mod_lt _ (by omega)) _ _ (hB0 c)
  have nb := nxt_mul_eq (fun r => k0_pay8 Wa Wb Z (ix2 r c)) _ (pay8_real hZ hb c) r (Nat.mod_lt _ (by omega)) _ _ (hB2 c)
  beta_reduce at pa na pb nb
  pointwise [k0_pay1, k0_pay9, k0_pay10, k0_pay11, k0_pay5, k0_pay6]
  rw [pa, na, pb, nb, pay7_real hZ ha, pay8_real hZ hb, hA1, hAb, hB1, hBb]
  simp only [← EReal.coe_mul, ← EReal.coe_add, Ideal.logistic_coe]
  rfl

end Cert.Up

end
-- ==== Proof.UpArr.lean ====
/- The first call's arrays: the two halves of the argument's product with the weights, and the gated columns. Its grid
   point `t` takes columns `128 t`, …, `128 t + 127` of each half. -/
module

public import proofs.«01_k».proof.Proof.Gen.Kernel2Ideal.Frame
public import proofs.«01_k».proof.Proof.UpPay
public import Idealize.ShloMosaic.Lib.Pipeline.ValueKit

@[expose] public section

set_option maxRecDepth 16384

noncomputable section

namespace Cert.Up

open Idealize.ShloMosaic Idealize.ShloMosaic.TcCoe Idealize.SL.Sem Cert.Kernel2Ideal Cert.Kernel2Ideal.Gen Cert.Lift Cert.Block Cert.Conv

/-- The first half of a row of 11264 entries. -/
def lo {α : Type} (x : Fin 11264 → α) (f : Fin 5632) : α := x ⟨f.val, by omega⟩

/-- The second half. -/
def hi {α : Type} (x : Fin 11264 → α) (f : Fin 5632) : α := x ⟨5632 + f.val, by omega⟩

/-- Entries `o`, …, `o + n - 1`. -/
def cut {α : Type} {N : ℕ} (n o : ℕ) (h : o + n ≤ N) (x : Fin N → α) (a : Fin n) : α := x ⟨o + a.val, by omega⟩

/-- The convolved columns of a half whose weights are `w`, taps `k` and biases `b`. -/
def cv {n : ℕ} (z : Fin 2048 → Fin 2048 → ℝ) (w : Fin n → Fin 2048 → ℝ) (k : Fin 3 → Fin n → ℝ) (b : Fin n → ℝ) (r : Fin 2048) (f : Fin n) : ℝ :=
  conv (fun j => k j f) (b f) (fun r => mulT z w r f) r

/-- The gated columns. -/
def hid (z : Fin 2048 → Fin 2048 → ℝ) (w : Fin 11264 → Fin 2048 → ℝ) (k : Fin 3 → Fin 11264 → ℝ) (b : Fin 1 → Fin 11264 → ℝ)
    (r : Fin 2048) (f : Fin 5632) : ℝ :=
  gate (cv z (lo w) (fun j => lo (k j)) (lo (b 0)) r f) (cv z (hi w) (fun j => hi (k j)) (hi (b 0)) r f)

theorem le0 (t : Fin cfg0.N) : t.val * 128 + 128 ≤ 5632 := by have := lt_of_lt_of_eq t.isLt N_0; omega

theorem idx0_0 : ∀ t : Fin cfg0.N, win0_0.index t = ![0, 0] := by decide +kernel
theorem idx0_1 : ∀ t : Fin cfg0.N, win0_1.index t = ![t.val, 0] := by decide +kernel
theorem idx0_2 : ∀ t : Fin cfg0.N, win0_2.index t = ![t.val + 44, 0] := by decide +kernel
theorem idx0_3 : ∀ t : Fin cfg0.N, win0_3.index t = ![0, t.val] := by decide +kernel
theorem idx0_4 : ∀ t : Fin cfg0.N, win0_4.index t = ![0, t.val + 44] := by decide +kernel
theorem idx0_5 : ∀ t : Fin cfg0.N, win0_5.index t = ![0, t.val] := by decide +kernel
theorem idx0_6 : ∀ t : Fin cfg0.N, win0_6.index t = ![0, t.val + 44] := by decide +kernel
theorem idx0_8 : ∀ t : Fin cfg0.N, win0_8.index t = ![0, t.val] := by decide +kernel
theorem idx0_9 : ∀ t : Fin cfg0.N, win0_9.index t = ![0, t.val] := by decide +kernel
theorem idx0_10 : ∀ t : Fin cfg0.N, win0_10.index t = ![0, t.val] := by decide +kernel

variable (V : (c : Dev nD) → (b : Ref sig .tc) → Buf (Elt Ideal) ((c : Thread nD τ).loc b)) (c : Dev nD)
variable {z : Fin 2048 → Fin 2048 → ℝ} {w : Fin 11264 → Fin 2048 → ℝ} {k : Fin 3 → Fin 11264 → ℝ} {b : Fin 1 → Fin 11264 → ℝ}

theorem blk0_0 (H : Holds (m := 2048) (n := 2048) (V c main_arg0) z) (t : Fin cfg0.N) : Holds (m := 2048) (n := 2048) (iblk0 V c 0 t) z := fun r d => by
  refine Eq.trans ?_ (H r d)
  blk_simp [iblk0]
  congr 1
  blk_ext [idx0_0]

theorem blk0_1 (H : Holds (m := 11264) (n := 2048) (V c main_arg1) w) (t : Fin cfg0.N) :
    Holds (m := 128) (n := 2048) (iblk0 V c 1 t) (cut 128 (t.val * 128) (le0 t) (lo w)) := fun r d => by
  have := le0 t
  refine Eq.trans ?_ (H ⟨t.val * 128 + r.val, by omega⟩ d)
  blk_simp [iblk0]
  congr 1
  blk_ext [idx0_1]

theorem blk0_2 (H : Holds (m := 11264) (n := 2048) (V c main_arg1) w) (t : Fin cfg0.N) :
    Holds (m := 128) (n := 2048) (iblk0 V c 2 t) (cut 128 (t.val * 128) (le0 t) (hi w)) := fun r d => by
  have := le0 t
  refine Eq.trans ?_ (H ⟨5632 + (t.val * 128 + r.val), by omega⟩ d)
  blk_simp [iblk0]
  congr 1
  blk_ext [idx0_2]

theorem blk0_3 (H : Holds (m := 3) (n := 11264) (V c main_arg2) k) (t : Fin cfg0.N) :
    Holds (m := 3) (n := 128) (iblk0 V c 3 t) (fun j => cut 128 (t.val * 128) (le0 t) (lo (k j))) := fun r d => by
  have := le0 t
  refine Eq.trans ?_ (H r ⟨t.val * 128 + d.val, by omega⟩)
  blk_simp [iblk0]
  congr 1
  blk_ext [idx0_3]

theorem blk0_4 (H : Holds (m := 3) (n := 11264) (V c main_arg2) k) (t : Fin cfg0.N) :
    Holds (m := 3) (n := 128) (iblk0 V c 4 t) (fun j => cut 128 (t.val * 128) (le0 t) (hi (k j))) := fun r d => by
  have := le0 t
  refine Eq.trans ?_ (H r ⟨5632 + (t.val * 128 + d.val), by omega⟩)
  blk_simp [iblk0]
  congr 1
  blk_ext [idx0_4]

theorem blk0_5 (H : Holds (m := 1) (n := 11264) (V c main_arg3) b) (t : Fin cfg0.N) :
    Holds (m := 1) (n := 128) (iblk0 V c 5 t) (fun j => cut 128 (t.val * 128) (le0 t) (lo (b j))) := fun r d => by
  have := le0 t
  refine Eq.trans ?_ (H r ⟨t.val * 128 + d.val, by omega⟩)
  blk_simp [iblk0]
  congr 1
  blk_ext [idx0_5]

theorem blk0_6 (H : Holds (m := 1) (n := 11264) (V c main_arg3) b) (t : Fin cfg0.N) :
    Holds (m := 1) (n := 128) (iblk0 V c 6 t) (fun j => cut 128 (t.val * 128) (le0 t) (hi (b j))) := fun r d => by
  have := le0 t
  refine Eq.trans ?_ (H r ⟨5632 + (t.val * 128 + d.val), by omega⟩)
  blk_simp [iblk0]
  congr 1
  blk_ext [idx0_6]

/-- The first half of the product. -/
theorem arr8 (hz : Holds (m := 2048) (n := 2048) (V c main_arg0) z) (hw : Holds (m := 11264) (n := 2048) (V c main_arg1) w) :
    Holds (m := 2048) (n := 5632) ((dat0 V c).arrAt 8 cfg0.N) (mulT z (lo w)) := by
  have e := (dat0 V c).arrAt_eq_of_covers 8 (fun y : S2048x5632.Idx => ((mulT z (lo w) (y 0) (y 1) : ℝ) : EReal)) (by decide +kernel) (fun t hf y => ?_)
  · rw [e]; exact fun _ _ => rfl
  blk_simp
  rw [after0_8]
  frame_out
  have := le0 t
  obtain ⟨r, d, rfl⟩ : ∃ r d, y = ix2 (n0 := 2048) (n1 := 128) r d := ⟨y 0, y 1, eq_ix2 (n0 := 2048) (n1 := 128) y⟩
  have i : ((View.whole main_v1_0).slice (win0_8.rect t)).emb (ix2 r d) = ix2 (n0 := 2048) (n1 := 5632) r ⟨t.val * 128 + d.val, by omega⟩ := by
    blk_ext [idx0_8]
  rw [i]
  exact pay3_real (blk0_0 V c hz t) (blk0_1 V c hw t) r d

/-- The second half of the product. -/
theorem arr9 (hz : Holds (m := 2048) (n := 2048) (V c main_arg0) z) (hw : Holds (m := 11264) (n := 2048) (V c main_arg1) w) :
    Holds (m := 2048) (n := 5632) ((dat0 V c).arrAt 9 cfg0.N) (mulT z (hi w)) := by
  have e := (dat0 V c).arrAt_eq_of_covers 9 (fun y : S2048x5632.Idx => ((mulT z (hi w) (y 0) (y 1) : ℝ) : EReal)) (by decide +kernel) (fun t hf y => ?_)
  · rw [e]; exact fun _ _ => rfl
  blk_simp
  rw [after0_9]
  frame_out
  have := le0 t
  obtain ⟨r, d, rfl⟩ : ∃ r d, y = ix2 (n0 := 2048) (n1 := 128) r d := ⟨y 0, y 1, eq_ix2 (n0 := 2048) (n1 := 128) y⟩
  have i : ((View.whole main_v1_1).slice (win0_9.rect t)).emb (ix2 r d) = ix2 (n0 := 2048) (n1 := 5632) r ⟨t.val * 128 + d.val, by omega⟩ := by
    blk_ext [idx0_9]
  rw [i]
  exact pay4_real (blk0_0 V c hz t) (blk0_2 V c hw t) r d

/-- A row of three, loaded. -/
theorem ld_row {X : Vec Ideal S3x128 .f32} {x : Fin 3 → Fin 128 → ℝ} (H : Holds (m := 3) (n := 128) X x) (j : Fin 3) (o : ℕ) (h : j.val = o)
    (inb) : Row (View.ld X (Rect.unit (s := S3x128) ![o, 0] S1x128.size inb)) (x j) := fun c =>
  (View.ld_unit_apply_of X ![o, 0] S1x128.size inb (ix2 (n0 := 1) (n1 := 128) 0 c) (ix2 (n0 := 3) (n1 := 128) j c)
    (fun a => match a with | ⟨0, _⟩ => h | ⟨1, _⟩ => (Nat.zero_add _).symm)).trans (H j c)

/-- The gated columns. -/
theorem arr10 (hz : Holds (m := 2048) (n := 2048) (V c main_arg0) z) (hw : Holds (m := 11264) (n := 2048) (V c main_arg1) w)
    (hk : Holds (m := 3) (n := 11264) (V c main_arg2) k) (hb : Holds (m := 1) (n := 11264) (V c main_arg3) b) :
    Holds (m := 2048) (n := 5632) ((dat0 V c).arrAt 10 cfg0.N) (hid z w k b) := by
  have e := (dat0 V c).arrAt_eq_of_covers 10 (fun y : S2048x5632.Idx => ((hid z w k b (y 0) (y 1) : ℝ) : EReal)) (by decide +kernel) (fun t hf y => ?_)
  · rw [e]; exact fun _ _ => rfl
  blk_simp
  rw [after0_10]
  frame_out
  have := le0 t
  obtain ⟨r, d, rfl⟩ : ∃ r d, y = ix2 (n0 := 2048) (n1 := 128) r d := ⟨y 0, y 1, eq_ix2 (n0 := 2048) (n1 := 128) y⟩
  have i : ((View.whole main_v1_2).slice (win0_10.rect t)).emb (ix2 r d) = ix2 (n0 := 2048) (n1 := 5632) r ⟨t.val * 128 + d.val, by omega⟩ := by
    blk_ext [idx0_10]
  rw [i]
  exact pay1_real (a := fun j => cut 128 (t.val * 128) (le0 t) (lo (k j))) (b := fun j => cut 128 (t.val * 128) (le0 t) (hi (k j)))
    (blk0_0 V c hz t) (blk0_1 V c hw t) (blk0_2 V c hw t) (ld_row (blk0_3 V c hk t) 0 0 rfl _) (ld_row (blk0_3 V c hk t) 1 1 rfl _) (ld_row (blk0_3 V c hk t) 2 2 rfl _) (blk0_5 V c hb t 0)
    (ld_row (blk0_4 V c hk t) 0 0 rfl _) (ld_row (blk0_4 V c hk t) 1 1 rfl _) (ld_row (blk0_4 V c hk t) 2 2 rfl _) (blk0_6 V c hb t 0) r d

end Cert.Up

end
-- ==== Proof.DxPay.lean ====
/- The second call's arithmetic on one block of 256 columns of each half, at real entries: the derivative of the gate,
   its sums against what the convolution's taps read, and the derivative with respect to the convolution's argument. -/
module

public import proofs.«01_k».proof.Proof.Gen.Kernel2Ideal.Skeleton
public import proofs.«01_k».proof.Proof.Conv

@[expose] public section

set_option maxRecDepth 16384

noncomputable section

namespace Cert.Dx

open Idealize.ShloMosaic Idealize.SL.Sem Cert.Kernel2Ideal Cert.Kernel2Ideal.Gen Cert.Lift Cert.Block Cert.Conv

/-- A column of a block, at real entries. -/
abbrev Col (X : Vec Ideal S2048x256 .f32) (c : Fin 256) (x : Fin 2048 → ℝ) : Prop := ∀ r, X (ix2 r c) = ((x r : ℝ) : EReal)

theorem pay4_real {D : Vec Ideal S2048x2048 .bf16} {W : Vec Ideal S256x2048 .bf16} {d : Fin 2048 → Fin 2048 → ℝ} {w : Fin 256 → Fin 2048 → ℝ}
    (hD : Holds D d) (hW : Holds W w) (c : Fin 256) (r : Fin 2048) : k1_pay4 D W (ix2 r c) = ((mulT d w r c : ℝ) : EReal) := by
  pointwise [k1_pay4]
  exact dot_eq _ _ _ _ (hD r) (hW c)

section

variable {U : Vec Ideal S2048x256 .bf16} {u : Fin 2048 → Fin 256 → ℝ} (hU : Holds U u) (c : Fin 256) (r : Fin 2048)
include hU

theorem pay7_real : k1_pay7 U (ix2 r c) = ((u r c : ℝ) : EReal) := by
  pointwise [k1_pay7]
  exact hU r c

theorem pay8_real : k1_pay8 U (ix2 r c) = ((u r c : ℝ) : EReal) := by
  pointwise [k1_pay8]
  exact hU r c

theorem pay9_real : k1_pay9 U (ix2 r c) = ((prv (fun r => u r c) r : ℝ) : EReal) := by
  pointwise [k1_pay9, k1_pay5]
  exact prv_eq (fun r => k1_pay7 U (ix2 r c)) _ (pay7_real hU c) r (Nat.mod_lt _ (by omega))

theorem pay10_real : k1_pay10 U (ix2 r c) = ((nxt (fun r => u r c) r : ℝ) : EReal) := by
  pointwise [k1_pay10, k1_pay6]
  exact nxt_eq (fun r => k1_pay7 U (ix2 r c)) _ (pay7_real hU c) r (Nat.mod_lt _ (by omega))

theorem pay11_real : k1_pay11 U (ix2 r c) = ((prv (fun r => u r c) r : ℝ) : EReal) := by
  pointwise [k1_pay11, k1_pay5]
  exact prv_eq (fun r => k1_pay8 U (ix2 r c)) _ (pay8_real hU c) r (Nat.mod_lt _ (by omega))

theorem pay12_real : k1_pay12 U (ix2 r c) = ((nxt (fun r => u r c) r : ℝ) : EReal) := by
  pointwise [k1_pay12, k1_pay6]
  exact nxt_eq (fun r => k1_pay8 U (ix2 r c)) _ (pay8_real hU c) r (Nat.mod_lt _ (by omega))

theorem pay13_real {B W : Vec Ideal S1x256 .f32} {b w : ℝ} (hB : B (ix2 0 c) = ((b : ℝ) : EReal)) (hW : W (ix2 0 c) = ((w : ℝ) : EReal)) :
    k1_pay13 U B W (ix2 r c) = ((b + w * prv (fun r => u r c) r : ℝ) : EReal) := by
  pointwise [k1_pay13]
  rw [pay9_real hU, hB, hW]
  simp only [← EReal.coe_mul, ← EReal.coe_add]

end

section

variable {Dh Ua Ub Na Pb Nb Pa0 : Vec Ideal S2048x256 .f32} {A1 A2 B0 B1 B2 Bb : Vec Ideal S1x256 .f32}
variable {c : Fin 256} {d ua ub : Fin 2048 → ℝ} {wa wb : Fin 3 → ℝ} {ba bb : ℝ}

/-- What a column's derivative is computed from. -/
structure In (Dh Ua Ub Na Pb Nb Pa0 : Vec Ideal S2048x256 .f32) (A1 A2 Bb B0 B1 B2 : Vec Ideal S1x256 .f32) (c : Fin 256)
    (d ua ub : Fin 2048 → ℝ) (wa wb : Fin 3 → ℝ) (ba bb : ℝ) : Prop where
  hd : Col Dh c d
  hua : Col Ua c ua
  hub : Col Ub c ub
  hna : Col Na c (nxt ua)
  hpb : Col Pb c (prv ub)
  hnb : Col Nb c (nxt ub)
  hpa : Col Pa0 c fun r => ba + wa 0 * prv ua r
  ha1 : A1 (ix2 0 c) = ((wa 1 : ℝ) : EReal)
  ha2 : A2 (ix2 0 c) = ((wa 2 : ℝ) : EReal)
  hbb : Bb (ix2 0 c) = ((bb : ℝ) : EReal)
  hb0 : B0 (ix2 0 c) = ((wb 0 : ℝ) : EReal)
  hb1 : B1 (ix2 0 c) = ((wb 1 : ℝ) : EReal)
  hb2 : B2 (ix2 0 c) = ((wb 2 : ℝ) : EReal)

/-- The derivative with respect to the first half's convolved column. -/
def dA (d ua ub : Fin 2048 → ℝ) (wa wb : Fin 3 → ℝ) (ba bb : ℝ) (r : Fin 2048) : ℝ := gateA (conv wa ba ua r) (conv wb bb ub r) (d r)

/-- The derivative with respect to the second half's convolved column. -/
def dB (d ua : Fin 2048 → ℝ) (wa : Fin 3 → ℝ) (ba : ℝ) (r : Fin 2048) : ℝ := gateB (conv wa ba ua r) (d r)

variable (H : In Dh Ua Ub Na Pb Nb Pa0 A1 A2 Bb B0 B1 B2 c d ua ub wa wb ba bb)
include H

theorem pay14_real (r : Fin 2048) : k1_pay14 Ua Na Pa0 A1 A2 (ix2 r c) = ((conv wa ba ua r : ℝ) : EReal) := by
  pointwise [k1_pay14]
  rw [H.hpa, H.ha1, H.hua, H.ha2, H.hna]
  simp only [← EReal.coe_mul, ← EReal.coe_add]
  rfl

theorem pay15_real (r : Fin 2048) : k1_pay15 Ua Na Pa0 A1 A2 (ix2 r c) = ((sg (conv wa ba ua r) : ℝ) : EReal) := by
  pointwise [k1_pay15]
  rw [pay14_real H, Ideal.logistic_coe]
  rfl

theorem pay16_real (r : Fin 2048) :
    k1_pay16 Dh Ua Ub Na Pb Nb Pa0 A1 A2 Bb B0 B1 B2 (ix2 r c) = ((dA d ua ub wa wb ba bb r : ℝ) : EReal) := by
  pointwise [k1_pay16]
  rw [pay14_real H, pay15_real H, H.hd, H.hbb, H.hb0, H.hpb, H.hb1, H.hub, H.hb2, H.hnb, ← EReal.coe_one]
  simp only [← EReal.coe_mul, ← EReal.coe_add, ← EReal.coe_sub]
  rfl

theorem pay17_real (r : Fin 2048) : k1_pay17 Dh Ua Na Pa0 A1 A2 (ix2 r c) = ((dB d ua wa ba r : ℝ) : EReal) := by
  pointwise [k1_pay17]
  rw [pay14_real H, pay15_real H, H.hd]
  simp only [← EReal.coe_mul]
  rfl

theorem pay18_real : k1_pay18 Dh Ua Ub Na Pb Nb Pa0 A1 A2 Bb B0 B1 B2 (ix2 0 c) = ((∑ r, dA d ua ub wa wb ba bb r : ℝ) : EReal) := by
  pointwise [k1_pay18]
  exact sum_eq _ _ (pay16_real H)

theorem pay19_real {P : Vec Ideal S2048x256 .f32} (hP : Col P c (prv ua)) :
    k1_pay19 Dh Ua Ub P Na Pb Nb Pa0 A1 A2 Bb B0 B1 B2 (ix2 0 c) = ((∑ r, dA d ua ub wa wb ba bb r * prv ua r : ℝ) : EReal) := by
  pointwise [k1_pay19]
  exact dot_eq _ _ _ _ (pay16_real H) hP

end

section

variable {X D : Vec Ideal S2048x256 .f32} {c : Fin 256} {x d : Fin 2048 → ℝ} (hX : Col X c x) (hD : Col D c d)
include hX hD

theorem pay20_real : k1_pay20 (F := Ideal) X D (ix2 0 c) = ((∑ r, d r * x r : ℝ) : EReal) := by
  pointwise [k1_pay20]
  exact dot_eq _ _ _ _ hD hX

theorem pay21_real : k1_pay21 (F := Ideal) X D (ix2 0 c) = ((∑ r, d r * x r : ℝ) : EReal) := by
  pointwise [k1_pay21]
  exact dot_eq _ _ _ _ hD hX

theorem pay24_real : k1_pay24 (F := Ideal) X D (ix2 0 c) = ((∑ r, d r * x r : ℝ) : EReal) := by
  pointwise [k1_pay24]
  exact dot_eq _ _ _ _ hD hX

theorem pay1_real : k1_pay1 (F := Ideal) X D (ix2 0 c) = ((∑ r, d r * x r : ℝ) : EReal) := by
  pointwise [k1_pay1]
  exact dot_eq _ _ _ _ hD hX

theorem pay2_real : k1_pay2 (F := Ideal) X D (ix2 0 c) = ((∑ r, d r * x r : ℝ) : EReal) := by
  pointwise [k1_pay2]
  exact dot_eq _ _ _ _ hD hX

end

section

variable {D : Vec Ideal S2048x256 .f32} {c : Fin 256} {d : Fin 2048 → ℝ} (hD : Col D c d)
include hD

theorem pay23_real : k1_pay23 (F := Ideal) D (ix2 0 c) = ((∑ r, d r : ℝ) : EReal) := by
  pointwise [k1_pay23]
  exact sum_eq _ _ hD

variable {W0 W1 W2 : Vec Ideal S1x256 .f32} {w : Fin 3 → ℝ} (h0 : W0 (ix2 0 c) = ((w 0 : ℝ) : EReal))
  (h1 : W1 (ix2 0 c) = ((w 1 : ℝ) : EReal)) (h2 : W2 (ix2 0 c) = ((w 2 : ℝ) : EReal)) (r : Fin 2048)
include h0 h1 h2

theorem pay22_real : k1_pay22 k1_pay5 k1_pay6 D W0 W1 W2 (ix2 r c) = ((back w d r : ℝ) : EReal) := by
  have n := nxt_mul_eq (fun r => D (ix2 r c)) d hD r (Nat.mod_lt _ (by omega)) _ _ h0
  have p := prv_mul_eq (fun r => D (ix2 r c)) d hD r (Nat.mod_lt _ (by omega)) _ _ h2
  beta_reduce at n p
  pointwise [k1_pay22, k1_pay5, k1_pay6]
  rw [n, p, h1, hD]
  simp only [← EReal.coe_mul, ← EReal.coe_add]
  rfl

theorem pay3_real : k1_pay3 k1_pay5 k1_pay6 D W0 W1 W2 (ix2 r c) = ((back w d r : ℝ) : EReal) := by
  have n := nxt_mul_eq (fun r => D (ix2 r c)) d hD r (Nat.mod_lt _ (by omega)) _ _ h0
  have p := prv_mul_eq (fun r => D (ix2 r c)) d hD r (Nat.mod_lt _ (by omega)) _ _ h2
  beta_reduce at n p
  pointwise [k1_pay3, k1_pay5, k1_pay6]
  rw [n, p, h1, hD]
  simp only [← EReal.coe_mul, ← EReal.coe_add]
  rfl

end

end Cert.Dx

end
-- ==== Proof.DxBlock.lean ====
/- The second call's output blocks at one grid point, at real entries. -/
module

public import proofs.«01_k».proof.Proof.Gen.Kernel2Ideal.Frame
public import proofs.«01_k».proof.Proof.DxPay
public import Idealize.ShloMosaic.Lib.Pipeline.ValueKit

@[expose] public section

set_option maxRecDepth 16384

noncomputable section

namespace Cert.Dx

open Idealize.ShloMosaic Idealize.SL.Sem Cert.Kernel2Ideal Cert.Kernel2Ideal.Gen Cert.Lift Cert.Block Cert.Conv

/-- The two halves' columns, taps and biases, with the derivative of the gate's result `d wᵀ`. -/
structure Cols (n : ℕ) where
  d : Fin 2048 → Fin 2048 → ℝ
  w : Fin n → Fin 2048 → ℝ
  ua : Fin 2048 → Fin n → ℝ
  ub : Fin 2048 → Fin n → ℝ
  ka : Fin 3 → Fin n → ℝ
  kb : Fin 3 → Fin n → ℝ
  ba : Fin n → ℝ
  bb : Fin n → ℝ

namespace Cols

variable {n : ℕ} (K : Cols n)

/-- The derivative of the first half's convolved columns. -/
def DA (r : Fin 2048) (f : Fin n) : ℝ :=
  dA (fun r => mulT K.d K.w r f) (fun r => K.ua r f) (fun r => K.ub r f) (fun j => K.ka j f) (fun j => K.kb j f) (K.ba f) (K.bb f) r

/-- The derivative of the second half's. -/
def DB (r : Fin 2048) (f : Fin n) : ℝ := dB (fun r => mulT K.d K.w r f) (fun r => K.ua r f) (fun j => K.ka j f) (K.ba f) r

/-- The derivative of the first half's columns. -/
def ga (r : Fin 2048) (f : Fin n) : ℝ := back (fun j => K.ka j f) (fun r => K.DA r f) r

/-- The derivative of the second half's. -/
def gb (r : Fin 2048) (f : Fin n) : ℝ := back (fun j => K.kb j f) (fun r => K.DB r f) r

/-- The derivative of the first half's taps. -/
def ta (j : Fin 3) (f : Fin n) : ℝ := ∑ r, K.DA r f * tap j (fun r => K.ua r f) r

/-- The derivative of the second half's. -/
def tb (j : Fin 3) (f : Fin n) : ℝ := ∑ r, K.DB r f * tap j (fun r => K.ub r f) r

/-- The derivative of the first half's biases. -/
def sa (_ : Fin 1) (f : Fin n) : ℝ := ∑ r, K.DA r f

/-- The derivative of the second half's. -/
def sb (_ : Fin 1) (f : Fin n) : ℝ := ∑ r, K.DB r f

end Cols

/-- A row of three, loaded. -/
theorem ld_row {X : Vec Ideal S3x256 .f32} {x : Fin 3 → Fin 256 → ℝ} (H : Holds (m := 3) (n := 256) X x) (j : Fin 3) (o : ℕ) (h : j.val = o)
    (inb) (c : Fin 256) : View.ld X (Rect.unit (s := S3x256) ![o, 0] S1x256.size inb) (ix2 (n0 := 1) (n1 := 256) 0 c) = ((x j c : ℝ) : EReal) :=
  (View.ld_unit_apply_of X ![o, 0] S1x256.size inb (ix2 (n0 := 1) (n1 := 256) 0 c) (ix2 (n0 := 3) (n1 := 256) j c)
    (fun a => match a with | ⟨0, _⟩ => h | ⟨1, _⟩ => (Nat.zero_add _).symm)).trans (H j c)

/-- Where a row's piece meets an index of the three rows. -/
theorem at_row {i : Fin 3} {c : Fin 256} {x : S1x256.Idx} {j : Fin 3} (h0 : i.val = j.val + (x 0).val) (h1 : c.val = (x 1).val) :
    x = ix2 (n0 := 1) (n1 := 256) 0 c ∧ i = j := by
  have := (x 0).isLt
  have z : (x 0).val = 0 := Nat.lt_one_iff.mp this
  exact ⟨funext fun a => match a with | ⟨0, _⟩ => Fin.ext z | ⟨1, _⟩ => Fin.ext h1.symm, Fin.ext (by omega)⟩

variable {x0 : Vec Ideal S2048x2048 .bf16} {x1 : Vec Ideal S256x2048 .bf16} {x2 x3 : Vec Ideal S2048x256 .bf16}
  {x4 x5 : Vec Ideal S3x256 .f32} {x6 x7 : Vec Ideal S1x256 .f32} {x8 : Vec Ideal S1x1 .f32} {K : Cols 256}

/-- What the call's blocks hold. -/
structure At (x0 : Vec Ideal S2048x2048 .bf16) (x1 : Vec Ideal S256x2048 .bf16) (x2 x3 : Vec Ideal S2048x256 .bf16)
    (x4 x5 : Vec Ideal S3x256 .f32) (x6 x7 : Vec Ideal S1x256 .f32) (K : Cols 256) : Prop where
  h0 : Holds x0 K.d
  h1 : Holds x1 K.w
  h2 : Holds x2 K.ua
  h3 : Holds x3 K.ub
  h4 : Holds x4 K.ka
  h5 : Holds x5 K.kb
  h6 : ∀ c, x6 (ix2 0 c) = ((K.ba c : ℝ) : EReal)
  h7 : ∀ c, x7 (ix2 0 c) = ((K.bb c : ℝ) : EReal)

variable (H : At x0 x1 x2 x3 x4 x5 x6 x7 K)
include H

theorem ins (c : Fin 256) : In (k1_pay25 x0 x1 x2 x3 x4 x5 x6 x7 x8) (k1_pay28 x0 x1 x2 x3 x4 x5 x6 x7 x8) (k1_pay29 x0 x1 x2 x3 x4 x5 x6 x7 x8)
    (k1_pay30 x0 x1 x2 x3 x4 x5 x6 x7 x8) (k1_pay31 x0 x1 x2 x3 x4 x5 x6 x7 x8) (k1_pay32 x0 x1 x2 x3 x4 x5 x6 x7 x8)
    (k1_pay33 x0 x1 x2 x3 x4 x5 x6 x7 x8) (View.ld x4 r1_5) (View.ld x4 r1_6) (View.ld x7 r1_3) (View.ld x5 r1_4) (View.ld x5 r1_5) (View.ld x5 r1_6) c
    (fun r => mulT K.d K.w r c) (fun r => K.ua r c) (fun r => K.ub r c) (fun j => K.ka j c) (fun j => K.kb j c) (K.ba c) (K.bb c) := by
  have l0 : View.ld x0 r1_0 = x0 := View.ld_unit_zero (by decide) _ _
  have l1 : View.ld x1 r1_1 = x1 := View.ld_unit_zero (by decide) _ _
  have l2 : View.ld x2 r1_2 = x2 := View.ld_unit_zero (by decide) _ _
  have l3 : View.ld x3 r1_2 = x3 := View.ld_unit_zero (by decide) _ _
  have l6 : View.ld x6 r1_3 = x6 := View.ld_unit_zero (by decide) _ _
  have l7 : View.ld x7 r1_3 = x7 := View.ld_unit_zero (by decide) _ _
  refine ⟨fun r => ?_, fun r => ?_, fun r => ?_, fun r => ?_, fun r => ?_, fun r => ?_, fun r => ?_, ld_row H.h4 1 1 rfl _ c, ld_row H.h4 2 2 rfl _ c, ?_,
    ld_row H.h5 0 0 rfl _ c, ld_row H.h5 1 1 rfl _ c, ld_row H.h5 2 2 rfl _ c⟩
  · unfold k1_pay25; rw [l0, l1]; exact pay4_real H.h0 H.h1 c r
  · unfold k1_pay28; rw [l2]; exact pay7_real H.h2 c r
  · unfold k1_pay29; rw [l3]; exact pay8_real H.h3 c r
  · unfold k1_pay30; rw [l2]; exact pay10_real H.h2 c r
  · unfold k1_pay31; rw [l3]; exact pay11_real H.h3 c r
  · unfold k1_pay32; rw [l3]; exact pay12_real H.h3 c r
  · unfold k1_pay33; rw [l2, l6]; exact pay13_real H.h2 c r (H.h6 c) (ld_row H.h4 0 0 rfl _ c)
  · rw [l7]; exact H.h7 c

theorem colA (c : Fin 256) : Col (k1_pay34 x0 x1 x2 x3 x4 x5 x6 x7 x8) c fun r => K.DA r c := pay16_real (ins H c)

theorem colB (c : Fin 256) : Col (k1_pay35 x0 x1 x2 x3 x4 x5 x6 x7 x8) c fun r => K.DB r c := pay17_real (ins (x8 := x8) H c)

theorem out9 : Holds (m := 2048) (n := 256) (out1_9 x0 x1 x2 x3 x4 x5 x6 x7 x8) K.ga := fun r c => by
  unfold out1_9
  refine (congrFun (View.canon_cons_unit_zero (by decide) _ _ _) _).trans ?_
  exact pay22_real (colA H c) (ld_row H.h4 0 0 rfl _ c) (ld_row H.h4 1 1 rfl _ c) (ld_row H.h4 2 2 rfl _ c) r

theorem out10 : Holds (m := 2048) (n := 256) (out1_10 x0 x1 x2 x3 x4 x5 x6 x7 x8) K.gb := fun r c => by
  unfold out1_10
  frame_out
  exact pay3_real (colB H c) (ld_row H.h5 0 0 rfl _ c) (ld_row H.h5 1 1 rfl _ c) (ld_row H.h5 2 2 rfl _ c) r

theorem out13 : Holds (m := 1) (n := 256) (out1_13 x0 x1 x2 x3 x4 x5 x6 x7 x8) K.sa := fun i c => by
  obtain rfl : i = 0 := Subsingleton.elim _ _
  unfold out1_13
  refine (congrFun (View.canon_cons_unit_zero (by decide) _ _ _) _).trans ?_
  exact pay18_real (ins H c)

theorem out14 : Holds (m := 1) (n := 256) (out1_14 x0 x1 x2 x3 x4 x5 x6 x7 x8) K.sb := fun i c => by
  obtain rfl : i = 0 := Subsingleton.elim _ _
  unfold out1_14
  frame_out
  exact pay23_real (colB H c)

theorem out11 : Holds (m := 3) (n := 256) (out1_11 x0 x1 x2 x3 x4 x5 x6 x7 x8) K.ta := fun i c => by
  have l2 : View.ld x2 r1_2 = x2 := View.ld_unit_zero (by decide) _ _
  unfold out1_11
  canon_tiles x h using cover1_11 ..
  · obtain ⟨rfl, rfl⟩ := at_row (j := 2) h0 h1
    exact pay21_real (ins H c).hna (colA H c)
  · obtain ⟨rfl, rfl⟩ := at_row (j := 1) h0 h1
    exact pay20_real (ins H c).hua (colA H c)
  · obtain ⟨rfl, rfl⟩ := at_row (j := 0) (h0.trans (Nat.zero_add _).symm) h1
    exact pay19_real (ins H c) (by rw [l2]; exact pay9_real H.h2 c)

theorem out12 : Holds (m := 3) (n := 256) (out1_12 x0 x1 x2 x3 x4 x5 x6 x7 x8) K.tb := fun i c => by
  unfold out1_12
  canon_tiles x h using cover1_12 ..
  · obtain ⟨rfl, rfl⟩ := at_row (j := 2) h0 h1
    exact pay2_real (ins H c).hnb (colB H c)
  · obtain ⟨rfl, rfl⟩ := at_row (j := 1) h0 h1
    exact pay1_real (ins H c).hub (colB H c)
  · obtain ⟨rfl, rfl⟩ := at_row (j := 0) (h0.trans (Nat.zero_add _).symm) h1
    exact pay24_real (ins H c).hpb (colB H c)

end Cert.Dx

end
-- ==== Proof.DxArr.lean ====
/- The second call's arrays: the derivatives of the two halves' columns, taps and biases. Its grid point `t` takes
   columns `256 t`, …, `256 t + 255` of each half. -/
module

public import proofs.«01_k».proof.Proof.UpArr
public import proofs.«01_k».proof.Proof.DxBlock

@[expose] public section

set_option maxRecDepth 16384

noncomputable section

namespace Cert.Dx

open Idealize.ShloMosaic Idealize.ShloMosaic.TcCoe Idealize.SL.Sem Cert.Kernel2Ideal Cert.Kernel2Ideal.Gen Cert.Lift Cert.Block Cert.Conv
open Cert.Up (lo hi cut)

/-- Columns `o`, …, `o + 255`. -/
def Cols.block (K : Cols 5632) (o : ℕ) (h : o + 256 ≤ 5632) : Cols 256 where
  d := K.d
  w := cut 256 o h K.w
  ua r := cut 256 o h (K.ua r)
  ub r := cut 256 o h (K.ub r)
  ka j := cut 256 o h (K.ka j)
  kb j := cut 256 o h (K.kb j)
  ba := cut 256 o h K.ba
  bb := cut 256 o h K.bb

/-- The columns of the two halves of the taps `k` and biases `b`. -/
def cols (d : Fin 2048 → Fin 2048 → ℝ) (w : Fin 5632 → Fin 2048 → ℝ) (ua ub : Fin 2048 → Fin 5632 → ℝ) (k : Fin 3 → Fin 11264 → ℝ)
    (b : Fin 1 → Fin 11264 → ℝ) : Cols 5632 where
  d := d
  w := w
  ua := ua
  ub := ub
  ka j := lo (k j)
  kb j := hi (k j)
  ba := lo (b 0)
  bb := hi (b 0)

theorem le1 (t : Fin cfg1.N) : t.val * 256 + 256 ≤ 5632 := by have := lt_of_lt_of_eq t.isLt N_1; omega

theorem idx1_0 : ∀ t : Fin cfg1.N, win1_0.index t = ![0, 0] := by decide +kernel
theorem idx1_1 : ∀ t : Fin cfg1.N, win1_1.index t = ![t.val, 0] := by decide +kernel
theorem idx1_2 : ∀ t : Fin cfg1.N, win1_2.index t = ![0, t.val] := by decide +kernel
theorem idx1_3 : ∀ t : Fin cfg1.N, win1_3.index t = ![0, t.val] := by decide +kernel
theorem idx1_4 : ∀ t : Fin cfg1.N, win1_4.index t = ![0, t.val] := by decide +kernel
theorem idx1_5 : ∀ t : Fin cfg1.N, win1_5.index t = ![0, t.val + 22] := by decide +kernel
theorem idx1_6 : ∀ t : Fin cfg1.N, win1_6.index t = ![0, t.val] := by decide +kernel
theorem idx1_7 : ∀ t : Fin cfg1.N, win1_7.index t = ![0, t.val + 22] := by decide +kernel
theorem idx1_9 : ∀ t : Fin cfg1.N, win1_9.index t = ![0, t.val] := by decide +kernel
theorem idx1_10 : ∀ t : Fin cfg1.N, win1_10.index t = ![0, t.val] := by decide +kernel
theorem idx1_11 : ∀ t : Fin cfg1.N, win1_11.index t = ![0, t.val] := by decide +kernel
theorem idx1_12 : ∀ t : Fin cfg1.N, win1_12.index t = ![0, t.val] := by decide +kernel
theorem idx1_13 : ∀ t : Fin cfg1.N, win1_13.index t = ![0, t.val] := by decide +kernel
theorem idx1_14 : ∀ t : Fin cfg1.N, win1_14.index t = ![0, t.val] := by decide +kernel

variable {V : (c : Dev nD) → (b : Ref sig .tc) → Buf (Elt Ideal) ((c : Thread nD τ).loc b)} {c : Dev nD}
variable {d : Fin 2048 → Fin 2048 → ℝ} {w : Fin 5632 → Fin 2048 → ℝ} {ua ub : Fin 2048 → Fin 5632 → ℝ} {k : Fin 3 → Fin 11264 → ℝ} {b : Fin 1 → Fin 11264 → ℝ}

/-- What the call's operands hold. -/
structure Ops (V : (c : Dev nD) → (b : Ref sig .tc) → Buf (Elt Ideal) ((c : Thread nD τ).loc b)) (c : Dev nD)
    (d : Fin 2048 → Fin 2048 → ℝ) (w : Fin 5632 → Fin 2048 → ℝ) (ua ub : Fin 2048 → Fin 5632 → ℝ) (k : Fin 3 → Fin 11264 → ℝ)
    (b : Fin 1 → Fin 11264 → ℝ) : Prop where
  hd : Holds (m := 2048) (n := 2048) (V c main_arg5) d
  hw : Holds (m := 5632) (n := 2048) (V c main_arg4) w
  hua : Holds (m := 2048) (n := 5632) (V c main_v1_0) ua
  hub : Holds (m := 2048) (n := 5632) (V c main_v1_1) ub
  hk : Holds (m := 3) (n := 11264) (V c main_arg2) k
  hb : Holds (m := 1) (n := 11264) (V c main_arg3) b

variable (H : Ops V c d w ua ub k b)
include H

/-- What the blocks at a grid point hold. -/
theorem blocks (t : Fin cfg1.N) : At (iblk1 V c 0 t) (iblk1 V c 1 t) (iblk1 V c 2 t) (iblk1 V c 3 t) (iblk1 V c 4 t) (iblk1 V c 5 t)
    (iblk1 V c 6 t) (iblk1 V c 7 t) ((cols d w ua ub k b).block (t.val * 256) (le1 t)) := by
  have := le1 t
  refine ⟨fun r e => ?_, fun r e => ?_, fun r e => ?_, fun r e => ?_, fun r e => ?_, fun r e => ?_, fun e => ?_, fun e => ?_⟩
  · refine Eq.trans ?_ (H.hd r e)
    blk_simp [iblk1]
    congr 1
    blk_ext [idx1_0]
  · refine Eq.trans ?_ (H.hw ⟨t.val * 256 + r.val, by omega⟩ e)
    blk_simp [iblk1]
    congr 1
    blk_ext [idx1_1]
  · refine Eq.trans ?_ (H.hua r ⟨t.val * 256 + e.val, by omega⟩)
    blk_simp [iblk1]
    congr 1
    blk_ext [idx1_2]
  · refine Eq.trans ?_ (H.hub r ⟨t.val * 256 + e.val, by omega⟩)
    blk_simp [iblk1]
    congr 1
    blk_ext [idx1_3]
  · refine Eq.trans ?_ (H.hk r ⟨t.val * 256 + e.val, by omega⟩)
    blk_simp [iblk1]
    congr 1
    blk_ext [idx1_4]
  · refine Eq.trans ?_ (H.hk r ⟨5632 + (t.val * 256 + e.val), by omega⟩)
    blk_simp [iblk1]
    congr 1
    blk_ext [idx1_5]
  · refine Eq.trans ?_ (H.hb 0 ⟨t.val * 256 + e.val, by omega⟩)
    blk_simp [iblk1]
    congr 1
    blk_ext [idx1_6]
  · refine Eq.trans ?_ (H.hb 0 ⟨5632 + (t.val * 256 + e.val), by omega⟩)
    blk_simp [iblk1]
    congr 1
    blk_ext [idx1_7]

/-- The derivative of the first half's columns. -/
theorem arr9 : Holds (m := 2048) (n := 5632) ((dat1 V c).arrAt 9 cfg1.N) (cols d w ua ub k b).ga := by
  have e := (dat1 V c).arrAt_eq_of_covers 9 (fun y : S2048x5632.Idx => (((cols d w ua ub k b).ga (y 0) (y 1) : ℝ) : EReal)) (by decide +kernel)
    (fun t hf y => ?_)
  · rw [e]; exact fun _ _ => rfl
  blk_simp
  rw [after1_9]
  have := le1 t
  obtain ⟨r, f, rfl⟩ : ∃ r f, y = ix2 (n0 := 2048) (n1 := 256) r f := ⟨y 0, y 1, eq_ix2 (n0 := 2048) (n1 := 256) y⟩
  have i : ((View.whole main_v2_0).slice (win1_9.rect t)).emb (ix2 r f) = ix2 (n0 := 2048) (n1 := 5632) r ⟨t.val * 256 + f.val, by omega⟩ := by
    blk_ext [idx1_9]
  rw [i]
  exact out9 (blocks H t) r f

/-- The derivative of the second half's columns. -/
theorem arr10 : Holds (m := 2048) (n := 5632) ((dat1 V c).arrAt 10 cfg1.N) (cols d w ua ub k b).gb := by
  have e := (dat1 V c).arrAt_eq_of_covers 10 (fun y : S2048x5632.Idx => (((cols d w ua ub k b).gb (y 0) (y 1) : ℝ) : EReal)) (by decide +kernel)
    (fun t hf y => ?_)
  · rw [e]; exact fun _ _ => rfl
  blk_simp
  rw [after1_10]
  have := le1 t
  obtain ⟨r, f, rfl⟩ : ∃ r f, y = ix2 (n0 := 2048) (n1 := 256) r f := ⟨y 0, y 1, eq_ix2 (n0 := 2048) (n1 := 256) y⟩
  have i : ((View.whole main_v2_1).slice (win1_10.rect t)).emb (ix2 r f) = ix2 (n0 := 2048) (n1 := 5632) r ⟨t.val * 256 + f.val, by omega⟩ := by
    blk_ext [idx1_10]
  rw [i]
  exact out10 (blocks H t) r f

/-- The derivative of the first half's taps. -/
theorem arr11 : Holds (m := 3) (n := 5632) ((dat1 V c).arrAt 11 cfg1.N) (cols d w ua ub k b).ta := by
  have e := (dat1 V c).arrAt_eq_of_covers 11 (fun y : S3x5632.Idx => (((cols d w ua ub k b).ta (y 0) (y 1) : ℝ) : EReal)) (by decide +kernel)
    (fun t hf y => ?_)
  · rw [e]; exact fun _ _ => rfl
  blk_simp
  rw [after1_11]
  have := le1 t
  obtain ⟨r, f, rfl⟩ : ∃ r f, y = ix2 (n0 := 3) (n1 := 256) r f := ⟨y 0, y 1, eq_ix2 (n0 := 3) (n1 := 256) y⟩
  have i : ((View.whole main_v2_2).slice (win1_11.rect t)).emb (ix2 r f) = ix2 (n0 := 3) (n1 := 5632) r ⟨t.val * 256 + f.val, by omega⟩ := by
    blk_ext [idx1_11]
  rw [i]
  exact out11 (blocks H t) r f

/-- The derivative of the second half's taps. -/
theorem arr12 : Holds (m := 3) (n := 5632) ((dat1 V c).arrAt 12 cfg1.N) (cols d w ua ub k b).tb := by
  have e := (dat1 V c).arrAt_eq_of_covers 12 (fun y : S3x5632.Idx => (((cols d w ua ub k b).tb (y 0) (y 1) : ℝ) : EReal)) (by decide +kernel)
    (fun t hf y => ?_)
  · rw [e]; exact fun _ _ => rfl
  blk_simp
  rw [after1_12]
  have := le1 t
  obtain ⟨r, f, rfl⟩ : ∃ r f, y = ix2 (n0 := 3) (n1 := 256) r f := ⟨y 0, y 1, eq_ix2 (n0 := 3) (n1 := 256) y⟩
  have i : ((View.whole main_v2_3).slice (win1_12.rect t)).emb (ix2 r f) = ix2 (n0 := 3) (n1 := 5632) r ⟨t.val * 256 + f.val, by omega⟩ := by
    blk_ext [idx1_12]
  rw [i]
  exact out12 (blocks H t) r f

/-- The derivative of the first half's biases. -/
theorem arr13 : Holds (m := 1) (n := 5632) ((dat1 V c).arrAt 13 cfg1.N) (cols d w ua ub k b).sa := by
  have e := (dat1 V c).arrAt_eq_of_covers 13 (fun y : S1x5632.Idx => (((cols d w ua ub k b).sa (y 0) (y 1) : ℝ) : EReal)) (by decide +kernel)
    (fun t hf y => ?_)
  · rw [e]; exact fun _ _ => rfl
  blk_simp
  rw [after1_13]
  have := le1 t
  obtain ⟨r, f, rfl⟩ : ∃ r f, y = ix2 (n0 := 1) (n1 := 256) r f := ⟨y 0, y 1, eq_ix2 (n0 := 1) (n1 := 256) y⟩
  have i : ((View.whole main_v2_4).slice (win1_13.rect t)).emb (ix2 r f) = ix2 (n0 := 1) (n1 := 5632) r ⟨t.val * 256 + f.val, by omega⟩ := by
    blk_ext [idx1_13]
  rw [i]
  exact out13 (blocks H t) r f

/-- The derivative of the second half's biases. -/
theorem arr14 : Holds (m := 1) (n := 5632) ((dat1 V c).arrAt 14 cfg1.N) (cols d w ua ub k b).sb := by
  have e := (dat1 V c).arrAt_eq_of_covers 14 (fun y : S1x5632.Idx => (((cols d w ua ub k b).sb (y 0) (y 1) : ℝ) : EReal)) (by decide +kernel)
    (fun t hf y => ?_)
  · rw [e]; exact fun _ _ => rfl
  blk_simp
  rw [after1_14]
  have := le1 t
  obtain ⟨r, f, rfl⟩ : ∃ r f, y = ix2 (n0 := 1) (n1 := 256) r f := ⟨y 0, y 1, eq_ix2 (n0 := 1) (n1 := 256) y⟩
  have i : ((View.whole main_v2_5).slice (win1_14.rect t)).emb (ix2 r f) = ix2 (n0 := 1) (n1 := 5632) r ⟨t.val * 256 + f.val, by omega⟩ := by
    blk_ext [idx1_14]
  rw [i]
  exact out14 (blocks H t) r f

end Cert.Dx

end
-- ==== Proof.DwArr.lean ====
/- The three products with a transposed left factor: the weights' derivatives. The grid point `t` takes rows
   `1408 (t / 2)`, … and columns `1024 (t % 2)`, …; the last call fills the second half of an array whose first half the
   call before it has filled. -/
module

public import proofs.«01_k».proof.Proof.Gen.Kernel2Ideal.Frame
public import proofs.«01_k».proof.Proof.Conv
public import proofs.«01_k».proof.Proof.Block
public import Idealize.ShloMosaic.Lib.Pipeline.ValueKit

@[expose] public section

set_option maxRecDepth 16384

noncomputable section

namespace Cert.Dw

open Idealize.ShloMosaic Idealize.ShloMosaic.TcCoe Idealize.SL.Sem Cert.Kernel2Ideal Cert.Kernel2Ideal.Gen Cert.Lift Cert.Block Cert.Conv

section

variable {A : Vec Ideal S2048x1408 .bf16} {B : Vec Ideal S2048x1024 .bf16} {a : Fin 2048 → Fin 1408 → ℝ} {b : Fin 2048 → Fin 1024 → ℝ}
variable (hA : Holds A a) (hB : Holds B b) (r : Fin 1408) (e : Fin 1024)
include hA hB

theorem pay2_real : k2_pay1 A B (ix2 r e) = ((tMul a b r e : ℝ) : EReal) := by
  pointwise [k2_pay1]
  exact dot_eq _ _ _ _ (fun i => hA i r) (fun i => hB i e)

theorem pay3_real : k3_pay1 A B (ix2 r e) = ((tMul a b r e : ℝ) : EReal) := by
  pointwise [k3_pay1]
  exact dot_eq _ _ _ _ (fun i => hA i r) (fun i => hB i e)

theorem pay4_real : k4_pay1 A B (ix2 r e) = ((tMul a b r e : ℝ) : EReal) := by
  pointwise [k4_pay1]
  exact dot_eq _ _ _ _ (fun i => hA i r) (fun i => hB i e)

end

variable {V : (c : Dev nD) → (b : Ref sig .tc) → Buf (Elt Ideal) ((c : Thread nD τ).loc b)} {c : Dev nD}
variable {x : Fin 2048 → Fin 5632 → ℝ} {y : Fin 2048 → Fin 2048 → ℝ}

theorem idx2_0 : ∀ t : Fin cfg2.N, win2_0.index t = ![0, t.val / 2] := by decide +kernel
theorem idx2_1 : ∀ t : Fin cfg2.N, win2_1.index t = ![0, t.val % 2] := by decide +kernel
theorem idx2_2 : ∀ t : Fin cfg2.N, win2_2.index t = ![t.val / 2, t.val % 2] := by decide +kernel
theorem lt2 (t : Fin cfg2.N) : t.val < 8 := lt_of_lt_of_eq t.isLt N_2

theorem blk2_0 (H : Holds (m := 2048) (n := 5632) (V c main_v1_2) x) (t : Fin cfg2.N) :
    Holds (m := 2048) (n := 1408) (iblk2 V c 0 t) (fun r f => x r ⟨t.val / 2 * 1408 + f.val, by have := lt2 t; omega⟩) := fun r f => by
  have := lt2 t
  refine Eq.trans ?_ (H r ⟨t.val / 2 * 1408 + f.val, by omega⟩)
  blk_simp [iblk2]
  congr 1
  blk_ext [idx2_0]

theorem blk2_1 (H : Holds (m := 2048) (n := 2048) (V c main_arg5) y) (t : Fin cfg2.N) :
    Holds (m := 2048) (n := 1024) (iblk2 V c 1 t) (fun r f => y r ⟨t.val % 2 * 1024 + f.val, by omega⟩) := fun r f => by
  refine Eq.trans ?_ (H r ⟨t.val % 2 * 1024 + f.val, by omega⟩)
  blk_simp [iblk2]
  congr 1
  blk_ext [idx2_1]

theorem idx3_0 : ∀ t : Fin cfg3.N, win3_0.index t = ![0, t.val / 2] := by decide +kernel
theorem idx3_1 : ∀ t : Fin cfg3.N, win3_1.index t = ![0, t.val % 2] := by decide +kernel
theorem idx3_2 : ∀ t : Fin cfg3.N, win3_2.index t = ![t.val / 2, t.val % 2] := by decide +kernel
theorem lt3 (t : Fin cfg3.N) : t.val < 8 := lt_of_lt_of_eq t.isLt N_3

theorem blk3_0 (H : Holds (m := 2048) (n := 5632) (V c main_v2_0) x) (t : Fin cfg3.N) :
    Holds (m := 2048) (n := 1408) (iblk3 V c 0 t) (fun r f => x r ⟨t.val / 2 * 1408 + f.val, by have := lt3 t; omega⟩) := fun r f => by
  have := lt3 t
  refine Eq.trans ?_ (H r ⟨t.val / 2 * 1408 + f.val, by omega⟩)
  blk_simp [iblk3]
  congr 1
  blk_ext [idx3_0]

theorem blk3_1 (H : Holds (m := 2048) (n := 2048) (V c main_arg0) y) (t : Fin cfg3.N) :
    Holds (m := 2048) (n := 1024) (iblk3 V c 1 t) (fun r f => y r ⟨t.val % 2 * 1024 + f.val, by omega⟩) := fun r f => by
  refine Eq.trans ?_ (H r ⟨t.val % 2 * 1024 + f.val, by omega⟩)
  blk_simp [iblk3]
  congr 1
  blk_ext [idx3_1]

theorem idx4_0 : ∀ t : Fin cfg4.N, win4_0.index t = ![0, t.val / 2] := by decide +kernel
theorem idx4_1 : ∀ t : Fin cfg4.N, win4_1.index t = ![0, t.val % 2] := by decide +kernel
theorem idx4_2 : ∀ t : Fin cfg4.N, win4_2.index t = ![t.val / 2 + 4, t.val % 2] := by decide +kernel
theorem lt4 (t : Fin cfg4.N) : t.val < 8 := lt_of_lt_of_eq t.isLt N_4

theorem blk4_0 (H : Holds (m := 2048) (n := 5632) (V c main_v2_1) x) (t : Fin cfg4.N) :
    Holds (m := 2048) (n := 1408) (iblk4 V c 0 t) (fun r f => x r ⟨t.val / 2 * 1408 + f.val, by have := lt4 t; omega⟩) := fun r f => by
  have := lt4 t
  refine Eq.trans ?_ (H r ⟨t.val / 2 * 1408 + f.val, by omega⟩)
  blk_simp [iblk4]
  congr 1
  blk_ext [idx4_0]

theorem blk4_1 (H : Holds (m := 2048) (n := 2048) (V c main_arg0) y) (t : Fin cfg4.N) :
    Holds (m := 2048) (n := 1024) (iblk4 V c 1 t) (fun r f => y r ⟨t.val % 2 * 1024 + f.val, by omega⟩) := fun r f => by
  refine Eq.trans ?_ (H r ⟨t.val % 2 * 1024 + f.val, by omega⟩)
  blk_simp [iblk4]
  congr 1
  blk_ext [idx4_1]

/-- The derivative of the second layer's weights. -/
theorem arr2 (hx : Holds (m := 2048) (n := 5632) (V c main_v1_2) x) (hy : Holds (m := 2048) (n := 2048) (V c main_arg5) y) :
    Holds (m := 5632) (n := 2048) ((dat2 V c).arrAt 2 cfg2.N) (tMul x y) := by
  have e := (dat2 V c).arrAt_eq_of_covers 2 (fun u : S5632x2048.Idx => ((tMul x y (u 0) (u 1) : ℝ) : EReal)) (by decide +kernel) (fun t hf u => ?_)
  · rw [e]; exact fun _ _ => rfl
  blk_simp
  rw [after2_2]
  frame_out
  have := lt2 t
  obtain ⟨r, f, rfl⟩ : ∃ r f, u = ix2 (n0 := 1408) (n1 := 1024) r f := ⟨u 0, u 1, eq_ix2 (n0 := 1408) (n1 := 1024) u⟩
  have i : ((View.whole main_v3).slice (win2_2.rect t)).emb (ix2 r f)
      = ix2 (n0 := 5632) (n1 := 2048) ⟨t.val / 2 * 1408 + r.val, by omega⟩ ⟨t.val % 2 * 1024 + f.val, by omega⟩ := by
    blk_ext [idx2_2]
  rw [i]
  exact pay2_real (blk2_0 hx t) (blk2_1 hy t) r f

/-- An array `o` whose first 5632 rows are replaced. -/
def half (x : Fin 2048 → Fin 5632 → ℝ) (y : Fin 2048 → Fin 2048 → ℝ) (o : S11264x2048.Idx → EReal) (u : S11264x2048.Idx) : EReal :=
  if h : (u 0).val < 5632 then ((tMul x y ⟨(u 0).val, h⟩ (u 1) : ℝ) : EReal) else o u

theorem half_lt (o : S11264x2048.Idx → EReal) (r : Fin 11264) (f : Fin 2048) (h : r.val < 5632) :
    half x y o (ix2 (n0 := 11264) (n1 := 2048) r f) = ((tMul x y ⟨r.val, h⟩ f : ℝ) : EReal) := dif_pos h

theorem half_ge (o : S11264x2048.Idx → EReal) (r : Fin 11264) (f : Fin 2048) (h : ¬ r.val < 5632) :
    half x y o (ix2 (n0 := 11264) (n1 := 2048) r f) = o (ix2 (n0 := 11264) (n1 := 2048) r f) := dif_neg h

/-- The first half of the first layer's. -/
theorem arr3 (hx : Holds (m := 2048) (n := 5632) (V c main_v2_0) x) (hy : Holds (m := 2048) (n := 2048) (V c main_arg0) y)
    (r : Fin 11264) (h : r.val < 5632) (f : Fin 2048) :
    (dat3 V c).arrAt 2 cfg3.N (ix2 (n0 := 11264) (n1 := 2048) r f) = ((tMul x y ⟨r.val, h⟩ f : ℝ) : EReal) := by
  have e := (dat3 V c).arrAt_eq_of_coversWhere_of_agree 2
    (half x y fun u => (dat3 V c).A 2 u) (fun β => β (0 : Fin 2) < 4) (by decide +kernel) (fun t hf u => ?_) (fun j hj => ?_)
  · rw [e]; exact half_lt _ r f h
  · blk_simp
    rw [after3_2]
    frame_out
    have := lt3 t
    obtain ⟨r, f, rfl⟩ : ∃ r f, u = ix2 (n0 := 1408) (n1 := 1024) r f := ⟨u 0, u 1, eq_ix2 (n0 := 1408) (n1 := 1024) u⟩
    have i : ((View.whole main_v4).slice (win3_2.rect t)).emb (ix2 r f)
        = ix2 (n0 := 11264) (n1 := 2048) ⟨t.val / 2 * 1408 + r.val, by omega⟩ ⟨t.val % 2 * 1024 + f.val, by omega⟩ := by
      blk_ext [idx3_2]
    rw [i]
    refine Eq.trans ?_ (half_lt _ ⟨t.val / 2 * 1408 + r.val, by omega⟩ _ (by show t.val / 2 * 1408 + r.val < 5632; omega)).symm
    exact pay3_real (blk3_0 hx t) (blk3_1 hy t) r f
  · blk_simp [Pipeline.Window.cell_apply] at hj
    obtain ⟨r, f, rfl⟩ : ∃ r f, j = ix2 (n0 := 11264) (n1 := 2048) r f := ⟨j 0, j 1, eq_ix2 (n0 := 11264) (n1 := 2048) j⟩
    have hr : ¬ r.val / 1408 < 4 := hj
    exact (half_ge _ r f (by omega)).symm

/-- The second half, over an array that holds the first. -/
theorem arr4 (hx : Holds (m := 2048) (n := 5632) (V c main_v2_1) x) (hy : Holds (m := 2048) (n := 2048) (V c main_arg0) y) {g : Fin 11264 → Fin 2048 → ℝ}
    (hg : ∀ (f : Fin 5632) (r : Fin 2048), g ⟨5632 + f.val, by omega⟩ r = tMul x y f r)
    (he : ∀ (f : Fin 11264) (r : Fin 2048), f.val < 5632 → V c main_v5 (ix2 (n0 := 11264) (n1 := 2048) f r) = ((g f r : ℝ) : EReal)) :
    Holds (m := 11264) (n := 2048) ((dat4 V c).arrAt 2 cfg4.N) g := by
  have e := (dat4 V c).arrAt_eq_of_coversWhere_of_agree 2 (fun u : S11264x2048.Idx => ((g (u 0) (u 1) : ℝ) : EReal))
    (fun β => 4 ≤ β (0 : Fin 2)) (by decide +kernel) (fun t hf u => ?_) (fun j hj => ?_)
  · rw [e]; exact fun _ _ => rfl
  · blk_simp
    rw [after4_2]
    unfold outsAt4
    frame_out
    have := lt4 t
    obtain ⟨r, f, rfl⟩ : ∃ r f, u = ix2 (n0 := 1408) (n1 := 1024) r f := ⟨u 0, u 1, eq_ix2 (n0 := 1408) (n1 := 1024) u⟩
    have i : ((View.whole main_v5).slice (win4_2.rect t)).emb (ix2 r f)
        = ix2 (n0 := 11264) (n1 := 2048) ⟨5632 + (t.val / 2 * 1408 + r.val), by omega⟩ ⟨t.val % 2 * 1024 + f.val, by omega⟩ := by
      blk_ext [idx4_2]
    rw [i]
    refine Eq.trans ?_ (congrArg _ (hg ⟨t.val / 2 * 1408 + r.val, by omega⟩ _)).symm
    exact pay4_real (blk4_0 hx t) (blk4_1 hy t) r f
  · blk_simp [Pipeline.Window.cell_apply] at hj
    obtain ⟨r, f, rfl⟩ : ∃ r f, j = ix2 (n0 := 11264) (n1 := 2048) r f := ⟨j 0, j 1, eq_ix2 (n0 := 11264) (n1 := 2048) j⟩
    have hr : ¬ 4 ≤ r.val / 1408 := hj
    exact he r f (by omega)

end Cert.Dw

end
-- ==== Proof.Run2.lean ====
/- The feed-forward block's five calls run one after the other: what the six results hold at the end, at real arguments. -/
module

public import proofs.«01_k».proof.Proof.DxArr
public import proofs.«01_k».proof.Proof.DwArr

@[expose] public section

set_option maxRecDepth 16384

noncomputable section

namespace Cert.Run2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Block Cert.Conv Cert.Up Cert.Dx Cert.Dw

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends, and each buffer that outlives the calls then holds what the last call leaves. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W7 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ => h)

/-- The block's columns and what their derivatives are computed from. -/
def ffn (z : Fin 2048 → Fin 2048 → ℝ) (w : Fin 11264 → Fin 2048 → ℝ) (k : Fin 3 → Fin 11264 → ℝ) (b : Fin 1 → Fin 11264 → ℝ)
    (d : Fin 5632 → Fin 2048 → ℝ) (g : Fin 2048 → Fin 2048 → ℝ) : Cols 5632 :=
  cols g d (mulT z (lo w)) (mulT z (hi w)) k b

/-- The derivative of the first layer's weights: the two halves one above the other. -/
def gw (K : Cols 5632) (z : Fin 2048 → Fin 2048 → ℝ) (f : Fin 11264) (r : Fin 2048) : ℝ :=
  if h : f.val < 5632 then tMul K.ga z ⟨f.val, h⟩ r else tMul K.gb z ⟨f.val - 5632, by omega⟩ r

theorem gw_lt (K : Cols 5632) (z : Fin 2048 → Fin 2048 → ℝ) (f : Fin 11264) (r : Fin 2048) (h : f.val < 5632) :
    gw K z f r = tMul K.ga z ⟨f.val, h⟩ r := dif_pos h

theorem gw_ge (K : Cols 5632) (z : Fin 2048 → Fin 2048 → ℝ) (f : Fin 5632) (r : Fin 2048) : gw K z ⟨5632 + f.val, by omega⟩ r = tMul K.gb z f r := by
  unfold gw
  rw [dif_neg (Nat.not_lt.mpr (Nat.le_add_right 5632 f.val))]
  exact congrArg (fun i => tMul K.gb z i r) (Fin.ext (Nat.add_sub_cancel_left ..))

variable (z g : Dev nD → Fin 2048 → Fin 2048 → ℝ) (w : Dev nD → Fin 11264 → Fin 2048 → ℝ) (k : Dev nD → Fin 3 → Fin 11264 → ℝ)
  (b : Dev nD → Fin 1 → Fin 11264 → ℝ) (d : Dev nD → Fin 5632 → Fin 2048 → ℝ)

/-- The arguments hold real numbers. -/
structure Args : Prop where
  hz : ∀ c : Dev nD, Holds (m := 2048) (n := 2048) (m ((c : Thread nD τ).loc main_arg0)) (z c)
  hw : ∀ c : Dev nD, Holds (m := 11264) (n := 2048) (m ((c : Thread nD τ).loc main_arg1)) (w c)
  hk : ∀ c : Dev nD, Holds (m := 3) (n := 11264) (m ((c : Thread nD τ).loc main_arg2)) (k c)
  hb : ∀ c : Dev nD, Holds (m := 1) (n := 11264) (m ((c : Thread nD τ).loc main_arg3)) (b c)
  hd : ∀ c : Dev nD, Holds (m := 5632) (n := 2048) (m ((c : Thread nD τ).loc main_arg4)) (d c)
  hg : ∀ c : Dev nD, Holds (m := 2048) (n := 2048) (m ((c : Thread nD τ).loc main_arg5)) (g c)

variable {m z g w k b d} (H : Args m z g w k b d) (c : Dev nD)

include H

theorem in0 : Holds (m := 2048) (n := 2048) (V1 m ρ c main_arg0) (z c) := by
  rw [show V1 m ρ c main_arg0 = m ((c : Thread nD τ).loc main_arg0) from W1_args m ρ c main_arg0 (by decide)]; exact H.hz c

theorem in1 : Holds (m := 11264) (n := 2048) (V1 m ρ c main_arg1) (w c) := by
  rw [show V1 m ρ c main_arg1 = m ((c : Thread nD τ).loc main_arg1) from W1_args m ρ c main_arg1 (by decide)]; exact H.hw c

theorem in2 : Holds (m := 3) (n := 11264) (V1 m ρ c main_arg2) (k c) := by
  rw [show V1 m ρ c main_arg2 = m ((c : Thread nD τ).loc main_arg2) from W1_args m ρ c main_arg2 (by decide)]; exact H.hk c

theorem in3 : Holds (m := 1) (n := 11264) (V1 m ρ c main_arg3) (b c) := by
  rw [show V1 m ρ c main_arg3 = m ((c : Thread nD τ).loc main_arg3) from W1_args m ρ c main_arg3 (by decide)]; exact H.hb c

theorem hidden : Holds (m := 2048) (n := 5632) (V2 m ρ c main_v1_2) (hid (z c) (w c) (k c) (b c)) := by
  rw [show V2 m ρ c main_v1_2 = (dat0 (V1 m ρ) c).arrAt 10 cfg0.N from W2_arr m ρ c 10]
  exact Cert.Up.arr10 (V1 m ρ) c (in0 ρ H c) (in1 ρ H c) (in2 ρ H c) (in3 ρ H c)

/-- What the second call is entered with. -/
theorem ops : Ops (V2 m ρ) c (g c) (d c) (mulT (z c) (lo (w c))) (mulT (z c) (hi (w c))) (k c) (b c) where
  hd := by rw [show V2 m ρ c main_arg5 = m ((c : Thread nD τ).loc main_arg5) from W2_args m ρ c main_arg5 (by decide)]; exact H.hg c
  hw := by rw [show V2 m ρ c main_arg4 = m ((c : Thread nD τ).loc main_arg4) from W2_args m ρ c main_arg4 (by decide)]; exact H.hd c
  hua := by
    rw [show V2 m ρ c main_v1_0 = (dat0 (V1 m ρ) c).arrAt 8 cfg0.N from W2_arr m ρ c 8]
    exact Cert.Up.arr8 (V1 m ρ) c (in0 ρ H c) (in1 ρ H c)
  hub := by
    rw [show V2 m ρ c main_v1_1 = (dat0 (V1 m ρ) c).arrAt 9 cfg0.N from W2_arr m ρ c 9]
    exact Cert.Up.arr9 (V1 m ρ) c (in0 ρ H c) (in1 ρ H c)
  hk := by rw [show V2 m ρ c main_arg2 = m ((c : Thread nD τ).loc main_arg2) from W2_args m ρ c main_arg2 (by decide)]; exact H.hk c
  hb := by rw [show V2 m ρ c main_arg3 = m ((c : Thread nD τ).loc main_arg3) from W2_args m ρ c main_arg3 (by decide)]; exact H.hb c

/-- The derivative of the second layer's weights, when its call ends. -/
theorem down : Holds (m := 5632) (n := 2048) (V4 m ρ c main_v3) (tMul (hid (z c) (w c) (k c) (b c)) (g c)) := by
  rw [show V4 m ρ c main_v3 = (dat2 (V3 m ρ) c).arrAt 2 cfg2.N from W4_arr m ρ c 2]
  refine arr2 ?_ ?_
  · rw [show V3 m ρ c main_v1_2 = V2 m ρ c main_v1_2 from W3_of m ρ c main_v1_2 (by decide)]
    exact hidden ρ H c
  · rw [show V3 m ρ c main_arg5 = m ((c : Thread nD τ).loc main_arg5) from W3_args m ρ c main_arg5 (by decide)]
    exact H.hg c

theorem upper : Holds (m := 2048) (n := 5632) (V4 m ρ c main_v2_0) (ffn (z c) (w c) (k c) (b c) (d c) (g c)).ga := by
  rw [show V4 m ρ c main_v2_0 = V3 m ρ c main_v2_0 from W4_of m ρ c main_v2_0 (by decide),
    show V3 m ρ c main_v2_0 = (dat1 (V2 m ρ) c).arrAt 9 cfg1.N from W3_arr m ρ c 9]
  exact arr9 (ops ρ H c)

theorem lower : Holds (m := 2048) (n := 5632) (V6 m ρ c main_v2_1) (ffn (z c) (w c) (k c) (b c) (d c) (g c)).gb := by
  rw [show V6 m ρ c main_v2_1 = V5 m ρ c main_v2_1 from W6_of m ρ c main_v2_1 (by decide),
    show V5 m ρ c main_v2_1 = V4 m ρ c main_v2_1 from W5_of m ρ c main_v2_1 (by decide),
    show V4 m ρ c main_v2_1 = V3 m ρ c main_v2_1 from W4_of m ρ c main_v2_1 (by decide),
    show V3 m ρ c main_v2_1 = (dat1 (V2 m ρ) c).arrAt 10 cfg1.N from W3_arr m ρ c 10]
  exact arr10 (ops ρ H c)

/-- The first half of the first layer's, when its second half's call is entered. -/
theorem first (f : Fin 11264) (r : Fin 2048) (h : f.val < 5632) : V6 m ρ c main_v5 (ix2 (n0 := 11264) (n1 := 2048) f r)
    = ((gw (ffn (z c) (w c) (k c) (b c) (d c) (g c)) (z c) f r : ℝ) : EReal) := by
  have e : V6 m ρ c main_v5 = V5 m ρ c main_v4 := by
    show StableHlo.after hostOps4 (W5 m ρ c) (Proc.devRef .tc main_v5) = _
    rw [StableHlo.after_cons, StableHlo.after_nil, StableHlo.unary_result]
    rfl
  rw [e, show V5 m ρ c main_v4 = (dat3 (V4 m ρ) c).arrAt 2 cfg3.N from W5_arr m ρ c 2]
  rw [gw_lt _ _ f r h]
  refine arr3 (y := z c) (upper ρ H c) ?_ f h r
  rw [show V4 m ρ c main_arg0 = m ((c : Thread nD τ).loc main_arg0) from W4_args m ρ c main_arg0 (by decide)]
  exact H.hz c

theorem up : Holds (m := 11264) (n := 2048) (V7 m ρ c main_v5) (gw (ffn (z c) (w c) (k c) (b c) (d c) (g c)) (z c)) := by
  rw [show V7 m ρ c main_v5 = (dat4 (V6 m ρ) c).arrAt 2 cfg4.N from W7_arr m ρ c 2]
  refine arr4 (y := z c) (lower ρ H c) ?_ (gw_ge _ _) (first ρ H c)
  rw [show V6 m ρ c main_arg0 = m ((c : Thread nD τ).loc main_arg0) from W6_args m ρ c main_arg0 (by decide)]
  exact H.hz c

omit H in
/-- A buffer the last three calls do not write. -/
theorem last (r : Ref sig .tc) (h2 : ∀ w : Fin cfg2.W, Pipeline.arrRef spec2 w = r → (cfg2.win w).isOut = false)
    (h3 : ∀ w : Fin cfg3.W, Pipeline.arrRef spec3 w = r → (cfg3.win w).isOut = false) (h5 : r ∉ hostOps4_W)
    (h4 : ∀ w : Fin cfg4.W, Pipeline.arrRef spec4 w = r → (cfg4.win w).isOut = false) : V7 m ρ c r = V3 m ρ c r :=
  (W7_of m ρ c r h4).trans ((W6_of m ρ c r h5).trans ((W5_of m ρ c r h3).trans (W4_of m ρ c r h2)))

/-- The results at the end of a run; the arguments are unchanged. -/
theorem values : θ_run defs (onTc (τ := τ) (main (F := Ideal))) ⟨m, fun _ => 0, ρ⟩ (fun r => ∀ c : Dev nD,
      Holds (m := 11264) (n := 2048) (r.2.mem ((c : Thread nD τ).loc main_v5)) (gw (ffn (z c) (w c) (k c) (b c) (d c) (g c)) (z c))
      ∧ Holds (m := 3) (n := 5632) (r.2.mem ((c : Thread nD τ).loc main_v2_2)) (ffn (z c) (w c) (k c) (b c) (d c) (g c)).ta
      ∧ Holds (m := 3) (n := 5632) (r.2.mem ((c : Thread nD τ).loc main_v2_3)) (ffn (z c) (w c) (k c) (b c) (d c) (g c)).tb
      ∧ Holds (m := 1) (n := 5632) (r.2.mem ((c : Thread nD τ).loc main_v2_4)) (ffn (z c) (w c) (k c) (b c) (d c) (g c)).sa
      ∧ Holds (m := 1) (n := 5632) (r.2.mem ((c : Thread nD τ).loc main_v2_5)) (ffn (z c) (w c) (k c) (b c) (d c) (g c)).sb
      ∧ Holds (m := 5632) (n := 2048) (r.2.mem ((c : Thread nD τ).loc main_v3)) (tMul (hid (z c) (w c) (k c) (b c)) (g c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    have e0 : r.2.mem ((c : Thread nD τ).loc main_v5) = V7 m ρ c main_v5 := h c _ (mem_uc main_v5 (by decide))
    have e5 : r.2.mem ((c : Thread nD τ).loc main_v3) = V4 m ρ c main_v3 :=
      (h c _ (mem_uc main_v3 (by decide))).trans
        ((W7_of m ρ c main_v3 (by decide)).trans ((W6_of m ρ c main_v3 (by decide)).trans (W5_of m ρ c main_v3 (by decide))))
    have e1 : r.2.mem ((c : Thread nD τ).loc main_v2_2) = (dat1 (V2 m ρ) c).arrAt 11 cfg1.N :=
      (h c _ (mem_uc main_v2_2 (by decide))).trans ((last ρ c main_v2_2 (by decide) (by decide) (by decide) (by decide)).trans (W3_arr m ρ c 11))
    have e2 : r.2.mem ((c : Thread nD τ).loc main_v2_3) = (dat1 (V2 m ρ) c).arrAt 12 cfg1.N :=
      (h c _ (mem_uc main_v2_3 (by decide))).trans ((last ρ c main_v2_3 (by decide) (by decide) (by decide) (by decide)).trans (W3_arr m ρ c 12))
    have e3 : r.2.mem ((c : Thread nD τ).loc main_v2_4) = (dat1 (V2 m ρ) c).arrAt 13 cfg1.N :=
      (h c _ (mem_uc main_v2_4 (by decide))).trans ((last ρ c main_v2_4 (by decide) (by decide) (by decide) (by decide)).trans (W3_arr m ρ c 13))
    have e4 : r.2.mem ((c : Thread nD τ).loc main_v2_5) = (dat1 (V2 m ρ) c).arrAt 14 cfg1.N :=
      (h c _ (mem_uc main_v2_5 (by decide))).trans ((last ρ c main_v2_5 (by decide) (by decide) (by decide) (by decide)).trans (W3_arr m ρ c 14))
    rw [e0, e1, e2, e3, e4, e5]
    exact ⟨up ρ H c, arr11 (ops ρ H c), arr12 (ops ρ H c), arr13 (ops ρ H c), arr14 (ops ρ H c), down ρ H c,
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c)⟩) (run m ρ)

end Cert.Run2

end
-- ==== Proof.RefConv.lean ====
/- The reference's convolution and gate, and the gate's derivative, read at real arguments. -/
module

public import proofs.«01_k».proof.Proof.Gen.Reference2Ideal.Read
public import proofs.«01_k».proof.Proof.Run2
public import Idealize.ShloMosaic.Lib.Pointwise

@[expose] public section

set_option maxRecDepth 16384

noncomputable section

namespace Cert.Ref2

open Idealize.ShloMosaic Cert.Reference2Ideal Cert.Reference2Ideal.Gen Cert.Reference2Ideal.Read Cert.Lift Cert.Block Cert.Conv Cert.Up Cert.Dx Cert.Run2

variable {x0 : (⟨S2048x2048, .bf16⟩ : BufTy).Contents (Elt Ideal)} {x1 : (⟨S11264x2048, .bf16⟩ : BufTy).Contents (Elt Ideal)}
  {x2 : (⟨S3x11264, .f32⟩ : BufTy).Contents (Elt Ideal)} {x3 : (⟨S1x11264, .f32⟩ : BufTy).Contents (Elt Ideal)}
  {x4 : (⟨S5632x2048, .bf16⟩ : BufTy).Contents (Elt Ideal)} {x5 : (⟨S2048x2048, .bf16⟩ : BufTy).Contents (Elt Ideal)}
variable {z g : Fin 2048 → Fin 2048 → ℝ} {w : Fin 11264 → Fin 2048 → ℝ} {k : Fin 3 → Fin 11264 → ℝ} {b : Fin 1 → Fin 11264 → ℝ}
  {d : Fin 5632 → Fin 2048 → ℝ}

section

variable (h0 : Holds (m := 2048) (n := 2048) x0 z) (h1 : Holds (m := 11264) (n := 2048) x1 w)
include h0 h1

/-- The columns before the convolution. -/
theorem v4 : Holds (m := 2048) (n := 11264) (val_main_v4 (F := Ideal) x0 x1) (mulT z w) := fun r f => by
  pointwise [val_main_v4, val_main_v3, val_main_v0, val_main_v1]
  exact dot_eq _ _ _ _ (h0 r) (h1 f)

/-- The columns moved down by a row. -/
theorem v11 : Holds (m := 2048) (n := 11264) (val_main_v11 (F := Ideal) x0 x1) (fun r f => prv (fun r => mulT z w r f) r) := fun r f => by
  have e := v4 h0 h1
  revert e
  unfold val_main_v11 val_main_v6
  generalize val_main_v4 (F := Ideal) x0 x1 = y
  intro e
  pointwise [val_main_v5, val_main_cst]
  by_cases h : r.val = 0
  · rw [dif_pos (by omega), prv, if_pos h]; rfl
  · rw [dif_neg (by omega), dif_pos (by omega), prv, if_neg h]
    exact e _ f

theorem v19 : Holds (m := 2048) (n := 11264) (val_main_v19 (F := Ideal) x0 x1) (mulT z w) := fun r f => by
  have e := v4 h0 h1
  revert e
  unfold val_main_v19 val_main_v6
  generalize val_main_v4 (F := Ideal) x0 x1 = y
  intro e
  pointwise [val_main_v5, val_main_cst]
  exact e r f

/-- The columns moved up by a row. -/
theorem v26 : Holds (m := 2048) (n := 11264) (val_main_v26 (F := Ideal) x0 x1) (fun r f => nxt (fun r => mulT z w r f) r) := fun r f => by
  have e := v4 h0 h1
  revert e
  unfold val_main_v26 val_main_v6
  generalize val_main_v4 (F := Ideal) x0 x1 = y
  intro e
  pointwise [val_main_v5, val_main_cst]
  by_cases h : r.val + 1 < 2048
  · rw [dif_neg (by omega), dif_pos (by omega), nxt, dif_pos h]
    refine Eq.trans (congrArg y ?_) (e ⟨r.val + 1, h⟩ f)
    exact (ix2_inj _ _ _ _).mpr ⟨Fin.ext (by show 2 + r.val - 1 = r.val + 1; omega), rfl⟩
  · rw [dif_neg (by omega), dif_neg (by omega), nxt, dif_neg h]; rfl

end

section

variable (h2 : Holds (m := 3) (n := 11264) x2 k)
include h2

theorem v13 : Holds (m := 2048) (n := 11264) (val_main_v13 (F := Ideal) x2) (fun _ f => k 0 f) := fun r f => by
  pointwise [val_main_v13, val_main_v12, val_main_v10, val_main_v9]
  exact h2 0 f

theorem v21 : Holds (m := 2048) (n := 11264) (val_main_v21 (F := Ideal) x2) (fun _ f => k 1 f) := fun r f => by
  pointwise [val_main_v21, val_main_v20, val_main_v18, val_main_v17]
  exact h2 1 f

theorem v28 : Holds (m := 2048) (n := 11264) (val_main_v28 (F := Ideal) x2) (fun _ f => k 2 f) := fun r f => by
  pointwise [val_main_v28, val_main_v27, val_main_v25, val_main_v24]
  exact h2 2 f

theorem v48 : Holds (m := 2048) (n := 11264) (val_main_v48 (F := Ideal) x2) (fun _ f => k 2 f) := fun r f => by
  pointwise [val_main_v48, val_main_v27, val_main_v25, val_main_v24]
  exact h2 2 f

theorem v57 : Holds (m := 2048) (n := 11264) (val_main_v57 (F := Ideal) x2) (fun _ f => k 1 f) := fun r f => by
  pointwise [val_main_v57, val_main_v20, val_main_v18, val_main_v17]
  exact h2 1 f

theorem v68 : Holds (m := 2048) (n := 11264) (val_main_v68 (F := Ideal) x2) (fun _ f => k 0 f) := fun r f => by
  pointwise [val_main_v68, val_main_v12, val_main_v10, val_main_v9]
  exact h2 0 f

end

variable (h0 : Holds (m := 2048) (n := 2048) x0 z) (h1 : Holds (m := 11264) (n := 2048) x1 w) (h2 : Holds (m := 3) (n := 11264) x2 k)
  (h3 : Holds (m := 1) (n := 11264) x3 b) (h4 : Holds (m := 5632) (n := 2048) x4 d) (h5 : Holds (m := 2048) (n := 2048) x5 g)

include h0 h1 h2 h3 in
/-- The convolved columns. -/
theorem v32 : Holds (m := 2048) (n := 11264) (val_main_v32 (F := Ideal) x0 x1 x2 x3)
    (fun r f => conv (fun j => k j f) (b 0 f) (fun r => mulT z w r f) r) := fun r f => by
  have a11 := v11 h0 h1 r f
  have a19 := v19 h0 h1 r f
  have a26 := v26 h0 h1 r f
  have a13 := v13 h2 r f
  have a21 := v21 h2 r f
  have a28 := v28 h2 r f
  have a3 := h3 0 f
  revert a11 a19 a26 a13 a21 a28
  unfold val_main_v32 val_main_v30 val_main_v23 val_main_v16 val_main_v14 val_main_v22 val_main_v29
  generalize val_main_v11 (F := Ideal) x0 x1 = y11
  generalize val_main_v19 (F := Ideal) x0 x1 = y19
  generalize val_main_v26 (F := Ideal) x0 x1 = y26
  generalize val_main_v13 (F := Ideal) x2 = y13
  generalize val_main_v21 (F := Ideal) x2 = y21
  generalize val_main_v28 (F := Ideal) x2 = y28
  intro a11 a19 a26 a13 a21 a28
  pointwise [val_main_v15, val_main_cst_2, val_main_v31]
  rw [a11, a19, a26, a13, a21, a28, a3]
  simp only [← EReal.coe_mul, ← EReal.coe_add]
  refine congrArg _ ?_
  unfold conv
  ring

section

include h0 h1 h2 h3

/-- The first half. -/
theorem v33 : Holds (m := 2048) (n := 5632) (val_main_v33 (F := Ideal) x0 x1 x2 x3)
    (cv z (lo w) (fun j => lo (k j)) (lo (b 0))) := fun r f => by
  have a := v32 h0 h1 h2 h3
  revert a
  unfold val_main_v33
  generalize val_main_v32 (F := Ideal) x0 x1 x2 x3 = y
  intro a
  pointwise
  exact a r ⟨f.val, by omega⟩

/-- The second half. -/
theorem v34 : Holds (m := 2048) (n := 5632) (val_main_v34 (F := Ideal) x0 x1 x2 x3)
    (cv z (hi w) (fun j => hi (k j)) (hi (b 0))) := fun r f => by
  have a := v32 h0 h1 h2 h3
  revert a
  unfold val_main_v34
  generalize val_main_v32 (F := Ideal) x0 x1 x2 x3 = y
  intro a
  pointwise
  exact a r ⟨5632 + f.val, by omega⟩

/-- The logistic function of the first half. -/
theorem v35_2 : Holds (m := 2048) (n := 5632) (val_main_v35_2 (F := Ideal) x0 x1 x2 x3)
    (fun r f => sg (cv z (lo w) (fun j => lo (k j)) (lo (b 0)) r f)) := fun r f => by
  beta_reduce
  have a := v33 h0 h1 h2 h3 r f
  revert a
  unfold val_main_v35_2 val_main_call0_v3 val_main_call0_v1 val_main_call0_v0
  generalize val_main_v33 (F := Ideal) x0 x1 x2 x3 = y
  generalize cv z (lo w) (fun j => lo (k j)) (lo (b 0)) r f = t
  intro a
  pointwise [val_main_call0_v4, val_main_call0_cst_0, val_main_call0_v2, val_main_call0_cst]
  rw [a]
  have h : (1 : EReal) = ((1 : ℝ) : EReal) := rfl
  rw [← EReal.coe_neg, Ideal.exp_coe, h, ← EReal.coe_add, div_real _ _ (by positivity), one_div]
  rfl

theorem v35_1 : Holds (m := 2048) (n := 5632) (val_main_v35_1 (F := Ideal) x0 x1 x2 x3)
    (fun r f => sg (cv z (lo w) (fun j => lo (k j)) (lo (b 0)) r f) * (1 - sg (cv z (lo w) (fun j => lo (k j)) (lo (b 0)) r f))) := fun r f => by
  have a := v35_2 h0 h1 h2 h3 r f
  beta_reduce at a ⊢
  revert a
  unfold val_main_v35_1 val_main_call0_v7
  generalize val_main_v35_2 (F := Ideal) x0 x1 x2 x3 = y
  generalize sg (cv z (lo w) (fun j => lo (k j)) (lo (b 0)) r f) = t
  intro a
  pointwise [val_main_call0_v6, val_main_call0_cst_1]
  have h : (1 : EReal) = ((1 : ℝ) : EReal) := rfl
  rw [show y (ix2 r f) = ((t : ℝ) : EReal) from a, h, ← EReal.coe_sub, ← EReal.coe_mul]

theorem v35_0 : Holds (m := 2048) (n := 5632) (val_main_v35_0 (F := Ideal) x0 x1 x2 x3)
    (fun r f => cv z (lo w) (fun j => lo (k j)) (lo (b 0)) r f * sg (cv z (lo w) (fun j => lo (k j)) (lo (b 0)) r f)) := fun r f => by
  rw [val_main_v35_0_apply, v33 h0 h1 h2 h3 r f, v35_2 h0 h1 h2 h3 r f]
  exact (EReal.coe_mul _ _).symm

/-- The gated columns. -/
theorem v36 : Holds (m := 2048) (n := 5632) (val_main_v36 (F := Ideal) x0 x1 x2 x3) (hid z w k b) := fun r f => by
  rw [val_main_v36_apply, v35_0 h0 h1 h2 h3 r f, v34 h0 h1 h2 h3 r f]
  exact (EReal.coe_mul _ _).symm

end

include h4 h5 in
/-- The derivative of the gated columns. -/
theorem v41 : Holds (m := 2048) (n := 5632) (val_main_v41 (F := Ideal) x4 x5) (mulT g d) := fun r f => by
  pointwise [val_main_v41, val_main_v38, val_main_v2]
  exact dot_eq _ _ _ _ (h5 r) (h4 f)

include h0 h1 h2 h3 h4 h5

/-- The derivative of the second half. -/
theorem v42 : Holds (m := 2048) (n := 5632) (val_main_v42 (F := Ideal) x0 x1 x2 x3 x4 x5) (ffn z w k b d g).DB := fun r f => by
  rw [val_main_v42_apply, v35_0 h0 h1 h2 h3 r f, v41 h4 h5 r f]
  exact (EReal.coe_mul _ _).symm.trans (congrArg _ (mul_comm _ _))

/-- The derivative of the first half. -/
theorem v44 : Holds (m := 2048) (n := 5632) (val_main_v44 (F := Ideal) x0 x1 x2 x3 x4 x5) (ffn z w k b d g).DA := fun r f => by
  rw [val_main_v44_apply, val_main_call1_v1_apply, val_main_call1_v2_apply, val_main_call1_v0_apply, val_main_v43_apply,
    v33 h0 h1 h2 h3 r f, v34 h0 h1 h2 h3 r f, v35_1 h0 h1 h2 h3 r f, v35_2 h0 h1 h2 h3 r f, v41 h4 h5 r f]
  have e : ∀ a b d s : ℝ, ((d : EReal) * b) * s + (a * (d * b)) * ((s * (1 - s) : ℝ) : EReal) = ((d * b * s + a * (d * b) * (s * (1 - s)) : ℝ) : EReal) :=
    fun a b d s => by simp only [← EReal.coe_mul, ← EReal.coe_add]
  exact (e _ _ _ _).trans (congrArg _ (gateA_eq _ _ _).symm)

end Cert.Ref2

end
-- ==== Proof.RefFfn.lean ====
/- The reference's results read at real arguments: the derivatives of both layers' weights, of the taps and of the biases. -/
module

public import proofs.«01_k».proof.Proof.RefConv

@[expose] public section

set_option maxRecDepth 16384

noncomputable section

namespace Cert.Ref2

open Idealize.ShloMosaic Cert.Reference2Ideal Cert.Reference2Ideal.Gen Cert.Reference2Ideal.Read Cert.Lift Cert.Block Cert.Conv Cert.Up Cert.Dx Cert.Run2

variable {x0 : (⟨S2048x2048, .bf16⟩ : BufTy).Contents (Elt Ideal)} {x1 : (⟨S11264x2048, .bf16⟩ : BufTy).Contents (Elt Ideal)}
  {x2 : (⟨S3x11264, .f32⟩ : BufTy).Contents (Elt Ideal)} {x3 : (⟨S1x11264, .f32⟩ : BufTy).Contents (Elt Ideal)}
  {x4 : (⟨S5632x2048, .bf16⟩ : BufTy).Contents (Elt Ideal)} {x5 : (⟨S2048x2048, .bf16⟩ : BufTy).Contents (Elt Ideal)}
variable {z g : Fin 2048 → Fin 2048 → ℝ} {w : Fin 11264 → Fin 2048 → ℝ} {k : Fin 3 → Fin 11264 → ℝ} {b : Fin 1 → Fin 11264 → ℝ}
  {d : Fin 5632 → Fin 2048 → ℝ}

/-- The derivative of the convolved columns of both halves. -/
def full (K : Cols 5632) (r : Fin 2048) (f : Fin 11264) : ℝ :=
  if h : f.val < 5632 then K.DA r ⟨f.val, h⟩ else K.DB r ⟨f.val - 5632, by omega⟩

theorem full_lt (K : Cols 5632) (r : Fin 2048) (f : Fin 5632) (h : f.val < 11264) : full K r ⟨f.val, h⟩ = K.DA r f := by
  unfold full
  exact dif_pos f.isLt

theorem full_ge (K : Cols 5632) (r : Fin 2048) (f : Fin 5632) (h : 5632 + f.val < 11264) : full K r ⟨5632 + f.val, h⟩ = K.DB r f := by
  unfold full
  refine (dif_neg (by show ¬5632 + f.val < 5632; omega)).trans ?_
  exact congrArg (K.DB r) (Fin.ext (Nat.add_sub_cancel_left ..))

/-- A sum of products of real columns. -/
theorem col_dot (X Y : Fin 2048 → EReal) (x y : Fin 2048 → ℝ) (hx : ∀ r, X r = ((x r : ℝ) : EReal)) (hy : ∀ r, Y r = ((y r : ℝ) : EReal)) :
    ∑ r, X r * Y r = ((∑ r, x r * y r : ℝ) : EReal) := dot_eq _ _ _ _ hx hy

variable (h0 : Holds (m := 2048) (n := 2048) x0 z) (h1 : Holds (m := 11264) (n := 2048) x1 w) (h2 : Holds (m := 3) (n := 11264) x2 k)
  (h3 : Holds (m := 1) (n := 11264) x3 b) (h4 : Holds (m := 5632) (n := 2048) x4 d) (h5 : Holds (m := 2048) (n := 2048) x5 g)

include h0 h1 h2 h3 h5 in
/-- The derivative of the second layer's weights. -/
theorem v91 : Holds (m := 5632) (n := 2048) (val_main_v91 (F := Ideal) x0 x1 x2 x3 x5) (tMul (hid z w k b) g) := fun f r => by
  have a := v36 h0 h1 h2 h3
  revert a
  unfold val_main_v91 val_main_v40 val_main_v39
  generalize val_main_v36 (F := Ideal) x0 x1 x2 x3 = y
  intro a
  pointwise [val_main_v38]
  refine (dot_eq _ _ _ _ (fun i => h5 i r) (fun i => a i f)).trans (congrArg _ ?_)
  exact Finset.sum_congr rfl fun i _ => mul_comm _ _

include h0 h1 h2 h3 h4 h5

theorem v45 : Holds (m := 2048) (n := 11264) (val_main_v45 (F := Ideal) x0 x1 x2 x3 x4 x5) (full (ffn z w k b d g)) := fun r f => by
  have a := v44 h0 h1 h2 h3 h4 h5
  have c := v42 h0 h1 h2 h3 h4 h5
  revert a c
  unfold val_main_v45 full
  generalize val_main_v44 (F := Ideal) x0 x1 x2 x3 x4 x5 = y0
  generalize val_main_v42 (F := Ideal) x0 x1 x2 x3 x4 x5 = y1
  generalize ffn z w k b d g = K
  intro a c
  pointwise
  by_cases h : f.val < 5632
  · rw [dif_pos h, dif_pos h]; exact a r _
  · rw [dif_neg h, dif_neg h]; exact c r _

/-- The derivative of the biases. -/
theorem v47 (f : Fin 11264) : val_main_v47 (F := Ideal) x0 x1 x2 x3 x4 x5 (ix2 (n0 := 1) (n1 := 11264) 0 f)
    = ((∑ r, full (ffn z w k b d g) r f : ℝ) : EReal) := by
  have a := v45 h0 h1 h2 h3 h4 h5
  revert a
  unfold val_main_v47 val_main_v46
  generalize val_main_v45 (F := Ideal) x0 x1 x2 x3 x4 x5 = y
  generalize ffn z w k b d g = K
  intro a
  pointwise [val_main_cst_3]
  exact sum_eq _ _ fun r => a r f

theorem v89 : Holds (m := 1) (n := 5632) (val_main_v89 (F := Ideal) x0 x1 x2 x3 x4 x5) (ffn z w k b d g).sa := fun j f => by
  have a := v47 h0 h1 h2 h3 h4 h5 ⟨f.val, by omega⟩
  revert a
  unfold val_main_v89
  generalize val_main_v47 (F := Ideal) x0 x1 x2 x3 x4 x5 = y
  generalize ffn z w k b d g = K
  intro a
  obtain rfl : j = 0 := Subsingleton.elim _ _
  pointwise
  refine Eq.trans a (congrArg _ ?_)
  exact Finset.sum_congr rfl fun r _ => full_lt K r f _

theorem v90 : Holds (m := 1) (n := 5632) (val_main_v90 (F := Ideal) x0 x1 x2 x3 x4 x5) (ffn z w k b d g).sb := fun j f => by
  have a := v47 h0 h1 h2 h3 h4 h5 ⟨5632 + f.val, by omega⟩
  revert a
  unfold val_main_v90
  generalize val_main_v47 (F := Ideal) x0 x1 x2 x3 x4 x5 = y
  generalize ffn z w k b d g = K
  intro a
  obtain rfl : j = 0 := Subsingleton.elim _ _
  pointwise
  refine Eq.trans a (congrArg _ ?_)
  exact Finset.sum_congr rfl fun r _ => full_ge K r f _

/-- The derivative of tap 2. -/
theorem v53 (f : Fin 11264) : val_main_v53 (F := Ideal) x0 x1 x2 x3 x4 x5 (ix1 f)
    = ((∑ r, full (ffn z w k b d g) r f * tap 2 (fun r => mulT z w r f) r : ℝ) : EReal) := by
  have a := v45 h0 h1 h2 h3 h4 h5
  have c := v26 h0 h1
  revert a c
  unfold val_main_v53 val_main_v52 val_main_v51 val_main_v50
  generalize val_main_v45 (F := Ideal) x0 x1 x2 x3 x4 x5 = y
  generalize val_main_v26 (F := Ideal) x0 x1 = u
  generalize ffn z w k b d g = K
  intro a c
  pointwise [val_main_cst_5, val_main_cst_4]
  refine (Fin.sum_univ_one _).trans ?_
  exact col_dot _ _ _ _ (fun r => a r f) (fun r => c r f)

/-- The derivative of tap 1. -/
theorem v62 (f : Fin 11264) : val_main_v62 (F := Ideal) x0 x1 x2 x3 x4 x5 (ix1 f)
    = ((∑ r, full (ffn z w k b d g) r f * tap 1 (fun r => mulT z w r f) r : ℝ) : EReal) := by
  have a := v45 h0 h1 h2 h3 h4 h5
  have c := v19 h0 h1
  revert a c
  unfold val_main_v62 val_main_v61 val_main_v60 val_main_v59
  generalize val_main_v45 (F := Ideal) x0 x1 x2 x3 x4 x5 = y
  generalize val_main_v19 (F := Ideal) x0 x1 = u
  generalize ffn z w k b d g = K
  intro a c
  pointwise [val_main_cst_9, val_main_cst_8]
  refine (Fin.sum_univ_one _).trans ?_
  exact col_dot _ _ _ _ (fun r => a r f) (fun r => c r f)

/-- The derivative of tap 0. -/
theorem v73 (f : Fin 11264) : val_main_v73 (F := Ideal) x0 x1 x2 x3 x4 x5 (ix1 f)
    = ((∑ r, full (ffn z w k b d g) r f * tap 0 (fun r => mulT z w r f) r : ℝ) : EReal) := by
  have a := v45 h0 h1 h2 h3 h4 h5
  have c := v11 h0 h1
  revert a c
  unfold val_main_v73 val_main_v72 val_main_v71 val_main_v70
  generalize val_main_v45 (F := Ideal) x0 x1 x2 x3 x4 x5 = y
  generalize val_main_v11 (F := Ideal) x0 x1 = u
  generalize ffn z w k b d g = K
  intro a c
  pointwise [val_main_cst_13, val_main_cst_12]
  refine (Fin.sum_univ_one _).trans ?_
  exact col_dot _ _ _ _ (fun r => a r f) (fun r => c r f)

/-- The taps' derivatives. -/
theorem v78 : Holds (m := 3) (n := 11264) (val_main_v78 (F := Ideal) x0 x1 x2 x3 x4 x5)
    (fun j f => ∑ r, full (ffn z w k b d g) r f * tap j (fun r => mulT z w r f) r) := fun j f => by
  have a0 := v73 h0 h1 h2 h3 h4 h5 f
  have a1 := v62 h0 h1 h2 h3 h4 h5 f
  have a2 := v53 h0 h1 h2 h3 h4 h5 f
  revert a0 a1 a2
  unfold val_main_v78 val_main_v77 val_main_v67 val_main_v66 val_main_v56 val_main_v55 val_main_v65 val_main_v76
  generalize val_main_v53 (F := Ideal) x0 x1 x2 x3 x4 x5 = y2
  generalize val_main_v62 (F := Ideal) x0 x1 x2 x3 x4 x5 = y1
  generalize val_main_v73 (F := Ideal) x0 x1 x2 x3 x4 x5 = y0
  generalize ffn z w k b d g = K
  intro a0 a1 a2
  match j with
  | 0 => pointwise [val_main_cst_7, val_main_cst_11, val_main_cst_15]; exact a0
  | 1 => pointwise [val_main_cst_7, val_main_cst_11, val_main_cst_15]; exact a1
  | 2 => pointwise [val_main_cst_7, val_main_cst_11, val_main_cst_15]; exact a2

theorem v87 : Holds (m := 3) (n := 5632) (val_main_v87 (F := Ideal) x0 x1 x2 x3 x4 x5) (ffn z w k b d g).ta := fun j f => by
  have a := v78 h0 h1 h2 h3 h4 h5 j ⟨f.val, by omega⟩
  beta_reduce at a
  rw [Finset.sum_congr rfl fun r _ => congrArg (· * _) (full_lt (ffn z w k b d g) r f (by omega))] at a
  revert a
  unfold val_main_v87
  generalize val_main_v78 (F := Ideal) x0 x1 x2 x3 x4 x5 = y
  intro a
  pointwise
  exact a

theorem v88 : Holds (m := 3) (n := 5632) (val_main_v88 (F := Ideal) x0 x1 x2 x3 x4 x5) (ffn z w k b d g).tb := fun j f => by
  have a := v78 h0 h1 h2 h3 h4 h5 j ⟨5632 + f.val, by omega⟩
  beta_reduce at a
  rw [Finset.sum_congr rfl fun r _ => congrArg (· * _) (full_ge (ffn z w k b d g) r f (by omega))] at a
  revert a
  unfold val_main_v88
  generalize val_main_v78 (F := Ideal) x0 x1 x2 x3 x4 x5 = y
  intro a
  pointwise
  exact a

/-- The derivative of the columns before the convolution. -/
theorem v80 : Holds (m := 2048) (n := 11264) (val_main_v80 (F := Ideal) x0 x1 x2 x3 x4 x5)
    (fun r f => back (fun j => k j f) (fun r => full (ffn z w k b d g) r f) r) := fun r f => by
  have a := v45 h0 h1 h2 h3 h4 h5
  have b2 := v48 h2
  have b1 := v57 h2
  have b0 := v68 h2
  revert a b2 b1 b0
  unfold val_main_v80 val_main_v75 val_main_v64 val_main_v74 val_main_v54 val_main_v63 val_main_v49 val_main_v58 val_main_v69
  generalize val_main_v45 (F := Ideal) x0 x1 x2 x3 x4 x5 = y
  generalize val_main_v48 (F := Ideal) x2 = y2
  generalize val_main_v57 (F := Ideal) x2 = y1
  generalize val_main_v68 (F := Ideal) x2 = y0
  generalize ffn z w k b d g = K
  intro a b2 b1 b0
  pointwise [val_main_cst_6, val_main_cst_10, val_main_cst_14]
  have p : (if h : 2 ≤ 1 + r.val ∧ 1 + r.val - 2 < 2048 then y2 (ix2 ⟨1 + r.val - 2, h.2⟩ f) * y (ix2 ⟨1 + r.val - 2, h.2⟩ f) else 0)
      = ((k 2 f * prv (fun r => full K r f) r : ℝ) : EReal) := by
    unfold prv
    by_cases h : r.val = 0
    · rw [dif_neg (by omega), if_pos h, mul_zero]; rfl
    · rw [dif_pos (by omega), if_neg h, EReal.coe_mul]
      have e : (⟨1 + r.val - 2, by omega⟩ : Fin 2048) = ⟨r.val - 1, by omega⟩ := Fin.ext (by show 1 + r.val - 2 = r.val - 1; omega)
      rw [e]
      exact congrArg₂ (· * ·) (b2 _ f) (a _ f)
  have n : (if h : 1 + r.val < 2048 then y0 (ix2 ⟨1 + r.val, h⟩ f) * y (ix2 ⟨1 + r.val, h⟩ f) else 0)
      = ((k 0 f * nxt (fun r => full K r f) r : ℝ) : EReal) := by
    unfold nxt
    by_cases h : r.val + 1 < 2048
    · rw [dif_pos (by omega), dif_pos h, EReal.coe_mul]
      have e : (⟨1 + r.val, by omega⟩ : Fin 2048) = ⟨r.val + 1, h⟩ := Fin.ext (Nat.add_comm _ _)
      rw [e]
      exact congrArg₂ (· * ·) (b0 _ f) (a _ f)
    · rw [dif_neg (by omega), dif_neg h, mul_zero]; rfl
  rw [b1 r f, a r f, ← EReal.coe_mul]
  refine (congrArg₂ (· + ·) (congrArg (· + _) p) n).trans ?_
  show ((_ : ℝ) : EReal) + ((_ : ℝ) : EReal) + ((_ : ℝ) : EReal) = _
  rw [← EReal.coe_add, ← EReal.coe_add]
  refine congrArg _ ?_
  unfold back
  ring

/-- The derivative of the first layer's weights. -/
theorem v86 : Holds (m := 11264) (n := 2048) (val_main_v86 (F := Ideal) x0 x1 x2 x3 x4 x5) (gw (ffn z w k b d g) z) := fun f r => by
  have a := v80 h0 h1 h2 h3 h4 h5
  revert a
  unfold val_main_v86 val_main_v85 val_main_v83 val_main_v82
  generalize val_main_v80 (F := Ideal) x0 x1 x2 x3 x4 x5 = y
  intro a
  pointwise [val_main_v0]
  refine (dot_eq _ _ _ _ (fun i => a i f) (fun i => h0 i r)).trans (congrArg _ ?_)
  by_cases h : f.val < 5632
  · rw [gw_lt _ _ f r h]
    refine Finset.sum_congr rfl fun i _ => congrArg (· * _) ?_
    refine congrArg (fun D => back (fun j => k j f) D i) (funext fun s => ?_)
    exact full_lt _ s ⟨f.val, h⟩ _
  · have e : f = ⟨5632 + (f.val - 5632), by omega⟩ := Fin.ext (by show f.val = 5632 + (f.val - 5632); omega)
    rw [e]
    refine Eq.trans ?_ (gw_ge _ _ ⟨f.val - 5632, by omega⟩ r).symm
    refine Finset.sum_congr rfl fun i _ => congrArg (· * _) ?_
    refine congrArg (fun D => back (fun j => k j _) D i) (funext fun s => ?_)
    exact full_ge _ s ⟨f.val - 5632, by omega⟩ _

end Cert.Ref2

end
-- ==== Proof.Prod.lean ====
/- Products of matrices of extended reals, in the three ways the calls take them. -/
module

public import Idealize.ShloMosaic.Lib.Pointwise

@[expose] public section

noncomputable section

namespace Cert.Prod

open Idealize.ShloMosaic

/-- A matrix of extended reals. -/
abbrev Mat (m n : ℕ) : Type := (⟨2, ![m, n]⟩ : Shape).Idx → EReal

/-- Rows of the left factor with columns of the right one. -/
def nn {m k n : ℕ} (X : Mat m k) (Y : Mat k n) : Mat m n := fun u => ∑ i, X (ix2 (u 0) i) * Y (ix2 i (u 1))

/-- Rows with rows. -/
def nt {m k n : ℕ} (X : Mat m k) (Y : Mat n k) : Mat m n := fun u => ∑ i, X (ix2 (u 0) i) * Y (ix2 (u 1) i)

/-- Columns with columns. -/
def tn {m k n : ℕ} (X : Mat k m) (Y : Mat k n) : Mat m n := fun u => ∑ i, X (ix2 i (u 0)) * Y (ix2 i (u 1))

/-- Two sums of products are equal when their factors are. -/
theorem sum_mul_congr {k : ℕ} {a a' b b' : Fin k → EReal} (ha : ∀ i, a i = a' i) (hb : ∀ i, b i = b' i) : ∑ i, a i * b i = ∑ i, a' i * b' i :=
  Finset.sum_congr rfl fun i _ => by rw [ha, hb]

/-- Two matrices with the same entries are equal. -/
theorem ext2 {m n : ℕ} {X Y : Mat m n} (h : ∀ r f, X (ix2 r f) = Y (ix2 r f)) : X = Y := funext fun u => by
  obtain ⟨r, f, rfl⟩ : ∃ r f, u = ix2 r f := ⟨u 0, u 1, eq_ix2 u⟩
  exact h r f

/-- The sum of two matrices. -/
def add {m n : ℕ} (X Y : Mat m n) : Mat m n := fun u => X u + Y u

/-- Two sums with the terms in the other order. -/
theorem add_swap {a b a' b' : EReal} (ha : a = a') (hb : b = b') : a + b = b' + a' := by rw [ha, hb, add_comm]

/-- The first `k` rows of a matrix. -/
def top {n p : ℕ} (k : ℕ) (h : k ≤ n) (W : Mat n p) : Mat k p := fun u => W (ix2 ⟨(u 0).val, Nat.lt_of_lt_of_le (u 0).isLt h⟩ (u 1))

/-- `k` rows of a matrix, from row `o`. -/
def rows {n p : ℕ} (o k : ℕ) (h : o + k ≤ n) (W : Mat n p) : Mat k p := fun u => W (ix2 ⟨o + (u 0).val, by have : (u 0).val < k := (u 0).isLt; omega⟩ (u 1))

/-- A sum taken in two halves. -/
theorem sum_halves {k n : ℕ} (hn : k + k = n) (g : Fin n → EReal) :
    (∑ i : Fin k, g ⟨i.val, by omega⟩) + ∑ i : Fin k, g ⟨k + i.val, by omega⟩ = ∑ i, g i := by
  subst hn
  exact (Fin.sum_univ_add g).symm

end Cert.Prod

end
-- ==== Proof.MergeArr.lean ====
/- The nine products of the branch merge and of its derivatives. Each is filled block by block: the grid point `t` of a product
   takes rows `1024 (t / 2)`, … and columns `1024 (t % 2)`, …, or rows `1024 t`, … where one block holds all columns. -/
module

public import proofs.«01_k».proof.Proof.Gen.Kernel3Ideal.Frame
public import proofs.«01_k».proof.Proof.Prod
public import Idealize.ShloMosaic.Lib.Pipeline.ValueKit

@[expose] public section

set_option maxRecDepth 16384

noncomputable section

namespace Cert.Merge

open Idealize.ShloMosaic Idealize.ShloMosaic.TcCoe Idealize.SL.Sem Cert.Kernel3Ideal Cert.Kernel3Ideal.Gen Cert.Prod

variable (V : (c : Dev nD) → (b : Ref sig .tc) → Buf (Elt Ideal) ((c : Thread nD τ).loc b)) (c : Dev nD)

theorem idx0_0 : ∀ t : Fin cfg0.N, win0_0.index t = ![t.val / 2, 0] := by decide +kernel
theorem idx0_1 : ∀ t : Fin cfg0.N, win0_1.index t = ![t.val % 2, 0] := by decide +kernel
theorem idx0_2 : ∀ t : Fin cfg0.N, win0_2.index t = ![t.val / 2, t.val % 2] := by decide +kernel

/-- The first branch. -/
theorem arr0 : (dat0 V c).arrAt 2 cfg0.N = nt (m := 2048) (k := 1024) (n := 2048) (V c main_arg1) (V c main_arg3) := by
  refine (dat0 V c).arrAt_eq_of_covers 2 _ (by decide +kernel) (fun t hf u => ?_)
  blk_simp
  rw [after0_2]
  frame_out
  have : t.val < 4 := lt_of_lt_of_eq t.isLt N_0
  obtain ⟨r, f, rfl⟩ : ∃ r f, u = ix2 (n0 := 1024) (n1 := 1024) r f := ⟨u 0, u 1, eq_ix2 (n0 := 1024) (n1 := 1024) u⟩
  rw [show ((View.whole main_v0).slice (win0_2.rect t)).emb (ix2 r f)
      = ix2 (n0 := 2048) (n1 := 2048) ⟨t.val / 2 * 1024 + r.val, by omega⟩ ⟨t.val % 2 * 1024 + f.val, by omega⟩ from by blk_ext [idx0_2]]
  pointwise [k0_pay1]
  refine sum_mul_congr (fun i => ?_) (fun i => ?_)
  · blk_simp [iblk0]; congr 1; blk_ext [idx0_0]
  · blk_simp [iblk0]; congr 1; blk_ext [idx0_1]

theorem idx1_0 : ∀ t : Fin cfg1.N, win1_0.index t = ![t.val / 2, 0] := by decide +kernel
theorem idx1_1 : ∀ t : Fin cfg1.N, win1_1.index t = ![t.val % 2, 0] := by decide +kernel
theorem idx1_2 : ∀ t : Fin cfg1.N, win1_2.index t = ![t.val / 2, t.val % 2] := by decide +kernel

/-- The second branch. -/
theorem arr1 : (dat1 V c).arrAt 2 cfg1.N = nt (m := 2048) (k := 1024) (n := 2048) (V c main_arg2) (V c main_arg4) := by
  refine (dat1 V c).arrAt_eq_of_covers 2 _ (by decide +kernel) (fun t hf u => ?_)
  blk_simp
  rw [after1_2]
  frame_out
  have : t.val < 4 := lt_of_lt_of_eq t.isLt N_1
  obtain ⟨r, f, rfl⟩ : ∃ r f, u = ix2 (n0 := 1024) (n1 := 1024) r f := ⟨u 0, u 1, eq_ix2 (n0 := 1024) (n1 := 1024) u⟩
  rw [show ((View.whole main_v1).slice (win1_2.rect t)).emb (ix2 r f)
      = ix2 (n0 := 2048) (n1 := 2048) ⟨t.val / 2 * 1024 + r.val, by omega⟩ ⟨t.val % 2 * 1024 + f.val, by omega⟩ from by blk_ext [idx1_2]]
  pointwise [k1_pay1]
  refine sum_mul_congr (fun i => ?_) (fun i => ?_)
  · blk_simp [iblk1]; congr 1; blk_ext [idx1_0]
  · blk_simp [iblk1]; congr 1; blk_ext [idx1_1]

theorem idx3_0 : ∀ t : Fin cfg3.N, win3_0.index t = ![t.val / 2, 0] := by decide +kernel
theorem idx3_1 : ∀ t : Fin cfg3.N, win3_1.index t = ![0, t.val % 2] := by decide +kernel
theorem idx3_2 : ∀ t : Fin cfg3.N, win3_2.index t = ![t.val / 2, t.val % 2] := by decide +kernel

/-- The projection of the merged branches. -/
theorem arr3 : (dat3 V c).arrAt 2 cfg3.N = nn (m := 2048) (k := 2048) (n := 2048) (V c main_v2) (V c main_arg5) := by
  refine (dat3 V c).arrAt_eq_of_covers 2 _ (by decide +kernel) (fun t hf u => ?_)
  blk_simp
  rw [after3_2]
  frame_out
  have : t.val < 4 := lt_of_lt_of_eq t.isLt N_3
  obtain ⟨r, f, rfl⟩ : ∃ r f, u = ix2 (n0 := 1024) (n1 := 1024) r f := ⟨u 0, u 1, eq_ix2 (n0 := 1024) (n1 := 1024) u⟩
  rw [show ((View.whole main_v3).slice (win3_2.rect t)).emb (ix2 r f)
      = ix2 (n0 := 2048) (n1 := 2048) ⟨t.val / 2 * 1024 + r.val, by omega⟩ ⟨t.val % 2 * 1024 + f.val, by omega⟩ from by blk_ext [idx3_2]]
  pointwise [k3_pay1]
  refine sum_mul_congr (fun i => ?_) (fun i => ?_)
  · blk_simp [iblk3]; congr 1; blk_ext [idx3_0]
  · blk_simp [iblk3]; congr 1; blk_ext [idx3_1]

theorem idx4_0 : ∀ t : Fin cfg4.N, win4_0.index t = ![t.val / 2, 0] := by decide +kernel
theorem idx4_1 : ∀ t : Fin cfg4.N, win4_1.index t = ![t.val % 2, 0] := by decide +kernel
theorem idx4_2 : ∀ t : Fin cfg4.N, win4_2.index t = ![t.val / 2, t.val % 2] := by decide +kernel

/-- The merged branches' derivative. -/
theorem arr4 : (dat4 V c).arrAt 2 cfg4.N = nt (m := 2048) (k := 2048) (n := 2048) (V c main_arg6) (V c main_arg5) := by
  refine (dat4 V c).arrAt_eq_of_covers 2 _ (by decide +kernel) (fun t hf u => ?_)
  blk_simp
  rw [after4_2]
  frame_out
  have : t.val < 4 := lt_of_lt_of_eq t.isLt N_4
  obtain ⟨r, f, rfl⟩ : ∃ r f, u = ix2 (n0 := 1024) (n1 := 1024) r f := ⟨u 0, u 1, eq_ix2 (n0 := 1024) (n1 := 1024) u⟩
  rw [show ((View.whole main_v4).slice (win4_2.rect t)).emb (ix2 r f)
      = ix2 (n0 := 2048) (n1 := 2048) ⟨t.val / 2 * 1024 + r.val, by omega⟩ ⟨t.val % 2 * 1024 + f.val, by omega⟩ from by blk_ext [idx4_2]]
  pointwise [k4_pay1]
  refine sum_mul_congr (fun i => ?_) (fun i => ?_)
  · blk_simp [iblk4]; congr 1; blk_ext [idx4_0]
  · blk_simp [iblk4]; congr 1; blk_ext [idx4_1]

theorem idx5_0 : ∀ t : Fin cfg5.N, win5_0.index t = ![0, t.val / 2] := by decide +kernel
theorem idx5_1 : ∀ t : Fin cfg5.N, win5_1.index t = ![0, t.val % 2] := by decide +kernel
theorem idx5_2 : ∀ t : Fin cfg5.N, win5_2.index t = ![t.val / 2, t.val % 2] := by decide +kernel

/-- The projection's weights' derivative. -/
theorem arr5 : (dat5 V c).arrAt 2 cfg5.N = tn (m := 2048) (k := 2048) (n := 2048) (V c main_v2) (V c main_arg6) := by
  refine (dat5 V c).arrAt_eq_of_covers 2 _ (by decide +kernel) (fun t hf u => ?_)
  blk_simp
  rw [after5_2]
  frame_out
  have : t.val < 4 := lt_of_lt_of_eq t.isLt N_5
  obtain ⟨r, f, rfl⟩ : ∃ r f, u = ix2 (n0 := 1024) (n1 := 1024) r f := ⟨u 0, u 1, eq_ix2 (n0 := 1024) (n1 := 1024) u⟩
  rw [show ((View.whole main_v5).slice (win5_2.rect t)).emb (ix2 r f)
      = ix2 (n0 := 2048) (n1 := 2048) ⟨t.val / 2 * 1024 + r.val, by omega⟩ ⟨t.val % 2 * 1024 + f.val, by omega⟩ from by blk_ext [idx5_2]]
  pointwise [k5_pay1]
  refine sum_mul_congr (fun i => ?_) (fun i => ?_)
  · blk_simp [iblk5]; congr 1; blk_ext [idx5_0]
  · blk_simp [iblk5]; congr 1; blk_ext [idx5_1]

theorem idx7_0 : ∀ t : Fin cfg7.N, win7_0.index t = ![t.val, 0] := by decide +kernel
theorem idx7_1 : ∀ t : Fin cfg7.N, win7_1.index t = ![0, 0] := by decide +kernel
theorem idx7_2 : ∀ t : Fin cfg7.N, win7_2.index t = ![t.val, 0] := by decide +kernel

/-- The first branch's argument's derivative. -/
theorem arr7 : (dat7 V c).arrAt 2 cfg7.N = nn (m := 2048) (k := 2048) (n := 1024) (V c main_v6_0) (V c main_arg3) := by
  refine (dat7 V c).arrAt_eq_of_covers 2 _ (by decide +kernel) (fun t hf u => ?_)
  blk_simp
  rw [after7_2]
  frame_out
  have : t.val < 2 := lt_of_lt_of_eq t.isLt N_7
  obtain ⟨r, f, rfl⟩ : ∃ r f, u = ix2 (n0 := 1024) (n1 := 1024) r f := ⟨u 0, u 1, eq_ix2 (n0 := 1024) (n1 := 1024) u⟩
  rw [show ((View.whole main_v7).slice (win7_2.rect t)).emb (ix2 r f)
      = ix2 (n0 := 2048) (n1 := 1024) ⟨t.val * 1024 + r.val, by omega⟩ f from by blk_ext [idx7_2]]
  pointwise [k7_pay1]
  refine sum_mul_congr (fun i => ?_) (fun i => ?_)
  · blk_simp [iblk7]; congr 1; blk_ext [idx7_0]
  · blk_simp [iblk7]; congr 1; blk_ext [idx7_1]

theorem idx8_0 : ∀ t : Fin cfg8.N, win8_0.index t = ![0, t.val] := by decide +kernel
theorem idx8_1 : ∀ t : Fin cfg8.N, win8_1.index t = ![0, 0] := by decide +kernel
theorem idx8_2 : ∀ t : Fin cfg8.N, win8_2.index t = ![t.val, 0] := by decide +kernel

/-- The first branch's weights' derivative. -/
theorem arr8 : (dat8 V c).arrAt 2 cfg8.N = tn (m := 2048) (k := 2048) (n := 1024) (V c main_v6_0) (V c main_arg1) := by
  refine (dat8 V c).arrAt_eq_of_covers 2 _ (by decide +kernel) (fun t hf u => ?_)
  blk_simp
  rw [after8_2]
  frame_out
  have : t.val < 2 := lt_of_lt_of_eq t.isLt N_8
  obtain ⟨r, f, rfl⟩ : ∃ r f, u = ix2 (n0 := 1024) (n1 := 1024) r f := ⟨u 0, u 1, eq_ix2 (n0 := 1024) (n1 := 1024) u⟩
  rw [show ((View.whole main_v8).slice (win8_2.rect t)).emb (ix2 r f)
      = ix2 (n0 := 2048) (n1 := 1024) ⟨t.val * 1024 + r.val, by omega⟩ f from by blk_ext [idx8_2]]
  pointwise [k8_pay1]
  refine sum_mul_congr (fun i => ?_) (fun i => ?_)
  · blk_simp [iblk8]; congr 1; blk_ext [idx8_0]
  · blk_simp [iblk8]; congr 1; blk_ext [idx8_1]

theorem idx9_0 : ∀ t : Fin cfg9.N, win9_0.index t = ![t.val, 0] := by decide +kernel
theorem idx9_1 : ∀ t : Fin cfg9.N, win9_1.index t = ![0, 0] := by decide +kernel
theorem idx9_2 : ∀ t : Fin cfg9.N, win9_2.index t = ![t.val, 0] := by decide +kernel

/-- The second branch's argument's derivative. -/
theorem arr9 : (dat9 V c).arrAt 2 cfg9.N = nn (m := 2048) (k := 2048) (n := 1024) (V c main_v6_1) (V c main_arg4) := by
  refine (dat9 V c).arrAt_eq_of_covers 2 _ (by decide +kernel) (fun t hf u => ?_)
  blk_simp
  rw [after9_2]
  frame_out
  have : t.val < 2 := lt_of_lt_of_eq t.isLt N_9
  obtain ⟨r, f, rfl⟩ : ∃ r f, u = ix2 (n0 := 1024) (n1 := 1024) r f := ⟨u 0, u 1, eq_ix2 (n0 := 1024) (n1 := 1024) u⟩
  rw [show ((View.whole main_v9).slice (win9_2.rect t)).emb (ix2 r f)
      = ix2 (n0 := 2048) (n1 := 1024) ⟨t.val * 1024 + r.val, by omega⟩ f from by blk_ext [idx9_2]]
  pointwise [k9_pay1]
  refine sum_mul_congr (fun i => ?_) (fun i => ?_)
  · blk_simp [iblk9]; congr 1; blk_ext [idx9_0]
  · blk_simp [iblk9]; congr 1; blk_ext [idx9_1]

theorem idx10_0 : ∀ t : Fin cfg10.N, win10_0.index t = ![0, t.val] := by decide +kernel
theorem idx10_1 : ∀ t : Fin cfg10.N, win10_1.index t = ![0, 0] := by decide +kernel
theorem idx10_2 : ∀ t : Fin cfg10.N, win10_2.index t = ![t.val, 0] := by decide +kernel

/-- The second branch's weights' derivative. -/
theorem arr10 : (dat10 V c).arrAt 2 cfg10.N = tn (m := 2048) (k := 2048) (n := 1024) (V c main_v6_1) (V c main_arg2) := by
  refine (dat10 V c).arrAt_eq_of_covers 2 _ (by decide +kernel) (fun t hf u => ?_)
  blk_simp
  rw [after10_2]
  frame_out
  have : t.val < 2 := lt_of_lt_of_eq t.isLt N_10
  obtain ⟨r, f, rfl⟩ : ∃ r f, u = ix2 (n0 := 1024) (n1 := 1024) r f := ⟨u 0, u 1, eq_ix2 (n0 := 1024) (n1 := 1024) u⟩
  rw [show ((View.whole main_v10).slice (win10_2.rect t)).emb (ix2 r f)
      = ix2 (n0 := 2048) (n1 := 1024) ⟨t.val * 1024 + r.val, by omega⟩ f from by blk_ext [idx10_2]]
  pointwise [k10_pay1]
  refine sum_mul_congr (fun i => ?_) (fun i => ?_)
  · blk_simp [iblk10]; congr 1; blk_ext [idx10_0]
  · blk_simp [iblk10]; congr 1; blk_ext [idx10_1]

end Cert.Merge

end
-- ==== Proof.MergeGate.lean ====
/- The two calls that gate the branches, forward and backward: the grid point `t` takes rows `256 t`, … -/
module

public import proofs.«01_k».proof.Proof.Gen.Kernel3Ideal.Frame
public import proofs.«01_k».proof.Proof.Prod
public import Idealize.ShloMosaic.Lib.Pipeline.ValueKit

@[expose] public section

set_option maxRecDepth 16384

noncomputable section

namespace Cert.Merge

open Idealize.ShloMosaic Idealize.ShloMosaic.TcCoe Idealize.SL.Sem Cert.Kernel3Ideal Cert.Kernel3Ideal.Gen Cert.Prod

variable (V : (c : Dev nD) → (b : Ref sig .tc) → Buf (Elt Ideal) ((c : Thread nD τ).loc b)) (c : Dev nD)

/-- The first half of the columns, gated. -/
def gl (P : Mat 2048 4096) : Mat 2048 2048 := fun u => Ideal.logistic (P (ix2 (u 0) ⟨(u 1).val, lt_trans (u 1).isLt (by decide)⟩))

/-- The second half. -/
def gr (P : Mat 2048 4096) : Mat 2048 2048 := fun u => Ideal.logistic (P (ix2 (u 0) ⟨2048 + (u 1).val, Nat.add_lt_add_left (u 1).isLt 2048⟩))

/-- Entry by entry. -/
def had (X Y : Mat 2048 2048) : Mat 2048 2048 := fun u => X u * Y u

/-- The gated branches' sum. -/
def mix (P : Mat 2048 4096) (A B : Mat 2048 2048) : Mat 2048 2048 := fun u => gl P u * A u + gr P u * B u

theorem idx2_0 : ∀ t : Fin cfg2.N, win2_0.index t = ![t.val, 0] := by decide +kernel
theorem idx2_1 : ∀ t : Fin cfg2.N, win2_1.index t = ![t.val, 0] := by decide +kernel
theorem idx2_2 : ∀ t : Fin cfg2.N, win2_2.index t = ![t.val, 0] := by decide +kernel
theorem idx2_3 : ∀ t : Fin cfg2.N, win2_3.index t = ![t.val, 0] := by decide +kernel

theorem arr2 : (dat2 V c).arrAt 3 cfg2.N = mix (V c main_arg0) (V c main_v0) (V c main_v1) := by
  refine (dat2 V c).arrAt_eq_of_covers 3 _ (by decide +kernel) (fun t hf u => ?_)
  blk_simp
  rw [after2_3]
  frame_out
  have : t.val < 8 := lt_of_lt_of_eq t.isLt N_2
  obtain ⟨r, f, rfl⟩ : ∃ r f, u = ix2 (n0 := 256) (n1 := 2048) r f := ⟨u 0, u 1, eq_ix2 (n0 := 256) (n1 := 2048) u⟩
  rw [show ((View.whole main_v2).slice (win2_3.rect t)).emb (ix2 r f)
      = ix2 (n0 := 2048) (n1 := 2048) ⟨t.val * 256 + r.val, by omega⟩ f from by blk_ext [idx2_3]]
  pointwise [k2_pay1]
  unfold mix gl gr
  congr 3
  · blk_simp [iblk2]; congr 1; blk_ext [idx2_0]
  · blk_simp [iblk2]; congr 1; blk_ext [idx2_1]
  · blk_simp [iblk2]; congr 1; blk_ext [idx2_0]
  · blk_simp [iblk2]; congr 1; blk_ext [idx2_2]

theorem idx6_0 : ∀ t : Fin cfg6.N, win6_0.index t = ![t.val, 0] := by decide +kernel
theorem idx6_1 : ∀ t : Fin cfg6.N, win6_1.index t = ![t.val, 0] := by decide +kernel
theorem idx6_2 : ∀ t : Fin cfg6.N, win6_2.index t = ![t.val, 0] := by decide +kernel
theorem idx6_3 : ∀ t : Fin cfg6.N, win6_3.index t = ![t.val, 0] := by decide +kernel
theorem idx6_4 : ∀ t : Fin cfg6.N, win6_4.index t = ![t.val, 0] := by decide +kernel
theorem idx6_5 : ∀ t : Fin cfg6.N, win6_5.index t = ![t.val, 0] := by decide +kernel
theorem idx6_6 : ∀ t : Fin cfg6.N, win6_6.index t = ![t.val, 0] := by decide +kernel
theorem lt6 (t : Fin cfg6.N) : t.val < 8 := lt_of_lt_of_eq t.isLt N_6

theorem blk6_0 (t : Fin cfg6.N) (r : Fin 256) (f : Fin 2048) : iblk6 V c 0 t (ix2 r f)
    = V c main_v4 (ix2 (n0 := 2048) (n1 := 2048) ⟨t.val * 256 + r.val, by have := lt6 t; omega⟩ f) := by
  blk_simp [iblk6]; congr 1; blk_ext [idx6_0]

theorem blk6_1 (t : Fin cfg6.N) (r : Fin 256) (f : Fin 4096) : iblk6 V c 1 t (ix2 r f)
    = V c main_arg0 (ix2 (n0 := 2048) (n1 := 4096) ⟨t.val * 256 + r.val, by have := lt6 t; omega⟩ f) := by
  blk_simp [iblk6]; congr 1; blk_ext [idx6_1]

theorem blk6_2 (t : Fin cfg6.N) (r : Fin 256) (f : Fin 2048) : iblk6 V c 2 t (ix2 r f)
    = V c main_v0 (ix2 (n0 := 2048) (n1 := 2048) ⟨t.val * 256 + r.val, by have := lt6 t; omega⟩ f) := by
  blk_simp [iblk6]; congr 1; blk_ext [idx6_2]

theorem blk6_3 (t : Fin cfg6.N) (r : Fin 256) (f : Fin 2048) : iblk6 V c 3 t (ix2 r f)
    = V c main_v1 (ix2 (n0 := 2048) (n1 := 2048) ⟨t.val * 256 + r.val, by have := lt6 t; omega⟩ f) := by
  blk_simp [iblk6]; congr 1; blk_ext [idx6_3]

/-- The first branch's derivative. -/
theorem arr6_4 : (dat6 V c).arrAt 4 cfg6.N = had (V c main_v4) (gl (V c main_arg0)) := by
  refine (dat6 V c).arrAt_eq_of_covers 4 _ (by decide +kernel) (fun t hf u => ?_)
  blk_simp
  rw [after6_4]
  frame_out
  have := lt6 t
  obtain ⟨r, f, rfl⟩ : ∃ r f, u = ix2 (n0 := 256) (n1 := 2048) r f := ⟨u 0, u 1, eq_ix2 (n0 := 256) (n1 := 2048) u⟩
  rw [show ((View.whole main_v6_0).slice (win6_4.rect t)).emb (ix2 r f)
      = ix2 (n0 := 2048) (n1 := 2048) ⟨t.val * 256 + r.val, by omega⟩ f from by blk_ext [idx6_4]]
  pointwise [k6_pay4, k6_pay1, k6_pay2]
  rw [blk6_0, blk6_1]
  rfl

/-- The second branch's. -/
theorem arr6_5 : (dat6 V c).arrAt 5 cfg6.N = had (V c main_v4) (gr (V c main_arg0)) := by
  refine (dat6 V c).arrAt_eq_of_covers 5 _ (by decide +kernel) (fun t hf u => ?_)
  blk_simp
  rw [after6_5]
  frame_out
  have := lt6 t
  obtain ⟨r, f, rfl⟩ : ∃ r f, u = ix2 (n0 := 256) (n1 := 2048) r f := ⟨u 0, u 1, eq_ix2 (n0 := 256) (n1 := 2048) u⟩
  rw [show ((View.whole main_v6_1).slice (win6_5.rect t)).emb (ix2 r f)
      = ix2 (n0 := 2048) (n1 := 2048) ⟨t.val * 256 + r.val, by omega⟩ f from by blk_ext [idx6_5]]
  pointwise [k6_pay5, k6_pay1, k6_pay3]
  rw [blk6_0, blk6_1]
  rfl

/-- Two matrices side by side. -/
def cat (A B : Mat 2048 2048) : Mat 2048 4096 := fun u =>
  if h : (u 1).val < 2048 then A (ix2 (u 0) ⟨(u 1).val, h⟩) else B (ix2 (u 0) ⟨(u 1).val - 2048, by have : (u 1).val < 4096 := (u 1).isLt; omega⟩)

theorem cat_lt (A B : Mat 2048 2048) (r f : Fin 2048) (h : f.val < 4096) : cat A B (ix2 (n0 := 2048) (n1 := 4096) r ⟨f.val, h⟩) = A (ix2 r f) :=
  dif_pos f.isLt

theorem cat_ge (A B : Mat 2048 2048) (r f : Fin 2048) (h : 2048 + f.val < 4096) :
    cat A B (ix2 (n0 := 2048) (n1 := 4096) r ⟨2048 + f.val, h⟩) = B (ix2 r f) :=
  (dif_neg (Nat.not_lt.mpr (Nat.le_add_right 2048 f.val))).trans (congrArg (fun i => B (ix2 r i)) (Fin.ext (Nat.add_sub_cancel_left ..)))

/-- The slope of the gates. -/
def slope (P : Mat 2048 4096) : Mat 2048 4096 := fun u => Ideal.logistic (P u) * (1 - Ideal.logistic (P u))

/-- The gates' derivative. -/
theorem arr6_6 : (dat6 V c).arrAt 6 cfg6.N = fun u => cat (had (V c main_v4) (V c main_v0)) (had (V c main_v4) (V c main_v1)) u * slope (V c main_arg0) u := by
  refine (dat6 V c).arrAt_eq_of_covers 6 _ (by decide +kernel) (fun t hf u => ?_)
  blk_simp
  rw [after6_6]
  unfold out6_6
  have := lt6 t
  obtain ⟨r, f, rfl⟩ : ∃ r f, u = ix2 (n0 := 256) (n1 := 4096) r f := ⟨u 0, u 1, eq_ix2 (n0 := 256) (n1 := 4096) u⟩
  rw [show ((View.whole main_v6_2).slice (win6_6.rect t)).emb (ix2 r f)
      = ix2 (n0 := 2048) (n1 := 4096) ⟨t.val * 256 + r.val, by omega⟩ f from by blk_ext [idx6_6]]
  canon_tiles x h using cover6_6 ..
  · obtain ⟨p, q, rfl⟩ : ∃ p q, x = ix2 (n0 := 256) (n1 := 2048) p q := ⟨x 0, x 1, eq_ix2 (n0 := 256) (n1 := 2048) x⟩
    obtain rfl : r = p := Fin.ext h0
    obtain rfl : f = ⟨2048 + q.val, Nat.add_lt_add_left q.isLt 2048⟩ := Fin.ext h1
    rw [cat_ge]
    pointwise [k6_pay7, k6_pay1, k6_pay3]
    rw [mul_assoc]
    rw [blk6_0, blk6_1, blk6_3]
    rfl
  · obtain ⟨p, q, rfl⟩ : ∃ p q, x = ix2 (n0 := 256) (n1 := 2048) p q := ⟨x 0, x 1, eq_ix2 (n0 := 256) (n1 := 2048) x⟩
    obtain rfl : r = p := Fin.ext h0
    obtain rfl : f = ⟨q.val, lt_trans q.isLt (by decide)⟩ := Fin.ext h1
    rw [cat_lt]
    pointwise [k6_pay6, k6_pay1, k6_pay2]
    rw [mul_assoc]
    rw [blk6_0, blk6_1, blk6_2]
    rfl

end Cert.Merge

end
-- ==== Proof.Run3.lean ====
/- The branch merge's eleven calls run one after the other: what the seven results hold at the end. -/
module

public import proofs.«01_k».proof.Proof.MergeArr
public import proofs.«01_k».proof.Proof.MergeGate

@[expose] public section

set_option maxRecDepth 16384

noncomputable section

namespace Cert.Run3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen Cert.Prod Cert.Merge

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends, and each buffer that outlives the calls then holds what the last call leaves. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W11 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

variable (c : Dev nD)

/-- An argument's contents at the start. -/
abbrev arg (b : Ref sig .tc) : Buf (Elt Ideal) ((c : Thread nD τ).loc b) := m ((c : Thread nD τ).loc b)

/-- The first branch's product. -/
def ya : Mat 2048 2048 := nt (arg m c main_arg1) (arg m c main_arg3)

/-- The second branch's product. -/
def yb : Mat 2048 2048 := nt (arg m c main_arg2) (arg m c main_arg4)

/-- The gated sum of the branches. -/
def merged : Mat 2048 2048 := mix (arg m c main_arg0) (ya m c) (yb m c)

/-- The output projection. -/
def att : Mat 2048 2048 := nn (merged m c) (arg m c main_arg5)

/-- The derivative of the gated sum. -/
def dmerged : Mat 2048 2048 := nt (arg m c main_arg6) (arg m c main_arg5)

/-- The derivative of the output projection's weights. -/
def g_wout : Mat 2048 2048 := tn (merged m c) (arg m c main_arg6)

/-- The derivative of the first branch's product. -/
def dya : Mat 2048 2048 := had (dmerged m c) (gl (arg m c main_arg0))

/-- The derivative of the second branch's product. -/
def dyb : Mat 2048 2048 := had (dmerged m c) (gr (arg m c main_arg0))

/-- The derivative of the gates' arguments. -/
def dpg : Mat 2048 4096 := fun u => cat (had (dmerged m c) (ya m c)) (had (dmerged m c) (yb m c)) u * slope (arg m c main_arg0) u

/-- The derivative of the first branch's input. -/
def do_a : Mat 2048 1024 := nn (dya m c) (arg m c main_arg3)

/-- The derivative of the first branch's weights. -/
def g_wbra_t : Mat 2048 1024 := tn (dya m c) (arg m c main_arg1)

/-- The derivative of the second branch's input. -/
def do_b : Mat 2048 1024 := nn (dyb m c) (arg m c main_arg4)

/-- The derivative of the second branch's weights. -/
def g_wbrb_t : Mat 2048 1024 := tn (dyb m c) (arg m c main_arg2)

theorem ya_eq : V1 m ρ c main_v0 = ya m c := by
  rw [show V1 m ρ c main_v0 = (dat0 (V0 m ρ) c).arrAt 2 cfg0.N from W1_arr m ρ c 2,
    arr0]
  rfl

theorem yb_eq : V2 m ρ c main_v1 = yb m c := by
  rw [show V2 m ρ c main_v1 = (dat1 (V1 m ρ) c).arrAt 2 cfg1.N from W2_arr m ρ c 2,
    arr1,
    show V1 m ρ c main_arg2 = arg m c main_arg2 from W1_args m ρ c main_arg2 (by decide),
    show V1 m ρ c main_arg4 = arg m c main_arg4 from W1_args m ρ c main_arg4 (by decide)]
  rfl

theorem merged_eq : V3 m ρ c main_v2 = merged m c := by
  rw [show V3 m ρ c main_v2 = (dat2 (V2 m ρ) c).arrAt 3 cfg2.N from W3_arr m ρ c 3,
    arr2,
    show V2 m ρ c main_arg0 = arg m c main_arg0 from W2_args m ρ c main_arg0 (by decide),
    show V2 m ρ c main_v0 = V1 m ρ c main_v0 from W2_of m ρ c main_v0 (by decide),
    ya_eq m ρ c,
    yb_eq m ρ c]
  rfl

theorem att_eq : V4 m ρ c main_v3 = att m c := by
  rw [show V4 m ρ c main_v3 = (dat3 (V3 m ρ) c).arrAt 2 cfg3.N from W4_arr m ρ c 2,
    arr3,
    show V3 m ρ c main_arg5 = arg m c main_arg5 from W3_args m ρ c main_arg5 (by decide),
    merged_eq m ρ c]
  rfl

theorem dmerged_eq : V5 m ρ c main_v4 = dmerged m c := by
  rw [show V5 m ρ c main_v4 = (dat4 (V4 m ρ) c).arrAt 2 cfg4.N from W5_arr m ρ c 2,
    arr4,
    show V4 m ρ c main_arg6 = arg m c main_arg6 from W4_args m ρ c main_arg6 (by decide),
    show V4 m ρ c main_arg5 = arg m c main_arg5 from W4_args m ρ c main_arg5 (by decide)]
  rfl

theorem g_wout_eq : V6 m ρ c main_v5 = g_wout m c := by
  rw [show V6 m ρ c main_v5 = (dat5 (V5 m ρ) c).arrAt 2 cfg5.N from W6_arr m ρ c 2,
    arr5,
    show V5 m ρ c main_arg6 = arg m c main_arg6 from W5_args m ρ c main_arg6 (by decide),
    show V5 m ρ c main_v2 = V4 m ρ c main_v2 from W5_of m ρ c main_v2 (by decide),
    show V4 m ρ c main_v2 = V3 m ρ c main_v2 from W4_of m ρ c main_v2 (by decide),
    merged_eq m ρ c]
  rfl

theorem dya_eq : V7 m ρ c main_v6_0 = dya m c := by
  rw [show V7 m ρ c main_v6_0 = (dat6 (V6 m ρ) c).arrAt 4 cfg6.N from W7_arr m ρ c 4,
    arr6_4,
    show V6 m ρ c main_arg0 = arg m c main_arg0 from W6_args m ρ c main_arg0 (by decide),
    show V6 m ρ c main_v4 = V5 m ρ c main_v4 from W6_of m ρ c main_v4 (by decide),
    dmerged_eq m ρ c]
  rfl

theorem dyb_eq : V7 m ρ c main_v6_1 = dyb m c := by
  rw [show V7 m ρ c main_v6_1 = (dat6 (V6 m ρ) c).arrAt 5 cfg6.N from W7_arr m ρ c 5,
    arr6_5,
    show V6 m ρ c main_arg0 = arg m c main_arg0 from W6_args m ρ c main_arg0 (by decide),
    show V6 m ρ c main_v4 = V5 m ρ c main_v4 from W6_of m ρ c main_v4 (by decide),
    dmerged_eq m ρ c]
  rfl

theorem dpg_eq : V7 m ρ c main_v6_2 = dpg m c := by
  rw [show V7 m ρ c main_v6_2 = (dat6 (V6 m ρ) c).arrAt 6 cfg6.N from W7_arr m ρ c 6,
    arr6_6,
    show V6 m ρ c main_arg0 = arg m c main_arg0 from W6_args m ρ c main_arg0 (by decide),
    show V6 m ρ c main_v0 = V5 m ρ c main_v0 from W6_of m ρ c main_v0 (by decide),
    show V5 m ρ c main_v0 = V4 m ρ c main_v0 from W5_of m ρ c main_v0 (by decide),
    show V4 m ρ c main_v0 = V3 m ρ c main_v0 from W4_of m ρ c main_v0 (by decide),
    show V3 m ρ c main_v0 = V2 m ρ c main_v0 from W3_of m ρ c main_v0 (by decide),
    show V2 m ρ c main_v0 = V1 m ρ c main_v0 from W2_of m ρ c main_v0 (by decide),
    ya_eq m ρ c,
    show V6 m ρ c main_v1 = V5 m ρ c main_v1 from W6_of m ρ c main_v1 (by decide),
    show V5 m ρ c main_v1 = V4 m ρ c main_v1 from W5_of m ρ c main_v1 (by decide),
    show V4 m ρ c main_v1 = V3 m ρ c main_v1 from W4_of m ρ c main_v1 (by decide),
    show V3 m ρ c main_v1 = V2 m ρ c main_v1 from W3_of m ρ c main_v1 (by decide),
    yb_eq m ρ c,
    show V6 m ρ c main_v4 = V5 m ρ c main_v4 from W6_of m ρ c main_v4 (by decide),
    dmerged_eq m ρ c]
  rfl

theorem do_a_eq : V8 m ρ c main_v7 = do_a m c := by
  rw [show V8 m ρ c main_v7 = (dat7 (V7 m ρ) c).arrAt 2 cfg7.N from W8_arr m ρ c 2,
    arr7,
    show V7 m ρ c main_arg3 = arg m c main_arg3 from W7_args m ρ c main_arg3 (by decide),
    dya_eq m ρ c]
  rfl

theorem g_wbra_t_eq : V9 m ρ c main_v8 = g_wbra_t m c := by
  rw [show V9 m ρ c main_v8 = (dat8 (V8 m ρ) c).arrAt 2 cfg8.N from W9_arr m ρ c 2,
    arr8,
    show V8 m ρ c main_arg1 = arg m c main_arg1 from W8_args m ρ c main_arg1 (by decide),
    show V8 m ρ c main_v6_0 = V7 m ρ c main_v6_0 from W8_of m ρ c main_v6_0 (by decide),
    dya_eq m ρ c]
  rfl

theorem do_b_eq : V10 m ρ c main_v9 = do_b m c := by
  rw [show V10 m ρ c main_v9 = (dat9 (V9 m ρ) c).arrAt 2 cfg9.N from W10_arr m ρ c 2,
    arr9,
    show V9 m ρ c main_arg4 = arg m c main_arg4 from W9_args m ρ c main_arg4 (by decide),
    show V9 m ρ c main_v6_1 = V8 m ρ c main_v6_1 from W9_of m ρ c main_v6_1 (by decide),
    show V8 m ρ c main_v6_1 = V7 m ρ c main_v6_1 from W8_of m ρ c main_v6_1 (by decide),
    dyb_eq m ρ c]
  rfl

theorem g_wbrb_t_eq : V11 m ρ c main_v10 = g_wbrb_t m c := by
  rw [show V11 m ρ c main_v10 = (dat10 (V10 m ρ) c).arrAt 2 cfg10.N from W11_arr m ρ c 2,
    arr10,
    show V10 m ρ c main_arg2 = arg m c main_arg2 from W10_args m ρ c main_arg2 (by decide),
    show V10 m ρ c main_v6_1 = V9 m ρ c main_v6_1 from W10_of m ρ c main_v6_1 (by decide),
    show V9 m ρ c main_v6_1 = V8 m ρ c main_v6_1 from W9_of m ρ c main_v6_1 (by decide),
    show V8 m ρ c main_v6_1 = V7 m ρ c main_v6_1 from W8_of m ρ c main_v6_1 (by decide),
    dyb_eq m ρ c]
  rfl

/-- The results at the end of a run; the arguments are unchanged. -/
theorem values : θ_run defs (onTc (τ := τ) (main (F := Ideal))) ⟨m, fun _ => 0, ρ⟩ (fun r => ∀ c : Dev nD,
      r.2.mem ((c : Thread nD τ).loc main_v3) = att m c
      ∧ r.2.mem ((c : Thread nD τ).loc main_v6_2) = dpg m c
      ∧ r.2.mem ((c : Thread nD τ).loc main_v7) = do_a m c
      ∧ r.2.mem ((c : Thread nD τ).loc main_v9) = do_b m c
      ∧ r.2.mem ((c : Thread nD τ).loc main_v8) = g_wbra_t m c
      ∧ r.2.mem ((c : Thread nD τ).loc main_v10) = g_wbrb_t m c
      ∧ r.2.mem ((c : Thread nD τ).loc main_v5) = g_wout m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => by
    have e {b : Ref sig .tc} (hb) : r.2.mem ((c : Thread nD τ).loc b) = V11 m ρ c b := h c _ (mem_uc b hb)
    refine ⟨?_, ?_, ?_, ?_, ?_, ?_, ?_,
      (e (by decide)).trans (W11_main_arg0 m ρ c),
      (e (by decide)).trans (W11_main_arg1 m ρ c),
      (e (by decide)).trans (W11_main_arg2 m ρ c),
      (e (by decide)).trans (W11_main_arg3 m ρ c),
      (e (by decide)).trans (W11_main_arg4 m ρ c),
      (e (by decide)).trans (W11_main_arg5 m ρ c),
      (e (by decide)).trans (W11_main_arg6 m ρ c)⟩
    · exact (e (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (att_eq m ρ c))))))))
    · exact (e (by decide)).trans ((W11_of m ρ c main_v6_2 (by decide)).trans ((W10_of m ρ c main_v6_2 (by decide)).trans ((W9_of m ρ c main_v6_2 (by decide)).trans ((W8_of m ρ c main_v6_2 (by decide)).trans (dpg_eq m ρ c)))))
    · exact (e (by decide)).trans ((W11_of m ρ c main_v7 (by decide)).trans ((W10_of m ρ c main_v7 (by decide)).trans ((W9_of m ρ c main_v7 (by decide)).trans (do_a_eq m ρ c))))
    · exact (e (by decide)).trans ((W11_of m ρ c main_v9 (by decide)).trans (do_b_eq m ρ c))
    · exact (e (by decide)).trans ((W11_of m ρ c main_v8 (by decide)).trans ((W10_of m ρ c main_v8 (by decide)).trans (g_wbra_t_eq m ρ c)))
    · exact (e (by decide)).trans (g_wbrb_t_eq m ρ c)
    · exact (e (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans (g_wout_eq m ρ c))))))
    ) (run m ρ)

end Cert.Run3

end
-- ==== Proof.RefMerge.lean ====
/- The branch merge's reference, value by value: the products, the gates, and their derivatives. -/
module

public import proofs.«01_k».proof.Proof.Gen.Reference3Ideal.Read
public import proofs.«01_k».proof.Proof.MergeGate

@[expose] public section

set_option maxRecDepth 16384

noncomputable section

namespace Cert.Ref3

open Idealize.ShloMosaic Idealize.SL.Sem Cert.Reference3Ideal Cert.Reference3Ideal.Read Cert.Prod Cert.Merge

variable (x0 : Mat 2048 4096) (x1 x2 x3 x4 : Mat 2048 1024) (x5 x6 : Mat 2048 2048)

/-- The first branch's product. -/
theorem v18 : val_main_v18 (F := Ideal) x1 x3 = nt x1 x3 := ext2 fun r f => by
  pointwise [val_main_v18, val_main_v1, val_main_v17, val_main_v3]
  rfl

/-- The second branch's product. -/
theorem v21 : val_main_v21 (F := Ideal) x2 x4 = nt x2 x4 := ext2 fun r f => by
  pointwise [val_main_v21, val_main_v2, val_main_v20, val_main_v4]
  rfl

/-- The gated sum of the branches. -/
theorem v23 : val_main_v23 (F := Ideal) x0 x1 x2 x3 x4 = mix x0 (nt x1 x3) (nt x2 x4) := ext2 fun r f => by
  rw [val_main_v23_apply, val_main_v19_apply, val_main_v22_apply, v18, v21]
  pointwise [val_main_v15, val_main_v16, val_main_v11, val_main_v10, val_main_v9, val_main_v8, val_main_v7, val_main_v6, val_main_v0, val_main_cst, val_main_cst_0]
  rfl

/-- The output projection. -/
theorem v24 : val_main_v24 (F := Ideal) x0 x1 x2 x3 x4 x5 = nn (mix x0 (nt x1 x3) (nt x2 x4)) x5 := by
  have e := v23 x0 x1 x2 x3 x4
  revert e
  unfold val_main_v24
  generalize val_main_v23 (F := Ideal) x0 x1 x2 x3 x4 = y
  rintro rfl
  refine ext2 fun r f => ?_
  pointwise [val_main_v5]
  rfl

/-- The derivative of the output projection's weights. -/
theorem v48 : val_main_v48 (F := Ideal) x0 x1 x2 x3 x4 x6 = tn (mix x0 (nt x1 x3) (nt x2 x4)) x6 := by
  have e := v23 x0 x1 x2 x3 x4
  revert e
  unfold val_main_v48 val_main_v27 val_main_v26
  generalize val_main_v23 (F := Ideal) x0 x1 x2 x3 x4 = y
  rintro rfl
  refine ext2 fun r f => ?_
  pointwise [val_main_v25]
  exact Finset.sum_congr rfl fun i _ => mul_comm ..

/-- The derivative of the gated sum. -/
theorem v28 : val_main_v28 (F := Ideal) x5 x6 = nt x6 x5 := ext2 fun r f => by
  pointwise [val_main_v28, val_main_v25, val_main_v5]
  rfl

/-- The derivative of the second branch's product. -/
theorem v29 : val_main_v29 (F := Ideal) x0 x5 x6 = had (nt x6 x5) (gr x0) := ext2 fun r f => by
  rw [val_main_v29_apply, v28]
  pointwise [val_main_v16, val_main_v11, val_main_v10, val_main_v9, val_main_v8, val_main_v7, val_main_v6, val_main_v0, val_main_cst, val_main_cst_0]
  exact mul_comm ..

/-- The derivative of the first branch's product. -/
theorem v35 : val_main_v35 (F := Ideal) x0 x5 x6 = had (nt x6 x5) (gl x0) := ext2 fun r f => by
  rw [val_main_v35_apply, v28]
  pointwise [val_main_v15, val_main_v11, val_main_v10, val_main_v9, val_main_v8, val_main_v7, val_main_v6, val_main_v0, val_main_cst, val_main_cst_0]
  exact mul_comm ..

/-- The derivative of the first branch's input. -/
theorem v44 : val_main_v44 (F := Ideal) x0 x3 x5 x6 = nn (had (nt x6 x5) (gl x0)) x3 := by
  have e := v35 x0 x5 x6
  revert e
  unfold val_main_v44 val_main_v39
  generalize val_main_v35 (F := Ideal) x0 x5 x6 = y
  rintro rfl
  refine ext2 fun r f => ?_
  pointwise [val_main_v17, val_main_v3]
  rfl

/-- The derivative of the second branch's input. -/
theorem v45 : val_main_v45 (F := Ideal) x0 x4 x5 x6 = nn (had (nt x6 x5) (gr x0)) x4 := by
  have e := v29 x0 x5 x6
  revert e
  unfold val_main_v45 val_main_v33
  generalize val_main_v29 (F := Ideal) x0 x5 x6 = y
  rintro rfl
  refine ext2 fun r f => ?_
  pointwise [val_main_v20, val_main_v4]
  rfl

/-- The derivative of the first branch's weights. -/
theorem v46 : val_main_v46 (F := Ideal) x0 x1 x5 x6 = tn (had (nt x6 x5) (gl x0)) x1 := by
  have e := v35 x0 x5 x6
  revert e
  unfold val_main_v46 val_main_v40 val_main_v38 val_main_v37
  generalize val_main_v35 (F := Ideal) x0 x5 x6 = y
  rintro rfl
  refine ext2 fun r f => ?_
  pointwise [val_main_v1]
  rfl

/-- The derivative of the second branch's weights. -/
theorem v47 : val_main_v47 (F := Ideal) x0 x2 x5 x6 = tn (had (nt x6 x5) (gr x0)) x2 := by
  have e := v29 x0 x5 x6
  revert e
  unfold val_main_v47 val_main_v34 val_main_v32 val_main_v31
  generalize val_main_v29 (F := Ideal) x0 x5 x6 = y
  rintro rfl
  refine ext2 fun r f => ?_
  pointwise [val_main_v2]
  rfl

/-- The derivative of the first branch's gate. -/
theorem v36 : val_main_v36 (F := Ideal) x1 x3 x5 x6 = had (nt x6 x5) (nt x1 x3) := ext2 fun r f => by
  rw [val_main_v36_apply, v28, v18]
  rfl

/-- The derivative of the second branch's gate. -/
theorem v30 : val_main_v30 (F := Ideal) x2 x4 x5 x6 = had (nt x6 x5) (nt x2 x4) := ext2 fun r f => by
  rw [val_main_v30_apply, v28, v21]
  rfl

/-- The derivatives of the two halves of the gates, side by side. -/
theorem v41 : val_main_v41 (F := Ideal) x1 x2 x3 x4 x5 x6 = cat (had (nt x6 x5) (nt x1 x3)) (had (nt x6 x5) (nt x2 x4)) := by
  have e := v36 x1 x3 x5 x6
  have e' := v30 x2 x4 x5 x6
  revert e e'
  unfold val_main_v41
  generalize val_main_v36 (F := Ideal) x1 x3 x5 x6 = y
  generalize val_main_v30 (F := Ideal) x2 x4 x5 x6 = y'
  rintro rfl rfl
  refine ext2 fun r f => ?_
  pointwise
  rfl

/-- The derivative of the gates' arguments. -/
theorem v43 : val_main_v43 (F := Ideal) x0 x1 x2 x3 x4 x5 x6
    = fun u => cat (had (nt x6 x5) (nt x1 x3)) (had (nt x6 x5) (nt x2 x4)) u * slope x0 u := ext2 fun r f => by
  rw [val_main_v43_apply, val_main_v42_apply, v41]
  pointwise [val_main_v14, val_main_v13, val_main_v12, val_main_cst_1, val_main_v11, val_main_v10, val_main_v9, val_main_v8, val_main_v7, val_main_v6, val_main_v0, val_main_cst, val_main_cst_0]
  rfl

end Cert.Ref3

end
-- ==== Proof.Down.lean ====
/- The feed-forward block's product back to the stream: each of the four blocks of the result is filled at two grid points. The
   first multiplies the first half of the inner index and leaves the product in the scratch; the second adds the other half. -/
module

public import proofs.«01_k».proof.Proof.Gen.Kernel4Ideal.Value
public import proofs.«01_k».proof.Proof.Prod
public import Idealize.ShloMosaic.Lib.Pipeline.ValueKit

@[expose] public section

set_option maxRecDepth 16384

noncomputable section

namespace Cert.Down

open Idealize.ShloMosaic Idealize.ShloMosaic.TcCoe Idealize.SL.Sem Cert.Kernel4Ideal Cert.Kernel4Ideal.Gen Cert.Prod

variable (m : (ℓ : Loc nD τ sig) → Buf (Elt Ideal) ℓ) (c : Dev nD)

theorem idx_0 : ∀ t : Fin cfg0.N, win0_0.index t = ![t.val / 4, t.val % 2] := by decide +kernel
theorem idx_1 : ∀ t : Fin cfg0.N, win0_1.index t = ![t.val % 2, t.val / 2 % 2] := by decide +kernel
theorem idx_2 : ∀ t : Fin cfg0.N, win0_2.index t = ![t.val / 4, t.val / 2 % 2] := by decide +kernel

/-- What a first point leaves in the scratch. -/
theorem left (t : Fin cfg0.N) (h : t.val % 2 = 0) :
    (outsAt0 m c t.val t.isLt).2 = k0_pay2 (iblk m c 0 t) (iblk m c 1 t) := by
  have e := congrArg (fun z => z.2) (outsAt0_A m c t h (by omega))
  dsimp only at e
  rw [e]
  frame_out

/-- What a second point writes, over what the first left. -/
theorem wrote (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  have e := congrArg (fun z => z.1) (outsAt0_B m c t (by omega) h)
  dsimp only at e
  rw [e]
  frame_out
  exact congrArg (k0_pay4 _ _ ·) (Memref.IsWhole.read_unread _ _)

/-- The result. -/
theorem arr : (dats m 0 c).arrAt 2 cfg0.N
    = nn (m := 2048) (k := 5632) (n := 2048) (m ((c : Thread nD τ).loc main_arg0)) (m ((c : Thread nD τ).loc main_arg1)) := by
  refine (dats m 0 c).arrAt_eq_of_covers 2 _ (by decide +kernel) (fun t hf u => ?_)
  blk_simp
  have hm : t.val % 2 = 1 := (flush0_2 t).mp hf
  have : t.val < 8 := lt_of_lt_of_eq t.isLt N_0
  have hl : t.val - 1 < cfg0.N := Nat.lt_of_le_of_lt (Nat.sub_le _ _) t.isLt
  rw [after0_2, wrote m c t hm, left m c ⟨t.val - 1, hl⟩ (by show (t.val - 1) % 2 = 0; omega)]
  obtain ⟨r, f, rfl⟩ : ∃ r f, u = ix2 (n0 := 1024) (n1 := 1024) r f := ⟨u 0, u 1, eq_ix2 (n0 := 1024) (n1 := 1024) u⟩
  rw [show ((View.whole main_v0).slice (win0_2.rect t)).emb (ix2 r f)
      = ix2 (n0 := 2048) (n1 := 2048) ⟨t.val / 4 * 1024 + r.val, by omega⟩ ⟨t.val / 2 % 2 * 1024 + f.val, by omega⟩ from by blk_ext [idx_2]]
  pointwise [k0_pay4, k0_pay2, k0_pay1]
  unfold nn
  rw [← sum_halves (k := 2816) (n := 5632) rfl]
  refine congrArg₂ (· + ·) (sum_mul_congr (fun i => ?_) (fun i => ?_)) (sum_mul_congr (fun i => ?_) (fun i => ?_))
  · blk_simp [iblk]; congr 1; blk_ext [idx_0]
  · blk_simp [iblk]; congr 1; blk_ext [idx_1]
  · blk_simp [iblk]; congr 1; blk_ext [idx_0]
  · blk_simp [iblk]; congr 1; blk_ext [idx_1]

end Cert.Down

end
-- ==== Proof.UpDxA.lean ====
/- The first half of the up-projection's argument's derivative: the derivative of the first half of the block's columns with the
   first half of the weights' rows, each block of the result filled at two grid points over the scratch. -/
module

public import proofs.«01_k».proof.Proof.Gen.Kernel5Ideal.Value
public import proofs.«01_k».proof.Proof.Prod
public import Idealize.ShloMosaic.Lib.Pipeline.ValueKit

@[expose] public section

set_option maxRecDepth 16384

noncomputable section

namespace Cert.UpDxA

open Idealize.ShloMosaic Idealize.ShloMosaic.TcCoe Idealize.SL.Sem Cert.Kernel5Ideal Cert.Kernel5Ideal.Gen Cert.Prod

variable (m : (ℓ : Loc nD τ sig) → Buf (Elt Ideal) ℓ) (c : Dev nD)

theorem idx_0 : ∀ t : Fin cfg0.N, win0_0.index t = ![t.val / 4, t.val % 2] := by decide +kernel
theorem idx_1 : ∀ t : Fin cfg0.N, win0_1.index t = ![t.val % 2, t.val / 2 % 2] := by decide +kernel
theorem idx_2 : ∀ t : Fin cfg0.N, win0_2.index t = ![t.val / 4, t.val / 2 % 2] := by decide +kernel

/-- What a first point leaves in the scratch. -/
theorem left (t : Fin cfg0.N) (h : t.val % 2 = 0) :
    (outsAt0 m c t.val t.isLt).2 = k0_pay2 (iblk m c 0 t) (iblk m c 1 t) := by
  have e := congrArg (fun z => z.2) (outsAt0_A m c t h (by omega))
  dsimp only at e
  rw [e]
  frame_out

/-- What a second point writes, over what the first left. -/
theorem wrote (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 := by
  have e := congrArg (fun z => z.1) (outsAt0_B m c t (by omega) h)
  dsimp only at e
  rw [e]
  frame_out
  exact congrArg (k0_pay4 _ _ ·) (Memref.IsWhole.read_unread _ _)

/-- The result. -/
theorem arr : (dats m 0 c).arrAt 2 cfg0.N
    = nn (m := 2048) (k := 5632) (n := 2048) (m ((c : Thread nD τ).loc main_arg0)) (top (n := 11264) (p := 2048) 5632 (by omega) (m ((c : Thread nD τ).loc main_arg1))) := by
  refine (dats m 0 c).arrAt_eq_of_covers 2 _ (by decide +kernel) (fun t hf u => ?_)
  blk_simp
  have hm : t.val % 2 = 1 := (flush0_2 t).mp hf
  have : t.val < 8 := lt_of_lt_of_eq t.isLt N_0
  have hl : t.val - 1 < cfg0.N := Nat.lt_of_le_of_lt (Nat.sub_le _ _) t.isLt
  rw [after0_2, wrote m c t hm, left m c ⟨t.val - 1, hl⟩ (by show (t.val - 1) % 2 = 0; omega)]
  obtain ⟨r, f, rfl⟩ : ∃ r f, u = ix2 (n0 := 1024) (n1 := 1024) r f := ⟨u 0, u 1, eq_ix2 (n0 := 1024) (n1 := 1024) u⟩
  rw [show ((View.whole main_v0).slice (win0_2.rect t)).emb (ix2 r f)
      = ix2 (n0 := 2048) (n1 := 2048) ⟨t.val / 4 * 1024 + r.val, by omega⟩ ⟨t.val / 2 % 2 * 1024 + f.val, by omega⟩ from by blk_ext [idx_2]]
  pointwise [k0_pay4, k0_pay2, k0_pay1]
  unfold nn
  rw [← sum_halves (k := 2816) (n := 5632) rfl]
  refine congrArg₂ (· + ·) (sum_mul_congr (fun i => ?_) (fun i => ?_)) (sum_mul_congr (fun i => ?_) (fun i => ?_))
  · blk_simp [iblk]; congr 1; blk_ext [idx_0]
  · blk_simp [iblk]; congr 1; blk_ext [idx_1]
  · blk_simp [iblk]; congr 1; blk_ext [idx_0]
  · blk_simp [iblk]; congr 1; blk_ext [idx_1]

end Cert.UpDxA

end
-- ==== Proof.UpDxB.lean ====
/- The second half of the up-projection's argument's derivative, added to the first: the derivative of the second half of the
   block's columns with the second half of the weights' rows, each block of the result filled at two grid points. -/
module

public import proofs.«01_k».proof.Proof.Gen.Kernel6Ideal.Value
public import proofs.«01_k».proof.Proof.Prod
public import Idealize.ShloMosaic.Lib.Pipeline.ValueKit

@[expose] public section

set_option maxRecDepth 16384

noncomputable section

namespace Cert.UpDxB

open Idealize.ShloMosaic Idealize.ShloMosaic.TcCoe Idealize.SL.Sem Cert.Kernel6Ideal Cert.Kernel6Ideal.Gen Cert.Prod

variable (m : (ℓ : Loc nD τ sig) → Buf (Elt Ideal) ℓ) (c : Dev nD)

theorem idx_0 : ∀ t : Fin cfg0.N, win0_0.index t = ![t.val / 4, t.val % 2] := by decide +kernel
theorem idx_1 : ∀ t : Fin cfg0.N, win0_1.index t = ![5632 + t.val % 2 * 2816, t.val / 2 % 2 * 1024] := by decide +kernel
theorem idx_2 : ∀ t : Fin cfg0.N, win0_2.index t = ![t.val / 4, t.val / 2 % 2] := by decide +kernel
theorem idx_3 : ∀ t : Fin cfg0.N, win0_3.index t = ![t.val / 4, t.val / 2 % 2] := by decide +kernel

/-- Where a block of the weights lies. -/
theorem emb_1 (t : Fin cfg0.N) (i : Fin 2816) (f : Fin 1024) :
    ((View.whole main_arg1).slice (win0_1.rect t)).emb (ix2 i f)
      = ix2 (n0 := 11264) (n1 := 2048) ⟨5632 + t.val % 2 * 2816 + i.val, by have := i.isLt; omega⟩ ⟨t.val / 2 % 2 * 1024 + f.val, by omega⟩ :=
  funext fun a => Fin.ext ((ValueKit.view_emb_slice_whole_unit_val main_arg1 (win0_1.index t) _ _ (ix2 i f) a).trans (by
    match a with
    | 0 => exact congrArg (· + i.val) (congrFun (idx_1 t) 0)
    | 1 => exact congrArg (· + f.val) (congrFun (idx_1 t) 1)))

/-- What a first point leaves in the scratch. -/
theorem left (t : Fin cfg0.N) (h : t.val % 2 = 0) :
    (outsAt0 m c t.val t.isLt).2 = k0_pay2 (iblk m c 0 t) (iblk m c 1 t) := by
  have e := congrArg (fun z => z.2) (outsAt0_A m c t h (by omega))
  dsimp only at e
  rw [e]
  frame_out

/-- What a second point writes, over what the first left. -/
theorem wrote (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 (iblk m c 2 t) := by
  have e := congrArg (fun z => z.1) (outsAt0_B m c t (by omega) h)
  dsimp only at e
  rw [e]
  frame_out
  exact congrArg (k0_pay4 _ _ · _) (Memref.IsWhole.read_unread _ _)

/-- The result. -/
theorem arr : (dats m 0 c).arrAt 3 cfg0.N
    = add (m := 2048) (n := 2048) (m ((c : Thread nD τ).loc main_arg2)) (nn (m := 2048) (k := 5632) (n := 2048) (m ((c : Thread nD τ).loc main_arg0)) (rows (n := 11264) (p := 2048) 5632 5632 (by omega) (m ((c : Thread nD τ).loc main_arg1)))) := by
  refine (dats m 0 c).arrAt_eq_of_covers 3 _ (by decide +kernel) (fun t hf u => ?_)
  blk_simp
  have hm : t.val % 2 = 1 := (flush0_3 t).mp hf
  have : t.val < 8 := lt_of_lt_of_eq t.isLt N_0
  have hl : t.val - 1 < cfg0.N := Nat.lt_of_le_of_lt (Nat.sub_le _ _) t.isLt
  rw [after0_3, wrote m c t hm, left m c ⟨t.val - 1, hl⟩ (by show (t.val - 1) % 2 = 0; omega)]
  obtain ⟨r, f, rfl⟩ : ∃ r f, u = ix2 (n0 := 1024) (n1 := 1024) r f := ⟨u 0, u 1, eq_ix2 (n0 := 1024) (n1 := 1024) u⟩
  rw [show ((View.whole main_v0).slice (win0_3.rect t)).emb (ix2 r f)
      = ix2 (n0 := 2048) (n1 := 2048) ⟨t.val / 4 * 1024 + r.val, by omega⟩ ⟨t.val / 2 % 2 * 1024 + f.val, by omega⟩ from by blk_ext [idx_3]]
  pointwise [k0_pay4, k0_pay2, k0_pay1]
  refine add_swap ?_ ?_
  · unfold nn
    rw [← sum_halves (k := 2816) (n := 5632) rfl]
    refine congrArg₂ (· + ·) (sum_mul_congr (fun i => ?_) (fun i => ?_)) (sum_mul_congr (fun i => ?_) (fun i => ?_))
    · blk_simp [iblk]; congr 1; blk_ext [idx_0]
    · blk_simp [iblk]; exact congrArg _ ((emb_1 _ i f).trans (by blk_ext []))
    · blk_simp [iblk]; congr 1; blk_ext [idx_0]
    · blk_simp [iblk]; exact congrArg _ ((emb_1 _ i f).trans (by blk_ext []))
  · blk_simp [iblk]; congr 1; blk_ext [idx_2]

end Cert.UpDxB

end
-- ==== Proof.LinearArr.lean ====
/- The nine whole products of the attention's projections: the keys' and values' latent, the keys and values, the queries, and
   their derivatives. Each result is filled block by block, the grid point `t` taking the block of its rows and columns. -/
module

public import proofs.«01_k».proof.Proof.Gen.Kernel7Ideal.Frame
public import proofs.«01_k».proof.Proof.Prod
public import Idealize.ShloMosaic.Lib.Pipeline.ValueKit

@[expose] public section

set_option maxRecDepth 16384

noncomputable section

namespace Cert.Linear

open Idealize.ShloMosaic Idealize.ShloMosaic.TcCoe Idealize.SL.Sem Cert.Kernel7Ideal Cert.Kernel7Ideal.Gen Cert.Prod

variable (V : (c : Dev nD) → (b : Ref sig .tc) → Buf (Elt Ideal) ((c : Thread nD τ).loc b)) (c : Dev nD)

theorem idx0_0 : ∀ t : Fin cfg0.N, win0_0.index t = ![t.val, 0] := by decide +kernel
theorem idx0_1 : ∀ t : Fin cfg0.N, win0_1.index t = ![0, 0] := by decide +kernel
theorem idx0_2 : ∀ t : Fin cfg0.N, win0_2.index t = ![t.val, 0] := by decide +kernel

/-- The projection onto the keys' and values' latent. -/
theorem arr0 : (dat0 V c).arrAt 2 cfg0.N = nt (m := 2304) (k := 2048) (n := 1152) (V c main_arg0) (V c main_arg1) := by
  refine (dat0 V c).arrAt_eq_of_covers 2 _ (by decide +kernel) (fun t hf u => ?_)
  blk_simp
  rw [after0_2]
  frame_out
  have : t.val < 3 := lt_of_lt_of_eq t.isLt N_0
  obtain ⟨r, f, rfl⟩ : ∃ r f, u = ix2 (n0 := 768) (n1 := 1152) r f := ⟨u 0, u 1, eq_ix2 (n0 := 768) (n1 := 1152) u⟩
  rw [show ((View.whole main_v0).slice (win0_2.rect t)).emb (ix2 r f)
      = ix2 (n0 := 2304) (n1 := 1152) ⟨t.val * 768 + r.val, by omega⟩ f from by blk_ext [idx0_2]]
  pointwise [k0_pay1]
  refine sum_mul_congr (fun i => ?_) (fun i => ?_)
  · blk_simp [iblk0]; congr 1; blk_ext [idx0_0]
  · blk_simp [iblk0]; congr 1; blk_ext [idx0_1]

theorem idx1_0 : ∀ t : Fin cfg1.N, win1_0.index t = ![t.val / 2, 0] := by decide +kernel
theorem idx1_1 : ∀ t : Fin cfg1.N, win1_1.index t = ![t.val % 2, 0] := by decide +kernel
theorem idx1_2 : ∀ t : Fin cfg1.N, win1_2.index t = ![t.val / 2, t.val % 2] := by decide +kernel

/-- The keys and values from their latent. -/
theorem arr1 : (dat1 V c).arrAt 2 cfg1.N = nt (m := 2304) (k := 512) (n := 2048) (V c main_arg6) (V c main_arg7) := by
  refine (dat1 V c).arrAt_eq_of_covers 2 _ (by decide +kernel) (fun t hf u => ?_)
  blk_simp
  rw [after1_2]
  frame_out
  have : t.val < 6 := lt_of_lt_of_eq t.isLt N_1
  obtain ⟨r, f, rfl⟩ : ∃ r f, u = ix2 (n0 := 768) (n1 := 1024) r f := ⟨u 0, u 1, eq_ix2 (n0 := 768) (n1 := 1024) u⟩
  rw [show ((View.whole main_v1).slice (win1_2.rect t)).emb (ix2 r f)
      = ix2 (n0 := 2304) (n1 := 2048) ⟨t.val / 2 * 768 + r.val, by omega⟩ ⟨t.val % 2 * 1024 + f.val, by omega⟩ from by blk_ext [idx1_2]]
  pointwise [k1_pay1]
  refine sum_mul_congr (fun i => ?_) (fun i => ?_)
  · blk_simp [iblk1]; congr 1; blk_ext [idx1_0]
  · blk_simp [iblk1]; congr 1; blk_ext [idx1_1]

theorem idx2_0 : ∀ t : Fin cfg2.N, win2_0.index t = ![t.val / 2, 0] := by decide +kernel
theorem idx2_1 : ∀ t : Fin cfg2.N, win2_1.index t = ![t.val % 2, 0] := by decide +kernel
theorem idx2_2 : ∀ t : Fin cfg2.N, win2_2.index t = ![t.val / 2, t.val % 2] := by decide +kernel

/-- The queries from their latent. -/
theorem arr2 : (dat2 V c).arrAt 2 cfg2.N = nt (m := 2048) (k := 768) (n := 1536) (V c main_arg3) (V c main_arg4) := by
  refine (dat2 V c).arrAt_eq_of_covers 2 _ (by decide +kernel) (fun t hf u => ?_)
  blk_simp
  rw [after2_2]
  frame_out
  have : t.val < 4 := lt_of_lt_of_eq t.isLt N_2
  obtain ⟨r, f, rfl⟩ : ∃ r f, u = ix2 (n0 := 1024) (n1 := 768) r f := ⟨u 0, u 1, eq_ix2 (n0 := 1024) (n1 := 768) u⟩
  rw [show ((View.whole main_v2).slice (win2_2.rect t)).emb (ix2 r f)
      = ix2 (n0 := 2048) (n1 := 1536) ⟨t.val / 2 * 1024 + r.val, by omega⟩ ⟨t.val % 2 * 768 + f.val, by omega⟩ from by blk_ext [idx2_2]]
  pointwise [k2_pay1]
  refine sum_mul_congr (fun i => ?_) (fun i => ?_)
  · blk_simp [iblk2]; congr 1; blk_ext [idx2_0]
  · blk_simp [iblk2]; congr 1; blk_ext [idx2_1]

theorem idx3_0 : ∀ t : Fin cfg3.N, win3_0.index t = ![t.val, 0] := by decide +kernel
theorem idx3_1 : ∀ t : Fin cfg3.N, win3_1.index t = ![0, 0] := by decide +kernel
theorem idx3_2 : ∀ t : Fin cfg3.N, win3_2.index t = ![t.val, 0] := by decide +kernel

/-- The queries' latent's derivative. -/
theorem arr3 : (dat3 V c).arrAt 2 cfg3.N = nn (m := 2048) (k := 1536) (n := 768) (V c main_arg5) (V c main_arg4) := by
  refine (dat3 V c).arrAt_eq_of_covers 2 _ (by decide +kernel) (fun t hf u => ?_)
  blk_simp
  rw [after3_2]
  frame_out
  have : t.val < 2 := lt_of_lt_of_eq t.isLt N_3
  obtain ⟨r, f, rfl⟩ : ∃ r f, u = ix2 (n0 := 1024) (n1 := 768) r f := ⟨u 0, u 1, eq_ix2 (n0 := 1024) (n1 := 768) u⟩
  rw [show ((View.whole main_v3).slice (win3_2.rect t)).emb (ix2 r f)
      = ix2 (n0 := 2048) (n1 := 768) ⟨t.val * 1024 + r.val, by omega⟩ f from by blk_ext [idx3_2]]
  pointwise [k3_pay1]
  refine sum_mul_congr (fun i => ?_) (fun i => ?_)
  · blk_simp [iblk3]; congr 1; blk_ext [idx3_0]
  · blk_simp [iblk3]; congr 1; blk_ext [idx3_1]

theorem idx4_0 : ∀ t : Fin cfg4.N, win4_0.index t = ![0, t.val] := by decide +kernel
theorem idx4_1 : ∀ t : Fin cfg4.N, win4_1.index t = ![0, 0] := by decide +kernel
theorem idx4_2 : ∀ t : Fin cfg4.N, win4_2.index t = ![t.val, 0] := by decide +kernel

/-- The queries' weights' derivative. -/
theorem arr4 : (dat4 V c).arrAt 2 cfg4.N = tn (m := 1536) (k := 2048) (n := 768) (V c main_arg5) (V c main_arg3) := by
  refine (dat4 V c).arrAt_eq_of_covers 2 _ (by decide +kernel) (fun t hf u => ?_)
  blk_simp
  rw [after4_2]
  frame_out
  have : t.val < 2 := lt_of_lt_of_eq t.isLt N_4
  obtain ⟨r, f, rfl⟩ : ∃ r f, u = ix2 (n0 := 768) (n1 := 768) r f := ⟨u 0, u 1, eq_ix2 (n0 := 768) (n1 := 768) u⟩
  rw [show ((View.whole main_v4).slice (win4_2.rect t)).emb (ix2 r f)
      = ix2 (n0 := 1536) (n1 := 768) ⟨t.val * 768 + r.val, by omega⟩ f from by blk_ext [idx4_2]]
  pointwise [k4_pay1]
  refine sum_mul_congr (fun i => ?_) (fun i => ?_)
  · blk_simp [iblk4]; congr 1; blk_ext [idx4_0]
  · blk_simp [iblk4]; congr 1; blk_ext [idx4_1]

theorem idx5_0 : ∀ t : Fin cfg5.N, win5_0.index t = ![t.val, 0] := by decide +kernel
theorem idx5_1 : ∀ t : Fin cfg5.N, win5_1.index t = ![0, 0] := by decide +kernel
theorem idx5_2 : ∀ t : Fin cfg5.N, win5_2.index t = ![t.val, 0] := by decide +kernel

/-- The keys' and values' latent's derivative. -/
theorem arr5 : (dat5 V c).arrAt 2 cfg5.N = nn (m := 2304) (k := 2048) (n := 512) (V c main_arg8) (V c main_arg7) := by
  refine (dat5 V c).arrAt_eq_of_covers 2 _ (by decide +kernel) (fun t hf u => ?_)
  blk_simp
  rw [after5_2]
  frame_out
  have : t.val < 3 := lt_of_lt_of_eq t.isLt N_5
  obtain ⟨r, f, rfl⟩ : ∃ r f, u = ix2 (n0 := 768) (n1 := 512) r f := ⟨u 0, u 1, eq_ix2 (n0 := 768) (n1 := 512) u⟩
  rw [show ((View.whole main_v5).slice (win5_2.rect t)).emb (ix2 r f)
      = ix2 (n0 := 2304) (n1 := 512) ⟨t.val * 768 + r.val, by omega⟩ f from by blk_ext [idx5_2]]
  pointwise [k5_pay1]
  refine sum_mul_congr (fun i => ?_) (fun i => ?_)
  · blk_simp [iblk5]; congr 1; blk_ext [idx5_0]
  · blk_simp [iblk5]; congr 1; blk_ext [idx5_1]

theorem idx6_0 : ∀ t : Fin cfg6.N, win6_0.index t = ![0, t.val] := by decide +kernel
theorem idx6_1 : ∀ t : Fin cfg6.N, win6_1.index t = ![0, 0] := by decide +kernel
theorem idx6_2 : ∀ t : Fin cfg6.N, win6_2.index t = ![t.val, 0] := by decide +kernel

/-- The keys' and values' weights' derivative. -/
theorem arr6 : (dat6 V c).arrAt 2 cfg6.N = tn (m := 2048) (k := 2304) (n := 512) (V c main_arg8) (V c main_arg6) := by
  refine (dat6 V c).arrAt_eq_of_covers 2 _ (by decide +kernel) (fun t hf u => ?_)
  blk_simp
  rw [after6_2]
  frame_out
  have : t.val < 2 := lt_of_lt_of_eq t.isLt N_6
  obtain ⟨r, f, rfl⟩ : ∃ r f, u = ix2 (n0 := 1024) (n1 := 512) r f := ⟨u 0, u 1, eq_ix2 (n0 := 1024) (n1 := 512) u⟩
  rw [show ((View.whole main_v6).slice (win6_2.rect t)).emb (ix2 r f)
      = ix2 (n0 := 2048) (n1 := 512) ⟨t.val * 1024 + r.val, by omega⟩ f from by blk_ext [idx6_2]]
  pointwise [k6_pay1]
  refine sum_mul_congr (fun i => ?_) (fun i => ?_)
  · blk_simp [iblk6]; congr 1; blk_ext [idx6_0]
  · blk_simp [iblk6]; congr 1; blk_ext [idx6_1]

theorem idx7_0 : ∀ t : Fin cfg7.N, win7_0.index t = ![t.val / 2, 0] := by decide +kernel
theorem idx7_1 : ∀ t : Fin cfg7.N, win7_1.index t = ![0, t.val % 2] := by decide +kernel
theorem idx7_2 : ∀ t : Fin cfg7.N, win7_2.index t = ![t.val / 2, t.val % 2] := by decide +kernel

/-- The stream's derivative through the projection. -/
theorem arr7 : (dat7 V c).arrAt 2 cfg7.N = nn (m := 2304) (k := 1152) (n := 2048) (V c main_arg2) (V c main_arg1) := by
  refine (dat7 V c).arrAt_eq_of_covers 2 _ (by decide +kernel) (fun t hf u => ?_)
  blk_simp
  rw [after7_2]
  frame_out
  have : t.val < 6 := lt_of_lt_of_eq t.isLt N_7
  obtain ⟨r, f, rfl⟩ : ∃ r f, u = ix2 (n0 := 768) (n1 := 1024) r f := ⟨u 0, u 1, eq_ix2 (n0 := 768) (n1 := 1024) u⟩
  rw [show ((View.whole main_v7).slice (win7_2.rect t)).emb (ix2 r f)
      = ix2 (n0 := 2304) (n1 := 2048) ⟨t.val / 2 * 768 + r.val, by omega⟩ ⟨t.val % 2 * 1024 + f.val, by omega⟩ from by blk_ext [idx7_2]]
  pointwise [k7_pay1]
  refine sum_mul_congr (fun i => ?_) (fun i => ?_)
  · blk_simp [iblk7]; congr 1; blk_ext [idx7_0]
  · blk_simp [iblk7]; congr 1; blk_ext [idx7_1]

theorem idx8_0 : ∀ t : Fin cfg8.N, win8_0.index t = ![0, 0] := by decide +kernel
theorem idx8_1 : ∀ t : Fin cfg8.N, win8_1.index t = ![0, t.val] := by decide +kernel
theorem idx8_2 : ∀ t : Fin cfg8.N, win8_2.index t = ![0, t.val] := by decide +kernel

/-- The projection's weights' derivative. -/
theorem arr8 : (dat8 V c).arrAt 2 cfg8.N = tn (m := 1152) (k := 2304) (n := 2048) (V c main_arg2) (V c main_arg0) := by
  refine (dat8 V c).arrAt_eq_of_covers 2 _ (by decide +kernel) (fun t hf u => ?_)
  blk_simp
  rw [after8_2]
  frame_out
  have : t.val < 2 := lt_of_lt_of_eq t.isLt N_8
  obtain ⟨r, f, rfl⟩ : ∃ r f, u = ix2 (n0 := 1152) (n1 := 1024) r f := ⟨u 0, u 1, eq_ix2 (n0 := 1152) (n1 := 1024) u⟩
  rw [show ((View.whole main_v8).slice (win8_2.rect t)).emb (ix2 r f)
      = ix2 (n0 := 1152) (n1 := 2048) r ⟨t.val * 1024 + f.val, by omega⟩ from by blk_ext [idx8_2]]
  pointwise [k8_pay1]
  refine sum_mul_congr (fun i => ?_) (fun i => ?_)
  · blk_simp [iblk8]; congr 1; blk_ext [idx8_0]
  · blk_simp [iblk8]; congr 1; blk_ext [idx8_1]

end Cert.Linear

end
-- ==== Proof.Run7.lean ====
/- The nine products run one after the other: what the nine results hold at the end. -/
module

public import proofs.«01_k».proof.Proof.LinearArr

@[expose] public section

set_option maxRecDepth 16384

noncomputable section

namespace Cert.Run7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel7Ideal Cert.Kernel7Ideal.Gen Cert.Prod Cert.Linear

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends, and each buffer that outlives the calls then holds what the last call leaves. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W9 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

variable (c : Dev nD)

/-- An argument's contents at the start. -/
abbrev arg (b : Ref sig .tc) : Buf (Elt Ideal) ((c : Thread nD τ).loc b) := m ((c : Thread nD τ).loc b)

/-- The projection onto the keys' and values' latent. -/
def pkv : Mat 2304 1152 := nt (k := 2048) (arg m c main_arg0) (arg m c main_arg1)

/-- The keys and values from their latent. -/
def kv_up : Mat 2304 2048 := nt (k := 512) (arg m c main_arg6) (arg m c main_arg7)

/-- The queries from their latent. -/
def q_a : Mat 2048 1536 := nt (k := 768) (arg m c main_arg3) (arg m c main_arg4)

/-- The queries' latent's derivative. -/
def dcq_n : Mat 2048 768 := nn (k := 1536) (arg m c main_arg5) (arg m c main_arg4)

/-- The queries' weights' derivative. -/
def g_wq_t : Mat 1536 768 := tn (k := 2048) (arg m c main_arg5) (arg m c main_arg3)

/-- The keys' and values' latent's derivative. -/
def dckv_n : Mat 2304 512 := nn (k := 2048) (arg m c main_arg8) (arg m c main_arg7)

/-- The keys' and values' weights' derivative. -/
def g_wkv_t : Mat 2048 512 := tn (k := 2304) (arg m c main_arg8) (arg m c main_arg6)

/-- The stream's derivative through the projection. -/
def dz_kv : Mat 2304 2048 := nn (k := 1152) (arg m c main_arg2) (arg m c main_arg1)

/-- The projection's weights' derivative. -/
def g_kvp : Mat 1152 2048 := tn (k := 2304) (arg m c main_arg2) (arg m c main_arg0)

theorem pkv_eq : V1 m ρ c main_v0 = pkv m c := by
  rw [show V1 m ρ c main_v0 = (dat0 (V0 m ρ) c).arrAt 2 cfg0.N from W1_arr m ρ c 2,
    arr0]
  rfl

theorem kv_up_eq : V2 m ρ c main_v1 = kv_up m c := by
  rw [show V2 m ρ c main_v1 = (dat1 (V1 m ρ) c).arrAt 2 cfg1.N from W2_arr m ρ c 2,
    arr1,
    show V1 m ρ c main_arg6 = arg m c main_arg6 from W1_args m ρ c main_arg6 (by decide),
    show V1 m ρ c main_arg7 = arg m c main_arg7 from W1_args m ρ c main_arg7 (by decide)]
  rfl

theorem q_a_eq : V3 m ρ c main_v2 = q_a m c := by
  rw [show V3 m ρ c main_v2 = (dat2 (V2 m ρ) c).arrAt 2 cfg2.N from W3_arr m ρ c 2,
    arr2,
    show V2 m ρ c main_arg3 = arg m c main_arg3 from W2_args m ρ c main_arg3 (by decide),
    show V2 m ρ c main_arg4 = arg m c main_arg4 from W2_args m ρ c main_arg4 (by decide)]
  rfl

theorem dcq_n_eq : V4 m ρ c main_v3 = dcq_n m c := by
  rw [show V4 m ρ c main_v3 = (dat3 (V3 m ρ) c).arrAt 2 cfg3.N from W4_arr m ρ c 2,
    arr3,
    show V3 m ρ c main_arg5 = arg m c main_arg5 from W3_args m ρ c main_arg5 (by decide),
    show V3 m ρ c main_arg4 = arg m c main_arg4 from W3_args m ρ c main_arg4 (by decide)]
  rfl

theorem g_wq_t_eq : V5 m ρ c main_v4 = g_wq_t m c := by
  rw [show V5 m ρ c main_v4 = (dat4 (V4 m ρ) c).arrAt 2 cfg4.N from W5_arr m ρ c 2,
    arr4,
    show V4 m ρ c main_arg5 = arg m c main_arg5 from W4_args m ρ c main_arg5 (by decide),
    show V4 m ρ c main_arg3 = arg m c main_arg3 from W4_args m ρ c main_arg3 (by decide)]
  rfl

theorem dckv_n_eq : V6 m ρ c main_v5 = dckv_n m c := by
  rw [show V6 m ρ c main_v5 = (dat5 (V5 m ρ) c).arrAt 2 cfg5.N from W6_arr m ρ c 2,
    arr5,
    show V5 m ρ c main_arg8 = arg m c main_arg8 from W5_args m ρ c main_arg8 (by decide),
    show V5 m ρ c main_arg7 = arg m c main_arg7 from W5_args m ρ c main_arg7 (by decide)]
  rfl

theorem g_wkv_t_eq : V7 m ρ c main_v6 = g_wkv_t m c := by
  rw [show V7 m ρ c main_v6 = (dat6 (V6 m ρ) c).arrAt 2 cfg6.N from W7_arr m ρ c 2,
    arr6,
    show V6 m ρ c main_arg8 = arg m c main_arg8 from W6_args m ρ c main_arg8 (by decide),
    show V6 m ρ c main_arg6 = arg m c main_arg6 from W6_args m ρ c main_arg6 (by decide)]
  rfl

theorem dz_kv_eq : V8 m ρ c main_v7 = dz_kv m c := by
  rw [show V8 m ρ c main_v7 = (dat7 (V7 m ρ) c).arrAt 2 cfg7.N from W8_arr m ρ c 2,
    arr7,
    show V7 m ρ c main_arg2 = arg m c main_arg2 from W7_args m ρ c main_arg2 (by decide),
    show V7 m ρ c main_arg1 = arg m c main_arg1 from W7_args m ρ c main_arg1 (by decide)]
  rfl

theorem g_kvp_eq : V9 m ρ c main_v8 = g_kvp m c := by
  rw [show V9 m ρ c main_v8 = (dat8 (V8 m ρ) c).arrAt 2 cfg8.N from W9_arr m ρ c 2,
    arr8,
    show V8 m ρ c main_arg2 = arg m c main_arg2 from W8_args m ρ c main_arg2 (by decide),
    show V8 m ρ c main_arg0 = arg m c main_arg0 from W8_args m ρ c main_arg0 (by decide)]
  rfl

/-- The results at the end of a run; the arguments are unchanged. -/
theorem values : θ_run defs (onTc (τ := τ) (main (F := Ideal))) ⟨m, fun _ => 0, ρ⟩ (fun r => ∀ c : Dev nD,
      r.2.mem ((c : Thread nD τ).loc main_v0) = pkv m c
      ∧ r.2.mem ((c : Thread nD τ).loc main_v1) = kv_up m c
      ∧ r.2.mem ((c : Thread nD τ).loc main_v2) = q_a m c
      ∧ r.2.mem ((c : Thread nD τ).loc main_v3) = dcq_n m c
      ∧ r.2.mem ((c : Thread nD τ).loc main_v4) = g_wq_t m c
      ∧ r.2.mem ((c : Thread nD τ).loc main_v5) = dckv_n m c
      ∧ r.2.mem ((c : Thread nD τ).loc main_v6) = g_wkv_t m c
      ∧ r.2.mem ((c : Thread nD τ).loc main_v7) = dz_kv m c
      ∧ r.2.mem ((c : Thread nD τ).loc main_v8) = g_kvp m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => by
    have e {b : Ref sig .tc} (hb) : r.2.mem ((c : Thread nD τ).loc b) = V9 m ρ c b := h c _ (mem_uc b hb)
    refine ⟨?_, ?_, ?_, ?_, ?_, ?_, ?_, ?_, ?_,
      (e (by decide)).trans (W9_main_arg0 m ρ c),
      (e (by decide)).trans (W9_main_arg1 m ρ c),
      (e (by decide)).trans (W9_main_arg2 m ρ c),
      (e (by decide)).trans (W9_main_arg3 m ρ c),
      (e (by decide)).trans (W9_main_arg4 m ρ c),
      (e (by decide)).trans (W9_main_arg5 m ρ c),
      (e (by decide)).trans (W9_main_arg6 m ρ c),
      (e (by decide)).trans (W9_main_arg7 m ρ c),
      (e (by decide)).trans (W9_main_arg8 m ρ c)⟩
    · exact (e (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (pkv_eq m ρ c)))))))))
    · exact (e (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (kv_up_eq m ρ c))))))))
    · exact (e (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans (q_a_eq m ρ c)))))))
    · exact (e (by decide)).trans ((W9_of m ρ c main_v3 (by decide)).trans ((W8_of m ρ c main_v3 (by decide)).trans ((W7_of m ρ c main_v3 (by decide)).trans ((W6_of m ρ c main_v3 (by decide)).trans ((W5_of m ρ c main_v3 (by decide)).trans (dcq_n_eq m ρ c))))))
    · exact (e (by decide)).trans ((W9_of m ρ c main_v4 (by decide)).trans ((W8_of m ρ c main_v4 (by decide)).trans ((W7_of m ρ c main_v4 (by decide)).trans ((W6_of m ρ c main_v4 (by decide)).trans (g_wq_t_eq m ρ c)))))
    · exact (e (by decide)).trans ((W9_of m ρ c main_v5 (by decide)).trans ((W8_of m ρ c main_v5 (by decide)).trans ((W7_of m ρ c main_v5 (by decide)).trans (dckv_n_eq m ρ c))))
    · exact (e (by decide)).trans ((W9_of m ρ c main_v6 (by decide)).trans ((W8_of m ρ c main_v6 (by decide)).trans (g_wkv_t_eq m ρ c)))
    · exact (e (by decide)).trans ((W9_of m ρ c main_v7 (by decide)).trans (dz_kv_eq m ρ c))
    · exact (e (by decide)).trans (g_kvp_eq m ρ c)
    ) (run m ρ)

end Cert.Run7

end
-- ==== Proof.ProjQ.lean ====
/- The queries' part of the projection: the stream's first 2048 rows with the weights' rows from row 1088, block by block. -/
module

public import proofs.«01_k».proof.Proof.Gen.Kernel8Ideal.Value
public import proofs.«01_k».proof.Proof.Prod
public import Idealize.ShloMosaic.Lib.Pipeline.ValueKit

@[expose] public section

set_option maxRecDepth 16384

noncomputable section

namespace Cert.ProjQ

open Idealize.ShloMosaic Idealize.ShloMosaic.TcCoe Idealize.SL.Sem Cert.Kernel8Ideal Cert.Kernel8Ideal.Gen Cert.Prod

variable (m : (ℓ : Loc nD τ sig) → Buf (Elt Ideal) ℓ) (c : Dev nD)

theorem idx_0 : ∀ t : Fin cfg0.N, win0_0.index t = ![t.val / 2, 0] := by decide +kernel
theorem idx_1 : ∀ t : Fin cfg0.N, win0_1.index t = ![1088 + t.val % 2 * 896, 0] := by decide +kernel
theorem idx_2 : ∀ t : Fin cfg0.N, win0_2.index t = ![t.val / 2, t.val % 2] := by decide +kernel

/-- What a point finds of argument 0. -/
theorem X_0 (t : Fin cfg0.N) (r : Fin 1024) (i : Fin 2048) :
    X0_0 m c t (ix2 r i) = m ((c : Thread nD τ).loc main_arg0) (ix2 (n0 := 2304) (n1 := 2048) ⟨t.val / 2 * 1024 + r.val, by have : t.val < 4 := lt_of_lt_of_eq t.isLt N_0; omega⟩ i) := by
  unfold X0_0 Pipeline.Window.fill
  rw [dif_pos (moved0_0 t _)]
  exact congrArg (m ((c : Thread nD τ).loc main_arg0)) (funext fun a => Fin.ext ((ValueKit.view_emb_slice_whole_unit_val main_arg0 _ _ _ _ a).trans (by
    match a with
    | 0 => exact congrArg (· * 1024 + r.val) (congrFun (idx_0 t) 0)
    | 1 => exact (congrArg (· * 2048 + i.val) (congrFun (idx_0 t) 1)).trans (by show 0 * 2048 + i.val = i.val; omega))))

/-- Where a block of the weights lies. -/
theorem emb_1 (t : Fin cfg0.N) (i : Fin 896) (f : Fin 2048) :
    ((View.whole main_arg1).slice (win0_1.rect t)).emb (ix2 i f) = ix2 (n0 := 6976) (n1 := 2048) ⟨1088 + t.val % 2 * 896 + i.val, by have := i.isLt; omega⟩ f :=
  funext fun a => Fin.ext ((ValueKit.view_emb_slice_whole_unit_val main_arg1 (win0_1.index t) _ _ (ix2 i f) a).trans (by
    match a with
    | 0 => exact congrArg (· + i.val) (congrFun (idx_1 t) 0)
    | 1 => exact (congrArg (· + f.val) (congrFun (idx_1 t) 1)).trans (Nat.zero_add _)))

/-- What a point writes. -/
theorem wrote (t : Fin cfg0.N) : outsAt0 m c t = k0_pay1 (X0_0 m c t) (iblk m c 1 t) := by
  unfold outsAt0
  frame_out

/-- The result. -/
theorem arr : (dats m 0 c).arrAt 2 cfg0.N
    = nt (m := 2048) (k := 2048) (n := 1792) (top (n := 2304) (p := 2048) 2048 (by omega) (m ((c : Thread nD τ).loc main_arg0))) (rows (n := 6976) (p := 2048) 1088 1792 (by omega) (m ((c : Thread nD τ).loc main_arg1))) := by
  refine (dats m 0 c).arrAt_eq_of_covers 2 _ (by decide +kernel) (fun t hf u => ?_)
  blk_simp
  have : t.val < 4 := lt_of_lt_of_eq t.isLt N_0
  rw [after0_2, wrote m c t]
  obtain ⟨r, f, rfl⟩ : ∃ r f, u = ix2 (n0 := 1024) (n1 := 896) r f := ⟨u 0, u 1, eq_ix2 (n0 := 1024) (n1 := 896) u⟩
  rw [show ((View.whole main_v0).slice (win0_2.rect t)).emb (ix2 r f)
      = ix2 (n0 := 2048) (n1 := 1792) ⟨t.val / 2 * 1024 + r.val, by omega⟩ ⟨t.val % 2 * 896 + f.val, by omega⟩ from by blk_ext [idx_2]]
  pointwise [k0_pay1]
  refine sum_mul_congr (fun i => ?_) (fun i => ?_)
  · exact (X_0 m c t r i).trans (congrArg _ (by blk_ext []))
  · blk_simp [iblk]; exact congrArg _ ((emb_1 t f i).trans (by blk_ext []))

end Cert.ProjQ

end
-- ==== Proof.ProjQDx.lean ====
/- The queries' part of the projection's argument's derivative, added to the keys' and values' part. -/
module

public import proofs.«01_k».proof.Proof.Gen.Kernel9Ideal.Value
public import proofs.«01_k».proof.Proof.Prod
public import Idealize.ShloMosaic.Lib.Pipeline.ValueKit

@[expose] public section

set_option maxRecDepth 16384

noncomputable section

namespace Cert.ProjQDx

open Idealize.ShloMosaic Idealize.ShloMosaic.TcCoe Idealize.SL.Sem Cert.Kernel9Ideal Cert.Kernel9Ideal.Gen Cert.Prod

variable (m : (ℓ : Loc nD τ sig) → Buf (Elt Ideal) ℓ) (c : Dev nD)

theorem idx_0 : ∀ t : Fin cfg0.N, win0_0.index t = ![t.val / 2, 0] := by decide +kernel
theorem idx_1 : ∀ t : Fin cfg0.N, win0_1.index t = ![1088, t.val % 2 * 1024] := by decide +kernel
theorem idx_2 : ∀ t : Fin cfg0.N, win0_2.index t = ![t.val / 2, t.val % 2] := by decide +kernel
theorem idx_3 : ∀ t : Fin cfg0.N, win0_3.index t = ![t.val / 2, t.val % 2] := by decide +kernel

/-- What a point finds of argument 2. -/
theorem X_2 (t : Fin cfg0.N) (r : Fin 1024) (i : Fin 1024) :
    X0_2 m c t (ix2 r i) = m ((c : Thread nD τ).loc main_arg2) (ix2 (n0 := 2304) (n1 := 2048) ⟨t.val / 2 * 1024 + r.val, by have : t.val < 4 := lt_of_lt_of_eq t.isLt N_0; omega⟩ ⟨t.val % 2 * 1024 + i.val, by omega⟩) := by
  unfold X0_2 Pipeline.Window.fill
  rw [dif_pos (moved0_2 t _)]
  exact congrArg (m ((c : Thread nD τ).loc main_arg2)) (funext fun a => Fin.ext ((ValueKit.view_emb_slice_whole_unit_val main_arg2 _ _ _ _ a).trans (by
    match a with
    | 0 => exact congrArg (· * 1024 + r.val) (congrFun (idx_2 t) 0)
    | 1 => exact (congrArg (· * 1024 + i.val) (congrFun (idx_2 t) 1)).trans (rfl))))

/-- Where a block of the weights lies. -/
theorem emb_1 (t : Fin cfg0.N) (i : Fin 1792) (f : Fin 1024) :
    ((View.whole main_arg1).slice (win0_1.rect t)).emb (ix2 i f) = ix2 (n0 := 6976) (n1 := 2048) ⟨1088 + i.val, by have := i.isLt; omega⟩ ⟨t.val % 2 * 1024 + f.val, by omega⟩ :=
  funext fun a => Fin.ext ((ValueKit.view_emb_slice_whole_unit_val main_arg1 (win0_1.index t) _ _ (ix2 i f) a).trans (by
    match a with
    | 0 => exact congrArg (· + i.val) (congrFun (idx_1 t) 0)
    | 1 => exact (congrArg (· + f.val) (congrFun (idx_1 t) 1)).trans (rfl)))

/-- What a point writes. -/
theorem wrote (t : Fin cfg0.N) : outsAt0 m c t = k0_pay1 (iblk m c 0 t) (iblk m c 1 t) (X0_2 m c t) := by
  unfold outsAt0
  frame_out

/-- The result. -/
theorem arr : (dats m 0 c).arrAt 3 cfg0.N
    = add (m := 2048) (n := 2048) (top (n := 2304) (p := 2048) 2048 (by omega) (m ((c : Thread nD τ).loc main_arg2)))
      (nn (m := 2048) (k := 1792) (n := 2048) (m ((c : Thread nD τ).loc main_arg0)) (rows (n := 6976) (p := 2048) 1088 1792 (by omega) (m ((c : Thread nD τ).loc main_arg1)))) := by
  refine (dats m 0 c).arrAt_eq_of_covers 3 _ (by decide +kernel) (fun t hf u => ?_)
  blk_simp
  have : t.val < 4 := lt_of_lt_of_eq t.isLt N_0
  rw [after0_3, wrote m c t]
  obtain ⟨r, f, rfl⟩ : ∃ r f, u = ix2 (n0 := 1024) (n1 := 1024) r f := ⟨u 0, u 1, eq_ix2 (n0 := 1024) (n1 := 1024) u⟩
  rw [show ((View.whole main_v0).slice (win0_3.rect t)).emb (ix2 r f)
      = ix2 (n0 := 2048) (n1 := 2048) ⟨t.val / 2 * 1024 + r.val, by omega⟩ ⟨t.val % 2 * 1024 + f.val, by omega⟩ from by blk_ext [idx_3]]
  pointwise [k0_pay1]
  refine add_swap (sum_mul_congr (fun i => ?_) (fun i => ?_)) ?_
  · blk_simp [iblk]; congr 1; blk_ext [idx_0]
  · blk_simp [iblk]; exact congrArg _ ((emb_1 t i f).trans (by blk_ext []))
  · exact (X_2 m c t r f).trans (congrArg _ (by blk_ext []))

end Cert.ProjQDx

end
-- ==== Proof.ProjG.lean ====
/- The gate's part of the projection: the stream's first 2048 rows with the weights' rows from row 2880, block by block. -/
module

public import proofs.«01_k».proof.Proof.Gen.Kernel10Ideal.Value
public import proofs.«01_k».proof.Proof.Prod
public import Idealize.ShloMosaic.Lib.Pipeline.ValueKit

@[expose] public section

set_option maxRecDepth 16384

noncomputable section

namespace Cert.ProjG

open Idealize.ShloMosaic Idealize.ShloMosaic.TcCoe Idealize.SL.Sem Cert.Kernel10Ideal Cert.Kernel10Ideal.Gen Cert.Prod

variable (m : (ℓ : Loc nD τ sig) → Buf (Elt Ideal) ℓ) (c : Dev nD)

theorem idx_0 : ∀ t : Fin cfg0.N, win0_0.index t = ![t.val / 4, 0] := by decide +kernel
theorem idx_1 : ∀ t : Fin cfg0.N, win0_1.index t = ![2880 + t.val % 4 * 1024, 0] := by decide +kernel
theorem idx_2 : ∀ t : Fin cfg0.N, win0_2.index t = ![t.val / 4, t.val % 4] := by decide +kernel

/-- What a point finds of argument 0. -/
theorem X_0 (t : Fin cfg0.N) (r : Fin 1024) (i : Fin 2048) :
    X0_0 m c t (ix2 r i) = m ((c : Thread nD τ).loc main_arg0) (ix2 (n0 := 2304) (n1 := 2048) ⟨t.val / 4 * 1024 + r.val, by have : t.val < 8 := lt_of_lt_of_eq t.isLt N_0; omega⟩ i) := by
  unfold X0_0 Pipeline.Window.fill
  rw [dif_pos (moved0_0 t _)]
  exact congrArg (m ((c : Thread nD τ).loc main_arg0)) (funext fun a => Fin.ext ((ValueKit.view_emb_slice_whole_unit_val main_arg0 _ _ _ _ a).trans (by
    match a with
    | 0 => exact congrArg (· * 1024 + r.val) (congrFun (idx_0 t) 0)
    | 1 => exact (congrArg (· * 2048 + i.val) (congrFun (idx_0 t) 1)).trans (by show 0 * 2048 + i.val = i.val; omega))))

/-- Where a block of the weights lies. -/
theorem emb_1 (t : Fin cfg0.N) (i : Fin 1024) (f : Fin 2048) :
    ((View.whole main_arg1).slice (win0_1.rect t)).emb (ix2 i f) = ix2 (n0 := 6976) (n1 := 2048) ⟨2880 + t.val % 4 * 1024 + i.val, by have := i.isLt; omega⟩ f :=
  funext fun a => Fin.ext ((ValueKit.view_emb_slice_whole_unit_val main_arg1 (win0_1.index t) _ _ (ix2 i f) a).trans (by
    match a with
    | 0 => exact congrArg (· + i.val) (congrFun (idx_1 t) 0)
    | 1 => exact (congrArg (· + f.val) (congrFun (idx_1 t) 1)).trans (Nat.zero_add _)))

/-- What a point writes. -/
theorem wrote (t : Fin cfg0.N) : outsAt0 m c t = k0_pay1 (X0_0 m c t) (iblk m c 1 t) := by
  unfold outsAt0
  frame_out

/-- The result. -/
theorem arr : (dats m 0 c).arrAt 2 cfg0.N
    = nt (m := 2048) (k := 2048) (n := 4096) (top (n := 2304) (p := 2048) 2048 (by omega) (m ((c : Thread nD τ).loc main_arg0))) (rows (n := 6976) (p := 2048) 2880 4096 (by omega) (m ((c : Thread nD τ).loc main_arg1))) := by
  refine (dats m 0 c).arrAt_eq_of_covers 2 _ (by decide +kernel) (fun t hf u => ?_)
  blk_simp
  have : t.val < 8 := lt_of_lt_of_eq t.isLt N_0
  rw [after0_2, wrote m c t]
  obtain ⟨r, f, rfl⟩ : ∃ r f, u = ix2 (n0 := 1024) (n1 := 1024) r f := ⟨u 0, u 1, eq_ix2 (n0 := 1024) (n1 := 1024) u⟩
  rw [show ((View.whole main_v0).slice (win0_2.rect t)).emb (ix2 r f)
      = ix2 (n0 := 2048) (n1 := 4096) ⟨t.val / 4 * 1024 + r.val, by omega⟩ ⟨t.val % 4 * 1024 + f.val, by omega⟩ from by blk_ext [idx_2]]
  pointwise [k0_pay1]
  refine sum_mul_congr (fun i => ?_) (fun i => ?_)
  · exact (X_0 m c t r i).trans (congrArg _ (by blk_ext []))
  · blk_simp [iblk]; exact congrArg _ ((emb_1 t f i).trans (by blk_ext []))

end Cert.ProjG

end
-- ==== Proof.GateDx.lean ====
/- The gate's columns' part of the projection's argument's derivative, added to the latent part: the weights' rows are read from
   row 2880, each block of the result filled at two grid points over the scratch. -/
module

public import proofs.«01_k».proof.Proof.Gen.Kernel11Ideal.Value
public import proofs.«01_k».proof.Proof.Prod
public import Idealize.ShloMosaic.Lib.Pipeline.ValueKit

@[expose] public section

set_option maxRecDepth 16384

noncomputable section

namespace Cert.GateDx

open Idealize.ShloMosaic Idealize.ShloMosaic.TcCoe Idealize.SL.Sem Cert.Kernel11Ideal Cert.Kernel11Ideal.Gen Cert.Prod

variable (m : (ℓ : Loc nD τ sig) → Buf (Elt Ideal) ℓ) (c : Dev nD)

theorem idx_0 : ∀ t : Fin cfg0.N, win0_0.index t = ![t.val / 4, t.val % 2] := by decide +kernel
theorem idx_1 : ∀ t : Fin cfg0.N, win0_1.index t = ![2880 + t.val % 2 * 2048, t.val / 2 % 2 * 1024] := by decide +kernel
theorem idx_2 : ∀ t : Fin cfg0.N, win0_2.index t = ![t.val / 4, t.val / 2 % 2] := by decide +kernel
theorem idx_3 : ∀ t : Fin cfg0.N, win0_3.index t = ![t.val / 4, t.val / 2 % 2] := by decide +kernel

/-- Where a block of the weights lies. -/
theorem emb_1 (t : Fin cfg0.N) (i : Fin 2048) (f : Fin 1024) :
    ((View.whole main_arg1).slice (win0_1.rect t)).emb (ix2 i f)
      = ix2 (n0 := 6976) (n1 := 2048) ⟨2880 + t.val % 2 * 2048 + i.val, by have := i.isLt; omega⟩ ⟨t.val / 2 % 2 * 1024 + f.val, by omega⟩ :=
  funext fun a => Fin.ext ((ValueKit.view_emb_slice_whole_unit_val main_arg1 (win0_1.index t) _ _ (ix2 i f) a).trans (by
    match a with
    | 0 => exact congrArg (· + i.val) (congrFun (idx_1 t) 0)
    | 1 => exact congrArg (· + f.val) (congrFun (idx_1 t) 1)))

/-- What a first point leaves in the scratch. -/
theorem left (t : Fin cfg0.N) (h : t.val % 2 = 0) :
    (outsAt0 m c t.val t.isLt).2 = k0_pay2 (iblk m c 0 t) (iblk m c 1 t) := by
  have e := congrArg (fun z => z.2) (outsAt0_A m c t h (by omega))
  dsimp only at e
  rw [e]
  frame_out

/-- What a second point writes, over what the first left. -/
theorem wrote (t : Fin cfg0.N) (h : t.val % 2 = 1) :
    (outsAt0 m c t.val t.isLt).1 = k0_pay4 (iblk m c 0 t) (iblk m c 1 t) (outsAt0 m c (t.val - 1) (Nat.lt_of_le_of_lt (Nat.sub_le _ _) t.isLt)).2 (iblk m c 2 t) := by
  have e := congrArg (fun z => z.1) (outsAt0_B m c t (by omega) h)
  dsimp only at e
  rw [e]
  frame_out
  exact congrArg (k0_pay4 _ _ · _) (Memref.IsWhole.read_unread _ _)

/-- The result. -/
theorem arr : (dats m 0 c).arrAt 3 cfg0.N
    = add (m := 2048) (n := 2048) (m ((c : Thread nD τ).loc main_arg2)) (nn (m := 2048) (k := 4096) (n := 2048) (m ((c : Thread nD τ).loc main_arg0)) (rows (n := 6976) (p := 2048) 2880 4096 (by omega) (m ((c : Thread nD τ).loc main_arg1)))) := by
  refine (dats m 0 c).arrAt_eq_of_covers 3 _ (by decide +kernel) (fun t hf u => ?_)
  blk_simp
  have hm : t.val % 2 = 1 := (flush0_3 t).mp hf
  have : t.val < 8 := lt_of_lt_of_eq t.isLt N_0
  have hl : t.val - 1 < cfg0.N := Nat.lt_of_le_of_lt (Nat.sub_le _ _) t.isLt
  rw [after0_3, wrote m c t hm, left m c ⟨t.val - 1, hl⟩ (by show (t.val - 1) % 2 = 0; omega)]
  obtain ⟨r, f, rfl⟩ : ∃ r f, u = ix2 (n0 := 1024) (n1 := 1024) r f := ⟨u 0, u 1, eq_ix2 (n0 := 1024) (n1 := 1024) u⟩
  rw [show ((View.whole main_v0).slice (win0_3.rect t)).emb (ix2 r f)
      = ix2 (n0 := 2048) (n1 := 2048) ⟨t.val / 4 * 1024 + r.val, by omega⟩ ⟨t.val / 2 % 2 * 1024 + f.val, by omega⟩ from by blk_ext [idx_3]]
  pointwise [k0_pay4, k0_pay2, k0_pay1]
  refine add_swap ?_ ?_
  · unfold nn
    rw [← sum_halves (k := 2048) (n := 4096) rfl]
    refine congrArg₂ (· + ·) (sum_mul_congr (fun i => ?_) (fun i => ?_)) (sum_mul_congr (fun i => ?_) (fun i => ?_))
    · blk_simp [iblk]; congr 1; blk_ext [idx_0]
    · blk_simp [iblk]; exact congrArg _ ((emb_1 _ i f).trans (by blk_ext []))
    · blk_simp [iblk]; congr 1; blk_ext [idx_0]
    · blk_simp [iblk]; exact congrArg _ ((emb_1 _ i f).trans (by blk_ext []))
  · blk_simp [iblk]; congr 1; blk_ext [idx_2]

end Cert.GateDx

end
-- ==== Proof.ProjQDw.lean ====
/- The queries' part of the projection's weights' derivative: the derivative's columns with the stream's first 2048 rows. -/
module

public import proofs.«01_k».proof.Proof.Gen.Kernel12Ideal.Value
public import proofs.«01_k».proof.Proof.Prod
public import Idealize.ShloMosaic.Lib.Pipeline.ValueKit

@[expose] public section

set_option maxRecDepth 16384

noncomputable section

namespace Cert.ProjQDw

open Idealize.ShloMosaic Idealize.ShloMosaic.TcCoe Idealize.SL.Sem Cert.Kernel12Ideal Cert.Kernel12Ideal.Gen Cert.Prod

variable (m : (ℓ : Loc nD τ sig) → Buf (Elt Ideal) ℓ) (c : Dev nD)

theorem idx_0 : ∀ t : Fin cfg0.N, win0_0.index t = ![0, t.val / 2] := by decide +kernel
theorem idx_1 : ∀ t : Fin cfg0.N, win0_1.index t = ![0, t.val % 2] := by decide +kernel
theorem idx_2 : ∀ t : Fin cfg0.N, win0_2.index t = ![t.val / 2, t.val % 2] := by decide +kernel

/-- What a point finds of argument 1. -/
theorem X_1 (t : Fin cfg0.N) (i : Fin 2048) (f : Fin 1024) :
    X0_1 m c t (ix2 i f) = m ((c : Thread nD τ).loc main_arg1) (ix2 (n0 := 2304) (n1 := 2048) ⟨i.val, by omega⟩ ⟨t.val % 2 * 1024 + f.val, by omega⟩) := by
  unfold X0_1 Pipeline.Window.fill
  rw [dif_pos (moved0_1 t _)]
  exact congrArg (m ((c : Thread nD τ).loc main_arg1)) (funext fun a => Fin.ext ((ValueKit.view_emb_slice_whole_unit_val main_arg1 _ _ _ _ a).trans (by
    match a with
    | 0 => exact (congrArg (· * 2048 + i.val) (congrFun (idx_1 t) 0)).trans (by show 0 * 2048 + i.val = i.val; omega)
    | 1 => exact congrArg (· * 1024 + f.val) (congrFun (idx_1 t) 1))))

/-- What a point writes. -/
theorem wrote (t : Fin cfg0.N) : outsAt0 m c t = k0_pay1 (iblk m c 0 t) (X0_1 m c t) := by
  unfold outsAt0
  frame_out

/-- The result. -/
theorem arr : (dats m 0 c).arrAt 2 cfg0.N
    = tn (m := 1792) (k := 2048) (n := 2048) (m ((c : Thread nD τ).loc main_arg0)) (top (n := 2304) (p := 2048) 2048 (by omega) (m ((c : Thread nD τ).loc main_arg1))) := by
  refine (dats m 0 c).arrAt_eq_of_covers 2 _ (by decide +kernel) (fun t hf u => ?_)
  blk_simp
  have : t.val < 4 := lt_of_lt_of_eq t.isLt N_0
  rw [after0_2, wrote m c t]
  obtain ⟨r, f, rfl⟩ : ∃ r f, u = ix2 (n0 := 896) (n1 := 1024) r f := ⟨u 0, u 1, eq_ix2 (n0 := 896) (n1 := 1024) u⟩
  rw [show ((View.whole main_v0).slice (win0_2.rect t)).emb (ix2 r f)
      = ix2 (n0 := 1792) (n1 := 2048) ⟨t.val / 2 * 896 + r.val, by omega⟩ ⟨t.val % 2 * 1024 + f.val, by omega⟩ from by blk_ext [idx_2]]
  pointwise [k0_pay1]
  refine sum_mul_congr (fun i => ?_) (fun i => ?_)
  · blk_simp [iblk]; congr 1; blk_ext [idx_0]
  · exact (X_1 m c t i f).trans (congrArg _ (by blk_ext []))

end Cert.ProjQDw

end
-- ==== Proof.ProjGDw.lean ====
/- The gate's part of the projection's weights' derivative: the derivative's columns with the stream's first 2048 rows. -/
module

public import proofs.«01_k».proof.Proof.Gen.Kernel13Ideal.Value
public import proofs.«01_k».proof.Proof.Prod
public import Idealize.ShloMosaic.Lib.Pipeline.ValueKit

@[expose] public section

set_option maxRecDepth 16384

noncomputable section

namespace Cert.ProjGDw

open Idealize.ShloMosaic Idealize.ShloMosaic.TcCoe Idealize.SL.Sem Cert.Kernel13Ideal Cert.Kernel13Ideal.Gen Cert.Prod

variable (m : (ℓ : Loc nD τ sig) → Buf (Elt Ideal) ℓ) (c : Dev nD)

theorem idx_0 : ∀ t : Fin cfg0.N, win0_0.index t = ![0, t.val / 2] := by decide +kernel
theorem idx_1 : ∀ t : Fin cfg0.N, win0_1.index t = ![0, t.val % 2] := by decide +kernel
theorem idx_2 : ∀ t : Fin cfg0.N, win0_2.index t = ![t.val / 2, t.val % 2] := by decide +kernel

/-- What a point finds of argument 1. -/
theorem X_1 (t : Fin cfg0.N) (i : Fin 2048) (f : Fin 1024) :
    X0_1 m c t (ix2 i f) = m ((c : Thread nD τ).loc main_arg1) (ix2 (n0 := 2304) (n1 := 2048) ⟨i.val, by omega⟩ ⟨t.val % 2 * 1024 + f.val, by omega⟩) := by
  unfold X0_1 Pipeline.Window.fill
  rw [dif_pos (moved0_1 t _)]
  exact congrArg (m ((c : Thread nD τ).loc main_arg1)) (funext fun a => Fin.ext ((ValueKit.view_emb_slice_whole_unit_val main_arg1 _ _ _ _ a).trans (by
    match a with
    | 0 => exact (congrArg (· * 2048 + i.val) (congrFun (idx_1 t) 0)).trans (by show 0 * 2048 + i.val = i.val; omega)
    | 1 => exact congrArg (· * 1024 + f.val) (congrFun (idx_1 t) 1))))

/-- What a point writes. -/
theorem wrote (t : Fin cfg0.N) : outsAt0 m c t = k0_pay1 (iblk m c 0 t) (X0_1 m c t) := by
  unfold outsAt0
  frame_out

/-- The result. -/
theorem arr : (dats m 0 c).arrAt 2 cfg0.N
    = tn (m := 4096) (k := 2048) (n := 2048) (m ((c : Thread nD τ).loc main_arg0)) (top (n := 2304) (p := 2048) 2048 (by omega) (m ((c : Thread nD τ).loc main_arg1))) := by
  refine (dats m 0 c).arrAt_eq_of_covers 2 _ (by decide +kernel) (fun t hf u => ?_)
  blk_simp
  have : t.val < 8 := lt_of_lt_of_eq t.isLt N_0
  rw [after0_2, wrote m c t]
  obtain ⟨r, f, rfl⟩ : ∃ r f, u = ix2 (n0 := 1024) (n1 := 1024) r f := ⟨u 0, u 1, eq_ix2 (n0 := 1024) (n1 := 1024) u⟩
  rw [show ((View.whole main_v0).slice (win0_2.rect t)).emb (ix2 r f)
      = ix2 (n0 := 4096) (n1 := 2048) ⟨t.val / 2 * 1024 + r.val, by omega⟩ ⟨t.val % 2 * 1024 + f.val, by omega⟩ from by blk_ext [idx_2]]
  pointwise [k0_pay1]
  refine sum_mul_congr (fun i => ?_) (fun i => ?_)
  · blk_simp [iblk]; congr 1; blk_ext [idx_0]
  · exact (X_1 m c t i f).trans (congrArg _ (by blk_ext []))

end Cert.ProjGDw

end
-- ==== Proof.RefOne.lean ====
/- The references of the single products: the product, or the derivative of one, read at each index. -/
module

public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Reference12Ideal.Read
public import proofs.«01_k».proof.Proof.Gen.Reference13Ideal.Read
public import proofs.«01_k».proof.Proof.Prod

@[expose] public section

set_option maxRecDepth 16384

noncomputable section

namespace Cert.RefOne

open Idealize.ShloMosaic Idealize.SL.Sem Cert.Prod

open Cert.Reference4Ideal Cert.Reference4Ideal.Read in
/-- The feed-forward block's product back to the stream. -/
theorem r4 (x0 : Mat 2048 5632) (x1 : Mat 5632 2048) : val_main_v2 (F := Ideal) x0 x1 = nn x0 x1 := ext2 fun r f => by
  pointwise [val_main_v2, val_main_v0, val_main_v1]
  rfl

open Cert.Reference5Ideal Cert.Reference5Ideal.Read in
/-- The derivative through the first half of the up-projection's rows. -/
theorem r5 (x0 : Mat 2048 5632) (x1 : Mat 11264 2048) : val_main_v6 (F := Ideal) x0 x1 = nn x0 (top 5632 (by omega) x1) := ext2 fun r f => by
  pointwise [val_main_v6, val_main_v5, val_main_v3, val_main_v1, val_main_v0]
  rfl

open Cert.Reference6Ideal Cert.Reference6Ideal.Read in
/-- The derivative through the second half, added to the first. -/
theorem r6 (x0 : Mat 2048 5632) (x1 : Mat 11264 2048) (x2 : Mat 2048 2048) : val_main_v7 (F := Ideal) x0 x1 x2 = add x2 (nn x0 (rows 5632 5632 (by omega) x1)) := ext2 fun r f => by
  pointwise [val_main_v7, val_main_v6, val_main_v5, val_main_v3, val_main_v1, val_main_v0]
  rfl

open Cert.Reference8Ideal Cert.Reference8Ideal.Read in
/-- The queries' part of the projection. -/
theorem r8 (x0 : Mat 2304 2048) (x1 : Mat 6976 2048) : val_main_v5 (F := Ideal) x0 x1 = nt (top 2048 (by omega) x0) (rows 1088 1792 (by omega) x1) := ext2 fun r f => by
  pointwise [val_main_v5, val_main_v1, val_main_v0, val_main_v4, val_main_v3, val_main_v2]
  rfl

open Cert.Reference9Ideal Cert.Reference9Ideal.Read in
/-- The derivative through the queries' part, added to the first 2048 rows of the other. -/
theorem r9 (x0 : Mat 2048 1792) (x1 : Mat 6976 2048) (x2 : Mat 2304 2048) : val_main_v8 (F := Ideal) x0 x1 x2 = add (top 2048 (by omega) x2) (nn x0 (rows 1088 1792 (by omega) x1)) := ext2 fun r f => by
  pointwise [val_main_v8, val_main_v7, val_main_v6, val_main_v4, val_main_v3, val_main_v1, val_main_v0]
  rfl

open Cert.Reference10Ideal Cert.Reference10Ideal.Read in
/-- The gate's part of the projection. -/
theorem r10 (x0 : Mat 2304 2048) (x1 : Mat 6976 2048) : val_main_v6 (F := Ideal) x0 x1 = nt (top 2048 (by omega) x0) (rows 2880 4096 (by omega) x1) := ext2 fun r f => by
  pointwise [val_main_v6, val_main_v5, val_main_v1, val_main_v0, val_main_v4, val_main_v3, val_main_v2]
  rfl

open Cert.Reference11Ideal Cert.Reference11Ideal.Read in
/-- The derivative through the gate's part, added to the latent part. -/
theorem r11 (x0 : Mat 2048 4096) (x1 : Mat 6976 2048) (x2 : Mat 2048 2048) : val_main_v7 (F := Ideal) x0 x1 x2 = add x2 (nn x0 (rows 2880 4096 (by omega) x1)) := ext2 fun r f => by
  pointwise [val_main_v7, val_main_v6, val_main_v5, val_main_v3, val_main_v1, val_main_v0]
  rfl

open Cert.Reference12Ideal Cert.Reference12Ideal.Read in
/-- The derivative of the queries' part of the weights. -/
theorem r12 (x0 : Mat 2048 1792) (x1 : Mat 2304 2048) : val_main_v9 (F := Ideal) x0 x1 = tn x0 (top 2048 (by omega) x1) := ext2 fun r f => by
  pointwise [val_main_v9, val_main_v8, val_main_v7, val_main_v6, val_main_v5, val_main_v2, val_main_v1]
  rfl

open Cert.Reference13Ideal Cert.Reference13Ideal.Read in
/-- The derivative of the gate's part of the weights. -/
theorem r13 (x0 : Mat 2048 4096) (x1 : Mat 2304 2048) : val_main_v9 (F := Ideal) x0 x1 = tn x0 (top 2048 (by omega) x1) := ext2 fun r f => by
  pointwise [val_main_v9, val_main_v8, val_main_v7, val_main_v6, val_main_v5, val_main_v2, val_main_v1]
  rfl

end Cert.RefOne

end
-- ==== Proof.RefLinear.lean ====
/- The references of the nine products and of their derivatives, read at each index. -/
module

public import proofs.«01_k».proof.Proof.Gen.Reference7Ideal.Read
public import proofs.«01_k».proof.Proof.Prod

@[expose] public section

set_option maxRecDepth 16384

noncomputable section

namespace Cert.Ref7

open Idealize.ShloMosaic Idealize.SL.Sem Cert.Reference7Ideal Cert.Reference7Ideal.Read Cert.Prod

variable (x0 : Mat 2304 2048) (x1 : Mat 1152 2048) (x2 : Mat 2304 1152) (x3 : Mat 2048 768) (x4 : Mat 1536 768) (x5 : Mat 2048 1536) (x6 : Mat 2304 512) (x7 : Mat 2048 512) (x8 : Mat 2304 2048)

/-- The projection onto the keys' and values' latent. -/
theorem v3 : val_main_v3 (F := Ideal) x0 x1 = nt x0 x1 := ext2 fun r f => by
  pointwise [val_main_v3, val_main_v0, val_main_v2, val_main_v1]
  rfl

/-- The keys and values from their latent. -/
theorem v27 : val_main_v27 (F := Ideal) x6 x7 = nt x6 x7 := ext2 fun r f => by
  pointwise [val_main_v27, val_main_v7, val_main_v4, val_main_v6, val_main_v5]
  rfl

/-- The queries from their latent. -/
theorem v11 : val_main_v11 (F := Ideal) x3 x4 = nt x3 x4 := ext2 fun r f => by
  pointwise [val_main_v11, val_main_v8, val_main_v10, val_main_v9]
  rfl

/-- The queries' latent's derivative. -/
theorem v15 : val_main_v15 (F := Ideal) x4 x5 = nn x5 x4 := ext2 fun r f => by
  pointwise [val_main_v15, val_main_v12, val_main_v10, val_main_v9]
  rfl

/-- The queries' weights' derivative. -/
theorem v28 : val_main_v28 (F := Ideal) x3 x5 = tn x5 x3 := ext2 fun r f => by
  pointwise [val_main_v28, val_main_v16, val_main_v14, val_main_v13, val_main_v12, val_main_v8]
  rfl

/-- The keys' and values' latent's derivative. -/
theorem v20 : val_main_v20 (F := Ideal) x7 x8 = nn x8 x7 := ext2 fun r f => by
  pointwise [val_main_v20, val_main_v17, val_main_v6, val_main_v5]
  rfl

/-- The keys' and values' weights' derivative. -/
theorem v29 : val_main_v29 (F := Ideal) x6 x8 = tn x8 x6 := ext2 fun r f => by
  pointwise [val_main_v29, val_main_v21, val_main_v19, val_main_v18, val_main_v17, val_main_v4]
  rfl

/-- The stream's derivative through the projection. -/
theorem v25 : val_main_v25 (F := Ideal) x1 x2 = nn x2 x1 := ext2 fun r f => by
  pointwise [val_main_v25, val_main_v22, val_main_v2, val_main_v1]
  rfl

/-- The projection's weights' derivative. -/
theorem v30 : val_main_v30 (F := Ideal) x0 x2 = tn x2 x0 := ext2 fun r f => by
  pointwise [val_main_v30, val_main_v26, val_main_v24, val_main_v23, val_main_v22, val_main_v0]
  rfl

end Cert.Ref7

end
-- ==== Proof.MlaReal.lean ====
/- Arguments of the latent attention whose absolute values are all below infinity hold real numbers. -/
module

public import proofs.«01_k».proof.Pre_finite14
public import proofs.«01_k».proof.Proof.Real

@[expose] public section

noncomputable section

namespace Cert.Mla

open Idealize.ShloMosaic Cert.Pre_finite14 Cert.Block

theorem facts : Cert.Pre_finite14.Facts where
  bitsLt_bf16_f32 := by decide
  bcast_S_S2048x1536 := by decide
  bcast_S_S2304x2048 := by decide
  bcast_S_S2304x256 := by decide
  bcast_S_S2048x1024 := by decide

section

attribute [local instance] facts

variable (A : FVec Ideal S2048x1536 .bf16) (B : FVec Ideal S2304x2048 .bf16) (C : FVec Ideal S2304x256 .bf16) (D : FVec Ideal S2048x1024 .bf16)

theorem first (h : (fn (F := Ideal) A B C D).1 = fun _ => 1#1) : ∃ x : Fin 2048 → Fin 1536 → ℝ, Holds (m := 2048) (n := 1536) A x :=
  Cert.Real.holds_of_test (m := 2048) (n := 1536) A fun i => congrFun h i

theorem second (h : (fn (F := Ideal) A B C D).2.1 = fun _ => 1#1) : ∃ x : Fin 2304 → Fin 2048 → ℝ, Holds (m := 2304) (n := 2048) B x :=
  Cert.Real.holds_of_test (m := 2304) (n := 2048) B fun i => congrFun h i

theorem third (h : (fn (F := Ideal) A B C D).2.2.1 = fun _ => 1#1) : ∃ x : Fin 2304 → Fin 256 → ℝ, Holds (m := 2304) (n := 256) C x :=
  Cert.Real.holds_of_test (m := 2304) (n := 256) C fun i => congrFun h i

theorem fourth (h : (fn (F := Ideal) A B C D).2.2.2 = fun _ => 1#1) : ∃ x : Fin 2048 → Fin 1024 → ℝ, Holds (m := 2048) (n := 1024) D x :=
  Cert.Real.holds_of_test (m := 2048) (n := 1024) D fun i => congrFun h i

end

end Cert.Mla

end
-- ==== Proof.MlaPay.lean ====
/- The latent attention's arithmetic on 256 query rows and one head: scores over the 256 lanes of two joined blocks, the
   output rows, the row statistics, and the rows' parts of the three gradients, at real entries. -/
module

public import proofs.«01_k».proof.Proof.Gen.Kernel14Ideal.Skeleton
public import proofs.«01_k».proof.Proof.Softmax
public import proofs.«01_k».proof.Proof.Block

@[expose] public section

set_option maxRecDepth 16384

noncomputable section

namespace Cert.Mla

open Idealize.ShloMosaic Idealize.SL.Sem Cert.Kernel14Ideal Cert.Kernel14Ideal.Gen Cert.Lift Cert.Softmax Cert.Block

/-- The scale of the scores. -/
abbrev c : ℝ := (Real.sqrt 192)⁻¹

/-- Two blocks of 128 lanes side by side. -/
def join {n : ℕ} (a b : Fin n → Fin 128 → ℝ) (r : Fin n) (x : Fin 256) : ℝ :=
  if h : x.val < 128 then a r ⟨x.val, h⟩ else b r ⟨x.val - 128, by omega⟩

/-- The scores of a query row against the keys. -/
abbrev sc (q : Fin 256 → ℝ) (k : Fin 2304 → Fin 256 → ℝ) (j : Fin 2304) : ℝ := score q (k j)

/-- One entry of the output. -/
def outp (q : Fin 256 → ℝ) (k : Fin 2304 → Fin 256 → ℝ) (v : Fin 2304 → Fin 128 → ℝ) (d : Fin 128) : ℝ := mix c (sc q k) fun j => v j d

/-- The row statistic. -/
def lse (q : Fin 256 → ℝ) (k : Fin 2304 → Fin 256 → ℝ) : ℝ := Real.log (den c (sc q k))

/-- The weight of key `j` for one query row. -/
def pw (q : Fin 256 → ℝ) (k : Fin 2304 → Fin 256 → ℝ) (j : Fin 2304) : ℝ := wt c (sc q k) j

/-- The gradient of one query row's scaled score against key `j`. -/
def ds (q : Fin 256 → ℝ) (k : Fin 2304 → Fin 256 → ℝ) (v : Fin 2304 → Fin 128 → ℝ) (g : Fin 128 → ℝ) (j : Fin 2304) : ℝ :=
  dscore c (sc q k) (fun i => ∑ d, g d * v i d) j

/-- One entry of the queries' gradient. -/
def dqEnt (q : Fin 256 → ℝ) (k : Fin 2304 → Fin 256 → ℝ) (v : Fin 2304 → Fin 128 → ℝ) (g : Fin 128 → ℝ) (x : Fin 256) : ℝ :=
  (∑ j, ds q k v g j * k j x) * c

/-- A band of queries, its two blocks joined. -/
abbrev catQ (A B : Vec Ideal S256x128 .bf16) : FVec Ideal S256x256 .bf16 := k1_pay7 A B

/-- A head's keys, its two blocks joined. -/
abbrev catK (A B : Vec Ideal S2304x128 .bf16) : FVec Ideal S2304x256 .bf16 := k1_pay4 A B

theorem holds_catQ {A B : Vec Ideal S256x128 .bf16} {a b : Fin 256 → Fin 128 → ℝ} (hA : Holds A a) (hB : Holds B b) :
    Holds (catQ A B) (join a b) := fun r x => by
  pointwise [k1_pay7]
  rw [join]
  split
  · exact hA _ _
  · exact hB _ _

theorem holds_catK {A B : Vec Ideal S2304x128 .bf16} {a b : Fin 2304 → Fin 128 → ℝ} (hA : Holds A a) (hB : Holds B b) :
    Holds (catK A B) (join a b) := fun r x => by
  pointwise [k1_pay4]
  rw [join]
  split
  · exact hA _ _
  · exact hB _ _

/-- Rows against rows over the 256 lanes. -/
def qk (Q : FVec Ideal S256x256 .bf16) (K : FVec Ideal S2304x256 .bf16) : FVec Ideal S256x2304 .f32 :=
  matmul (φ₁ := .bf16) (φ₂ := .bf16) dot_S256x256_S2304x256_S256x2304_1_1_0_0_n_n none Q K (constant S256x2304 .f32 0x00000000#32)

theorem qk_apply (Q : FVec Ideal S256x256 .bf16) (K : FVec Ideal S2304x256 .bf16) (r : Fin 256) (j : Fin 2304) :
    qk Q K (ix2 r j) = ∑ x : Fin 256, Q (ix2 r x) * K (ix2 j x) := by
  pointwise [qk]

variable {K : FVec Ideal S2304x256 .bf16} {V : Vec Ideal S2304x128 .bf16} {k : Fin 2304 → Fin 256 → ℝ} {v : Fin 2304 → Fin 128 → ℝ}
variable {A B G O : Vec Ideal S256x128 .bf16} {L : Vec Ideal S1x256x1 .f32} {q : Fin 256 → Fin 256 → ℝ} {g : Fin 256 → Fin 128 → ℝ}

theorem qk_real (hK : Holds K k) (hQ : Holds (catQ A B) q) (r : Fin 256) (j : Fin 2304) :
    qk (catQ A B) K (ix2 r j) = ((sc (q r) k j : ℝ) : EReal) := by
  rw [qk_apply]
  exact dot_eq _ _ _ _ (hQ r) (hK j)

section Forward

theorem f10_real (hK : Holds K k) (hQ : Holds (catQ A B) q) (r : Fin 256) (j : Fin 2304) :
    k0_pay10 K A B (ix2 r j) = ((sc (q r) k j : ℝ) : EReal) := qk_real hK hQ r j

theorem f11_real (hK : Holds K k) (hQ : Holds (catQ A B) q) (r : Fin 256) :
    ∃ m : ℝ, k0_pay11 K A B (ix2 r 0) = ((m : ℝ) : EReal) := by
  pointwise [k0_pay11]
  exact max_eq _ _ (f10_real hK hQ r)

theorem f12_real (hK : Holds K k) (hQ : Holds (catQ A B) q) (r : Fin 256) {m : ℝ} (hm : k0_pay11 K A B (ix2 r 0) = ((m : ℝ) : EReal))
    (j : Fin 2304) : k0_pay12 K A B (ix2 r j) = ((Real.exp (c * sc (q r) k j - c * m) : ℝ) : EReal) := by
  pointwise [k0_pay12]
  rw [hm]
  exact exp2_shift c (sc (q r) k) _ (f10_real hK hQ r) m j

theorem f14_real (hK : Holds K k) (hV : Holds V v) (hQ : Holds (catQ A B) q) (r : Fin 256) (d : Fin 128) :
    k0_pay14 K V A B (ix2 r d) = ((outp (q r) k v d : ℝ) : EReal) := by
  obtain ⟨m, hm⟩ := f11_real hK hQ r
  pointwise [k0_pay14, k0_pay13]
  exact fwd_row c (sc (q r) k) _ (f10_real hK hQ r) (fun j => v j d) _ (fun j => hV j d) m _ (f12_real hK hQ r hm)

theorem f15_real (hK : Holds K k) (hQ : Holds (catQ A B) q) (w : Fin 1) (r : Fin 256) (u : Fin 1) :
    k0_pay15 K A B (ix3 w r u) = ((lse (q r) k : ℝ) : EReal) := by
  obtain ⟨m, hm⟩ := f11_real hK hQ r
  pointwise [k0_pay15, k0_pay13]
  rw [hm]
  exact lse_row c (sc (q r) k) _ (f10_real hK hQ r) m _ (f12_real hK hQ r hm)

end Forward

section Backward

variable (hK : Holds K k) (hQ : Holds (catQ A B) q) (hL : ∀ r, L (ix3 0 r 0) = ((lse (q r) k : ℝ) : EReal))

/-- The scaled scores less the row statistic, as a power of two, from the scores. -/
theorem b14_eq (r : Fin 256) (j : Fin 2304) : k1_pay14 K A B L (ix2 r j)
    = Ideal.exp2 (qk (catQ A B) K (ix2 r j) * (((c * (Real.log 2)⁻¹ : ℝ)) : EReal) - L (ix3 0 r 0) * ((((Real.log 2)⁻¹ : ℝ)) : EReal)) := by
  rw [qk_apply]
  have e : k1_pay13 A B = catQ A B := rfl
  pointwise [k1_pay14]
  rw [e]
  rfl

include hK hQ hL in
theorem b14_real (r : Fin 256) (j : Fin 2304) : k1_pay14 K A B L (ix2 r j) = ((pw (q r) k j : ℝ) : EReal) := by
  rw [b14_eq, hL]
  exact bwd_wt c (sc (q r) k) _ (qk_real hK hQ r) j

variable (hV : Holds V v) (hG : Holds G g) (hO : ∀ r d, O (ix2 r d) = ((outp (q r) k v d : ℝ) : EReal))

include hK hQ hL hV hG hO

theorem b15_real (r : Fin 256) (j : Fin 2304) : k1_pay15 K V A B L G O (ix2 r j) = ((ds (q r) k v (g r) j : ℝ) : EReal) := by
  pointwise [k1_pay15]
  exact bwd_dscore c (sc (q r) k) v (g r) _ (b14_real hK hQ hL r) (fun d => G (ix2 r d)) (fun d => O (ix2 r d))
    (fun j d => V (ix2 j d)) (hG r) hV (hO r) j

/-- The queries' gradient. -/
theorem dq_part (r x : Fin 256) : k1_pay10 K (k1_pay15 K V A B L G O) (ix2 r x) = ((dqEnt (q r) k v (g r) x : ℝ) : EReal) := by
  pointwise [k1_pay10]
  rw [dot_eq (fun j => k1_pay15 K V A B L G O (ix2 r j)) (fun j => K (ix2 j x)) _ _ (b15_real hK hQ hL hV hG hO r) (fun j => hK j x), dqEnt, EReal.coe_mul]
  rfl

/-- The rows' part of the keys' gradient, before its scale. -/
theorem dk_part (j : Fin 2304) (x : Fin 256) :
    k1_pay11 (catQ A B) (k1_pay15 K V A B L G O) (ix2 j x) = ((∑ r, ds (q r) k v (g r) j * q r x : ℝ) : EReal) := by
  have e : ∀ (Q : FVec Ideal S256x256 .bf16) (D : FVec Ideal S256x2304 .bf16),
      k1_pay11 Q D (ix2 j x) = ∑ r : Fin 256, D (ix2 r j) * Q (ix2 r x) := fun Q D => by pointwise [k1_pay11]
  rw [e]
  exact dot_eq _ _ _ _ (fun r => b15_real hK hQ hL hV hG hO r j) (fun r => hQ r x)

omit hV hO in
/-- The rows' part of the values' gradient. -/
theorem dv_part (j : Fin 2304) (x : Fin 128) :
    k1_pay12 (k1_pay14 K A B L) G (ix2 j x) = ((∑ r, pw (q r) k j * g r x : ℝ) : EReal) := by
  pointwise [k1_pay12]
  exact dot_eq _ _ _ _ (fun r => b14_real hK hQ hL r j) (fun r => hG r x)

end Backward

end Cert.Mla

end
-- ==== Proof.MlaFwd.lean ====
/- What one grid point of the latent attention's forward call leaves: a head's outputs and row statistics, as functions
   of its query, key and value blocks, at real entries. The eight bands of 256 rows are one arithmetic at eight offsets. -/
module

public import proofs.«01_k».proof.Proof.Gen.Kernel14Ideal.Frame
public import proofs.«01_k».proof.Proof.MlaPay

@[expose] public section

set_option maxRecDepth 16384

noncomputable section

namespace Cert.Mla

open Idealize.ShloMosaic Idealize.SL.Sem Cert.Kernel14Ideal Cert.Kernel14Ideal.Gen Cert.Lift Cert.Softmax Cert.Block

variable {K₁ K₂ V : Vec Ideal S2304x128 .bf16} {k : Fin 2304 → Fin 256 → ℝ} {v : Fin 2304 → Fin 128 → ℝ}
variable {A B : Vec Ideal S2048x128 .bf16} {a b : Fin 2048 → Fin 128 → ℝ}

/-- The whole key or value block, loaded. -/
theorem ld_kv (X : Vec Ideal S2304x128 .bf16) : View.ld X r0_0 = X := View.ld_unit_zero (by decide) _ _

/-- The output block as eight bands of one arithmetic. -/
theorem out0_5_bands (A B : Vec Ideal S2048x128 .bf16) (K₁ K₂ V : Vec Ideal S2304x128 .bf16) :
    out0_5 A B K₁ K₂ V = View.canon [
      ⟨r0_15, k0_pay14 (catK K₁ K₂) V (View.ld A r0_15) (View.ld B r0_15)⟩, ⟨r0_13, k0_pay14 (catK K₁ K₂) V (View.ld A r0_13) (View.ld B r0_13)⟩,
      ⟨r0_11, k0_pay14 (catK K₁ K₂) V (View.ld A r0_11) (View.ld B r0_11)⟩, ⟨r0_9, k0_pay14 (catK K₁ K₂) V (View.ld A r0_9) (View.ld B r0_9)⟩,
      ⟨r0_7, k0_pay14 (catK K₁ K₂) V (View.ld A r0_7) (View.ld B r0_7)⟩, ⟨r0_5, k0_pay14 (catK K₁ K₂) V (View.ld A r0_5) (View.ld B r0_5)⟩,
      ⟨r0_3, k0_pay14 (catK K₁ K₂) V (View.ld A r0_3) (View.ld B r0_3)⟩, ⟨r0_1, k0_pay14 (catK K₁ K₂) V (View.ld A r0_1) (View.ld B r0_1)⟩] := by
  unfold out0_5 k0_pay60 k0_pay59 k0_pay58 k0_pay57 k0_pay56 k0_pay55
  simp only [ld_kv]
  rfl

/-- The block of row statistics as eight bands of one arithmetic. -/
theorem out0_6_bands (A B : Vec Ideal S2048x128 .bf16) (K₁ K₂ V : Vec Ideal S2304x128 .bf16) :
    out0_6 A B K₁ K₂ V = View.canon [
      ⟨r0_16, k0_pay15 (catK K₁ K₂) (View.ld A r0_15) (View.ld B r0_15)⟩, ⟨r0_14, k0_pay15 (catK K₁ K₂) (View.ld A r0_13) (View.ld B r0_13)⟩,
      ⟨r0_12, k0_pay15 (catK K₁ K₂) (View.ld A r0_11) (View.ld B r0_11)⟩, ⟨r0_10, k0_pay15 (catK K₁ K₂) (View.ld A r0_9) (View.ld B r0_9)⟩,
      ⟨r0_8, k0_pay15 (catK K₁ K₂) (View.ld A r0_7) (View.ld B r0_7)⟩, ⟨r0_6, k0_pay15 (catK K₁ K₂) (View.ld A r0_5) (View.ld B r0_5)⟩,
      ⟨r0_4, k0_pay15 (catK K₁ K₂) (View.ld A r0_3) (View.ld B r0_3)⟩, ⟨r0_2, k0_pay15 (catK K₁ K₂) (View.ld A r0_1) (View.ld B r0_1)⟩] := by
  unfold out0_6 k0_pay60 k0_pay59 k0_pay58 k0_pay57 k0_pay56 k0_pay55
  simp only [ld_kv]
  rfl

/-- A band of the joined queries. -/
theorem cat_band (hA : Holds A a) (hB : Holds B b) (o : ℕ) (h : ∀ i, (![o, 0] : Fin 2 → ℕ) i + S256x128.size i ≤ S2048x128.size i)
    (ho : o + 256 ≤ 2048) :
    Holds (catQ (View.ld A (Rect.unit (s := S2048x128) ![o, 0] S256x128.size h)) (View.ld B (Rect.unit (s := S2048x128) ![o, 0] S256x128.size h)))
      (band (join a b) o 256 ho) :=
  holds_catQ (holds_band hA o h ho) (holds_band hB o h ho)

/-- One band of the output block. -/
theorem out_band (hA : Holds A a) (hB : Holds B b) (hK : Holds (catK K₁ K₂) k) (hV : Holds V v) (o : ℕ)
    (h : ∀ i, (![o, 0] : Fin 2 → ℕ) i + S256x128.size i ≤ S2048x128.size i) (z : S256x128.Idx) :
    k0_pay14 (catK K₁ K₂) V (View.ld A (Rect.unit (s := S2048x128) ![o, 0] S256x128.size h)) (View.ld B (Rect.unit (s := S2048x128) ![o, 0] S256x128.size h)) z
      = (fun y : S2048x128.Idx => ((outp (join a b (y 0)) k v (y 1) : ℝ) : EReal)) ((Rect.unit (s := S2048x128) ![o, 0] S256x128.size h).emb z) := by
  have ho : o + 256 ≤ 2048 := h 0
  obtain ⟨r, d, rfl⟩ : ∃ r d, z = ix2 (n0 := 256) (n1 := 128) r d := ⟨z 0, z 1, eq_ix2 z⟩
  refine (f14_real hK hV (cat_band hA hB o h ho) r d).trans ?_
  rw [emb2 o 0 h r d (by omega) (by omega)]
  simp only [ix2_0, ix2_1]
  congr 2
  exact Fin.ext (Nat.zero_add d.val).symm

/-- One band of the block of row statistics. -/
theorem lse_band (hA : Holds A a) (hB : Holds B b) (hK : Holds (catK K₁ K₂) k) (o : ℕ)
    (h : ∀ i, (![o, 0] : Fin 2 → ℕ) i + S256x128.size i ≤ S2048x128.size i)
    (h' : ∀ i, (![0, o, 0] : Fin 3 → ℕ) i + S1x256x1.size i ≤ S1x2048x1.size i) (z : S1x256x1.Idx) :
    k0_pay15 (catK K₁ K₂) (View.ld A (Rect.unit (s := S2048x128) ![o, 0] S256x128.size h)) (View.ld B (Rect.unit (s := S2048x128) ![o, 0] S256x128.size h)) z
      = (fun y : S1x2048x1.Idx => ((lse (join a b (y 1)) k : ℝ) : EReal)) ((Rect.unit (s := S1x2048x1) ![0, o, 0] S1x256x1.size h').emb z) := by
  have ho : o + 256 ≤ 2048 := h 0
  obtain ⟨w, r, u, rfl⟩ : ∃ w r u, z = ix3 (n0 := 1) (n1 := 256) (n2 := 1) w r u := ⟨z 0, z 1, z 2, eq_ix3 z⟩
  refine (f15_real hK (cat_band hA hB o h ho) w r u).trans ?_
  rw [emb3 0 o 0 h' w r u (by omega) (by omega) (by omega)]
  rfl

/-- The output block, entry by entry. -/
theorem out0_5_real (hA : Holds A a) (hB : Holds B b) (hK : Holds (catK K₁ K₂) k) (hV : Holds V v) (r : Fin 2048) (d : Fin 128) :
    out0_5 A B K₁ K₂ V (ix2 r d) = ((outp (join a b r) k v d : ℝ) : EReal) := by
  rw [out0_5_bands]
  refine View.canon_apply_of_pieces (Val := Elt Ideal) (fun y : S2048x128.Idx => ((outp (join a b (y 0)) k v (y 1) : ℝ) : EReal)) _ ?_ (ix2 r d) (cover0_5 _ _ _ _ _ _ _ _ _)
  simp only [List.forall_mem_cons, List.not_mem_nil, IsEmpty.forall_iff, implies_true, and_true]
  have W := @out_band K₁ K₂ V k v A B a b hA hB hK hV
  exact ⟨W _ _, W _ _, W _ _, W _ _, W _ _, W _ _, W _ _, W _ _⟩

/-- The block of row statistics, entry by entry. -/
theorem out0_6_real (V : Vec Ideal S2304x128 .bf16) (hA : Holds A a) (hB : Holds B b) (hK : Holds (catK K₁ K₂) k) (w : Fin 1) (r : Fin 2048) (u : Fin 1) :
    out0_6 A B K₁ K₂ V (ix3 w r u) = ((lse (join a b r) k : ℝ) : EReal) := by
  rw [out0_6_bands]
  refine View.canon_apply_of_pieces (Val := Elt Ideal) (fun y : S1x2048x1.Idx => ((lse (join a b (y 1)) k : ℝ) : EReal)) _ ?_ (ix3 w r u) (cover0_6 _ _ _ _ _ _ _ _ _)
  simp only [List.forall_mem_cons, List.not_mem_nil, IsEmpty.forall_iff, implies_true, and_true]
  have W := @lse_band K₁ K₂ k A B a b hA hB hK
  exact ⟨W _ _ _, W _ _ _, W _ _ _, W _ _ _, W _ _ _, W _ _ _, W _ _ _, W _ _ _⟩

end Cert.Mla

end
-- ==== Proof.MlaHeads.lean ====
/- The heads of the latent attention: which columns of the arguments make up a head's queries, keys and values, and where
   the blocks of the two calls lie in the arrays. Two query heads share one rotary block; the two rotary blocks of the keys
   serve the even and the odd heads. -/
module

public import proofs.«01_k».proof.Proof.MlaFwd
public import proofs.«01_k».proof.Proof.FwdArr

@[expose] public section

set_option maxRecDepth 16384

noncomputable section

namespace Cert.Mla

open Idealize.ShloMosaic Idealize.ShloMosaic.TcCoe Idealize.SL.Sem Cert.Kernel14Ideal Cert.Kernel14Ideal.Gen Cert.Block

/-- Columns `128 * b` to `128 * b + 127`. -/
def colBlock {M N : ℕ} (x : Fin M → Fin N → ℝ) (b : ℕ) (h : 128 * b + 128 ≤ N) (r : Fin M) (d : Fin 128) : ℝ := x r ⟨128 * b + d.val, by omega⟩

section Heads

variable (xq : Fin 2048 → Fin 1536 → ℝ) (xk : Fin 2304 → Fin 2048 → ℝ) (xp : Fin 2304 → Fin 256 → ℝ) (xg : Fin 2048 → Fin 1024 → ℝ) (h : Fin 8)

/-- A head's queries without position. -/
abbrev qn : Fin 2048 → Fin 128 → ℝ := colBlock xq (3 * (h.val / 2) + h.val % 2) (by omega)

/-- A head's rotary queries. -/
abbrev qr : Fin 2048 → Fin 128 → ℝ := colBlock xq (3 * (h.val / 2) + 2) (by omega)

/-- A head's keys without position. -/
abbrev kn : Fin 2304 → Fin 128 → ℝ := colBlock xk (2 * h.val) (by omega)

/-- A head's rotary keys. -/
abbrev kr : Fin 2304 → Fin 128 → ℝ := colBlock xp (h.val % 2) (by omega)

/-- A head's values. -/
abbrev vh : Fin 2304 → Fin 128 → ℝ := colBlock xk (2 * h.val + 1) (by omega)

/-- A head's incoming gradient. -/
abbrev gh : Fin 2048 → Fin 128 → ℝ := colBlock xg h.val (by omega)

/-- A head's queries. -/
def qh : Fin 2048 → Fin 256 → ℝ := join (qn xq h) (qr xq h)

/-- A head's keys. -/
def kh : Fin 2304 → Fin 256 → ℝ := join (kn xk h) (kr xp h)

end Heads

/-- A place in an array, from its block's place and its own place in the block. -/
theorem at_block {M N n b x y : ℕ} (i : (⟨2, ![M, N]⟩ : Shape).Idx) (r : Fin M) (d : Fin n) (p : n * b + d.val < N)
    (h0 : (i 0).val = x * M + r.val) (hx : x = 0) (h1 : (i 1).val = y * n + d.val) (hy : y = b) : i = ix2 r ⟨n * b + d.val, p⟩ := by
  subst hx; subst hy
  refine (eq_ix2 _).trans ((ix2_inj _ _ _ _).mpr ⟨Fin.ext (h0.trans ?_), Fin.ext (h1.trans ?_)⟩)
  · rw [Nat.zero_mul, Nat.zero_add]
  · show y * n + d.val = n * y + d.val
    rw [Nat.mul_comm]

/-- The head a forward point works on. -/
def pt (t : Fin cfg0.N) : Fin 8 := ⟨t.val, lt_of_lt_of_eq t.isLt N_0⟩

/-- The head a gradient point works on. -/
def pt1 (t : Fin cfg1.N) : Fin 8 := ⟨t.val, lt_of_lt_of_eq t.isLt N_1⟩

theorem idx0_0 : ∀ t : Fin cfg0.N, win0_0.index t 0 = 0 ∧ win0_0.index t 1 = 3 * (t.val / 2) + t.val % 2 := by decide +kernel
theorem idx0_1 : ∀ t : Fin cfg0.N, win0_1.index t 0 = 0 ∧ win0_1.index t 1 = 3 * (t.val / 2) + 2 := by decide +kernel
theorem idx0_2 : ∀ t : Fin cfg0.N, win0_2.index t 0 = 0 ∧ win0_2.index t 1 = 2 * t.val := by decide +kernel
theorem idx0_3 : ∀ t : Fin cfg0.N, win0_3.index t 0 = 0 ∧ win0_3.index t 1 = t.val % 2 := by decide +kernel
theorem idx0_4 : ∀ t : Fin cfg0.N, win0_4.index t 0 = 0 ∧ win0_4.index t 1 = 2 * t.val + 1 := by decide +kernel
theorem idx0_5 : ∀ t : Fin cfg0.N, win0_5.index t 0 = 0 ∧ win0_5.index t 1 = t.val := by decide +kernel
theorem idx0_6 : ∀ t : Fin cfg0.N, win0_6.index t 0 = t.val ∧ win0_6.index t 1 = 0 ∧ win0_6.index t 2 = 0 := by decide +kernel
theorem idx1_0 : ∀ t : Fin cfg1.N, win1_0.index t 0 = 0 ∧ win1_0.index t 1 = 3 * (t.val / 2) + t.val % 2 := by decide +kernel
theorem idx1_1 : ∀ t : Fin cfg1.N, win1_1.index t 0 = 0 ∧ win1_1.index t 1 = 3 * (t.val / 2) + 2 := by decide +kernel
theorem idx1_2 : ∀ t : Fin cfg1.N, win1_2.index t 0 = 0 ∧ win1_2.index t 1 = 2 * t.val := by decide +kernel
theorem idx1_3 : ∀ t : Fin cfg1.N, win1_3.index t 0 = 0 ∧ win1_3.index t 1 = t.val % 2 := by decide +kernel
theorem idx1_4 : ∀ t : Fin cfg1.N, win1_4.index t 0 = 0 ∧ win1_4.index t 1 = 2 * t.val + 1 := by decide +kernel
theorem idx1_5 : ∀ t : Fin cfg1.N, win1_5.index t 0 = 0 ∧ win1_5.index t 1 = t.val := by decide +kernel
theorem idx1_6 : ∀ t : Fin cfg1.N, win1_6.index t 0 = 0 ∧ win1_6.index t 1 = t.val := by decide +kernel
theorem idx1_7 : ∀ t : Fin cfg1.N, win1_7.index t 0 = t.val ∧ win1_7.index t 1 = 0 ∧ win1_7.index t 2 = 0 := by decide +kernel
theorem idx1_8 : ∀ t : Fin cfg1.N, win1_8.index t 0 = 0 ∧ win1_8.index t 1 = t.val := by decide +kernel
theorem idx1_9 : ∀ t : Fin cfg1.N, win1_9.index t 0 = 0 ∧ win1_9.index t 1 = t.val := by decide +kernel
theorem idx1_10 : ∀ t : Fin cfg1.N, win1_10.index t 0 = 0 ∧ win1_10.index t 1 = t.val := by decide +kernel

/-- Where an output block's entry sits among the outputs. -/
theorem emb0_5 (t : Fin cfg0.N) (r : Fin 2048) (d : Fin 128) :
    (win0_5.rect t).emb (ix2 r d) = ix2 (n0 := 2048) (n1 := 1024) r ⟨128 * (pt t).val + d.val, by omega⟩ :=
  at_block (M := 2048) (N := 1024) _ r d _ (Pipeline.Window.rect_emb_val win0_5 t (ix2 r d) 0 rfl) (idx0_5 t).1 (Pipeline.Window.rect_emb_val win0_5 t (ix2 r d) 1 rfl) (idx0_5 t).2

/-- Where a block of row statistics sits. -/
theorem emb0_6 (t : Fin cfg0.N) (w : Fin 1) (r : Fin 2048) (u : Fin 1) :
    (win0_6.rect t).emb (ix3 w r u) = ix3 (n0 := 8) (n1 := 2048) (n2 := 1) (pt t) r 0 := by
  refine (eq_ix3 (n0 := 8) (n1 := 2048) (n2 := 1) _).trans ((ix3_inj _ _ _ _ _ _).mpr ⟨Fin.ext ?_, Fin.ext ?_, Fin.ext ?_⟩)
  · refine (Pipeline.Window.rect_emb_val win0_6 t (ix3 w r u) 0 rfl).trans ?_; rw [(idx0_6 t).1]; show t.val * 1 + w.val = t.val; omega
  · refine (Pipeline.Window.rect_emb_val win0_6 t (ix3 w r u) 1 rfl).trans ?_; rw [(idx0_6 t).2.1]; exact (congrArg (· + r.val) (Nat.zero_mul _)).trans (Nat.zero_add _)
  · refine (Pipeline.Window.rect_emb_val win0_6 t (ix3 w r u) 2 rfl).trans ?_; rw [(idx0_6 t).2.2]; show 0 * 1 + u.val = 0; omega

theorem emb1_5 (t : Fin cfg1.N) (r : Fin 2048) (d : Fin 128) :
    (win1_5.rect t).emb (ix2 r d) = ix2 (n0 := 2048) (n1 := 1024) r ⟨128 * (pt1 t).val + d.val, by omega⟩ :=
  at_block (M := 2048) (N := 1024) _ r d _ (Pipeline.Window.rect_emb_val win1_5 t (ix2 r d) 0 rfl) (idx1_5 t).1 (Pipeline.Window.rect_emb_val win1_5 t (ix2 r d) 1 rfl) (idx1_5 t).2

theorem emb1_7 (t : Fin cfg1.N) (w : Fin 1) (r : Fin 2048) (u : Fin 1) :
    (win1_7.rect t).emb (ix3 w r u) = ix3 (n0 := 8) (n1 := 2048) (n2 := 1) (pt1 t) r 0 := by
  refine (eq_ix3 (n0 := 8) (n1 := 2048) (n2 := 1) _).trans ((ix3_inj _ _ _ _ _ _).mpr ⟨Fin.ext ?_, Fin.ext ?_, Fin.ext ?_⟩)
  · refine (Pipeline.Window.rect_emb_val win1_7 t (ix3 w r u) 0 rfl).trans ?_; rw [(idx1_7 t).1]; show t.val * 1 + w.val = t.val; omega
  · refine (Pipeline.Window.rect_emb_val win1_7 t (ix3 w r u) 1 rfl).trans ?_; rw [(idx1_7 t).2.1]; exact (congrArg (· + r.val) (Nat.zero_mul _)).trans (Nat.zero_add _)
  · refine (Pipeline.Window.rect_emb_val win1_7 t (ix3 w r u) 2 rfl).trans ?_; rw [(idx1_7 t).2.2]; show 0 * 1 + u.val = 0; omega

theorem emb1_8 (t : Fin cfg1.N) (r : Fin 2048) (d : Fin 256) :
    (win1_8.rect t).emb (ix2 r d) = ix2 (n0 := 2048) (n1 := 2048) r ⟨256 * (pt1 t).val + d.val, by omega⟩ :=
  at_block (M := 2048) (N := 2048) _ r d _ (Pipeline.Window.rect_emb_val win1_8 t (ix2 r d) 0 rfl) (idx1_8 t).1 (Pipeline.Window.rect_emb_val win1_8 t (ix2 r d) 1 rfl) (idx1_8 t).2

theorem emb1_9 (t : Fin cfg1.N) (r : Fin 2304) (d : Fin 256) :
    (win1_9.rect t).emb (ix2 r d) = ix2 (n0 := 2304) (n1 := 2048) r ⟨256 * (pt1 t).val + d.val, by omega⟩ :=
  at_block (M := 2304) (N := 2048) _ r d _ (Pipeline.Window.rect_emb_val win1_9 t (ix2 r d) 0 rfl) (idx1_9 t).1 (Pipeline.Window.rect_emb_val win1_9 t (ix2 r d) 1 rfl) (idx1_9 t).2

theorem emb1_10 (t : Fin cfg1.N) (r : Fin 2304) (d : Fin 128) :
    (win1_10.rect t).emb (ix2 r d) = ix2 (n0 := 2304) (n1 := 1024) r ⟨128 * (pt1 t).val + d.val, by omega⟩ :=
  at_block (M := 2304) (N := 1024) _ r d _ (Pipeline.Window.rect_emb_val win1_10 t (ix2 r d) 0 rfl) (idx1_10 t).1 (Pipeline.Window.rect_emb_val win1_10 t (ix2 r d) 1 rfl) (idx1_10 t).2

/-- An array's entries at a block's place. -/
theorem holds_at {M N b x y : ℕ} {X : (⟨2, ![M, N]⟩ : Shape).Idx → EReal} {f : Fin M → Fin N → ℝ} (hX : Holds X f) (hb : 128 * b + 128 ≤ N)
    (i : (⟨2, ![M, N]⟩ : Shape).Idx) (r : Fin M) (d : Fin 128)
    (h0 : (i 0).val = x * M + r.val) (hx : x = 0) (h1 : (i 1).val = y * 128 + d.val) (hy : y = b) : X i = ((colBlock f b hb r d : ℝ) : EReal) := by
  rw [at_block i r d (by omega) h0 hx h1 hy, hX]
  rfl

end Cert.Mla

end
-- ==== Proof.MlaArr.lean ====
/- The latent attention's forward arrays. Its grid point `t` takes head `t`, and writes head `t` of the outputs and of the
   row statistics; together the points write both arrays whole. -/
module

public import proofs.«01_k».proof.Proof.MlaHeads

@[expose] public section

set_option maxRecDepth 16384

noncomputable section

namespace Cert.Mla

open Idealize.ShloMosaic Idealize.ShloMosaic.TcCoe Idealize.SL.Sem Cert.Kernel14Ideal Cert.Kernel14Ideal.Gen Cert.Block
open Cert.Fwd (emb_mem hd col hd_mk col_mk)

variable (V : (c : Dev nD) → (b : Ref sig .tc) → Buf (Elt Ideal) ((c : Thread nD τ).loc b)) (c : Dev nD)
variable {xq : Fin 2048 → Fin 1536 → ℝ} {xk : Fin 2304 → Fin 2048 → ℝ} {xp : Fin 2304 → Fin 256 → ℝ}

theorem blk0_0 (hq : Holds (m := 2048) (n := 1536) (V c main_arg0) xq) (t : Fin cfg0.N) : Holds (m := 2048) (n := 128) (iblk0 V c 0 t) (qn xq (pt t)) := fun r d =>
  holds_at (M := 2048) (N := 1536) hq _ ((win0_0.rect t).emb (ix2 r d)) r d (Pipeline.Window.rect_emb_val win0_0 t (ix2 r d) 0 rfl) (idx0_0 t).1 (Pipeline.Window.rect_emb_val win0_0 t (ix2 r d) 1 rfl) (idx0_0 t).2

theorem blk0_1 (hq : Holds (m := 2048) (n := 1536) (V c main_arg0) xq) (t : Fin cfg0.N) : Holds (m := 2048) (n := 128) (iblk0 V c 1 t) (qr xq (pt t)) := fun r d =>
  holds_at (M := 2048) (N := 1536) hq _ ((win0_1.rect t).emb (ix2 r d)) r d (Pipeline.Window.rect_emb_val win0_1 t (ix2 r d) 0 rfl) (idx0_1 t).1 (Pipeline.Window.rect_emb_val win0_1 t (ix2 r d) 1 rfl) (idx0_1 t).2

theorem blk0_2 (hk : Holds (m := 2304) (n := 2048) (V c main_arg1) xk) (t : Fin cfg0.N) : Holds (m := 2304) (n := 128) (iblk0 V c 2 t) (kn xk (pt t)) := fun r d =>
  holds_at (M := 2304) (N := 2048) hk _ ((win0_2.rect t).emb (ix2 r d)) r d (Pipeline.Window.rect_emb_val win0_2 t (ix2 r d) 0 rfl) (idx0_2 t).1 (Pipeline.Window.rect_emb_val win0_2 t (ix2 r d) 1 rfl) (idx0_2 t).2

theorem blk0_3 (hp : Holds (m := 2304) (n := 256) (V c main_arg2) xp) (t : Fin cfg0.N) : Holds (m := 2304) (n := 128) (iblk0 V c 3 t) (kr xp (pt t)) := fun r d =>
  holds_at (M := 2304) (N := 256) hp _ ((win0_3.rect t).emb (ix2 r d)) r d (Pipeline.Window.rect_emb_val win0_3 t (ix2 r d) 0 rfl) (idx0_3 t).1 (Pipeline.Window.rect_emb_val win0_3 t (ix2 r d) 1 rfl) (idx0_3 t).2

theorem blk0_4 (hk : Holds (m := 2304) (n := 2048) (V c main_arg1) xk) (t : Fin cfg0.N) : Holds (m := 2304) (n := 128) (iblk0 V c 4 t) (vh xk (pt t)) := fun r d =>
  holds_at (M := 2304) (N := 2048) hk _ ((win0_4.rect t).emb (ix2 r d)) r d (Pipeline.Window.rect_emb_val win0_4 t (ix2 r d) 0 rfl) (idx0_4 t).1 (Pipeline.Window.rect_emb_val win0_4 t (ix2 r d) 1 rfl) (idx0_4 t).2

/-- The output array. -/
def oArr (xq : Fin 2048 → Fin 1536 → ℝ) (xk : Fin 2304 → Fin 2048 → ℝ) (xp : Fin 2304 → Fin 256 → ℝ) (r : Fin 2048) (e : Fin 1024) : ℝ :=
  outp (qh xq (hd e) r) (kh xk xp (hd e)) (vh xk (hd e)) (col e)

/-- The row statistics. -/
def lArr (xq : Fin 2048 → Fin 1536 → ℝ) (xk : Fin 2304 → Fin 2048 → ℝ) (xp : Fin 2304 → Fin 256 → ℝ) (h : Fin 8) (r : Fin 2048) : ℝ :=
  lse (qh xq h r) (kh xk xp h)

theorem cover5 (i : S2048x1024.Idx) : ∃ t : Fin cfg0.N, (cfg0.win 5).flush t = true ∧ i ∈ ((cfg0.win 5).blk t).view.set := by
  obtain ⟨r, e, rfl⟩ : ∃ r e, i = ix2 (n0 := 2048) (n1 := 1024) r e := ⟨i 0, i 1, eq_ix2 i⟩
  have hl : e.val / 128 < cfg0.N := lt_of_lt_of_eq (by omega) N_0.symm
  refine ⟨⟨e.val / 128, hl⟩, flush0_5 _, ?_⟩
  show ix2 r e ∈ ((View.whole main_v0_0).slice (win0_5.rect ⟨e.val / 128, hl⟩)).set
  rw [View.set_slice_whole, show ix2 r e = (win0_5.rect ⟨e.val / 128, hl⟩).emb (ix2 r (col e)) from ?_]
  · exact emb_mem _ _
  · rw [emb0_5]
    exact (ix2_inj _ _ _ _).mpr ⟨rfl, Fin.ext (by show e.val = 128 * (e.val / 128) + e.val % 128; omega)⟩

theorem cover6 (i : S8x2048x1.Idx) : ∃ t : Fin cfg0.N, (cfg0.win 6).flush t = true ∧ i ∈ ((cfg0.win 6).blk t).view.set := by
  obtain ⟨h, r, u, rfl⟩ : ∃ h r u, i = ix3 (n0 := 8) (n1 := 2048) (n2 := 1) h r u := ⟨i 0, i 1, i 2, eq_ix3 i⟩
  have hl : h.val < cfg0.N := lt_of_lt_of_eq h.isLt N_0.symm
  refine ⟨⟨h.val, hl⟩, flush0_6 _, ?_⟩
  show ix3 h r u ∈ ((View.whole main_v0_1).slice (win0_6.rect ⟨h.val, hl⟩)).set
  rw [View.set_slice_whole, show ix3 h r u = (win0_6.rect ⟨h.val, hl⟩).emb (ix3 0 r 0) from ?_]
  · exact emb_mem _ _
  · rw [emb0_6]
    exact (ix3_inj _ _ _ _ _ _).mpr ⟨rfl, rfl, Fin.ext (by omega)⟩

variable (hq : Holds (m := 2048) (n := 1536) (V c main_arg0) xq) (hk : Holds (m := 2304) (n := 2048) (V c main_arg1) xk)
  (hp : Holds (m := 2304) (n := 256) (V c main_arg2) xp)
include hq hk hp

/-- The output array after the call. -/
theorem arr5 : Holds (m := 2048) (n := 1024) ((dat0 V c).arrAt 5 cfg0.N) (oArr xq xk xp) := by
  have e := (dat0 V c).arrAt_eq_of_cover 5 (fun y : S2048x1024.Idx => ((oArr xq xk xp (y 0) (y 1) : ℝ) : EReal)) (fun t _ => ?_) cover5
  · rw [e]; exact fun _ _ => rfl
  show (cfg0.win 5).cut (grid0.coords t) ((dat0 V c).after 5 t) = _
  rw [after0_5]
  funext y
  obtain ⟨r, d, rfl⟩ : ∃ r d, y = ix2 (n0 := 2048) (n1 := 128) r d := ⟨y 0, y 1, eq_ix2 (n0 := 2048) (n1 := 128) y⟩
  refine (out0_5_real (blk0_0 V c hq t) (blk0_1 V c hq t) (holds_catK (blk0_2 V c hk t) (blk0_3 V c hp t)) (blk0_4 V c hk t) r d).trans ?_
  show _ = (fun y : S2048x1024.Idx => ((oArr xq xk xp (y 0) (y 1) : ℝ) : EReal)) ((win0_5.rect t).emb (ix2 r d))
  rw [emb0_5]
  show _ = ((oArr xq xk xp r ⟨128 * (pt t).val + d.val, _⟩ : ℝ) : EReal)
  rw [oArr, hd_mk, col_mk]
  rfl

/-- The row statistics after the call. -/
theorem arr6 (h : Fin 8) (r : Fin 2048) (u : Fin 1) : (dat0 V c).arrAt 6 cfg0.N (ix3 (n0 := 8) (n1 := 2048) (n2 := 1) h r u) = ((lArr xq xk xp h r : ℝ) : EReal) := by
  have e := (dat0 V c).arrAt_eq_of_cover 6 (fun y : S8x2048x1.Idx => ((lArr xq xk xp (y 0) (y 1) : ℝ) : EReal)) (fun t _ => ?_) cover6
  · rw [e]; rfl
  show (cfg0.win 6).cut (grid0.coords t) ((dat0 V c).after 6 t) = _
  rw [after0_6]
  funext y
  obtain ⟨w, r, u, rfl⟩ : ∃ w r u, y = ix3 (n0 := 1) (n1 := 2048) (n2 := 1) w r u := ⟨y 0, y 1, y 2, eq_ix3 (n0 := 1) (n1 := 2048) (n2 := 1) y⟩
  refine (out0_6_real (iblk0 V c 4 t) (blk0_0 V c hq t) (blk0_1 V c hq t) (holds_catK (blk0_2 V c hk t) (blk0_3 V c hp t)) w r u).trans ?_
  show _ = (fun y : S8x2048x1.Idx => ((lArr xq xk xp (y 0) (y 1) : ℝ) : EReal)) ((win0_6.rect t).emb (ix3 w r u))
  rw [emb0_6]
  rfl

end Cert.Mla

end
-- ==== Proof.MlaPieces.lean ====
/- What one grid point of the latent attention's gradient call stores: eight bands of the queries' gradient, and the
   keys' and values' gradients reset, added into and (the keys') scaled, all in the one point of a head. -/
module

public import proofs.«01_k».proof.Proof.Gen.Kernel14Ideal.Frame
public import proofs.«01_k».proof.Proof.MlaPay
public import Idealize.ShloMosaic.Lib.WholeRead

@[expose] public section

set_option maxRecDepth 16384

noncomputable section

namespace Cert.Mla

open Idealize.ShloMosaic Idealize.SL.Sem Cert.Kernel14Ideal Cert.Kernel14Ideal.Gen Cert.Block

theorem bnd_inb (i : Fin 8) : ∀ a, (![256 * i.val, 0] : Fin 2 → ℕ) a + S256x128.size a ≤ S2048x128.size a
  | 0 => (by have := i.isLt; show 256 * i.val + 256 ≤ 2048; omega)
  | 1 => (by show 0 + 128 ≤ 128; omega)

theorem wide_inb (i : Fin 8) : ∀ a, (![256 * i.val, 0] : Fin 2 → ℕ) a + S256x256.size a ≤ S2048x256.size a
  | 0 => (by have := i.isLt; show 256 * i.val + 256 ≤ 2048; omega)
  | 1 => (by show 0 + 256 ≤ 256; omega)

theorem bnd3_inb (i : Fin 8) : ∀ a, (![0, 256 * i.val, 0] : Fin 3 → ℕ) a + S1x256x1.size a ≤ S1x2048x1.size a
  | 0 => (by show 0 + 1 ≤ 1; omega)
  | 1 => (by have := i.isLt; show 256 * i.val + 256 ≤ 2048; omega)
  | 2 => (by show 0 + 1 ≤ 1; omega)

/-- Band `i` of 256 rows of an input block. -/
def bnd (i : Fin 8) : Rect S2048x128 := Rect.unit (s := S2048x128) ![256 * i.val, 0] S256x128.size (bnd_inb i)

/-- Band `i` of 256 rows of the queries' gradient block. -/
def wide (i : Fin 8) : Rect S2048x256 := Rect.unit (s := S2048x256) ![256 * i.val, 0] S256x256.size (wide_inb i)

/-- Band `i` of a block of row statistics. -/
def bnd3 (i : Fin 8) : Rect S1x2048x1 := Rect.unit (s := S1x2048x1) ![0, 256 * i.val, 0] S1x256x1.size (bnd3_inb i)

/-- A whole block of keys' or values' rows. -/
abbrev whole : Rect S2304x128 := Rect.unit (s := S2304x128) ![0, 0] S2304x128.size inb_S2304x128_S2304x128_0_0

/-- A whole block of joined keys' rows. -/
abbrev whole2 : Rect S2304x256 := Rect.unit (s := S2304x256) ![0, 0] S2304x256.size inb_S2304x256_S2304x256_0_0

/-- Eight bands' parts, added in order. -/
def sum8 {S : Shape} (f : Fin 8 → FVec Ideal S .f32) : FVec Ideal S .f32 :=
  addf (addf (addf (addf (addf (addf (addf (f 0) (f 1)) (f 2)) (f 3)) (f 4)) (f 5)) (f 6)) (f 7)

section Steps

variable (K₁ K₂ V : Vec Ideal S2304x128 .bf16) (A B G O : Fin 8 → Vec Ideal S256x128 .bf16) (L : Fin 8 → Vec Ideal S1x256x1 .f32)

/-- Band `i`'s gradient of the scores. -/
def dsBand (i : Fin 8) : FVec Ideal S256x2304 .bf16 := k1_pay15 (catK K₁ K₂) V (A i) (B i) (L i) (G i) (O i)

/-- The keys' gradient added into a block. -/
def dkStep (X : Vec Ideal S2304x256 .f32) : FVec Ideal S2304x256 .f32 :=
  addf (shapeCast S2304x256 X shapeCasts_S2304x256_S2304x256) (sum8 fun i => k1_pay11 (catQ (A i) (B i)) (dsBand K₁ K₂ V A B G O L i))

/-- The values' gradient added into a block. -/
def dvStep (X : Vec Ideal S2304x128 .f32) : FVec Ideal S2304x128 .f32 :=
  addf (shapeCast S2304x128 X shapeCasts_S2304x128_S2304x128) (sum8 fun i => k1_pay12 (k1_pay14 (catK K₁ K₂) (A i) (B i) (L i)) (G i))

/-- Band `i` of the queries' gradient, as a store. -/
def dqPiece (i : Fin 8) : View.Piece (Elt Ideal) S2048x256 .f32 := ⟨wide i, k1_pay10 (catK K₁ K₂) (dsBand K₁ K₂ V A B G O L i)⟩

/-- The stores of the queries' gradient. -/
def dqPieces : List (View.Piece (Elt Ideal) S2048x256 .f32) :=
  [dqPiece K₁ K₂ V A B G O L 7, dqPiece K₁ K₂ V A B G O L 6, dqPiece K₁ K₂ V A B G O L 5, dqPiece K₁ K₂ V A B G O L 4,
   dqPiece K₁ K₂ V A B G O L 3, dqPiece K₁ K₂ V A B G O L 2, dqPiece K₁ K₂ V A B G O L 1, dqPiece K₁ K₂ V A B G O L 0]

end Steps

variable (c : Dev nD) (i : grid1.Coords) (arg2 : Memref sig .tc .vmem S2048x128 .bf16) (harg2 : arg2.IsWhole)
  (arg3 : Memref sig .tc .vmem S2048x128 .bf16) (harg3 : arg3.IsWhole) (arg4 : Memref sig .tc .vmem S2304x128 .bf16) (harg4 : arg4.IsWhole)
  (arg5 : Memref sig .tc .vmem S2304x128 .bf16) (harg5 : arg5.IsWhole) (arg6 : Memref sig .tc .vmem S2304x128 .bf16) (harg6 : arg6.IsWhole)
  (arg7 : Memref sig .tc .vmem S2048x128 .bf16) (harg7 : arg7.IsWhole) (arg8 : Memref sig .tc .vmem S2048x128 .bf16) (harg8 : arg8.IsWhole)
  (arg9 : Memref sig .tc .vmem S1x2048x1 .f32) (harg9 : arg9.IsWhole) (arg10 : Memref sig .tc .vmem S2048x256 .f32) (harg10 : arg10.IsWhole)
  (arg11 : Memref sig .tc .vmem S2304x256 .f32) (harg11 : arg11.IsWhole) (arg12 : Memref sig .tc .vmem S2304x128 .f32) (harg12 : arg12.IsWhole)
  (hc0 : cond1_0 i) (hc1 : cond1_1 i)
  (x0 x1 : Vec Ideal S2048x128 .bf16) (x2 x3 x4 : Vec Ideal S2304x128 .bf16) (x5 x6 : Vec Ideal S2048x128 .bf16) (x7 : Vec Ideal S1x2048x1 .f32)

/-- The bands of an input block as the body loads them. -/
abbrev rd {S : Shape} {e : EltTy} {arg : Memref sig .tc .vmem S e} (h : arg.IsWhole) (x : Vec Ideal S e) (r : Rect S) :
    r.shape.Idx → Elt Ideal e := View.readAt (Elt Ideal) arg.view r.toLoadRect (h.unread x)

/-- The stores of the queries' gradient. -/
theorem pieces_8 :
    (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).1
      = dqPieces (rd harg4 x2 whole) (rd harg5 x3 whole) (rd harg6 x4 whole) (fun i => rd harg2 x0 (bnd i)) (fun i => rd harg3 x1 (bnd i))
        (fun i => rd harg8 x6 (bnd i)) (fun i => rd harg7 x5 (bnd i)) (fun i => rd harg9 x7 (bnd3 i)) := by
  unfold kernelRun1_A
  rfl

/-- The keys' gradient after the point's rows, before its scale. -/
def dkSt : FVec Ideal S2304x256 .f32 :=
  dkStep (rd harg4 x2 whole) (rd harg5 x3 whole) (rd harg6 x4 whole) (fun i => rd harg2 x0 (bnd i)) (fun i => rd harg3 x1 (bnd i))
    (fun i => rd harg8 x6 (bnd i)) (fun i => rd harg7 x5 (bnd i)) (fun i => rd harg9 x7 (bnd3 i)) (arg11.view.readCov [⟨whole2, k1_pay5 (F := Ideal)⟩] whole2.toLoadRect)

/-- The stores of the keys' gradient. -/
theorem pieces_9 :
    (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).2.1
      = [⟨whole2, k1_pay3 (F := Ideal) (arg11.view.readCov [⟨whole2, dkSt arg2 harg2 arg3 harg3 arg4 harg4 arg5 harg5 arg6 harg6 arg7 harg7 arg8 harg8 arg9 harg9 arg11 x0 x1 x2 x3 x4 x5 x6 x7⟩, ⟨whole2, k1_pay5 (F := Ideal)⟩] whole2.toLoadRect)⟩,
        ⟨whole2, dkSt arg2 harg2 arg3 harg3 arg4 harg4 arg5 harg5 arg6 harg6 arg7 harg7 arg8 harg8 arg9 harg9 arg11 x0 x1 x2 x3 x4 x5 x6 x7⟩, ⟨whole2, k1_pay5 (F := Ideal)⟩] := by
  unfold kernelRun1_A
  rfl

/-- The stores of the values' gradient. -/
theorem pieces_10 :
    (kernelRun1_A (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1
      = [⟨whole, dvStep (rd harg4 x2 whole) (rd harg5 x3 whole) (fun i => rd harg2 x0 (bnd i)) (fun i => rd harg3 x1 (bnd i)) (fun i => rd harg8 x6 (bnd i)) (fun i => rd harg9 x7 (bnd3 i)) (arg12.view.readCov [⟨whole, k1_pay6 (F := Ideal)⟩] whole.toLoadRect)⟩, ⟨whole, k1_pay6 (F := Ideal)⟩] := by
  unfold kernelRun1_A
  rfl

end Cert.Mla

end
-- ==== Proof.MlaGrad.lean ====
/- What one grid point of the latent attention's gradient call leaves in its three result blocks, entry by entry, at real
   inputs. -/
module

public import proofs.«01_k».proof.Proof.MlaPieces
public import proofs.«01_k».proof.Proof.BwdValue

@[expose] public section

set_option maxRecDepth 16384

noncomputable section

namespace Cert.Mla

open Idealize.ShloMosaic Idealize.SL.Sem Cert.Kernel14Ideal Cert.Kernel14Ideal.Gen Cert.Block Cert.Lift
open Cert.Bwd (sum_bands row)

section Blocks

variable (x0 x1 : Vec Ideal S2048x128 .bf16) (x2 x3 x4 : Vec Ideal S2304x128 .bf16) (x5 x6 : Vec Ideal S2048x128 .bf16) (x7 : Vec Ideal S1x2048x1 .f32)

/-- The keys' gradient block before its scale, as a function of the input blocks. -/
def dkSumBlk : Vec Ideal S2304x256 .f32 :=
  dkStep x2 x3 x4 (fun i => View.ld x0 (bnd i)) (fun i => View.ld x1 (bnd i)) (fun i => View.ld x6 (bnd i)) (fun i => View.ld x5 (bnd i))
    (fun i => View.ld x7 (bnd3 i)) (k1_pay5 (F := Ideal))

/-- The keys' gradient block. -/
def dkBlk : Vec Ideal S2304x256 .f32 := k1_pay3 (F := Ideal) (dkSumBlk x0 x1 x2 x3 x4 x5 x6 x7)

/-- The values' gradient block. -/
def dvBlk : Vec Ideal S2304x128 .f32 :=
  dvStep x2 x3 (fun i => View.ld x0 (bnd i)) (fun i => View.ld x1 (bnd i)) (fun i => View.ld x6 (bnd i)) (fun i => View.ld x7 (bnd3 i)) (k1_pay6 (F := Ideal))

/-- The queries' gradient block. -/
def dqBlk : Vec Ideal S2048x256 .f32 :=
  View.canon (dqPieces x2 x3 x4 (fun i => View.ld x0 (bnd i)) (fun i => View.ld x1 (bnd i)) (fun i => View.ld x6 (bnd i)) (fun i => View.ld x5 (bnd i))
    (fun i => View.ld x7 (bnd3 i)))

/-- A load of an input block reads the block. -/
theorem rd_ld {S : Shape} {e : EltTy} {arg : Memref sig .tc .vmem S e} (h : arg.IsWhole) (x : Vec Ideal S e) (r : Rect S) :
    rd h x r = View.ld x r := funext fun z => h.readAt_unread x r.toLoadRect z

/-- A load of a whole block of rows reads all of it. -/
theorem ld_whole {e : EltTy} (x : Vec Ideal S2304x128 e) : View.ld x whole = x := View.ld_unit_zero (by decide) _ _

/-- A load of a whole block after a store to all of it reads what was stored. -/
theorem readCov_whole (v : View sig .tc .vmem S2304x128 .f32) (w : Vec Ideal S2304x128 .f32) (T : List (View.Piece (Elt Ideal) S2304x128 .f32)) :
    v.readCov ((⟨whole, w⟩ : View.Piece (Elt Ideal) S2304x128 .f32) :: T) whole.toLoadRect = w :=
  View.readCov_cons_toLoadRect v whole w T

theorem readCov_whole2 (v : View sig .tc .vmem S2304x256 .f32) (w : Vec Ideal S2304x256 .f32) (T : List (View.Piece (Elt Ideal) S2304x256 .f32)) :
    v.readCov ((⟨whole2, w⟩ : View.Piece (Elt Ideal) S2304x256 .f32) :: T) whole2.toLoadRect = w :=
  View.readCov_cons_toLoadRect v whole2 w T

/-- The last store to a whole block is what it holds. -/
theorem canon_whole (w : Vec Ideal S2304x128 .f32) (T : List (View.Piece (Elt Ideal) S2304x128 .f32)) :
    View.canon ((⟨whole, w⟩ : View.Piece (Elt Ideal) S2304x128 .f32) :: T) = w :=
  View.canon_cons_unit_zero (by decide) _ w T

theorem canon_whole2 (w : Vec Ideal S2304x256 .f32) (T : List (View.Piece (Elt Ideal) S2304x256 .f32)) :
    View.canon ((⟨whole2, w⟩ : View.Piece (Elt Ideal) S2304x256 .f32) :: T) = w :=
  View.canon_cons_unit_zero (by decide) _ w T

variable (c : Dev nD) (i : grid1.Coords) (arg2 : Memref sig .tc .vmem S2048x128 .bf16) (harg2 : arg2.IsWhole)
  (arg3 : Memref sig .tc .vmem S2048x128 .bf16) (harg3 : arg3.IsWhole) (arg4 : Memref sig .tc .vmem S2304x128 .bf16) (harg4 : arg4.IsWhole)
  (arg5 : Memref sig .tc .vmem S2304x128 .bf16) (harg5 : arg5.IsWhole) (arg6 : Memref sig .tc .vmem S2304x128 .bf16) (harg6 : arg6.IsWhole)
  (arg7 : Memref sig .tc .vmem S2048x128 .bf16) (harg7 : arg7.IsWhole) (arg8 : Memref sig .tc .vmem S2048x128 .bf16) (harg8 : arg8.IsWhole)
  (arg9 : Memref sig .tc .vmem S1x2048x1 .f32) (harg9 : arg9.IsWhole) (arg10 : Memref sig .tc .vmem S2048x256 .f32) (harg10 : arg10.IsWhole)
  (arg11 : Memref sig .tc .vmem S2304x256 .f32) (harg11 : arg11.IsWhole) (arg12 : Memref sig .tc .vmem S2304x128 .f32) (harg12 : arg12.IsWhole)
  (hc0 : cond1_0 i) (hc1 : cond1_1 i)

theorem out_8 : out1_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7
    = dqBlk x0 x1 x2 x3 x4 x5 x6 x7 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7), pieces_8]
  unfold dqBlk; simp only [rd_ld, ld_whole]

theorem out_9 : out1_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7
    = dkBlk x0 x1 x2 x3 x4 x5 x6 x7 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7), pieces_9]
  unfold dkBlk dkSumBlk dkSt; simp only [canon_whole2, readCov_whole2, rd_ld, ld_whole]

theorem out_10 : out1_A_10 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7
    = dvBlk x0 x1 x2 x3 x6 x7 := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7), pieces_10]
  unfold dvBlk; simp only [canon_whole, readCov_whole, rd_ld, ld_whole]

end Blocks

/-- The rows' sum of the keys' gradient before its scale: entry `x` of key `j`. -/
def dkSum (q : Fin 2048 → Fin 256 → ℝ) (g : Fin 2048 → Fin 128 → ℝ) (k : Fin 2304 → Fin 256 → ℝ) (v : Fin 2304 → Fin 128 → ℝ)
    (j : Fin 2304) (x : Fin 256) : ℝ := ∑ r, ds (q r) k v (g r) j * q r x

/-- The rows' sum of the values' gradient: entry `x` of value `j`. -/
def dvSum (q : Fin 2048 → Fin 256 → ℝ) (g : Fin 2048 → Fin 128 → ℝ) (k : Fin 2304 → Fin 256 → ℝ) (j : Fin 2304) (x : Fin 128) : ℝ :=
  ∑ r, pw (q r) k j * g r x

/-- Eight reals added in order are their sum. -/
theorem sum8_real {S : Shape} (f : Fin 8 → FVec Ideal S .f32) (y : S.Idx) (s : Fin 8 → ℝ) (h : ∀ i, f i y = ((s i : ℝ) : EReal)) :
    sum8 f y = ((∑ i, s i : ℝ) : EReal) := by
  show ((((((f 0 y + f 1 y) + f 2 y) + f 3 y) + f 4 y) + f 5 y) + f 6 y) + f 7 y = _
  rw [h, h, h, h, h, h, h, h, Fin.sum_univ_eight]
  simp only [EReal.coe_add]

theorem bnd_emb (i : Fin 8) (a : Fin 256) (b : Fin 128) : (bnd i).emb (ix2 a b) = ix2 (row i a) b := by
  refine (emb2 (256 * i.val) 0 (bnd_inb i) a b (by have := i.isLt; omega) (by omega)).trans ?_
  exact (ix2_inj _ _ _ _).mpr ⟨rfl, Fin.ext (Nat.zero_add b.val)⟩

theorem wide_emb (i : Fin 8) (a b : Fin 256) : (wide i).emb (ix2 a b) = ix2 (row i a) b := by
  refine (emb2 (256 * i.val) 0 (wide_inb i) a b (by have := i.isLt; omega) (by omega)).trans ?_
  exact (ix2_inj _ _ _ _).mpr ⟨rfl, Fin.ext (Nat.zero_add b.val)⟩

theorem bnd3_emb (i : Fin 8) (a : Fin 256) : (bnd3 i).emb (ix3 (n0 := 1) (n2 := 1) 0 a 0) = ix3 0 (row i a) 0 := by
  refine (emb3 0 (256 * i.val) 0 (bnd3_inb i) 0 a 0 (by omega) (by have := i.isLt; omega) (by omega)).trans ?_
  exact (ix3_inj _ _ _ _ _ _).mpr ⟨rfl, rfl, rfl⟩

section Steps

variable (K₁ K₂ V : Vec Ideal S2304x128 .bf16) (A B G O : Fin 8 → Vec Ideal S256x128 .bf16) (L : Fin 8 → Vec Ideal S1x256x1 .f32)

theorem dkStep_apply (X : Vec Ideal S2304x256 .f32) (y : S2304x256.Idx) : dkStep K₁ K₂ V A B G O L X y
    = X y + sum8 (fun i => k1_pay11 (catQ (A i) (B i)) (dsBand K₁ K₂ V A B G O L i)) y := by
  show shapeCast S2304x256 X shapeCasts_S2304x256_S2304x256 y + _ = _
  rw [shapeCast_self]

theorem dvStep_apply (X : Vec Ideal S2304x128 .f32) (y : S2304x128.Idx) : dvStep K₁ K₂ A B G L X y
    = X y + sum8 (fun i => k1_pay12 (k1_pay14 (catK K₁ K₂) (A i) (B i) (L i)) (G i)) y := by
  show shapeCast S2304x128 X shapeCasts_S2304x128_S2304x128 y + _ = _
  rw [shapeCast_self]

/-- The eight bands cover the queries' gradient block. -/
theorem dq_cover (y : S2048x256.Idx) : ∃ pc ∈ dqPieces K₁ K₂ V A B G O L, y ∈ pc.1.set :=
  View.cover_of_tiled (dqPieces K₁ K₂ V A B G O L) S256x256.size (by rfl) y

end Steps

/-- The reset keys' and values' gradients hold zero. -/
theorem zero_k (y : S2304x256.Idx) : k1_pay5 (F := Ideal) y = 0 := by
  obtain ⟨a, b, rfl⟩ : ∃ a b, y = ix2 (n0 := 2304) (n1 := 256) a b := ⟨y 0, y 1, eq_ix2 y⟩
  pointwise [k1_pay5]

theorem zero_v (y : S2304x128.Idx) : k1_pay6 (F := Ideal) y = 0 := by
  obtain ⟨a, b, rfl⟩ : ∃ a b, y = ix2 (n0 := 2304) (n1 := 128) a b := ⟨y 0, y 1, eq_ix2 y⟩
  pointwise [k1_pay6]

section Values

variable {X0 X1 : Vec Ideal S2048x128 .bf16} {X2 X3 X4 : Vec Ideal S2304x128 .bf16} {X5 X6 : Vec Ideal S2048x128 .bf16} {X7 : Vec Ideal S1x2048x1 .f32}
  {a b g : Fin 2048 → Fin 128 → ℝ} {k : Fin 2304 → Fin 256 → ℝ} {v : Fin 2304 → Fin 128 → ℝ}

theorem ld_rows {X : Vec Ideal S2048x128 .bf16} {x : Fin 2048 → Fin 128 → ℝ} (h : Holds X x) (i : Fin 8) :
    Holds (View.ld X (bnd i)) (fun r => x (row i r)) := fun r d => by
  show X ((bnd i).emb (ix2 r d)) = _
  rw [bnd_emb, h]

theorem ld_out (h5 : ∀ r d, X5 (ix2 r d) = ((outp (join a b r) k v d : ℝ) : EReal)) (i : Fin 8) (r : Fin 256) (d : Fin 128) :
    View.ld X5 (bnd i) (ix2 r d) = ((outp (join a b (row i r)) k v d : ℝ) : EReal) := by
  show X5 ((bnd i).emb (ix2 r d)) = _
  rw [bnd_emb, h5]

theorem ld_lse (h7 : ∀ r, X7 (ix3 0 r 0) = ((lse (join a b r) k : ℝ) : EReal)) (i : Fin 8) (r : Fin 256) :
    View.ld X7 (bnd3 i) (ix3 (n0 := 1) (n2 := 1) 0 r 0) = ((lse (join a b (row i r)) k : ℝ) : EReal) := by
  show X7 ((bnd3 i).emb (ix3 (n0 := 1) (n2 := 1) 0 r 0)) = _
  rw [bnd3_emb, h7]

/-- A band of the joined queries. -/
theorem ld_cat (h0 : Holds X0 a) (h1 : Holds X1 b) (i : Fin 8) : Holds (catQ (View.ld X0 (bnd i)) (View.ld X1 (bnd i))) (fun r => join a b (row i r)) :=
  holds_catQ (ld_rows h0 i) (ld_rows h1 i)

variable (h0 : Holds X0 a) (h1 : Holds X1 b) (hk : Holds (catK X2 X3) k) (h6 : Holds X6 g)
  (h7 : ∀ r, X7 (ix3 0 r 0) = ((lse (join a b r) k : ℝ) : EReal))

include h0 h1 hk h6 h7

/-- The values' gradient block. -/
theorem dvBlk_real (j : Fin 2304) (x : Fin 128) :
    dvBlk X0 X1 X2 X3 X6 X7 (ix2 j x) = ((dvSum (join a b) g k j x : ℝ) : EReal) := by
  refine (dvStep_apply X2 X3 (fun i => View.ld X0 (bnd i)) (fun i => View.ld X1 (bnd i)) (fun i => View.ld X6 (bnd i)) (fun i => View.ld X7 (bnd3 i)) _ (ix2 j x)).trans ?_
  rw [zero_v, zero_add, dvSum, sum_bands]
  exact sum8_real _ (ix2 j x) (fun i => ∑ r, pw (join a b (row i r)) k j * g (row i r) x) fun i => dv_part hk (ld_cat h0 h1 i) (ld_lse h7 i) (ld_rows h6 i) j x

variable (h4 : Holds X4 v) (h5 : ∀ r d, X5 (ix2 r d) = ((outp (join a b r) k v d : ℝ) : EReal))

include h4 h5

/-- The keys' gradient block. -/
theorem dkBlk_real (j : Fin 2304) (x : Fin 256) :
    dkBlk X0 X1 X2 X3 X4 X5 X6 X7 (ix2 j x) = ((dkSum (join a b) g k v j x * c : ℝ) : EReal) := by
  have e : dkSumBlk X0 X1 X2 X3 X4 X5 X6 X7 (ix2 j x) = ((dkSum (join a b) g k v j x : ℝ) : EReal) := by
    refine (dkStep_apply X2 X3 X4 (fun i => View.ld X0 (bnd i)) (fun i => View.ld X1 (bnd i)) (fun i => View.ld X6 (bnd i)) (fun i => View.ld X5 (bnd i))
      (fun i => View.ld X7 (bnd3 i)) _ (ix2 j x)).trans ?_
    rw [zero_k, zero_add, dkSum, sum_bands]
    exact sum8_real _ (ix2 j x) (fun i => ∑ r, ds (join a b (row i r)) k v (g (row i r)) j * join a b (row i r) x) fun i =>
      dk_part hk (ld_cat h0 h1 i) (ld_lse h7 i) h4 (ld_rows h6 i) (ld_out h5 i) j x
  rw [dkBlk]
  pointwise [k1_pay3]
  rw [e, EReal.coe_mul]
  rfl

/-- One band of the queries' gradient. -/
theorem dq_band (i : Fin 8) (z : (wide i).shape.Idx) :
    k1_pay10 (catK X2 X3) (k1_pay15 (catK X2 X3) X4 (View.ld X0 (bnd i)) (View.ld X1 (bnd i)) (View.ld X7 (bnd3 i)) (View.ld X6 (bnd i)) (View.ld X5 (bnd i))) z
      = (fun y : S2048x256.Idx => ((dqEnt (join a b (y 0)) k v (g (y 0)) (y 1) : ℝ) : EReal)) ((wide i).emb z) := by
  obtain ⟨r, x, rfl⟩ : ∃ r x, z = ix2 (n0 := 256) (n1 := 256) r x := ⟨z 0, z 1, eq_ix2 (n0 := 256) (n1 := 256) z⟩
  refine (dq_part hk (ld_cat h0 h1 i) (ld_lse h7 i) h4 (ld_rows h6 i) (ld_out h5 i) r x).trans ?_
  rw [wide_emb]
  rfl

/-- The queries' gradient block. -/
theorem dqBlk_real (r : Fin 2048) (x : Fin 256) :
    dqBlk X0 X1 X2 X3 X4 X5 X6 X7 (ix2 r x) = ((dqEnt (join a b r) k v (g r) x : ℝ) : EReal) := by
  rw [dqBlk]
  refine View.canon_apply_of_pieces (Val := Elt Ideal) (fun y : S2048x256.Idx => ((dqEnt (join a b (y 0)) k v (g (y 0)) (y 1) : ℝ) : EReal)) _ ?_
    (ix2 r x) (dq_cover _ _ _ _ _ _ _ _ _)
  simp only [dqPieces, dqPiece, dsBand, List.forall_mem_cons, List.not_mem_nil, IsEmpty.forall_iff, implies_true, and_true]
  have B := dq_band h0 h1 hk h6 h7 h4 h5
  exact ⟨B 7, B 6, B 5, B 4, B 3, B 2, B 1, B 0⟩

end Values

end Cert.Mla

end
-- ==== Proof.MlaGradArr.lean ====
/- The latent attention's gradient arrays. Grid point `t` takes head `t` of every array and writes head `t` of the three
   gradients. -/
module

public import proofs.«01_k».proof.Proof.MlaArr
public import proofs.«01_k».proof.Proof.MlaGrad

@[expose] public section

set_option maxRecDepth 16384

noncomputable section

namespace Cert.Mla

open Idealize.ShloMosaic Idealize.ShloMosaic.TcCoe Idealize.SL.Sem Cert.Kernel14Ideal Cert.Kernel14Ideal.Gen Cert.Block
open Cert.Fwd (emb_mem hd col hd_mk col_mk)

/-- The head a column of 256-wide heads belongs to. -/
def wd (e : Fin 2048) : Fin 8 := ⟨e.val / 256, by omega⟩

/-- A column's place in its 256-wide head. -/
def wcol (e : Fin 2048) : Fin 256 := ⟨e.val % 256, by omega⟩

theorem wd_mk (h : Fin 8) (d : Fin 256) (p : 256 * h.val + d.val < 2048) : wd ⟨256 * h.val + d.val, p⟩ = h :=
  Fin.ext (by show (256 * h.val + d.val) / 256 = h.val; omega)

theorem wcol_mk (h : Fin 8) (d : Fin 256) (p : 256 * h.val + d.val < 2048) : wcol ⟨256 * h.val + d.val, p⟩ = d :=
  Fin.ext (by show (256 * h.val + d.val) % 256 = d.val; omega)

section

variable (xq : Fin 2048 → Fin 1536 → ℝ) (xk : Fin 2304 → Fin 2048 → ℝ) (xp : Fin 2304 → Fin 256 → ℝ) (xg : Fin 2048 → Fin 1024 → ℝ)

/-- The queries' gradient. -/
def dqArr (r : Fin 2048) (e : Fin 2048) : ℝ := dqEnt (qh xq (wd e) r) (kh xk xp (wd e)) (vh xk (wd e)) (gh xg (wd e) r) (wcol e)

/-- The keys' gradient. -/
def dkArr (j : Fin 2304) (e : Fin 2048) : ℝ := dkSum (qh xq (wd e)) (gh xg (wd e)) (kh xk xp (wd e)) (vh xk (wd e)) j (wcol e) * c

/-- The values' gradient. -/
def dvArr (j : Fin 2304) (e : Fin 1024) : ℝ := dvSum (qh xq (hd e)) (gh xg (hd e)) (kh xk xp (hd e)) j (col e)

end

section

variable (V : (c : Dev nD) → (b : Ref sig .tc) → Buf (Elt Ideal) ((c : Thread nD τ).loc b)) (c : Dev nD)
variable (xq : Fin 2048 → Fin 1536 → ℝ) (xk : Fin 2304 → Fin 2048 → ℝ) (xp : Fin 2304 → Fin 256 → ℝ) (xg : Fin 2048 → Fin 1024 → ℝ)

/-- What the gradient call is entered with: the arguments, and the forward call's outputs and row statistics. -/
structure Entry : Prop where
  q : Holds (m := 2048) (n := 1536) (V c main_arg0) xq
  k : Holds (m := 2304) (n := 2048) (V c main_arg1) xk
  p : Holds (m := 2304) (n := 256) (V c main_arg2) xp
  g : Holds (m := 2048) (n := 1024) (V c main_arg3) xg
  o : Holds (m := 2048) (n := 1024) (V c main_v0_0) (oArr xq xk xp)
  l : ∀ (h : Fin 8) (r : Fin 2048) (u : Fin 1), V c main_v0_1 (ix3 (n0 := 8) (n1 := 2048) (n2 := 1) h r u) = ((lArr xq xk xp h r : ℝ) : EReal)

end

section

variable {V : (c : Dev nD) → (b : Ref sig .tc) → Buf (Elt Ideal) ((c : Thread nD τ).loc b)} {c : Dev nD}
variable {xq : Fin 2048 → Fin 1536 → ℝ} {xk : Fin 2304 → Fin 2048 → ℝ} {xp : Fin 2304 → Fin 256 → ℝ} {xg : Fin 2048 → Fin 1024 → ℝ}
variable (H : Entry V c xq xk xp xg) (t : Fin cfg1.N)
include H

theorem blk1_0 : Holds (m := 2048) (n := 128) (iblk1 V c 0 t) (qn xq (pt1 t)) := fun r d =>
  holds_at (M := 2048) (N := 1536) H.q _ ((win1_0.rect t).emb (ix2 r d)) r d (Pipeline.Window.rect_emb_val win1_0 t (ix2 r d) 0 rfl) (idx1_0 t).1 (Pipeline.Window.rect_emb_val win1_0 t (ix2 r d) 1 rfl) (idx1_0 t).2

theorem blk1_1 : Holds (m := 2048) (n := 128) (iblk1 V c 1 t) (qr xq (pt1 t)) := fun r d =>
  holds_at (M := 2048) (N := 1536) H.q _ ((win1_1.rect t).emb (ix2 r d)) r d (Pipeline.Window.rect_emb_val win1_1 t (ix2 r d) 0 rfl) (idx1_1 t).1 (Pipeline.Window.rect_emb_val win1_1 t (ix2 r d) 1 rfl) (idx1_1 t).2

theorem blk1_2 : Holds (m := 2304) (n := 128) (iblk1 V c 2 t) (kn xk (pt1 t)) := fun r d =>
  holds_at (M := 2304) (N := 2048) H.k _ ((win1_2.rect t).emb (ix2 r d)) r d (Pipeline.Window.rect_emb_val win1_2 t (ix2 r d) 0 rfl) (idx1_2 t).1 (Pipeline.Window.rect_emb_val win1_2 t (ix2 r d) 1 rfl) (idx1_2 t).2

theorem blk1_3 : Holds (m := 2304) (n := 128) (iblk1 V c 3 t) (kr xp (pt1 t)) := fun r d =>
  holds_at (M := 2304) (N := 256) H.p _ ((win1_3.rect t).emb (ix2 r d)) r d (Pipeline.Window.rect_emb_val win1_3 t (ix2 r d) 0 rfl) (idx1_3 t).1 (Pipeline.Window.rect_emb_val win1_3 t (ix2 r d) 1 rfl) (idx1_3 t).2

theorem blk1_4 : Holds (m := 2304) (n := 128) (iblk1 V c 4 t) (vh xk (pt1 t)) := fun r d =>
  holds_at (M := 2304) (N := 2048) H.k _ ((win1_4.rect t).emb (ix2 r d)) r d (Pipeline.Window.rect_emb_val win1_4 t (ix2 r d) 0 rfl) (idx1_4 t).1 (Pipeline.Window.rect_emb_val win1_4 t (ix2 r d) 1 rfl) (idx1_4 t).2

theorem blk1_6 : Holds (m := 2048) (n := 128) (iblk1 V c 6 t) (gh xg (pt1 t)) := fun r d =>
  holds_at (M := 2048) (N := 1024) H.g _ ((win1_6.rect t).emb (ix2 r d)) r d (Pipeline.Window.rect_emb_val win1_6 t (ix2 r d) 0 rfl) (idx1_6 t).1 (Pipeline.Window.rect_emb_val win1_6 t (ix2 r d) 1 rfl) (idx1_6 t).2

/-- A point's keys. -/
theorem keys1 : Holds (catK (iblk1 V c 2 t) (iblk1 V c 3 t)) (kh xk xp (pt1 t)) := holds_catK (blk1_2 H t) (blk1_3 H t)

theorem blk1_5 (r : Fin 2048) (d : Fin 128) :
    iblk1 V c 5 t (ix2 r d) = ((outp (qh xq (pt1 t) r) (kh xk xp (pt1 t)) (vh xk (pt1 t)) d : ℝ) : EReal) := by
  show V c main_v0_0 ((win1_5.rect t).emb (ix2 r d)) = _
  rw [emb1_5]
  refine (H.o _ _).trans ?_
  rw [oArr, hd_mk, col_mk]

theorem blk1_7 (r : Fin 2048) : iblk1 V c 7 t (ix3 0 r 0) = ((lse (qh xq (pt1 t) r) (kh xk xp (pt1 t)) : ℝ) : EReal) := by
  show V c main_v0_1 ((win1_7.rect t).emb (ix3 0 r 0)) = _
  rw [emb1_7]
  exact H.l _ _ _

/-- The queries' gradient block a point leaves. -/
theorem outs_q (r : Fin 2048) (x : Fin 256) : (outsAt1 V c t).1 (ix2 r x)
    = ((dqEnt (qh xq (pt1 t) r) (kh xk xp (pt1 t)) (vh xk (pt1 t)) (gh xg (pt1 t) r) x : ℝ) : EReal) := by
  have e : (outsAt1 V c t).1 = dqBlk (iblk1 V c 0 t) (iblk1 V c 1 t) (iblk1 V c 2 t) (iblk1 V c 3 t) (iblk1 V c 4 t) (iblk1 V c 5 t) (iblk1 V c 6 t) (iblk1 V c 7 t) := by
    unfold outsAt1
    dsimp only
    exact out_8 (iblk1 V c 0 t) (iblk1 V c 1 t) (iblk1 V c 2 t) (iblk1 V c 3 t) (iblk1 V c 4 t) (iblk1 V c 5 t) (iblk1 V c 6 t) (iblk1 V c 7 t) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (hcond1_0 t) (hcond1_1 t)
  rw [e]
  exact dqBlk_real (blk1_0 H t) (blk1_1 H t) (keys1 H t) (blk1_6 H t) (blk1_7 H t) (blk1_4 H t) (blk1_5 H t) r x

/-- The keys' gradient block a point leaves. -/
theorem outs_k (j : Fin 2304) (x : Fin 256) : (outsAt1 V c t).2.1 (ix2 j x)
    = ((dkSum (qh xq (pt1 t)) (gh xg (pt1 t)) (kh xk xp (pt1 t)) (vh xk (pt1 t)) j x * Mla.c : ℝ) : EReal) := by
  have e : (outsAt1 V c t).2.1 = dkBlk (iblk1 V c 0 t) (iblk1 V c 1 t) (iblk1 V c 2 t) (iblk1 V c 3 t) (iblk1 V c 4 t) (iblk1 V c 5 t) (iblk1 V c 6 t) (iblk1 V c 7 t) := by
    unfold outsAt1
    dsimp only
    exact out_9 (iblk1 V c 0 t) (iblk1 V c 1 t) (iblk1 V c 2 t) (iblk1 V c 3 t) (iblk1 V c 4 t) (iblk1 V c 5 t) (iblk1 V c 6 t) (iblk1 V c 7 t) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (hcond1_0 t) (hcond1_1 t)
  rw [e]
  exact dkBlk_real (blk1_0 H t) (blk1_1 H t) (keys1 H t) (blk1_6 H t) (blk1_7 H t) (blk1_4 H t) (blk1_5 H t) j x

/-- The values' gradient block a point leaves. -/
theorem outs_v (j : Fin 2304) (x : Fin 128) : (outsAt1 V c t).2.2 (ix2 j x)
    = ((dvSum (qh xq (pt1 t)) (gh xg (pt1 t)) (kh xk xp (pt1 t)) j x : ℝ) : EReal) := by
  have e : (outsAt1 V c t).2.2 = dvBlk (iblk1 V c 0 t) (iblk1 V c 1 t) (iblk1 V c 2 t) (iblk1 V c 3 t) (iblk1 V c 6 t) (iblk1 V c 7 t) := by
    unfold outsAt1
    dsimp only
    exact out_10 (iblk1 V c 0 t) (iblk1 V c 1 t) (iblk1 V c 2 t) (iblk1 V c 3 t) (iblk1 V c 4 t) (iblk1 V c 5 t) (iblk1 V c 6 t) (iblk1 V c 7 t) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (hcond1_0 t) (hcond1_1 t)
  rw [e]
  exact dvBlk_real (blk1_0 H t) (blk1_1 H t) (keys1 H t) (blk1_6 H t) (blk1_7 H t) j x

omit H t in
theorem cover8 (i : S2048x2048.Idx) : ∃ t : Fin cfg1.N, (cfg1.win 8).flush t = true ∧ i ∈ ((cfg1.win 8).blk t).view.set := by
  obtain ⟨r, e, rfl⟩ : ∃ r e, i = ix2 (n0 := 2048) (n1 := 2048) r e := ⟨i 0, i 1, eq_ix2 i⟩
  have hl : e.val / 256 < cfg1.N := lt_of_lt_of_eq (by omega) N_1.symm
  refine ⟨⟨e.val / 256, hl⟩, flush1_8 _, ?_⟩
  show ix2 r e ∈ ((View.whole main_v1_0).slice (win1_8.rect ⟨e.val / 256, hl⟩)).set
  rw [View.set_slice_whole, show ix2 r e = (win1_8.rect ⟨e.val / 256, hl⟩).emb (ix2 r (wcol e)) from ?_]
  · exact emb_mem _ _
  · rw [emb1_8]
    exact (ix2_inj _ _ _ _).mpr ⟨rfl, Fin.ext (by show e.val = 256 * (e.val / 256) + e.val % 256; omega)⟩

omit H t in
theorem cover9 (i : S2304x2048.Idx) : ∃ t : Fin cfg1.N, (cfg1.win 9).flush t = true ∧ i ∈ ((cfg1.win 9).blk t).view.set := by
  obtain ⟨r, e, rfl⟩ : ∃ r e, i = ix2 (n0 := 2304) (n1 := 2048) r e := ⟨i 0, i 1, eq_ix2 i⟩
  have hl : e.val / 256 < cfg1.N := lt_of_lt_of_eq (by omega) N_1.symm
  refine ⟨⟨e.val / 256, hl⟩, flush1_9 _, ?_⟩
  show ix2 r e ∈ ((View.whole main_v1_1).slice (win1_9.rect ⟨e.val / 256, hl⟩)).set
  rw [View.set_slice_whole, show ix2 r e = (win1_9.rect ⟨e.val / 256, hl⟩).emb (ix2 r (wcol e)) from ?_]
  · exact emb_mem _ _
  · rw [emb1_9]
    exact (ix2_inj _ _ _ _).mpr ⟨rfl, Fin.ext (by show e.val = 256 * (e.val / 256) + e.val % 256; omega)⟩

omit H t in
theorem cover10 (i : S2304x1024.Idx) : ∃ t : Fin cfg1.N, (cfg1.win 10).flush t = true ∧ i ∈ ((cfg1.win 10).blk t).view.set := by
  obtain ⟨r, e, rfl⟩ : ∃ r e, i = ix2 (n0 := 2304) (n1 := 1024) r e := ⟨i 0, i 1, eq_ix2 i⟩
  have hl : e.val / 128 < cfg1.N := lt_of_lt_of_eq (by omega) N_1.symm
  refine ⟨⟨e.val / 128, hl⟩, flush1_10 _, ?_⟩
  show ix2 r e ∈ ((View.whole main_v1_2).slice (win1_10.rect ⟨e.val / 128, hl⟩)).set
  rw [View.set_slice_whole, show ix2 r e = (win1_10.rect ⟨e.val / 128, hl⟩).emb (ix2 r (col e)) from ?_]
  · exact emb_mem _ _
  · rw [emb1_10]
    exact (ix2_inj _ _ _ _).mpr ⟨rfl, Fin.ext (by show e.val = 128 * (e.val / 128) + e.val % 128; omega)⟩

omit t

/-- The queries' gradient array after the call. -/
theorem arr8 : Holds (m := 2048) (n := 2048) ((dat1 V c).arrAt 8 cfg1.N) (dqArr xq xk xp xg) := by
  have e := (dat1 V c).arrAt_eq_of_cover 8 (fun y : S2048x2048.Idx => ((dqArr xq xk xp xg (y 0) (y 1) : ℝ) : EReal)) (fun t _ => ?_) cover8
  · rw [e]; exact fun _ _ => rfl
  show (cfg1.win 8).cut (grid1.coords t) ((dat1 V c).after 8 t) = _
  rw [after1_8]
  funext y
  obtain ⟨r, d, rfl⟩ : ∃ r d, y = ix2 (n0 := 2048) (n1 := 256) r d := ⟨y 0, y 1, eq_ix2 (n0 := 2048) (n1 := 256) y⟩
  refine (outs_q H t r d).trans ?_
  show _ = (fun y : S2048x2048.Idx => ((dqArr xq xk xp xg (y 0) (y 1) : ℝ) : EReal)) ((win1_8.rect t).emb (ix2 r d))
  rw [emb1_8]
  show _ = ((dqArr xq xk xp xg r ⟨256 * (pt1 t).val + d.val, _⟩ : ℝ) : EReal)
  rw [dqArr, wd_mk, wcol_mk]

/-- The keys' gradient array after the call. -/
theorem arr9 : Holds (m := 2304) (n := 2048) ((dat1 V c).arrAt 9 cfg1.N) (dkArr xq xk xp xg) := by
  have e := (dat1 V c).arrAt_eq_of_cover 9 (fun y : S2304x2048.Idx => ((dkArr xq xk xp xg (y 0) (y 1) : ℝ) : EReal)) (fun t _ => ?_) cover9
  · rw [e]; exact fun _ _ => rfl
  show (cfg1.win 9).cut (grid1.coords t) ((dat1 V c).after 9 t) = _
  rw [after1_9]
  funext y
  obtain ⟨r, d, rfl⟩ : ∃ r d, y = ix2 (n0 := 2304) (n1 := 256) r d := ⟨y 0, y 1, eq_ix2 (n0 := 2304) (n1 := 256) y⟩
  refine (outs_k H t r d).trans ?_
  show _ = (fun y : S2304x2048.Idx => ((dkArr xq xk xp xg (y 0) (y 1) : ℝ) : EReal)) ((win1_9.rect t).emb (ix2 r d))
  rw [emb1_9]
  show _ = ((dkArr xq xk xp xg r ⟨256 * (pt1 t).val + d.val, _⟩ : ℝ) : EReal)
  rw [dkArr, wd_mk, wcol_mk]

/-- The values' gradient array after the call. -/
theorem arr10 : Holds (m := 2304) (n := 1024) ((dat1 V c).arrAt 10 cfg1.N) (dvArr xq xk xp xg) := by
  have e := (dat1 V c).arrAt_eq_of_cover 10 (fun y : S2304x1024.Idx => ((dvArr xq xk xp xg (y 0) (y 1) : ℝ) : EReal)) (fun t _ => ?_) cover10
  · rw [e]; exact fun _ _ => rfl
  show (cfg1.win 10).cut (grid1.coords t) ((dat1 V c).after 10 t) = _
  rw [after1_10]
  funext y
  obtain ⟨r, d, rfl⟩ : ∃ r d, y = ix2 (n0 := 2304) (n1 := 128) r d := ⟨y 0, y 1, eq_ix2 (n0 := 2304) (n1 := 128) y⟩
  refine (outs_v H t r d).trans ?_
  show _ = (fun y : S2304x1024.Idx => ((dvArr xq xk xp xg (y 0) (y 1) : ℝ) : EReal)) ((win1_10.rect t).emb (ix2 r d))
  rw [emb1_10]
  show _ = ((dvArr xq xk xp xg r ⟨128 * (pt1 t).val + d.val, _⟩ : ℝ) : EReal)
  rw [dvArr, hd_mk, col_mk]

end

end Cert.Mla

end
-- ==== Proof.MlaRun.lean ====
/- The latent attention's two calls run one after the other: what the four results hold at the end, at real arguments. -/
module

public import proofs.«01_k».proof.Proof.MlaGradArr

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel14Ideal Cert.Kernel14Ideal.Gen Cert.Block

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the program ends, and each buffer that outlives the calls then holds what the last call leaves. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W2 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h _ => h)

variable (xq : Dev nD → Fin 2048 → Fin 1536 → ℝ) (xk : Dev nD → Fin 2304 → Fin 2048 → ℝ) (xp : Dev nD → Fin 2304 → Fin 256 → ℝ)
  (xg : Dev nD → Fin 2048 → Fin 1024 → ℝ)

/-- The arguments hold real numbers. -/
structure Args : Prop where
  q : ∀ c : Dev nD, Holds (m := 2048) (n := 1536) (m ((c : Thread nD τ).loc main_arg0)) (xq c)
  k : ∀ c : Dev nD, Holds (m := 2304) (n := 2048) (m ((c : Thread nD τ).loc main_arg1)) (xk c)
  p : ∀ c : Dev nD, Holds (m := 2304) (n := 256) (m ((c : Thread nD τ).loc main_arg2)) (xp c)
  g : ∀ c : Dev nD, Holds (m := 2048) (n := 1024) (m ((c : Thread nD τ).loc main_arg3)) (xg c)

variable {m xq xk xp xg} (H : Args m xq xk xp xg)

include H

theorem fwd_o (c : Dev nD) : Holds (m := 2048) (n := 1024) (V1 m ρ c main_v0_0) (oArr (xq c) (xk c) (xp c)) := by
  have e : V1 m ρ c main_v0_0 = (dat0 (V0 m ρ) c).arrAt 5 cfg0.N := W1_arr m ρ c 5
  rw [e]
  exact arr5 (V0 m ρ) c (H.q c) (H.k c) (H.p c)

theorem fwd_l (c : Dev nD) (h : Fin 8) (r : Fin 2048) (u : Fin 1) :
    V1 m ρ c main_v0_1 (ix3 (n0 := 8) (n1 := 2048) (n2 := 1) h r u) = ((lArr (xq c) (xk c) (xp c) h r : ℝ) : EReal) := by
  have e : V1 m ρ c main_v0_1 = (dat0 (V0 m ρ) c).arrAt 6 cfg0.N := W1_arr m ρ c 6
  rw [e]
  exact arr6 (V0 m ρ) c (H.q c) (H.k c) (H.p c) h r u

/-- What the gradient call is entered with. -/
theorem entry (c : Dev nD) : Entry (V1 m ρ) c (xq c) (xk c) (xp c) (xg c) where
  q := by rw [show V1 m ρ c main_arg0 = m ((c : Thread nD τ).loc main_arg0) from W1_args m ρ c main_arg0 (by decide)]; exact H.q c
  k := by rw [show V1 m ρ c main_arg1 = m ((c : Thread nD τ).loc main_arg1) from W1_args m ρ c main_arg1 (by decide)]; exact H.k c
  p := by rw [show V1 m ρ c main_arg2 = m ((c : Thread nD τ).loc main_arg2) from W1_args m ρ c main_arg2 (by decide)]; exact H.p c
  g := by rw [show V1 m ρ c main_arg3 = m ((c : Thread nD τ).loc main_arg3) from W1_args m ρ c main_arg3 (by decide)]; exact H.g c
  o := fwd_o ρ H c
  l := fwd_l ρ H c

/-- The results at the end of a run: the output and the three gradients; the arguments are unchanged. -/
theorem values : θ_run defs (onTc (τ := τ) (main (F := Ideal))) ⟨m, fun _ => 0, ρ⟩ (fun r => ∀ c : Dev nD,
      Holds (m := 2048) (n := 1024) (r.2.mem ((c : Thread nD τ).loc main_v0_0)) (oArr (xq c) (xk c) (xp c))
      ∧ Holds (m := 2048) (n := 2048) (r.2.mem ((c : Thread nD τ).loc main_v1_0)) (dqArr (xq c) (xk c) (xp c) (xg c))
      ∧ Holds (m := 2304) (n := 2048) (r.2.mem ((c : Thread nD τ).loc main_v1_1)) (dkArr (xq c) (xk c) (xp c) (xg c))
      ∧ Holds (m := 2304) (n := 1024) (r.2.mem ((c : Thread nD τ).loc main_v1_2)) (dvArr (xq c) (xk c) (xp c) (xg c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => by
    have eo : r.2.mem ((c : Thread nD τ).loc main_v0_0) = V1 m ρ c main_v0_0 :=
      (h c _ (mem_uc main_v0_0 (by decide))).trans (W2_of m ρ c main_v0_0 (by decide))
    have eq : r.2.mem ((c : Thread nD τ).loc main_v1_0) = (dat1 (V1 m ρ) c).arrAt 8 cfg1.N :=
      (h c _ (mem_uc main_v1_0 (by decide))).trans (W2_arr m ρ c 8)
    have ek : r.2.mem ((c : Thread nD τ).loc main_v1_1) = (dat1 (V1 m ρ) c).arrAt 9 cfg1.N :=
      (h c _ (mem_uc main_v1_1 (by decide))).trans (W2_arr m ρ c 9)
    have ev : r.2.mem ((c : Thread nD τ).loc main_v1_2) = (dat1 (V1 m ρ) c).arrAt 10 cfg1.N :=
      (h c _ (mem_uc main_v1_2 (by decide))).trans (W2_arr m ρ c 10)
    rw [eo, eq, ek, ev]
    exact ⟨fwd_o ρ H c, arr8 (entry ρ H c), arr9 (entry ρ H c), arr10 (entry ρ H c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c)⟩) (run m ρ)

end Cert.Mla

end
-- ==== Proof.MlaRef.lean ====
/- The latent attention's reference at real entries: a head's queries, keys and values, its scores, their exponentials, the
   weights and the output, indexed by head `h`, query row `r`, key `j` and place in a head. -/
module

public import proofs.«01_k».proof.Proof.Gen.Reference14Ideal.Read
public import proofs.«01_k».proof.Proof.MlaGradArr

@[expose] public section

set_option maxRecDepth 16384

noncomputable section

namespace Cert.Mla.Ref

open Idealize.ShloMosaic Idealize.SL.Sem Cert.Reference14Ideal Cert.Reference14Ideal.Read Cert.Lift Cert.Softmax Cert.Block Cert.Mla
open Cert.Fwd (hd col)

variable {x0 : FVec Ideal S2048x1536 .bf16} {x1 : FVec Ideal S2304x2048 .bf16} {x2 : FVec Ideal S2304x256 .bf16} {x3 : FVec Ideal S2048x1024 .bf16}
variable {xq : Fin 2048 → Fin 1536 → ℝ} {xk : Fin 2304 → Fin 2048 → ℝ} {xp : Fin 2304 → Fin 256 → ℝ} {xg : Fin 2048 → Fin 1024 → ℝ}

/-- The pair of heads a head belongs to. -/
abbrev pr (h : Fin 8) : Fin 4 := ⟨h.val / 2, by omega⟩

/-- A head's place in its pair. -/
abbrev pl (h : Fin 8) : Fin 2 := ⟨h.val % 2, by omega⟩

/-- Where a place of a query head sits among the pairs of heads. -/
theorem pair_q (r : Fin 2048) (h : Fin 8) (x : Fin 256) :
    idx_main_v11 (ix3 (n0 := 2048) (n1 := 8) (n2 := 256) r h x) = ix4 (n0 := 2048) (n1 := 4) (n2 := 2) (n3 := 256) r (pr h) (pl h) x := by
  funext a
  match a with
  | ⟨0, _⟩ => exact Fin.ext (by show ((r.val * 8 + h.val) * 256 + x.val) / 2048 = r.val; omega)
  | ⟨1, _⟩ => exact Fin.ext (by show ((r.val * 8 + h.val) * 256 + x.val) / 512 % 4 = h.val / 2; omega)
  | ⟨2, _⟩ => exact Fin.ext (by show ((r.val * 8 + h.val) * 256 + x.val) / 256 % 2 = h.val % 2; omega)
  | ⟨3, _⟩ => exact Fin.ext (by show ((r.val * 8 + h.val) * 256 + x.val) % 256 = x.val; omega)

/-- Where a place of a key head sits among the pairs of heads. -/
theorem pair_k (j : Fin 2304) (h : Fin 8) (x : Fin 256) :
    idx_main_v15 (ix3 (n0 := 2304) (n1 := 8) (n2 := 256) j h x) = ix4 (n0 := 2304) (n1 := 4) (n2 := 2) (n3 := 256) j (pr h) (pl h) x := by
  funext a
  match a with
  | ⟨0, _⟩ => exact Fin.ext (by show ((j.val * 8 + h.val) * 256 + x.val) / 2048 = j.val; omega)
  | ⟨1, _⟩ => exact Fin.ext (by show ((j.val * 8 + h.val) * 256 + x.val) / 512 % 4 = h.val / 2; omega)
  | ⟨2, _⟩ => exact Fin.ext (by show ((j.val * 8 + h.val) * 256 + x.val) / 256 % 2 = h.val % 2; omega)
  | ⟨3, _⟩ => exact Fin.ext (by show ((j.val * 8 + h.val) * 256 + x.val) % 256 = x.val; omega)

/-- Where a place of a value head sits among the pairs of heads. -/
theorem pair_v (j : Fin 2304) (h : Fin 8) (d : Fin 128) :
    idx_main_v18 (ix3 (n0 := 2304) (n1 := 8) (n2 := 128) j h d) = ix4 (n0 := 2304) (n1 := 4) (n2 := 2) (n3 := 128) j (pr h) (pl h) d := by
  funext a
  match a with
  | ⟨0, _⟩ => exact Fin.ext (by show ((j.val * 8 + h.val) * 128 + d.val) / 1024 = j.val; omega)
  | ⟨1, _⟩ => exact Fin.ext (by show ((j.val * 8 + h.val) * 128 + d.val) / 256 % 4 = h.val / 2; omega)
  | ⟨2, _⟩ => exact Fin.ext (by show ((j.val * 8 + h.val) * 128 + d.val) / 128 % 2 = h.val % 2; omega)
  | ⟨3, _⟩ => exact Fin.ext (by show ((j.val * 8 + h.val) * 128 + d.val) % 128 = d.val; omega)

/-- Where place `d` of part `u` of head `h` sits in row `j` of the keys and values: the row and the column. -/
theorem flat_kv (j h d u : ℕ) (hh : h < 8) (hd : d < 128) (hu : u < 2) :
    (((((((j * 4 + h / 2) * 2 + h % 2) * 128 + d) / 1024 * 4 + (((j * 4 + h / 2) * 2 + h % 2) * 128 + d) / 256 % 4) * 2
        + (((j * 4 + h / 2) * 2 + h % 2) * 128 + d) / 128 % 2) * 2 + u) * 128 + (((j * 4 + h / 2) * 2 + h % 2) * 128 + d) % 128) / 2048 = j
      ∧ (((((((j * 4 + h / 2) * 2 + h % 2) * 128 + d) / 1024 * 4 + (((j * 4 + h / 2) * 2 + h % 2) * 128 + d) / 256 % 4) * 2
        + (((j * 4 + h / 2) * 2 + h % 2) * 128 + d) / 128 % 2) * 2 + u) * 128 + (((j * 4 + h / 2) * 2 + h % 2) * 128 + d) % 128) % 2048
        = 128 * (2 * h + u) + d := by
  have e0 : (((j * 4 + h / 2) * 2 + h % 2) * 128 + d) / 1024 = j := by omega
  have e1 : (((j * 4 + h / 2) * 2 + h % 2) * 128 + d) / 256 % 4 = h / 2 := by omega
  have e2 : (((j * 4 + h / 2) * 2 + h % 2) * 128 + d) / 128 % 2 = h % 2 := by omega
  have e3 : (((j * 4 + h / 2) * 2 + h % 2) * 128 + d) % 128 = d := by omega
  rw [e0, e1, e2, e3]
  omega

section Read

variable (hq : Holds (m := 2048) (n := 1536) x0 xq) (hk : Holds (m := 2304) (n := 2048) x1 xk)
  (hp : Holds (m := 2304) (n := 256) x2 xp) (hg : Holds (m := 2048) (n := 1024) x3 xg)

include hq in
/-- A head's queries without position. -/
theorem v9_real (r : Fin 2048) (h : Fin 8) (d : Fin 128) :
    val_main_v9 (F := Ideal) x0 (ix4 (n0 := 2048) (n1 := 4) (n2 := 2) (n3 := 128) r (pr h) (pl h) d) = ((qn xq h r d : ℝ) : EReal) := by
  rw [val_main_v9_apply, val_main_v1_apply]
  refine (congrArg x0 ?_).trans (hq r ⟨128 * (3 * (h.val / 2) + h.val % 2) + d.val, by omega⟩)
  refine (eq_ix2 (n0 := 2048) (n1 := 1536) _).trans ((ix2_inj _ _ _ _).mpr ⟨Fin.ext ?_, Fin.ext ?_⟩)
  · show (((r.val * 4 + h.val / 2) * 3 + h.val % 2) * 128 + d.val) / 1536 = r.val; omega
  · show (((r.val * 4 + h.val / 2) * 3 + h.val % 2) * 128 + d.val) % 1536 = 128 * (3 * (h.val / 2) + h.val % 2) + d.val; omega

include hq in
/-- A head's rotary queries. -/
theorem v7_real (r : Fin 2048) (h : Fin 8) (d : Fin 128) :
    val_main_v7 (F := Ideal) x0 (ix4 (n0 := 2048) (n1 := 4) (n2 := 2) (n3 := 128) r (pr h) (pl h) d) = ((qr xq h r d : ℝ) : EReal) := by
  rw [val_main_v7_apply, val_main_v6_apply, val_main_v1_apply]
  refine (congrArg x0 ?_).trans (hq r ⟨128 * (3 * (h.val / 2) + 2) + d.val, by omega⟩)
  refine (eq_ix2 (n0 := 2048) (n1 := 1536) _).trans ((ix2_inj _ _ _ _).mpr ⟨Fin.ext ?_, Fin.ext ?_⟩)
  · show (((r.val * 4 + h.val / 2) * 3 + (2 + 0)) * 128 + d.val) / 1536 = r.val; omega
  · show (((r.val * 4 + h.val / 2) * 3 + (2 + 0)) * 128 + d.val) % 1536 = 128 * (3 * (h.val / 2) + 2) + d.val; omega

include hk in
/-- A head's keys without position. -/
theorem v13_real (j : Fin 2304) (h : Fin 8) (d : Fin 128) :
    val_main_v13 (F := Ideal) x1 (ix4 (n0 := 2304) (n1 := 4) (n2 := 2) (n3 := 128) j (pr h) (pl h) d) = ((kn xk h j d : ℝ) : EReal) := by
  rw [val_main_v13_apply, val_main_v12_apply, val_main_v3_apply]
  refine (congrArg x1 ?_).trans (hk j ⟨128 * (2 * h.val) + d.val, by omega⟩)
  refine (eq_ix2 (n0 := 2304) (n1 := 2048) _).trans ((ix2_inj _ _ _ _).mpr ⟨Fin.ext ?_, Fin.ext ?_⟩)
  · exact (flat_kv j.val h.val d.val 0 h.isLt d.isLt (by omega)).1
  · exact (flat_kv j.val h.val d.val 0 h.isLt d.isLt (by omega)).2

include hk in
/-- A head's values. -/
theorem v18_real (j : Fin 2304) (h : Fin 8) (d : Fin 128) :
    val_main_v18 (F := Ideal) x1 (ix3 (n0 := 2304) (n1 := 8) (n2 := 128) j h d) = ((vh xk h j d : ℝ) : EReal) := by
  rw [val_main_v18_apply, pair_v, val_main_v17_apply, val_main_v16_apply, val_main_v3_apply]
  refine (congrArg x1 ?_).trans (hk j ⟨128 * (2 * h.val + 1) + d.val, by omega⟩)
  refine (eq_ix2 (n0 := 2304) (n1 := 2048) _).trans ((ix2_inj _ _ _ _).mpr ⟨Fin.ext ?_, Fin.ext ?_⟩)
  · exact (flat_kv j.val h.val d.val 1 h.isLt d.isLt (by omega)).1
  · exact (flat_kv j.val h.val d.val 1 h.isLt d.isLt (by omega)).2

include hp in
/-- A head's rotary keys. -/
theorem v8_real (j : Fin 2304) (h : Fin 8) (d : Fin 128) :
    val_main_v8 (F := Ideal) x2 (ix4 (n0 := 2304) (n1 := 4) (n2 := 2) (n3 := 128) j (pr h) (pl h) d) = ((kr xp h j d : ℝ) : EReal) := by
  rw [val_main_v8_apply, val_main_v5_apply]
  refine (congrArg x2 ?_).trans (hp j ⟨128 * (h.val % 2) + d.val, by omega⟩)
  refine (eq_ix2 (n0 := 2304) (n1 := 256) _).trans ((ix2_inj _ _ _ _).mpr ⟨Fin.ext ?_, Fin.ext ?_⟩)
  · show (((j.val * 1 + 0) * 2 + h.val % 2) * 128 + d.val) / 256 = j.val; omega
  · show (((j.val * 1 + 0) * 2 + h.val % 2) * 128 + d.val) % 256 = 128 * (h.val % 2) + d.val; omega

include hq in
/-- A head's queries. -/
theorem v11_real (r : Fin 2048) (h : Fin 8) (x : Fin 256) :
    val_main_v11 (F := Ideal) x0 (ix3 (n0 := 2048) (n1 := 8) (n2 := 256) r h x) = ((qh xq h r x : ℝ) : EReal) := by
  rw [val_main_v11_apply, pair_q]
  have e9 := v9_real hq r h
  have e7 := v7_real hq r h
  revert e9 e7
  unfold val_main_v10
  generalize val_main_v9 (F := Ideal) x0 = y
  generalize val_main_v7 (F := Ideal) x0 = z
  intro e9 e7
  pointwise
  rw [qh, join]
  split
  · exact e9 _
  · exact e7 _

include hk hp in
/-- A head's keys. -/
theorem v15_real (j : Fin 2304) (h : Fin 8) (x : Fin 256) :
    val_main_v15 (F := Ideal) x1 x2 (ix3 (n0 := 2304) (n1 := 8) (n2 := 256) j h x) = ((kh xk xp h j x : ℝ) : EReal) := by
  rw [val_main_v15_apply, pair_k]
  have e13 := v13_real hk j h
  have e8 := v8_real hp j h
  revert e13 e8
  unfold val_main_v14
  generalize val_main_v13 (F := Ideal) x1 = y
  generalize val_main_v8 (F := Ideal) x2 = z
  intro e13 e8
  pointwise
  rw [kh, join]
  split
  · exact e13 _
  · exact e8 _

include hq hk hp in
/-- A score. -/
theorem v19_real (h : Fin 8) (r : Fin 2048) (j : Fin 2304) :
    val_main_v19 (F := Ideal) x0 x1 x2 (ix3 (n0 := 8) (n1 := 2048) (n2 := 2304) h r j) = ((sc (qh xq h r) (kh xk xp h) j : ℝ) : EReal) := by
  rw [val_main_v19_apply]
  have e := dot_eq (fun x : Fin 256 => val_main_v11 (F := Ideal) x0 (ix3 (n0 := 2048) (n1 := 8) (n2 := 256) r h x))
    (fun x => val_main_v15 (F := Ideal) x1 x2 (ix3 (n0 := 2304) (n1 := 8) (n2 := 256) j h x)) _ _ (v11_real hq r h) (v15_real hk hp j h)
  refine Eq.trans (Finset.sum_congr rfl fun x _ => ?_) e
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The square root the scores are divided by. -/
theorem v20_real (i : S_.Idx) : val_main_v20 (F := Ideal) i = ((Real.sqrt 192 : ℝ) : EReal) := by
  rw [val_main_v20_apply, val_main_cst_apply]
  show Ideal.sqrt (Ideal.ofBits .f32 0x43400000#32) = _
  have e : Ideal.ofBits .f32 0x43400000#32 = ((192 : ℝ) : EReal) := by
    simp [Ideal.ofBits, Ideal.ieee]
    rw [← EReal.coe_mul]
    norm_num
  rw [e, Ideal.sqrt_coe, if_neg (by norm_num)]

theorem sqrt_ne : Real.sqrt 192 ≠ 0 := (Real.sqrt_pos.mpr (by norm_num)).ne'

include hq hk hp in
/-- A scaled score. -/
theorem v22_real (h : Fin 8) (r : Fin 2048) (j : Fin 2304) :
    val_main_v22 (F := Ideal) x0 x1 x2 (ix3 (n0 := 8) (n1 := 2048) (n2 := 2304) h r j) = ((c * sc (qh xq h r) (kh xk xp h) j : ℝ) : EReal) := by
  rw [val_main_v22_apply, v19_real hq hk hp, val_main_v21_apply, v20_real]
  refine (div_real _ _ sqrt_ne).trans (congrArg _ ?_)
  rw [div_eq_mul_inv, mul_comm]

include hq hk hp in
/-- The row maximum is some real. -/
theorem v23_real (h : Fin 8) (r : Fin 2048) : ∃ m : ℝ, val_main_v23 (F := Ideal) x0 x1 x2 (ix2 (n0 := 8) (n1 := 2048) h r) = ((m : ℝ) : EReal) := by
  have e := v22_real hq hk hp h r
  revert e
  unfold val_main_v23
  generalize val_main_v22 (F := Ideal) x0 x1 x2 = y
  intro e
  pointwise [val_main_cst_0]
  exact max_eq _ _ e

include hq hk hp in
/-- The exponentials of a row, shifted by one real. -/
theorem v43_real (h : Fin 8) (r : Fin 2048) :
    ∃ m : ℝ, ∀ j : Fin 2304, val_main_v43 (F := Ideal) x0 x1 x2 (ix3 (n0 := 8) (n1 := 2048) (n2 := 2304) h r j)
      = ((Real.exp (c * sc (qh xq h r) (kh xk xp h) j - m) : ℝ) : EReal) := by
  obtain ⟨m, hm⟩ := v23_real hq hk hp h r
  refine ⟨m, fun j => ?_⟩
  have e : val_main_v41 (F := Ideal) x0 x1 x2 (ix3 (n0 := 8) (n1 := 2048) (n2 := 2304) h r j) = ((m : ℝ) : EReal) := by
    rw [val_main_v41_apply, val_main_v40_apply, val_main_v30_apply, val_main_v29_apply, val_main_cst_2_apply,
      show idx_main_v40 (idx_main_v41 (ix3 (n0 := 8) (n1 := 2048) (n2 := 2304) h r j)) = ix2 (n0 := 8) (n1 := 2048) h r from
        funext fun a => by match a with | ⟨0, _⟩ => rfl | ⟨1, _⟩ => rfl, hm]
    show max (Ideal.ofBits .f32 0xFF800000#32) _ = _
    rw [ofBits_neg_inf]; exact max_bot_left _
  rw [val_main_v43_apply, val_main_v42_apply, v22_real hq hk hp, e]
  show Ideal.exp (((c * sc (qh xq h r) (kh xk xp h) j : ℝ) : EReal) - ((m : ℝ) : EReal)) = _
  rw [← EReal.coe_sub, Ideal.exp_coe]

/-- The sum of a row's exponentials. -/
theorem v45_sum (h : Fin 8) (r : Fin 2048) (u : Fin 1) :
    val_main_v45 (F := Ideal) x0 x1 x2 (ix3 (n0 := 8) (n1 := 2048) (n2 := 1) h r u)
      = ∑ j : Fin 2304, val_main_v43 (F := Ideal) x0 x1 x2 (ix3 (n0 := 8) (n1 := 2048) (n2 := 2304) h r j) := by
  rw [val_main_v45_apply, val_main_v44_apply, val_main_cst_8_apply]
  refine (congrArg (· + _) (Ideal.ofBits_zero .f32)).trans ((zero_add _).trans (Finset.sum_congr rfl fun j _ => congrArg _ ?_))
  funext a; match a with | ⟨0, _⟩ => rfl | ⟨1, _⟩ => rfl | ⟨2, _⟩ => rfl

include hq hk hp in
/-- A weight. -/
theorem v47_real (h : Fin 8) (r : Fin 2048) (j : Fin 2304) :
    val_main_v47 (F := Ideal) x0 x1 x2 (ix3 (n0 := 8) (n1 := 2048) (n2 := 2304) h r j) = ((pw (qh xq h r) (kh xk xp h) j : ℝ) : EReal) := by
  obtain ⟨m, hm⟩ := v43_real hq hk hp h r
  rw [val_main_v47_apply, val_main_v46_apply,
    show idx_main_v46 (ix3 (n0 := 8) (n1 := 2048) (n2 := 2304) h r j) = ix3 (n0 := 8) (n1 := 2048) (n2 := 1) h r 0 from
      funext fun a => by match a with | ⟨0, _⟩ => rfl | ⟨1, _⟩ => rfl | ⟨2, _⟩ => rfl, v45_sum]
  exact ref_wt c (sc (qh xq h r) (kh xk xp h)) m _ hm j

include hq hk hp in
/-- An entry of the output. -/
theorem v52_real (r : Fin 2048) (h : Fin 8) (d : Fin 128) :
    val_main_v52 (F := Ideal) x0 x1 x2 (ix3 (n0 := 2048) (n1 := 8) (n2 := 128) r h d) = ((outp (qh xq h r) (kh xk xp h) (vh xk h) d : ℝ) : EReal) := by
  rw [val_main_v52_apply, val_main_v51_apply]
  have e := dot_eq (fun j : Fin 2304 => val_main_v18 (F := Ideal) x1 (ix3 (n0 := 2304) (n1 := 8) (n2 := 128) j h d))
    (fun j => val_main_v47 (F := Ideal) x0 x1 x2 (ix3 (n0 := 8) (n1 := 2048) (n2 := 2304) h r j)) _ _ (fun j => v18_real hk j h d) (v47_real hq hk hp h r)
  refine Eq.trans (Finset.sum_congr rfl fun j _ => ?_) (e.trans (congrArg _ (Finset.sum_congr rfl fun j _ => mul_comm _ _)))
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- Where a column of the outputs' shape sits among the heads. -/
theorem join_o (r : Fin 2048) (e : Fin 1024) : idx_main_v78 (ix2 (n0 := 2048) (n1 := 1024) r e) = ix3 (n0 := 2048) (n1 := 8) (n2 := 128) r (hd e) (col e) := by
  funext a
  match a with
  | ⟨0, _⟩ => exact Fin.ext (by show (r.val * 1024 + e.val) / 1024 = r.val; omega)
  | ⟨1, _⟩ => exact Fin.ext (by show (r.val * 1024 + e.val) / 128 % 8 = e.val / 128; omega)
  | ⟨2, _⟩ => exact Fin.ext (by show (r.val * 1024 + e.val) % 128 = e.val % 128; omega)

include hq hk hp in
/-- The reference's output. -/
theorem out_holds : Holds (m := 2048) (n := 1024) (val_main_v78 (F := Ideal) x0 x1 x2) (oArr xq xk xp) := fun r e => by
  rw [val_main_v78_apply, val_main_v77_apply, join_o]
  exact v52_real hq hk hp _ _ _

end Read

end Cert.Mla.Ref

end
-- ==== Proof.MlaRefGrad.lean ====
/- The latent attention's reference gradients at real entries: of the scores, and from them of the queries, the keys and the
   values. -/
module

public import proofs.«01_k».proof.Proof.MlaRef

@[expose] public section

set_option maxRecDepth 16384

noncomputable section

namespace Cert.Mla.Ref

open Idealize.ShloMosaic Idealize.SL.Sem Cert.Reference14Ideal Cert.Reference14Ideal.Read Cert.Lift Cert.Softmax Cert.Block Cert.Mla
open Cert.Fwd (hd col)

variable {x0 : FVec Ideal S2048x1536 .bf16} {x1 : FVec Ideal S2304x2048 .bf16} {x2 : FVec Ideal S2304x256 .bf16} {x3 : FVec Ideal S2048x1024 .bf16}
variable {xq : Fin 2048 → Fin 1536 → ℝ} {xk : Fin 2304 → Fin 2048 → ℝ} {xp : Fin 2304 → Fin 256 → ℝ} {xg : Fin 2048 → Fin 1024 → ℝ}
variable (hq : Holds (m := 2048) (n := 1536) x0 xq) (hk : Holds (m := 2304) (n := 2048) x1 xk)
  (hp : Holds (m := 2304) (n := 256) x2 xp) (hg : Holds (m := 2048) (n := 1024) x3 xg)

include hg in
/-- A head's incoming gradient. -/
theorem v55_real (h : Fin 8) (d : Fin 128) (r : Fin 2048) :
    val_main_v55 (F := Ideal) x3 (ix3 (n0 := 8) (n1 := 128) (n2 := 2048) h d r) = ((gh xg h r d : ℝ) : EReal) := by
  rw [val_main_v55_apply, val_main_v54_apply]
  refine (congrArg x3 ?_).trans (hg r ⟨128 * h.val + d.val, by omega⟩)
  refine (eq_ix2 (n0 := 2048) (n1 := 1024) _).trans ((ix2_inj _ _ _ _).mpr ⟨Fin.ext ?_, Fin.ext ?_⟩)
  · show ((r.val * 8 + h.val) * 128 + d.val) / 1024 = r.val; omega
  · show ((r.val * 8 + h.val) * 128 + d.val) % 1024 = 128 * h.val + d.val; omega

/-- The gradient of a weight. -/
def dp (g : Fin 128 → ℝ) (v : Fin 2304 → Fin 128 → ℝ) (j : Fin 2304) : ℝ := ∑ d, g d * v j d

include hk hg in
theorem v56_real (h : Fin 8) (r : Fin 2048) (j : Fin 2304) :
    val_main_v56 (F := Ideal) x1 x3 (ix3 (n0 := 8) (n1 := 2048) (n2 := 2304) h r j) = ((dp (gh xg h r) (vh xk h) j : ℝ) : EReal) := by
  rw [val_main_v56_apply]
  have e := dot_eq (fun d : Fin 128 => val_main_v55 (F := Ideal) x3 (ix3 (n0 := 8) (n1 := 128) (n2 := 2048) h d r))
    (fun d => val_main_v18 (F := Ideal) x1 (ix3 (n0 := 2304) (n1 := 8) (n2 := 128) j h d)) _ _ (fun d => v55_real hg h d r) (v18_real hk j h)
  refine Eq.trans (Finset.sum_congr rfl fun d _ => ?_) e
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The reciprocal of a row's squared sum. -/
theorem v59_sum (h : Fin 8) (r : Fin 2048) (j : Fin 2304) :
    val_main_v59 (F := Ideal) x0 x1 x2 (ix3 (n0 := 8) (n1 := 2048) (n2 := 2304) h r j)
      = Ideal.div 1 ((∑ j : Fin 2304, val_main_v43 (F := Ideal) x0 x1 x2 (ix3 (n0 := 8) (n1 := 2048) (n2 := 2304) h r j))
        * (∑ j : Fin 2304, val_main_v43 (F := Ideal) x0 x1 x2 (ix3 (n0 := 8) (n1 := 2048) (n2 := 2304) h r j))) := by
  rw [val_main_v59_apply,
    show idx_main_v59 (ix3 (n0 := 8) (n1 := 2048) (n2 := 2304) h r j) = ix3 (n0 := 8) (n1 := 2048) (n2 := 1) h r 0 from
      funext fun a => by match a with | ⟨0, _⟩ => rfl | ⟨1, _⟩ => rfl | ⟨2, _⟩ => rfl,
    val_main_v50_apply, val_main_v49_apply, val_main_cst_9_apply, val_main_v48_apply, v45_sum]
  show Ideal.div (Ideal.ofBits .f32 0x3F800000#32) _ = _
  have e : Ideal.ofBits .f32 0x3F800000#32 = 1 := by
    simp [Ideal.ofBits, Ideal.ieee]
    rw [← EReal.coe_mul]
    norm_num
  rw [e]
  rfl

/-- One summand of the quotient's derivative. -/
theorem v61_eq (h : Fin 8) (r : Fin 2048) (l : Fin 2304) :
    val_main_v61 (F := Ideal) x0 x1 x2 x3 (ix3 (n0 := 8) (n1 := 2048) (n2 := 2304) h r l)
      = val_main_v56 (F := Ideal) x1 x3 (ix3 (n0 := 8) (n1 := 2048) (n2 := 2304) h r l)
        * Ideal.div 1 ((∑ j : Fin 2304, val_main_v43 (F := Ideal) x0 x1 x2 (ix3 (n0 := 8) (n1 := 2048) (n2 := 2304) h r j))
          * (∑ j : Fin 2304, val_main_v43 (F := Ideal) x0 x1 x2 (ix3 (n0 := 8) (n1 := 2048) (n2 := 2304) h r j)))
        * val_main_v43 (F := Ideal) x0 x1 x2 (ix3 (n0 := 8) (n1 := 2048) (n2 := 2304) h r l) := by
  rw [val_main_v61_apply, val_main_v60_apply, v59_sum]
  rfl

/-- The weights' gradients summed over a row, as the quotient's derivative needs them. -/
theorem v68_sum (h : Fin 8) (r : Fin 2048) (j : Fin 2304) :
    val_main_v68 (F := Ideal) x0 x1 x2 x3 (ix3 (n0 := 8) (n1 := 2048) (n2 := 2304) h r j)
      = -∑ j : Fin 2304, val_main_v61 (F := Ideal) x0 x1 x2 x3 (ix3 (n0 := 8) (n1 := 2048) (n2 := 2304) h r j) := by
  rw [val_main_v68_apply, val_main_v67_apply, val_main_cst_11_apply]
  refine (congrArg (· + _) (Ideal.ofBits_zero .f32)).trans ((zero_add _).trans ((Fin.sum_univ_one _).trans ?_))
  rw [val_main_v64_apply, val_main_v63_apply, val_main_v62_apply, val_main_cst_10_apply]
  refine congrArg (fun z : EReal => -z) ?_
  refine (congrArg (· + _) (Ideal.ofBits_zero .f32)).trans ((zero_add _).trans (Finset.sum_congr rfl fun j _ => congrArg _ ?_))
  funext a
  match a with
  | ⟨0, _⟩ => exact Fin.ext (by show ((h.val * 2048 + r.val) * 1 + 0) / 2048 = h.val; omega)
  | ⟨1, _⟩ => exact Fin.ext (by show ((h.val * 2048 + r.val) * 1 + 0) % 2048 = r.val; omega)
  | ⟨2, _⟩ => rfl

include hq hk hp hg in
/-- The gradient of a scaled score. -/
theorem v70_real (h : Fin 8) (r : Fin 2048) (j : Fin 2304) :
    val_main_v70 (F := Ideal) x0 x1 x2 x3 (ix3 (n0 := 8) (n1 := 2048) (n2 := 2304) h r j)
      = ((ds (qh xq h r) (kh xk xp h) (vh xk h) (gh xg h r) j : ℝ) : EReal) := by
  obtain ⟨m, hm⟩ := v43_real hq hk hp h r
  rw [val_main_v70_apply, val_main_v69_apply, v68_sum, val_main_v66_apply, val_main_v65_apply,
    show idx_main_v65 (ix3 (n0 := 8) (n1 := 2048) (n2 := 2304) h r j) = ix3 (n0 := 8) (n1 := 2048) (n2 := 1) h r 0 from
      funext fun a => by match a with | ⟨0, _⟩ => rfl | ⟨1, _⟩ => rfl | ⟨2, _⟩ => rfl, v45_sum]
  rw [Finset.sum_congr rfl fun l _ => v61_eq h r l]
  exact ref_dscore c (sc (qh xq h r) (kh xk xp h)) m _ hm (dp (gh xg h r) (vh xk h)) _ (v56_real hk hg h r) j

include hq hk hp hg in
/-- The gradient of a score. -/
theorem v72_real (h : Fin 8) (r : Fin 2048) (j : Fin 2304) :
    val_main_v72 (F := Ideal) x0 x1 x2 x3 (ix3 (n0 := 8) (n1 := 2048) (n2 := 2304) h r j)
      = ((ds (qh xq h r) (kh xk xp h) (vh xk h) (gh xg h r) j * c : ℝ) : EReal) := by
  rw [val_main_v72_apply, v70_real hq hk hp hg, val_main_v71_apply, v20_real]
  exact (div_real _ _ sqrt_ne).trans (congrArg _ (div_eq_mul_inv _ _))

include hq hk hp hg in
/-- An entry of the queries' gradient. -/
theorem v76_real (r : Fin 2048) (h : Fin 8) (x : Fin 256) :
    val_main_v76 (F := Ideal) x0 x1 x2 x3 (ix3 (n0 := 2048) (n1 := 8) (n2 := 256) r h x)
      = ((dqEnt (qh xq h r) (kh xk xp h) (vh xk h) (gh xg h r) x : ℝ) : EReal) := by
  rw [val_main_v76_apply, val_main_v75_apply]
  have e := dot_eq (fun j : Fin 2304 => val_main_v72 (F := Ideal) x0 x1 x2 x3 (ix3 (n0 := 8) (n1 := 2048) (n2 := 2304) h r j))
    (fun j => val_main_v15 (F := Ideal) x1 x2 (ix3 (n0 := 2304) (n1 := 8) (n2 := 256) j h x)) _ _ (v72_real hq hk hp hg h r) (fun j => v15_real hk hp j h x)
  refine Eq.trans (Finset.sum_congr rfl fun j _ => ?_) (e.trans (congrArg _ ?_))
  · refine congrArg₂ (· * ·) (congrArg _ ?_) (congrArg _ ?_)
    · funext a; match a with | ⟨0, _⟩ => rfl | ⟨1, _⟩ => rfl | ⟨2, _⟩ => rfl
    · funext a; match a with | ⟨0, _⟩ => rfl | ⟨1, _⟩ => rfl | ⟨2, _⟩ => rfl
  · rw [dqEnt, Finset.sum_mul]
    exact Finset.sum_congr rfl fun j _ => by ring

include hq hk hp hg in
/-- An entry of the keys' gradient. -/
theorem v74_real (j : Fin 2304) (h : Fin 8) (x : Fin 256) :
    val_main_v74 (F := Ideal) x0 x1 x2 x3 (ix3 (n0 := 2304) (n1 := 8) (n2 := 256) j h x)
      = ((dkSum (qh xq h) (gh xg h) (kh xk xp h) (vh xk h) j x * c : ℝ) : EReal) := by
  rw [val_main_v74_apply, val_main_v73_apply]
  have e := dot_eq (fun r : Fin 2048 => val_main_v72 (F := Ideal) x0 x1 x2 x3 (ix3 (n0 := 8) (n1 := 2048) (n2 := 2304) h r j))
    (fun r => val_main_v11 (F := Ideal) x0 (ix3 (n0 := 2048) (n1 := 8) (n2 := 256) r h x)) _ _ (fun r => v72_real hq hk hp hg h r j) (fun r => v11_real hq r h x)
  refine Eq.trans (Finset.sum_congr rfl fun r _ => ?_) (e.trans (congrArg _ ?_))
  · refine congrArg₂ (· * ·) (congrArg _ ?_) (congrArg _ ?_)
    · funext a; match a with | ⟨0, _⟩ => rfl | ⟨1, _⟩ => rfl | ⟨2, _⟩ => rfl
    · funext a; match a with | ⟨0, _⟩ => rfl | ⟨1, _⟩ => rfl | ⟨2, _⟩ => rfl
  · rw [dkSum, Finset.sum_mul]
    exact Finset.sum_congr rfl fun r _ => by ring

include hq hk hp hg in
/-- An entry of the values' gradient. -/
theorem v58_real (j : Fin 2304) (h : Fin 8) (d : Fin 128) :
    val_main_v58 (F := Ideal) x0 x1 x2 x3 (ix3 (n0 := 2304) (n1 := 8) (n2 := 128) j h d)
      = ((dvSum (qh xq h) (gh xg h) (kh xk xp h) j d : ℝ) : EReal) := by
  rw [val_main_v58_apply, val_main_v57_apply]
  have e := dot_eq (fun r : Fin 2048 => val_main_v55 (F := Ideal) x3 (ix3 (n0 := 8) (n1 := 128) (n2 := 2048) h d r))
    (fun r => val_main_v47 (F := Ideal) x0 x1 x2 (ix3 (n0 := 8) (n1 := 2048) (n2 := 2304) h r j)) _ _ (v55_real hg h d) (fun r => v47_real hq hk hp h r j)
  refine Eq.trans (Finset.sum_congr rfl fun r _ => ?_) (e.trans (congrArg _ (Finset.sum_congr rfl fun r _ => mul_comm _ _)))
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- Where a column of the queries' gradient sits among the heads. -/
theorem join_q (r : Fin 2048) (e : Fin 2048) : idx_main_v79 (ix2 (n0 := 2048) (n1 := 2048) r e) = ix3 (n0 := 2048) (n1 := 8) (n2 := 256) r (wd e) (wcol e) := by
  funext a
  match a with
  | ⟨0, _⟩ => exact Fin.ext (by show (r.val * 2048 + e.val) / 2048 = r.val; omega)
  | ⟨1, _⟩ => exact Fin.ext (by show (r.val * 2048 + e.val) / 256 % 8 = e.val / 256; omega)
  | ⟨2, _⟩ => exact Fin.ext (by show (r.val * 2048 + e.val) % 256 = e.val % 256; omega)

/-- Where a column of the keys' gradient sits among the heads. -/
theorem join_k (j : Fin 2304) (e : Fin 2048) : idx_main_v80 (ix2 (n0 := 2304) (n1 := 2048) j e) = ix3 (n0 := 2304) (n1 := 8) (n2 := 256) j (wd e) (wcol e) := by
  funext a
  match a with
  | ⟨0, _⟩ => exact Fin.ext (by show (j.val * 2048 + e.val) / 2048 = j.val; omega)
  | ⟨1, _⟩ => exact Fin.ext (by show (j.val * 2048 + e.val) / 256 % 8 = e.val / 256; omega)
  | ⟨2, _⟩ => exact Fin.ext (by show (j.val * 2048 + e.val) % 256 = e.val % 256; omega)

/-- Where a column of the values' gradient sits among the heads. -/
theorem join_v (j : Fin 2304) (e : Fin 1024) : idx_main_v81 (ix2 (n0 := 2304) (n1 := 1024) j e) = ix3 (n0 := 2304) (n1 := 8) (n2 := 128) j (hd e) (col e) := by
  funext a
  match a with
  | ⟨0, _⟩ => exact Fin.ext (by show (j.val * 1024 + e.val) / 1024 = j.val; omega)
  | ⟨1, _⟩ => exact Fin.ext (by show (j.val * 1024 + e.val) / 128 % 8 = e.val / 128; omega)
  | ⟨2, _⟩ => exact Fin.ext (by show (j.val * 1024 + e.val) % 128 = e.val % 128; omega)

include hq hk hp hg

/-- The reference's gradient of the queries. -/
theorem dq_holds : Holds (m := 2048) (n := 2048) (val_main_v79 (F := Ideal) x0 x1 x2 x3) (dqArr xq xk xp xg) := fun r e => by
  rw [val_main_v79_apply, join_q]
  exact v76_real hq hk hp hg _ _ _

/-- The reference's gradient of the keys. -/
theorem dk_holds : Holds (m := 2304) (n := 2048) (val_main_v80 (F := Ideal) x0 x1 x2 x3) (dkArr xq xk xp xg) := fun j e => by
  rw [val_main_v80_apply, join_k]
  exact v74_real hq hk hp hg _ _ _

/-- The reference's gradient of the values. -/
theorem dv_holds : Holds (m := 2304) (n := 1024) (val_main_v81 (F := Ideal) x0 x1 x2 x3) (dvArr xq xk xp xg) := fun j e => by
  rw [val_main_v81_apply, join_v]
  exact v58_real hq hk hp hg _ _ _

end Cert.Mla.Ref

end
-- ==== Proof.lean ====
/- The claims about the grouped-query attention's calls, the feed-forward layer's, the branch merge's, the projections' and the optimiser's, put
   together: the
   frames of the programs, the named constants, and the equations of the kernels' results with the references'. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Real
public import proofs.«01_k».proof.Proof.Run
public import proofs.«01_k».proof.Proof.RefGrad
public import proofs.«01_k».proof.Proof.Real2
public import proofs.«01_k».proof.Proof.Run2
public import proofs.«01_k».proof.Proof.RefFfn
public import proofs.«01_k».proof.Proof.Run3
public import proofs.«01_k».proof.Proof.RefMerge
public import proofs.«01_k».proof.Proof.Down
public import proofs.«01_k».proof.Proof.UpDxA
public import proofs.«01_k».proof.Proof.UpDxB
public import proofs.«01_k».proof.Proof.Run7
public import proofs.«01_k».proof.Proof.ProjQ
public import proofs.«01_k».proof.Proof.ProjQDx
public import proofs.«01_k».proof.Proof.ProjG
public import proofs.«01_k».proof.Proof.GateDx
public import proofs.«01_k».proof.Proof.ProjQDw
public import proofs.«01_k».proof.Proof.ProjGDw
public import proofs.«01_k».proof.Proof.RefOne
public import proofs.«01_k».proof.Proof.RefLinear
public import proofs.«01_k».proof.Proof.MlaReal
public import proofs.«01_k».proof.Proof.MlaRun
public import proofs.«01_k».proof.Proof.MlaRefGrad
public import Idealize.ShloMosaic.Adequacy
public import Idealize.ShloMosaic.Init

@[expose] public section

noncomputable section

namespace Cert.Proof

open Idealize.ShloMosaic Idealize.ShloMosaic.TcCoe Idealize.SL.Sem Cert.Block

/-- Two matrices that hold the same real matrix are equal. -/
theorem holds_ext {m n : ℕ} {X : (⟨2, ![m, n]⟩ : Shape).Idx → EReal} {x : Fin m → Fin n → ℝ} (h : Holds X x) :
    X = fun y => ((x (y 0) (y 1) : ℝ) : EReal) := funext fun y => by
  obtain ⟨a, b, rfl⟩ : ∃ a b, y = ix2 a b := ⟨y 0, y 1, eq_ix2 y⟩
  exact h a b

/-- Each named constant is the rounded literal's exact value. -/
theorem preserves : Cert.preserves_Kernel_KernelIdeal :=
  ⟨IdealRules.named_const.statement Cert.KernelIdeal.κ "scale_log2_e" .f32 0x3E0293EE#32 (((Real.sqrt 128)⁻¹ * (Real.log 2)⁻¹ : ℝ) : EReal) rfl,
   IdealRules.named_const.statement Cert.KernelIdeal.κ "scale" .f32 0x3DB504F3#32 (((Real.sqrt 128)⁻¹ : ℝ) : EReal) rfl,
   IdealRules.named_const.statement Cert.KernelIdeal.κ "log2_e" .f32 0x3FB8AA3B#32 (((Real.log 2)⁻¹ : ℝ) : EReal) rfl⟩

/-- On finite arguments the kernel's output and its gradients of the queries, keys and values are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Real.facts) := by
  intro m g m' g' hp hm
  choose xq hq using fun c => Cert.Real.first _ _ _ _ (hp c).1
  choose xk hk using fun c => Cert.Real.second _ _ _ _ (hp c).2.1
  choose xv hv using fun c => Cert.Real.third _ _ _ _ (hp c).2.2.1
  choose xg hg using fun c => Cert.Real.fourth _ _ _ _ (hp c).2.2.2
  refine ⟨fun c y => ((Cert.Fwd.oArr (xq c) (xk c) (xv c) (y 0) (y 1) : ℝ) : EReal),
    fun c y => ((Cert.Bwd.dqArr (xq c) (xg c) (xk c) (xv c) (y 0) (y 1) : ℝ) : EReal),
    fun c y => ((Cert.Bwd.dkArr (xq c) (xg c) (xk c) (xv c) (y 0) (y 1) : ℝ) : EReal),
    fun c y => ((Cert.Bwd.dvArr (xq c) (xg c) (xk c) (y 0) (y 1) : ℝ) : EReal), ?_, ?_⟩
  · refine (θ_run Cert.KernelIdeal.defs _ _).mono (fun r h c => ?_) (Cert.Run.values g (m := m) ⟨hq, hk, hv, hg⟩)
    obtain ⟨h0, h1, h2, h3, ha⟩ := h c
    exact ⟨holds_ext h0, holds_ext h1, holds_ext h2, holds_ext h3, ha⟩
  · refine (θ_run Cert.ReferenceIdeal.defs _ _).mono (fun r h c => ?_) (Cert.ReferenceIdeal.Value.run m' g')
    obtain ⟨h0, h1, h2, h3, ha⟩ := h c
    obtain ⟨e0, e1, e2, e3⟩ := hm c
    have q' := e0 ▸ hq c
    have k' := e1 ▸ hk c
    have v' := e2 ▸ hv c
    have g' := e3 ▸ hg c
    refine ⟨h0.trans ?_, h1.trans ?_, h2.trans ?_, h3.trans ?_, ha⟩
    · exact (Cert.ReferenceIdeal.Read.val_main_v43_eq _ _ _).trans (holds_ext (Cert.Ref.out_holds q' k' v'))
    · exact (Cert.ReferenceIdeal.Read.val_main_v70_eq m' c).trans (holds_ext (Cert.Ref.dq_holds q' k' v' g'))
    · exact (Cert.ReferenceIdeal.Read.val_main_v69_eq m' c).trans (holds_ext (Cert.Ref.dk_holds q' k' v' g'))
    · exact (Cert.ReferenceIdeal.Read.val_main_v68_eq _ _ _).trans (holds_ext (Cert.Ref.dv_holds q' k' g'))

/-- The reference ends, leaves its arguments alone, and has no semaphores. -/
theorem frame_reference : Cert.quiescent_ReferenceIdeal (hReferenceIdeal := Cert.ReferenceIdeal.Gen.facts) := fun m g _ =>
  (θ_run Cert.ReferenceIdeal.defs _ _).mono (fun _ h => ⟨fun c => (h c).2.2.2.2, sem_eq_zero_of_no_sems rfl _⟩)
    (Cert.ReferenceIdeal.Value.run (F := Ideal) m g)

/-- On finite arguments the feed-forward layer's derivatives, of both layers' weights, of the taps and of the biases, are
    the reference's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Real2.facts) := by
  intro m g m' g' hp hm
  choose z hz using fun c => Cert.Real2.first _ _ _ _ _ _ (hp c).1
  choose w hw using fun c => Cert.Real2.second _ _ _ _ _ _ (hp c).2.1
  choose k hk using fun c => Cert.Real2.third _ _ _ _ _ _ (hp c).2.2.1
  choose b hb using fun c => Cert.Real2.fourth _ _ _ _ _ _ (hp c).2.2.2.1
  choose d hd using fun c => Cert.Real2.fifth _ _ _ _ _ _ (hp c).2.2.2.2.1
  choose e he using fun c => Cert.Real2.sixth _ _ _ _ _ _ (hp c).2.2.2.2.2
  refine ⟨fun c y => ((Cert.Run2.gw (Cert.Run2.ffn (z c) (w c) (k c) (b c) (d c) (e c)) (z c) (y 0) (y 1) : ℝ) : EReal),
    fun c y => (((Cert.Run2.ffn (z c) (w c) (k c) (b c) (d c) (e c)).ta (y 0) (y 1) : ℝ) : EReal),
    fun c y => (((Cert.Run2.ffn (z c) (w c) (k c) (b c) (d c) (e c)).tb (y 0) (y 1) : ℝ) : EReal),
    fun c y => (((Cert.Run2.ffn (z c) (w c) (k c) (b c) (d c) (e c)).sa (y 0) (y 1) : ℝ) : EReal),
    fun c y => (((Cert.Run2.ffn (z c) (w c) (k c) (b c) (d c) (e c)).sb (y 0) (y 1) : ℝ) : EReal),
    fun c y => ((Cert.Conv.tMul (Cert.Up.hid (z c) (w c) (k c) (b c)) (e c) (y 0) (y 1) : ℝ) : EReal), ?_, ?_⟩
  · refine (θ_run Cert.Kernel2Ideal.defs _ _).mono (fun r h c => ?_) (Cert.Run2.values g (m := m) ⟨hz, hw, hk, hb, hd, he⟩)
    obtain ⟨h0, h1, h2, h3, h4, h5, ha⟩ := h c
    exact ⟨holds_ext h0, holds_ext h1, holds_ext h2, holds_ext h3, holds_ext h4, holds_ext h5, ha⟩
  · refine (θ_run Cert.Reference2Ideal.defs _ _).mono (fun r h c => ?_) (Cert.Reference2Ideal.Value.run m' g')
    obtain ⟨h0, h1, h2, h3, h4, h5, ha⟩ := h c
    obtain ⟨e0, e1, e2, e3, e4, e5⟩ := hm c
    have z' := e0 ▸ hz c
    have w' := e1 ▸ hw c
    have k' := e2 ▸ hk c
    have b' := e3 ▸ hb c
    have d' := e4 ▸ hd c
    have g' := e5 ▸ he c
    refine ⟨h0.trans ?_, h1.trans ?_, h2.trans ?_, h3.trans ?_, h4.trans ?_, h5.trans ?_, ha⟩
    · exact (Cert.Reference2Ideal.Read.val_main_v86_eq m' c).trans (holds_ext (Cert.Ref2.v86 z' w' k' b' d' g'))
    · exact (Cert.Reference2Ideal.Read.val_main_v87_eq m' c).trans (holds_ext (Cert.Ref2.v87 z' w' k' b' d' g'))
    · exact (Cert.Reference2Ideal.Read.val_main_v88_eq m' c).trans (holds_ext (Cert.Ref2.v88 z' w' k' b' d' g'))
    · exact (Cert.Reference2Ideal.Read.val_main_v89_eq m' c).trans (holds_ext (Cert.Ref2.v89 z' w' k' b' d' g'))
    · exact (Cert.Reference2Ideal.Read.val_main_v90_eq m' c).trans (holds_ext (Cert.Ref2.v90 z' w' k' b' d' g'))
    · exact (Cert.Reference2Ideal.Read.val_main_v91_eq m' c).trans (holds_ext (Cert.Ref2.v91 z' w' k' b' g'))

/-- The feed-forward layer's reference likewise. -/
theorem frame_reference2 : Cert.quiescent_Reference2Ideal (hReference2Ideal := Cert.Reference2Ideal.Gen.facts) := fun m g _ =>
  (θ_run Cert.Reference2Ideal.defs _ _).mono (fun _ h => ⟨fun c => (h c).2.2.2.2.2.2, sem_eq_zero_of_no_sems rfl _⟩)
    (Cert.Reference2Ideal.Value.run (F := Ideal) m g)

/-- The merge's output, its weights' derivatives and its inputs' are the reference's, at any arguments. -/
theorem algebraic3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Run3.att m c, fun c => Cert.Run3.dpg m c, fun c => Cert.Run3.do_a m c, fun c => Cert.Run3.do_b m c,
    fun c => Cert.Run3.g_wbra_t m c, fun c => Cert.Run3.g_wbrb_t m c, fun c => Cert.Run3.g_wout m c, Cert.Run3.values m g, ?_⟩
  refine (θ_run Cert.Reference3Ideal.defs _ _).mono (fun r h c => ?_) (Cert.Reference3Ideal.Value.run m' g')
  obtain ⟨h0, h1, h2, h3, h4, h5, h6, ha⟩ := h c
  obtain ⟨e0, e1, e2, e3, e4, e5, e6⟩ := hm c
  rw [Cert.Reference3Ideal.Read.val_main_v24_eq, Cert.Ref3.v24, e0, e1, e2, e3, e4, e5] at h0
  rw [Cert.Reference3Ideal.Read.val_main_v43_eq, Cert.Ref3.v43, e0, e1, e2, e3, e4, e5, e6] at h1
  rw [Cert.Reference3Ideal.Read.val_main_v44_eq, Cert.Ref3.v44, e0, e3, e5, e6] at h2
  rw [Cert.Reference3Ideal.Read.val_main_v45_eq, Cert.Ref3.v45, e0, e4, e5, e6] at h3
  rw [Cert.Reference3Ideal.Read.val_main_v46_eq, Cert.Ref3.v46, e0, e1, e5, e6] at h4
  rw [Cert.Reference3Ideal.Read.val_main_v47_eq, Cert.Ref3.v47, e0, e2, e5, e6] at h5
  rw [Cert.Reference3Ideal.Read.val_main_v48_eq, Cert.Ref3.v48, e0, e1, e2, e3, e4, e6] at h6
  exact ⟨h0, h1, h2, h3, h4, h5, h6, ha⟩

/-- The merge's reference likewise. -/
theorem frame_reference3 : Cert.quiescent_Reference3Ideal (hReference3Ideal := Cert.Reference3Ideal.Gen.facts) := fun m g _ =>
  (θ_run Cert.Reference3Ideal.defs _ _).mono (fun _ h => ⟨fun c => (h c).2.2.2.2.2.2.2, sem_eq_zero_of_no_sems rfl _⟩)
    (Cert.Reference3Ideal.Value.run (F := Ideal) m g)

/-- The feed-forward block's product back to the stream is the reference's, at any arguments. -/
theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨fun c => _, (θ_run Cert.Kernel4Ideal.defs _ _).mono (fun r h c => ⟨(h c).1.trans (Cert.Down.arr m c), (h c).2⟩)
    (Cert.Kernel4Ideal.Value.run_blocks (F := Ideal) m g), ?_⟩
  refine (θ_run Cert.Reference4Ideal.defs _ _).mono (fun r h c => ?_) (Cert.Reference4Ideal.Value.run m' g')
  obtain ⟨h0, ha⟩ := h c
  obtain ⟨e0, e1⟩ := hm c
  rw [Cert.Reference4Ideal.Read.val_main_v2_eq, Cert.RefOne.r4, e0, e1] at h0
  exact ⟨h0, ha⟩

/-- Its reference likewise. -/
theorem frame_reference4 : Cert.quiescent_Reference4Ideal (hReference4Ideal := Cert.Reference4Ideal.Gen.facts) := fun m g _ =>
  (θ_run Cert.Reference4Ideal.defs _ _).mono (fun _ h => ⟨fun c => (h c).2, sem_eq_zero_of_no_sems rfl _⟩)
    (Cert.Reference4Ideal.Value.run (F := Ideal) m g)

/-- The first half of the up-projection's argument's derivative is the reference's, at any arguments. -/
theorem algebraic5 : Cert.algebraic_Kernel5Ideal_Reference5Ideal (hKernel5Ideal := Cert.Kernel5Ideal.Gen.facts)
    (hReference5Ideal := Cert.Reference5Ideal.Gen.facts) := by
  intro m g m' g' _ hm
  refine ⟨fun c => _, (θ_run Cert.Kernel5Ideal.defs _ _).mono (fun r h c => ⟨(h c).1.trans (Cert.UpDxA.arr m c), (h c).2⟩)
    (Cert.Kernel5Ideal.Value.run_blocks (F := Ideal) m g), ?_⟩
  refine (θ_run Cert.Reference5Ideal.defs _ _).mono (fun r h c => ?_) (Cert.Reference5Ideal.Value.run m' g')
  obtain ⟨h0, ha⟩ := h c
  obtain ⟨e0, e1⟩ := hm c
  rw [Cert.Reference5Ideal.Read.val_main_v6_eq, Cert.RefOne.r5, e0, e1] at h0
  exact ⟨h0, ha⟩

/-- Its reference likewise. -/
theorem frame_reference5 : Cert.quiescent_Reference5Ideal (hReference5Ideal := Cert.Reference5Ideal.Gen.facts) := fun m g _ =>
  (θ_run Cert.Reference5Ideal.defs _ _).mono (fun _ h => ⟨fun c => (h c).2, sem_eq_zero_of_no_sems rfl _⟩)
    (Cert.Reference5Ideal.Value.run (F := Ideal) m g)

/-- The second half, added to the first, is the reference's, at any arguments. -/
theorem algebraic6 : Cert.algebraic_Kernel6Ideal_Reference6Ideal (hKernel6Ideal := Cert.Kernel6Ideal.Gen.facts)
    (hReference6Ideal := Cert.Reference6Ideal.Gen.facts) := by
  intro m g m' g' _ hm
  refine ⟨fun c => _, (θ_run Cert.Kernel6Ideal.defs _ _).mono (fun r h c => ⟨(h c).1.trans (Cert.UpDxB.arr m c), (h c).2⟩)
    (Cert.Kernel6Ideal.Value.run_blocks (F := Ideal) m g), ?_⟩
  refine (θ_run Cert.Reference6Ideal.defs _ _).mono (fun r h c => ?_) (Cert.Reference6Ideal.Value.run m' g')
  obtain ⟨h0, ha⟩ := h c
  obtain ⟨e0, e1, e2⟩ := hm c
  rw [Cert.Reference6Ideal.Read.val_main_v7_eq, Cert.RefOne.r6, e0, e1, e2] at h0
  exact ⟨h0, ha⟩

/-- Its reference likewise. -/
theorem frame_reference6 : Cert.quiescent_Reference6Ideal (hReference6Ideal := Cert.Reference6Ideal.Gen.facts) := fun m g _ =>
  (θ_run Cert.Reference6Ideal.defs _ _).mono (fun _ h => ⟨fun c => (h c).2, sem_eq_zero_of_no_sems rfl _⟩)
    (Cert.Reference6Ideal.Value.run (F := Ideal) m g)

/-- The nine products and derivatives of the attention's projections are the reference's, at any arguments. -/
theorem algebraic7 : Cert.algebraic_Kernel7Ideal_Reference7Ideal (hKernel7Ideal := Cert.Kernel7Ideal.Gen.facts)
    (hReference7Ideal := Cert.Reference7Ideal.Gen.facts) := by
  intro m g m' g' _ hm
  refine ⟨fun c => Cert.Run7.pkv m c, fun c => Cert.Run7.kv_up m c, fun c => Cert.Run7.q_a m c, fun c => Cert.Run7.dcq_n m c, fun c => Cert.Run7.g_wq_t m c, fun c => Cert.Run7.dckv_n m c, fun c => Cert.Run7.g_wkv_t m c, fun c => Cert.Run7.dz_kv m c, fun c => Cert.Run7.g_kvp m c, Cert.Run7.values m g, ?_⟩
  refine (θ_run Cert.Reference7Ideal.defs _ _).mono (fun r h c => ?_) (Cert.Reference7Ideal.Value.run m' g')
  obtain ⟨h0, h1, h2, h3, h4, h5, h6, h7, h8, ha⟩ := h c
  obtain ⟨e0, e1, e2, e3, e4, e5, e6, e7, e8⟩ := hm c
  rw [Cert.Reference7Ideal.Read.val_main_v3_eq, Cert.Ref7.v3, e0, e1] at h0
  rw [Cert.Reference7Ideal.Read.val_main_v27_eq, Cert.Ref7.v27, e6, e7] at h1
  rw [Cert.Reference7Ideal.Read.val_main_v11_eq, Cert.Ref7.v11, e3, e4] at h2
  rw [Cert.Reference7Ideal.Read.val_main_v15_eq, Cert.Ref7.v15, e4, e5] at h3
  rw [Cert.Reference7Ideal.Read.val_main_v28_eq, Cert.Ref7.v28, e3, e5] at h4
  rw [Cert.Reference7Ideal.Read.val_main_v20_eq, Cert.Ref7.v20, e7, e8] at h5
  rw [Cert.Reference7Ideal.Read.val_main_v29_eq, Cert.Ref7.v29, e6, e8] at h6
  rw [Cert.Reference7Ideal.Read.val_main_v25_eq, Cert.Ref7.v25, e1, e2] at h7
  rw [Cert.Reference7Ideal.Read.val_main_v30_eq, Cert.Ref7.v30, e0, e2] at h8
  exact ⟨h0, h1, h2, h3, h4, h5, h6, h7, h8, ha⟩

/-- Their reference likewise. -/
theorem frame_reference7 : Cert.quiescent_Reference7Ideal (hReference7Ideal := Cert.Reference7Ideal.Gen.facts) := fun m g _ =>
  (θ_run Cert.Reference7Ideal.defs _ _).mono (fun _ h => ⟨fun c => (h c).2.2.2.2.2.2.2.2.2, sem_eq_zero_of_no_sems rfl _⟩)
    (Cert.Reference7Ideal.Value.run (F := Ideal) m g)

/-- The queries' part of the projection is the reference's, at any arguments. -/
theorem algebraic8 : Cert.algebraic_Kernel8Ideal_Reference8Ideal (hKernel8Ideal := Cert.Kernel8Ideal.Gen.facts)
    (hReference8Ideal := Cert.Reference8Ideal.Gen.facts) := by
  intro m g m' g' _ hm
  refine ⟨fun c => _, (θ_run Cert.Kernel8Ideal.defs _ _).mono (fun r h c => ⟨(h c).1.trans (Cert.ProjQ.arr m c), (h c).2⟩)
    (Cert.Kernel8Ideal.Value.run_blocks (F := Ideal) m g), ?_⟩
  refine (θ_run Cert.Reference8Ideal.defs _ _).mono (fun r h c => ?_) (Cert.Reference8Ideal.Value.run m' g')
  obtain ⟨h0, ha⟩ := h c
  obtain ⟨e0, e1⟩ := hm c
  rw [Cert.Reference8Ideal.Read.val_main_v5_eq, Cert.RefOne.r8, e0, e1] at h0
  exact ⟨h0, ha⟩

/-- Its reference likewise. -/
theorem frame_reference8 : Cert.quiescent_Reference8Ideal (hReference8Ideal := Cert.Reference8Ideal.Gen.facts) := fun m g _ =>
  (θ_run Cert.Reference8Ideal.defs _ _).mono (fun _ h => ⟨fun c => (h c).2, sem_eq_zero_of_no_sems rfl _⟩)
    (Cert.Reference8Ideal.Value.run (F := Ideal) m g)

/-- The queries' part of the projection's argument's derivative is the reference's, at any arguments. -/
theorem algebraic9 : Cert.algebraic_Kernel9Ideal_Reference9Ideal (hKernel9Ideal := Cert.Kernel9Ideal.Gen.facts)
    (hReference9Ideal := Cert.Reference9Ideal.Gen.facts) := by
  intro m g m' g' _ hm
  refine ⟨fun c => _, (θ_run Cert.Kernel9Ideal.defs _ _).mono (fun r h c => ⟨(h c).1.trans (Cert.ProjQDx.arr m c), (h c).2⟩)
    (Cert.Kernel9Ideal.Value.run_blocks (F := Ideal) m g), ?_⟩
  refine (θ_run Cert.Reference9Ideal.defs _ _).mono (fun r h c => ?_) (Cert.Reference9Ideal.Value.run m' g')
  obtain ⟨h0, ha⟩ := h c
  obtain ⟨e0, e1, e2⟩ := hm c
  rw [Cert.Reference9Ideal.Read.val_main_v8_eq, Cert.RefOne.r9, e0, e1, e2] at h0
  exact ⟨h0, ha⟩

/-- Its reference likewise. -/
theorem frame_reference9 : Cert.quiescent_Reference9Ideal (hReference9Ideal := Cert.Reference9Ideal.Gen.facts) := fun m g _ =>
  (θ_run Cert.Reference9Ideal.defs _ _).mono (fun _ h => ⟨fun c => (h c).2, sem_eq_zero_of_no_sems rfl _⟩)
    (Cert.Reference9Ideal.Value.run (F := Ideal) m g)

/-- The gate's part of the projection is the reference's, at any arguments. -/
theorem algebraic10 : Cert.algebraic_Kernel10Ideal_Reference10Ideal (hKernel10Ideal := Cert.Kernel10Ideal.Gen.facts)
    (hReference10Ideal := Cert.Reference10Ideal.Gen.facts) := by
  intro m g m' g' _ hm
  refine ⟨fun c => _, (θ_run Cert.Kernel10Ideal.defs _ _).mono (fun r h c => ⟨(h c).1.trans (Cert.ProjG.arr m c), (h c).2⟩)
    (Cert.Kernel10Ideal.Value.run_blocks (F := Ideal) m g), ?_⟩
  refine (θ_run Cert.Reference10Ideal.defs _ _).mono (fun r h c => ?_) (Cert.Reference10Ideal.Value.run m' g')
  obtain ⟨h0, ha⟩ := h c
  obtain ⟨e0, e1⟩ := hm c
  rw [Cert.Reference10Ideal.Read.val_main_v6_eq, Cert.RefOne.r10, e0, e1] at h0
  exact ⟨h0, ha⟩

/-- Its reference likewise. -/
theorem frame_reference10 : Cert.quiescent_Reference10Ideal (hReference10Ideal := Cert.Reference10Ideal.Gen.facts) := fun m g _ =>
  (θ_run Cert.Reference10Ideal.defs _ _).mono (fun _ h => ⟨fun c => (h c).2, sem_eq_zero_of_no_sems rfl _⟩)
    (Cert.Reference10Ideal.Value.run (F := Ideal) m g)

/-- The gate's part of the projection's argument's derivative is the reference's, at any arguments. -/
theorem algebraic11 : Cert.algebraic_Kernel11Ideal_Reference11Ideal (hKernel11Ideal := Cert.Kernel11Ideal.Gen.facts)
    (hReference11Ideal := Cert.Reference11Ideal.Gen.facts) := by
  intro m g m' g' _ hm
  refine ⟨fun c => _, (θ_run Cert.Kernel11Ideal.defs _ _).mono (fun r h c => ⟨(h c).1.trans (Cert.GateDx.arr m c), (h c).2⟩)
    (Cert.Kernel11Ideal.Value.run_blocks (F := Ideal) m g), ?_⟩
  refine (θ_run Cert.Reference11Ideal.defs _ _).mono (fun r h c => ?_) (Cert.Reference11Ideal.Value.run m' g')
  obtain ⟨h0, ha⟩ := h c
  obtain ⟨e0, e1, e2⟩ := hm c
  rw [Cert.Reference11Ideal.Read.val_main_v7_eq, Cert.RefOne.r11, e0, e1, e2] at h0
  exact ⟨h0, ha⟩

/-- Its reference likewise. -/
theorem frame_reference11 : Cert.quiescent_Reference11Ideal (hReference11Ideal := Cert.Reference11Ideal.Gen.facts) := fun m g _ =>
  (θ_run Cert.Reference11Ideal.defs _ _).mono (fun _ h => ⟨fun c => (h c).2, sem_eq_zero_of_no_sems rfl _⟩)
    (Cert.Reference11Ideal.Value.run (F := Ideal) m g)

/-- The queries' part of the projection's weights' derivative is the reference's, at any arguments. -/
theorem algebraic12 : Cert.algebraic_Kernel12Ideal_Reference12Ideal (hKernel12Ideal := Cert.Kernel12Ideal.Gen.facts)
    (hReference12Ideal := Cert.Reference12Ideal.Gen.facts) := by
  intro m g m' g' _ hm
  refine ⟨fun c => _, (θ_run Cert.Kernel12Ideal.defs _ _).mono (fun r h c => ⟨(h c).1.trans (Cert.ProjQDw.arr m c), (h c).2⟩)
    (Cert.Kernel12Ideal.Value.run_blocks (F := Ideal) m g), ?_⟩
  refine (θ_run Cert.Reference12Ideal.defs _ _).mono (fun r h c => ?_) (Cert.Reference12Ideal.Value.run m' g')
  obtain ⟨h0, ha⟩ := h c
  obtain ⟨e0, e1⟩ := hm c
  rw [Cert.Reference12Ideal.Read.val_main_v9_eq, Cert.RefOne.r12, e0, e1] at h0
  exact ⟨h0, ha⟩

/-- Its reference likewise. -/
theorem frame_reference12 : Cert.quiescent_Reference12Ideal (hReference12Ideal := Cert.Reference12Ideal.Gen.facts) := fun m g _ =>
  (θ_run Cert.Reference12Ideal.defs _ _).mono (fun _ h => ⟨fun c => (h c).2, sem_eq_zero_of_no_sems rfl _⟩)
    (Cert.Reference12Ideal.Value.run (F := Ideal) m g)

/-- The gate's part of the projection's weights' derivative is the reference's, at any arguments. -/
theorem algebraic13 : Cert.algebraic_Kernel13Ideal_Reference13Ideal (hKernel13Ideal := Cert.Kernel13Ideal.Gen.facts)
    (hReference13Ideal := Cert.Reference13Ideal.Gen.facts) := by
  intro m g m' g' _ hm
  refine ⟨fun c => _, (θ_run Cert.Kernel13Ideal.defs _ _).mono (fun r h c => ⟨(h c).1.trans (Cert.ProjGDw.arr m c), (h c).2⟩)
    (Cert.Kernel13Ideal.Value.run_blocks (F := Ideal) m g), ?_⟩
  refine (θ_run Cert.Reference13Ideal.defs _ _).mono (fun r h c => ?_) (Cert.Reference13Ideal.Value.run m' g')
  obtain ⟨h0, ha⟩ := h c
  obtain ⟨e0, e1⟩ := hm c
  rw [Cert.Reference13Ideal.Read.val_main_v9_eq, Cert.RefOne.r13, e0, e1] at h0
  exact ⟨h0, ha⟩

/-- Its reference likewise. -/
theorem frame_reference13 : Cert.quiescent_Reference13Ideal (hReference13Ideal := Cert.Reference13Ideal.Gen.facts) := fun m g _ =>
  (θ_run Cert.Reference13Ideal.defs _ _).mono (fun _ h => ⟨fun c => (h c).2, sem_eq_zero_of_no_sems rfl _⟩)
    (Cert.Reference13Ideal.Value.run (F := Ideal) m g)

/-- Each of the latent attention's named constants is the rounded literal's exact value. -/
theorem preserves14 : Cert.preserves_Kernel14_Kernel14Ideal :=
  ⟨IdealRules.named_const.statement Cert.Kernel14Ideal.κ "scale_log2_e_a" .f32 0x3DD53B95#32 (((Real.sqrt 192)⁻¹ * (Real.log 2)⁻¹ : ℝ) : EReal) rfl,
   IdealRules.named_const.statement Cert.Kernel14Ideal.κ "scale_a" .f32 0x3D93CD3A#32 (((Real.sqrt 192)⁻¹ : ℝ) : EReal) rfl,
   IdealRules.named_const.statement Cert.Kernel14Ideal.κ "log2_e" .f32 0x3FB8AA3B#32 (((Real.log 2)⁻¹ : ℝ) : EReal) rfl⟩

/-- On finite arguments the latent attention's output and its gradients of the queries, keys and values are the
    reference's. -/
theorem algebraic14 : Cert.algebraic_Kernel14Ideal_Reference14Ideal_pre_finite14 (hKernel14Ideal := Cert.Kernel14Ideal.Gen.facts)
    (hReference14Ideal := Cert.Reference14Ideal.Gen.facts) (hPre_finite14 := Cert.Mla.facts) := by
  intro m g m' g' hp hm
  choose xq hq using fun c => Cert.Mla.first _ _ _ _ (hp c).1
  choose xk hk using fun c => Cert.Mla.second _ _ _ _ (hp c).2.1
  choose xp hr using fun c => Cert.Mla.third _ _ _ _ (hp c).2.2.1
  choose xg hg using fun c => Cert.Mla.fourth _ _ _ _ (hp c).2.2.2
  refine ⟨fun c y => ((Cert.Mla.oArr (xq c) (xk c) (xp c) (y 0) (y 1) : ℝ) : EReal),
    fun c y => ((Cert.Mla.dqArr (xq c) (xk c) (xp c) (xg c) (y 0) (y 1) : ℝ) : EReal),
    fun c y => ((Cert.Mla.dkArr (xq c) (xk c) (xp c) (xg c) (y 0) (y 1) : ℝ) : EReal),
    fun c y => ((Cert.Mla.dvArr (xq c) (xk c) (xp c) (xg c) (y 0) (y 1) : ℝ) : EReal), ?_, ?_⟩
  · refine (θ_run Cert.Kernel14Ideal.defs _ _).mono (fun r h c => ?_) (Cert.Mla.values g (m := m) ⟨hq, hk, hr, hg⟩)
    obtain ⟨h0, h1, h2, h3, ha⟩ := h c
    exact ⟨holds_ext h0, holds_ext h1, holds_ext h2, holds_ext h3, ha⟩
  · refine (θ_run Cert.Reference14Ideal.defs _ _).mono (fun r h c => ?_) (Cert.Reference14Ideal.Value.run m' g')
    obtain ⟨h0, h1, h2, h3, ha⟩ := h c
    obtain ⟨e0, e1, e2, e3⟩ := hm c
    have q' := e0 ▸ hq c
    have k' := e1 ▸ hk c
    have p' := e2 ▸ hr c
    have g' := e3 ▸ hg c
    refine ⟨h0.trans ?_, h1.trans ?_, h2.trans ?_, h3.trans ?_, ha⟩
    · exact (Cert.Reference14Ideal.Read.val_main_v78_eq m' c).trans (holds_ext (Cert.Mla.Ref.out_holds q' k' p'))
    · exact (Cert.Reference14Ideal.Read.val_main_v79_eq m' c).trans (holds_ext (Cert.Mla.Ref.dq_holds q' k' p' g'))
    · exact (Cert.Reference14Ideal.Read.val_main_v80_eq m' c).trans (holds_ext (Cert.Mla.Ref.dk_holds q' k' p' g'))
    · exact (Cert.Reference14Ideal.Read.val_main_v81_eq m' c).trans (holds_ext (Cert.Mla.Ref.dv_holds q' k' p' g'))

/-- The optimiser's step of the modulation's weights: its three arrays are the reference's, at any arguments. -/
theorem algebraic15 : Cert.algebraic_Kernel15Ideal_Reference15Ideal (hKernel15Ideal := Cert.Kernel15Ideal.Gen.facts)
    (hReference15Ideal := Cert.Reference15Ideal.Gen.facts) := by
  intro m g m' g' _ hm
  refine ⟨fun c => _, fun c => _, fun c => _, Cert.Kernel15Ideal.Value.run (F := Ideal) m g, ?_⟩
  refine (θ_run Cert.Reference15Ideal.defs _ _).mono (fun r h c => ?_) (Cert.Reference15Ideal.Value.run m' g')
  obtain ⟨h0, h1, h2, ha⟩ := h c
  obtain ⟨e0, e1, e2, e3⟩ := hm c
  rw [Cert.Reference15Ideal.Read.val_main_v23_eq, e0, e1, e2, e3] at h0
  rw [Cert.Reference15Ideal.Read.val_main_v4_eq, e1, e2] at h1
  rw [Cert.Reference15Ideal.Read.val_main_v10_eq, e1, e3] at h2
  exact ⟨h0.trans (funext fun _ => rfl), h1.trans (funext fun _ => rfl), h2.trans (funext fun _ => rfl), ha⟩

/-- Its reference halts, leaves its arguments and uses no semaphore. -/
theorem frame_reference15 : Cert.quiescent_Reference15Ideal (hReference15Ideal := Cert.Reference15Ideal.Gen.facts) := fun m g _ =>
  (θ_run Cert.Reference15Ideal.defs _ _).mono (fun _ h => ⟨fun c => (h c).2.2.2, sem_eq_zero_of_no_sems rfl _⟩)
    (Cert.Reference15Ideal.Value.run (F := Ideal) m g)

/-- The optimiser's step of the latent queries' up-projection: its three arrays are the reference's, at any arguments. -/
theorem algebraic16 : Cert.algebraic_Kernel16Ideal_Reference16Ideal (hKernel16Ideal := Cert.Kernel16Ideal.Gen.facts)
    (hReference16Ideal := Cert.Reference16Ideal.Gen.facts) := by
  intro m g m' g' _ hm
  refine ⟨fun c => _, fun c => _, fun c => _, Cert.Kernel16Ideal.Value.run (F := Ideal) m g, ?_⟩
  refine (θ_run Cert.Reference16Ideal.defs _ _).mono (fun r h c => ?_) (Cert.Reference16Ideal.Value.run m' g')
  obtain ⟨h0, h1, h2, ha⟩ := h c
  obtain ⟨e0, e1, e2, e3⟩ := hm c
  rw [Cert.Reference16Ideal.Read.val_main_v23_eq, e0, e1, e2, e3] at h0
  rw [Cert.Reference16Ideal.Read.val_main_v4_eq, e1, e2] at h1
  rw [Cert.Reference16Ideal.Read.val_main_v10_eq, e1, e3] at h2
  exact ⟨h0.trans (funext fun _ => rfl), h1.trans (funext fun _ => rfl), h2.trans (funext fun _ => rfl), ha⟩

/-- Its reference halts, leaves its arguments and uses no semaphore. -/
theorem frame_reference16 : Cert.quiescent_Reference16Ideal (hReference16Ideal := Cert.Reference16Ideal.Gen.facts) := fun m g _ =>
  (θ_run Cert.Reference16Ideal.defs _ _).mono (fun _ h => ⟨fun c => (h c).2.2.2, sem_eq_zero_of_no_sems rfl _⟩)
    (Cert.Reference16Ideal.Value.run (F := Ideal) m g)

/-- The latent attention's reference ends, leaves its arguments alone, and has no semaphores. -/
theorem frame_reference14 : Cert.quiescent_Reference14Ideal (hReference14Ideal := Cert.Reference14Ideal.Gen.facts) := fun m g _ =>
  (θ_run Cert.Reference14Ideal.defs _ _).mono (fun _ h => ⟨fun c => (h c).2.2.2.2, sem_eq_zero_of_no_sems rfl _⟩)
    (Cert.Reference14Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Real.facts, Cert.Real2.facts, Cert.Mla.facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial,
    fun m ρ _ => Cert.Kernel2.Gen.frame m ρ, fun m ρ _ => Cert.Kernel2Ideal.Gen.frame m ρ,
    fun m ρ _ => Cert.Kernel2Ideal.Gen.frame m ρ, frame_reference2,
    fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ, frame_reference13,
    fun m ρ _ => Cert.Kernel14.Gen.frame m ρ, fun m ρ _ => Cert.Kernel14Ideal.Gen.frame m ρ,
    fun m ρ _ => Cert.Kernel14Ideal.Gen.frame m ρ, frame_reference14,
    fun m ρ _ => frame_reference14 m ρ trivial,
    fun m ρ _ => Cert.Kernel15.Gen.frame m ρ, fun m ρ _ => Cert.Kernel15Ideal.Gen.frame m ρ, frame_reference15,
    fun m ρ _ => Cert.Kernel16.Gen.frame m ρ, fun m ρ _ => Cert.Kernel16Ideal.Gen.frame m ρ, frame_reference16,
    preserves, algebraic, trivial, algebraic2, trivial, algebraic3,
    trivial, algebraic4, trivial, algebraic5, trivial, algebraic6, trivial, algebraic7, trivial, algebraic8, trivial, algebraic9, trivial, algebraic10, trivial, algebraic11, trivial, algebraic12, trivial, algebraic13, preserves14, algebraic14,
    trivial, algebraic15, trivial, algebraic16⟩

end Cert.Proof

end
